-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_mla_finite [hPre_mla_finite : Cert.Pre_mla_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).2.2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).2.2.2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))).2.2.2.2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).2.1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).2.2.1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).2.2.2.1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))).2.2.2.2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProjKernel (m : (ℓ : Loc Cert.InProjKernel.nD Cert.InProjKernel.τ Cert.InProjKernel.sig) → Buf (Elt Bits) ℓ) : Prop :=
  True

def Pre_InProjKernelIdeal (m : (ℓ : Loc Cert.InProjKernelIdeal.nD Cert.InProjKernelIdeal.τ Cert.InProjKernelIdeal.sig) → Buf (Elt Ideal) ℓ) : Prop :=
  True

def Pre_InProjKernelIdeal_in_proj_finite [hPre_in_proj_finite : Cert.Pre_in_proj_finite.Facts] (m : (ℓ : Loc Cert.InProjKernelIdeal.nD Cert.InProjKernelIdeal.τ Cert.InProjKernelIdeal.sig) → Buf (Elt Ideal) ℓ) : Prop :=
  ∀ c : Dev Cert.InProjKernelIdeal.nD,
    (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3))).1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3))).2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3))).2.2.1 = (fun _ => 1#1)
    ∧ (Cert.Pre_in_proj_finite.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3))).2.2.2 = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_in_proj_finite [hPre_in_proj_finite : Cert.Pre_in_proj_finite.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).2.2.1 = (fun _ => 1#1)
    ∧ (Cert.Pre_in_proj_finite.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3))).2.2.2 = (fun _ => 1#1)

def Pre_MlaPrepKernel (m : (ℓ : Loc Cert.MlaPrepKernel.nD Cert.MlaPrepKernel.τ Cert.MlaPrepKernel.sig) → Buf (Elt Bits) ℓ) : Prop :=
  True

def Pre_MlaPrepKernelIdeal (m : (ℓ : Loc Cert.MlaPrepKernelIdeal.nD Cert.MlaPrepKernelIdeal.τ Cert.MlaPrepKernelIdeal.sig) → Buf (Elt Ideal) ℓ) : Prop :=
  True

def Pre_MlaPrepKernelIdeal_mla_prep_finite [hPre_mla_prep_finite : Cert.Pre_mla_prep_finite.Facts] (m : (ℓ : Loc Cert.MlaPrepKernelIdeal.nD Cert.MlaPrepKernelIdeal.τ Cert.MlaPrepKernelIdeal.sig) → Buf (Elt Ideal) ℓ) : Prop :=
  ∀ c : Dev Cert.MlaPrepKernelIdeal.nD,
    (Cert.Pre_mla_prep_finite.fn (F := Ideal) (m ((c.tc : Thread Cert.MlaPrepKernelIdeal.nD Cert.MlaPrepKernelIdeal.τ).loc Cert.MlaPrepKernelIdeal.main_arg0)) (m ((c.tc : Thread Cert.MlaPrepKernelIdeal.nD Cert.MlaPrepKernelIdeal.τ).loc Cert.MlaPrepKernelIdeal.main_arg1)) (m ((c.tc : Thread Cert.MlaPrepKernelIdeal.nD Cert.MlaPrepKernelIdeal.τ).loc Cert.MlaPrepKernelIdeal.main_arg2)) (m ((c.tc : Thread Cert.MlaPrepKernelIdeal.nD Cert.MlaPrepKernelIdeal.τ).loc Cert.MlaPrepKernelIdeal.main_arg3)) (m ((c.tc : Thread Cert.MlaPrepKernelIdeal.nD Cert.MlaPrepKernelIdeal.τ).loc Cert.MlaPrepKernelIdeal.main_arg4)) (m ((c.tc : Thread Cert.MlaPrepKernelIdeal.nD Cert.MlaPrepKernelIdeal.τ).loc Cert.MlaPrepKernelIdeal.main_arg5)) (m ((c.tc : Thread Cert.MlaPrepKernelIdeal.nD Cert.MlaPrepKernelIdeal.τ).loc Cert.MlaPrepKernelIdeal.main_arg6))).1 = (fun _ => 1#1)
    ∧ (Cert.Pre_mla_prep_finite.fn (F := Ideal) (m ((c.tc : Thread Cert.MlaPrepKernelIdeal.nD Cert.MlaPrepKernelIdeal.τ).loc Cert.MlaPrepKernelIdeal.main_arg0)) (m ((c.tc : Thread Cert.MlaPrepKernelIdeal.nD Cert.MlaPrepKernelIdeal.τ).loc Cert.MlaPrepKernelIdeal.main_arg1)) (m ((c.tc : Thread Cert.MlaPrepKernelIdeal.nD Cert.MlaPrepKernelIdeal.τ).loc Cert.MlaPrepKernelIdeal.main_arg2)) (m ((c.tc : Thread Cert.MlaPrepKernelIdeal.nD Cert.MlaPrepKernelIdeal.τ).loc Cert.MlaPrepKernelIdeal.main_arg3)) (m ((c.tc : Thread Cert.MlaPrepKernelIdeal.nD Cert.MlaPrepKernelIdeal.τ).loc Cert.MlaPrepKernelIdeal.main_arg4)) (m ((c.tc : Thread Cert.MlaPrepKernelIdeal.nD Cert.MlaPrepKernelIdeal.τ).loc Cert.MlaPrepKernelIdeal.main_arg5)) (m ((c.tc : Thread Cert.MlaPrepKernelIdeal.nD Cert.MlaPrepKernelIdeal.τ).loc Cert.MlaPrepKernelIdeal.main_arg6))).2.1 = (fun _ => 1#1)
    ∧ (Cert.Pre_mla_prep_finite.fn (F := Ideal) (m ((c.tc : Thread Cert.MlaPrepKernelIdeal.nD Cert.MlaPrepKernelIdeal.τ).loc Cert.MlaPrepKernelIdeal.main_arg0)) (m ((c.tc : Thread Cert.MlaPrepKernelIdeal.nD Cert.MlaPrepKernelIdeal.τ).loc Cert.MlaPrepKernelIdeal.main_arg1)) (m ((c.tc : Thread Cert.MlaPrepKernelIdeal.nD Cert.MlaPrepKernelIdeal.τ).loc Cert.MlaPrepKernelIdeal.main_arg2)) (m ((c.tc : Thread Cert.MlaPrepKernelIdeal.nD Cert.MlaPrepKernelIdeal.τ).loc Cert.MlaPrepKernelIdeal.main_arg3)) (m ((c.tc : Thread Cert.MlaPrepKernelIdeal.nD Cert.MlaPrepKernelIdeal.τ).loc Cert.MlaPrepKernelIdeal.main_arg4)) (m ((c.tc : Thread Cert.MlaPrepKernelIdeal.nD Cert.MlaPrepKernelIdeal.τ).loc Cert.MlaPrepKernelIdeal.main_arg5)) (m ((c.tc : Thread Cert.MlaPrepKernelIdeal.nD Cert.MlaPrepKernelIdeal.τ).loc Cert.MlaPrepKernelIdeal.main_arg6))).2.2 = (fun _ => 1#1)

def Pre_MlaPrepReferenceIdeal (m : (ℓ : Loc Cert.MlaPrepReferenceIdeal.nD Cert.MlaPrepReferenceIdeal.τ Cert.MlaPrepReferenceIdeal.sig) → Buf (Elt Ideal) ℓ) : Prop :=
  True

def Pre_MlaPrepReferenceIdeal_mla_prep_finite [hPre_mla_prep_finite : Cert.Pre_mla_prep_finite.Facts] (m : (ℓ : Loc Cert.MlaPrepReferenceIdeal.nD Cert.MlaPrepReferenceIdeal.τ Cert.MlaPrepReferenceIdeal.sig) → Buf (Elt Ideal) ℓ) : Prop :=
  ∀ c : Dev Cert.MlaPrepReferenceIdeal.nD,
    (Cert.Pre_mla_prep_finite.fn (F := Ideal) (m ((c.tc : Thread Cert.MlaPrepReferenceIdeal.nD Cert.MlaPrepReferenceIdeal.τ).loc Cert.MlaPrepReferenceIdeal.main_arg0)) (m ((c.tc : Thread Cert.MlaPrepReferenceIdeal.nD Cert.MlaPrepReferenceIdeal.τ).loc Cert.MlaPrepReferenceIdeal.main_arg1)) (m ((c.tc : Thread Cert.MlaPrepReferenceIdeal.nD Cert.MlaPrepReferenceIdeal.τ).loc Cert.MlaPrepReferenceIdeal.main_arg2)) (m ((c.tc : Thread Cert.MlaPrepReferenceIdeal.nD Cert.MlaPrepReferenceIdeal.τ).loc Cert.MlaPrepReferenceIdeal.main_arg3)) (m ((c.tc : Thread Cert.MlaPrepReferenceIdeal.nD Cert.MlaPrepReferenceIdeal.τ).loc Cert.MlaPrepReferenceIdeal.main_arg4)) (m ((c.tc : Thread Cert.MlaPrepReferenceIdeal.nD Cert.MlaPrepReferenceIdeal.τ).loc Cert.MlaPrepReferenceIdeal.main_arg5)) (m ((c.tc : Thread Cert.MlaPrepReferenceIdeal.nD Cert.MlaPrepReferenceIdeal.τ).loc Cert.MlaPrepReferenceIdeal.main_arg6))).1 = (fun _ => 1#1)
    ∧ (Cert.Pre_mla_prep_finite.fn (F := Ideal) (m ((c.tc : Thread Cert.MlaPrepReferenceIdeal.nD Cert.MlaPrepReferenceIdeal.τ).loc Cert.MlaPrepReferenceIdeal.main_arg0)) (m ((c.tc : Thread Cert.MlaPrepReferenceIdeal.nD Cert.MlaPrepReferenceIdeal.τ).loc Cert.MlaPrepReferenceIdeal.main_arg1)) (m ((c.tc : Thread Cert.MlaPrepReferenceIdeal.nD Cert.MlaPrepReferenceIdeal.τ).loc Cert.MlaPrepReferenceIdeal.main_arg2)) (m ((c.tc : Thread Cert.MlaPrepReferenceIdeal.nD Cert.MlaPrepReferenceIdeal.τ).loc Cert.MlaPrepReferenceIdeal.main_arg3)) (m ((c.tc : Thread Cert.MlaPrepReferenceIdeal.nD Cert.MlaPrepReferenceIdeal.τ).loc Cert.MlaPrepReferenceIdeal.main_arg4)) (m ((c.tc : Thread Cert.MlaPrepReferenceIdeal.nD Cert.MlaPrepReferenceIdeal.τ).loc Cert.MlaPrepReferenceIdeal.main_arg5)) (m ((c.tc : Thread Cert.MlaPrepReferenceIdeal.nD Cert.MlaPrepReferenceIdeal.τ).loc Cert.MlaPrepReferenceIdeal.main_arg6))).2.1 = (fun _ => 1#1)
    ∧ (Cert.Pre_mla_prep_finite.fn (F := Ideal) (m ((c.tc : Thread Cert.MlaPrepReferenceIdeal.nD Cert.MlaPrepReferenceIdeal.τ).loc Cert.MlaPrepReferenceIdeal.main_arg0)) (m ((c.tc : Thread Cert.MlaPrepReferenceIdeal.nD Cert.MlaPrepReferenceIdeal.τ).loc Cert.MlaPrepReferenceIdeal.main_arg1)) (m ((c.tc : Thread Cert.MlaPrepReferenceIdeal.nD Cert.MlaPrepReferenceIdeal.τ).loc Cert.MlaPrepReferenceIdeal.main_arg2)) (m ((c.tc : Thread Cert.MlaPrepReferenceIdeal.nD Cert.MlaPrepReferenceIdeal.τ).loc Cert.MlaPrepReferenceIdeal.main_arg3)) (m ((c.tc : Thread Cert.MlaPrepReferenceIdeal.nD Cert.MlaPrepReferenceIdeal.τ).loc Cert.MlaPrepReferenceIdeal.main_arg4)) (m ((c.tc : Thread Cert.MlaPrepReferenceIdeal.nD Cert.MlaPrepReferenceIdeal.τ).loc Cert.MlaPrepReferenceIdeal.main_arg5)) (m ((c.tc : Thread Cert.MlaPrepReferenceIdeal.nD Cert.MlaPrepReferenceIdeal.τ).loc Cert.MlaPrepReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ r.2.sem = fun _ => 0)

def quiescent_MlaKernelIdeal_pre_mla_finite [hMlaKernelIdeal : Cert.MlaKernelIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_mla_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_InProjKernel [hInProjKernel : Cert.InProjKernel.Facts] : Prop :=
  ∀ (m : (ℓ : Loc Cert.InProjKernel.nD Cert.InProjKernel.τ Cert.InProjKernel.sig) → Buf (Elt Bits) ℓ) (g : Dev Cert.InProjKernel.nD → PrngReg), Pre_InProjKernel m →
    θ_run (Cert.InProjKernel.defs (F := Bits)) (onTc (τ := Cert.InProjKernel.τ) (Cert.InProjKernel.main (F := Bits))) ⟨m, fun _ => 0, g⟩ (fun r => (∀ c : Dev Cert.InProjKernel.nD,
      r.2.mem ((c.tc : Thread Cert.InProjKernel.nD Cert.InProjKernel.τ).loc Cert.InProjKernel.main_arg0) = m ((c.tc : Thread Cert.InProjKernel.nD Cert.InProjKernel.τ).loc Cert.InProjKernel.main_arg0)
      ∧ r.2.mem ((c.tc : Thread Cert.InProjKernel.nD Cert.InProjKernel.τ).loc Cert.InProjKernel.main_arg1) = m ((c.tc : Thread Cert.InProjKernel.nD Cert.InProjKernel.τ).loc Cert.InProjKernel.main_arg1)
      ∧ r.2.mem ((c.tc : Thread Cert.InProjKernel.nD Cert.InProjKernel.τ).loc Cert.InProjKernel.main_arg2) = m ((c.tc : Thread Cert.InProjKernel.nD Cert.InProjKernel.τ).loc Cert.InProjKernel.main_arg2)
      ∧ r.2.mem ((c.tc : Thread Cert.InProjKernel.nD Cert.InProjKernel.τ).loc Cert.InProjKernel.main_arg3) = m ((c.tc : Thread Cert.InProjKernel.nD Cert.InProjKernel.τ).loc Cert.InProjKernel.main_arg3))
      ∧ r.2.sem = fun _ => 0)

def quiescent_InProjKernelIdeal [hInProjKernelIdeal : Cert.InProjKernelIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
      ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3))
      ∧ r.2.sem = fun _ => 0)

def quiescent_InProjKernelIdeal_pre_in_proj_finite [hInProjKernelIdeal : Cert.InProjKernelIdeal.Facts] [hPre_in_proj_finite : Cert.Pre_in_proj_finite.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal_in_proj_finite m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
      ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_InProjReferenceIdeal_pre_in_proj_finite [hInProjReferenceIdeal : Cert.InProjReferenceIdeal.Facts] [hPre_in_proj_finite : Cert.Pre_in_proj_finite.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_in_proj_finite m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_MlaPrepKernel [hMlaPrepKernel : Cert.MlaPrepKernel.Facts] : Prop :=
  ∀ (m : (ℓ : Loc Cert.MlaPrepKernel.nD Cert.MlaPrepKernel.τ Cert.MlaPrepKernel.sig) → Buf (Elt Bits) ℓ) (g : Dev Cert.MlaPrepKernel.nD → PrngReg), Pre_MlaPrepKernel m →
    θ_run (Cert.MlaPrepKernel.defs (F := Bits)) (onTc (τ := Cert.MlaPrepKernel.τ) (Cert.MlaPrepKernel.main (F := Bits))) ⟨m, fun _ => 0, g⟩ (fun r => (∀ c : Dev Cert.MlaPrepKernel.nD,
      r.2.mem ((c.tc : Thread Cert.MlaPrepKernel.nD Cert.MlaPrepKernel.τ).loc Cert.MlaPrepKernel.main_arg0) = m ((c.tc : Thread Cert.MlaPrepKernel.nD Cert.MlaPrepKernel.τ).loc Cert.MlaPrepKernel.main_arg0)
      ∧ r.2.mem ((c.tc : Thread Cert.MlaPrepKernel.nD Cert.MlaPrepKernel.τ).loc Cert.MlaPrepKernel.main_arg1) = m ((c.tc : Thread Cert.MlaPrepKernel.nD Cert.MlaPrepKernel.τ).loc Cert.MlaPrepKernel.main_arg1)
      ∧ r.2.mem ((c.tc : Thread Cert.MlaPrepKernel.nD Cert.MlaPrepKernel.τ).loc Cert.MlaPrepKernel.main_arg2) = m ((c.tc : Thread Cert.MlaPrepKernel.nD Cert.MlaPrepKernel.τ).loc Cert.MlaPrepKernel.main_arg2)
      ∧ r.2.mem ((c.tc : Thread Cert.MlaPrepKernel.nD Cert.MlaPrepKernel.τ).loc Cert.MlaPrepKernel.main_arg3) = m ((c.tc : Thread Cert.MlaPrepKernel.nD Cert.MlaPrepKernel.τ).loc Cert.MlaPrepKernel.main_arg3)
      ∧ r.2.mem ((c.tc : Thread Cert.MlaPrepKernel.nD Cert.MlaPrepKernel.τ).loc Cert.MlaPrepKernel.main_arg4) = m ((c.tc : Thread Cert.MlaPrepKernel.nD Cert.MlaPrepKernel.τ).loc Cert.MlaPrepKernel.main_arg4)
      ∧ r.2.mem ((c.tc : Thread Cert.MlaPrepKernel.nD Cert.MlaPrepKernel.τ).loc Cert.MlaPrepKernel.main_arg5) = m ((c.tc : Thread Cert.MlaPrepKernel.nD Cert.MlaPrepKernel.τ).loc Cert.MlaPrepKernel.main_arg5)
      ∧ r.2.mem ((c.tc : Thread Cert.MlaPrepKernel.nD Cert.MlaPrepKernel.τ).loc Cert.MlaPrepKernel.main_arg6) = m ((c.tc : Thread Cert.MlaPrepKernel.nD Cert.MlaPrepKernel.τ).loc Cert.MlaPrepKernel.main_arg6))
      ∧ r.2.sem = fun _ => 0)

def quiescent_MlaPrepKernelIdeal [hMlaPrepKernelIdeal : Cert.MlaPrepKernelIdeal.Facts] : Prop :=
  ∀ (m : (ℓ : Loc Cert.MlaPrepKernelIdeal.nD Cert.MlaPrepKernelIdeal.τ Cert.MlaPrepKernelIdeal.sig) → Buf (Elt Ideal) ℓ) (g : Dev Cert.MlaPrepKernelIdeal.nD → PrngReg), Pre_MlaPrepKernelIdeal m →
    θ_run (Cert.MlaPrepKernelIdeal.defs (F := Ideal)) (onTc (τ := Cert.MlaPrepKernelIdeal.τ) (Cert.MlaPrepKernelIdeal.main (F := Ideal))) ⟨m, fun _ => 0, g⟩ (fun r => (∀ c : Dev Cert.MlaPrepKernelIdeal.nD,
      r.2.mem ((c.tc : Thread Cert.MlaPrepKernelIdeal.nD Cert.MlaPrepKernelIdeal.τ).loc Cert.MlaPrepKernelIdeal.main_arg0) = m ((c.tc : Thread Cert.MlaPrepKernelIdeal.nD Cert.MlaPrepKernelIdeal.τ).loc Cert.MlaPrepKernelIdeal.main_arg0)
      ∧ r.2.mem ((c.tc : Thread Cert.MlaPrepKernelIdeal.nD Cert.MlaPrepKernelIdeal.τ).loc Cert.MlaPrepKernelIdeal.main_arg1) = m ((c.tc : Thread Cert.MlaPrepKernelIdeal.nD Cert.MlaPrepKernelIdeal.τ).loc Cert.MlaPrepKernelIdeal.main_arg1)
      ∧ r.2.mem ((c.tc : Thread Cert.MlaPrepKernelIdeal.nD Cert.MlaPrepKernelIdeal.τ).loc Cert.MlaPrepKernelIdeal.main_arg2) = m ((c.tc : Thread Cert.MlaPrepKernelIdeal.nD Cert.MlaPrepKernelIdeal.τ).loc Cert.MlaPrepKernelIdeal.main_arg2)
      ∧ r.2.mem ((c.tc : Thread Cert.MlaPrepKernelIdeal.nD Cert.MlaPrepKernelIdeal.τ).loc Cert.MlaPrepKernelIdeal.main_arg3) = m ((c.tc : Thread Cert.MlaPrepKernelIdeal.nD Cert.MlaPrepKernelIdeal.τ).loc Cert.MlaPrepKernelIdeal.main_arg3)
      ∧ r.2.mem ((c.tc : Thread Cert.MlaPrepKernelIdeal.nD Cert.MlaPrepKernelIdeal.τ).loc Cert.MlaPrepKernelIdeal.main_arg4) = m ((c.tc : Thread Cert.MlaPrepKernelIdeal.nD Cert.MlaPrepKernelIdeal.τ).loc Cert.MlaPrepKernelIdeal.main_arg4)
      ∧ r.2.mem ((c.tc : Thread Cert.MlaPrepKernelIdeal.nD Cert.MlaPrepKernelIdeal.τ).loc Cert.MlaPrepKernelIdeal.main_arg5) = m ((c.tc : Thread Cert.MlaPrepKernelIdeal.nD Cert.MlaPrepKernelIdeal.τ).loc Cert.MlaPrepKernelIdeal.main_arg5)
      ∧ r.2.mem ((c.tc : Thread Cert.MlaPrepKernelIdeal.nD Cert.MlaPrepKernelIdeal.τ).loc Cert.MlaPrepKernelIdeal.main_arg6) = m ((c.tc : Thread Cert.MlaPrepKernelIdeal.nD Cert.MlaPrepKernelIdeal.τ).loc Cert.MlaPrepKernelIdeal.main_arg6))
      ∧ r.2.sem = fun _ => 0)

def quiescent_MlaPrepKernelIdeal_pre_mla_prep_finite [hMlaPrepKernelIdeal : Cert.MlaPrepKernelIdeal.Facts] [hPre_mla_prep_finite : Cert.Pre_mla_prep_finite.Facts] : Prop :=
  ∀ (m : (ℓ : Loc Cert.MlaPrepKernelIdeal.nD Cert.MlaPrepKernelIdeal.τ Cert.MlaPrepKernelIdeal.sig) → Buf (Elt Ideal) ℓ) (g : Dev Cert.MlaPrepKernelIdeal.nD → PrngReg), Pre_MlaPrepKernelIdeal_mla_prep_finite m →
    θ_run (Cert.MlaPrepKernelIdeal.defs (F := Ideal)) (onTc (τ := Cert.MlaPrepKernelIdeal.τ) (Cert.MlaPrepKernelIdeal.main (F := Ideal))) ⟨m, fun _ => 0, g⟩ (fun r => (∀ c : Dev Cert.MlaPrepKernelIdeal.nD,
      r.2.mem ((c.tc : Thread Cert.MlaPrepKernelIdeal.nD Cert.MlaPrepKernelIdeal.τ).loc Cert.MlaPrepKernelIdeal.main_arg0) = m ((c.tc : Thread Cert.MlaPrepKernelIdeal.nD Cert.MlaPrepKernelIdeal.τ).loc Cert.MlaPrepKernelIdeal.main_arg0)
      ∧ r.2.mem ((c.tc : Thread Cert.MlaPrepKernelIdeal.nD Cert.MlaPrepKernelIdeal.τ).loc Cert.MlaPrepKernelIdeal.main_arg1) = m ((c.tc : Thread Cert.MlaPrepKernelIdeal.nD Cert.MlaPrepKernelIdeal.τ).loc Cert.MlaPrepKernelIdeal.main_arg1)
      ∧ r.2.mem ((c.tc : Thread Cert.MlaPrepKernelIdeal.nD Cert.MlaPrepKernelIdeal.τ).loc Cert.MlaPrepKernelIdeal.main_arg2) = m ((c.tc : Thread Cert.MlaPrepKernelIdeal.nD Cert.MlaPrepKernelIdeal.τ).loc Cert.MlaPrepKernelIdeal.main_arg2)
      ∧ r.2.mem ((c.tc : Thread Cert.MlaPrepKernelIdeal.nD Cert.MlaPrepKernelIdeal.τ).loc Cert.MlaPrepKernelIdeal.main_arg3) = m ((c.tc : Thread Cert.MlaPrepKernelIdeal.nD Cert.MlaPrepKernelIdeal.τ).loc Cert.MlaPrepKernelIdeal.main_arg3)
      ∧ r.2.mem ((c.tc : Thread Cert.MlaPrepKernelIdeal.nD Cert.MlaPrepKernelIdeal.τ).loc Cert.MlaPrepKernelIdeal.main_arg4) = m ((c.tc : Thread Cert.MlaPrepKernelIdeal.nD Cert.MlaPrepKernelIdeal.τ).loc Cert.MlaPrepKernelIdeal.main_arg4)
      ∧ r.2.mem ((c.tc : Thread Cert.MlaPrepKernelIdeal.nD Cert.MlaPrepKernelIdeal.τ).loc Cert.MlaPrepKernelIdeal.main_arg5) = m ((c.tc : Thread Cert.MlaPrepKernelIdeal.nD Cert.MlaPrepKernelIdeal.τ).loc Cert.MlaPrepKernelIdeal.main_arg5)
      ∧ r.2.mem ((c.tc : Thread Cert.MlaPrepKernelIdeal.nD Cert.MlaPrepKernelIdeal.τ).loc Cert.MlaPrepKernelIdeal.main_arg6) = m ((c.tc : Thread Cert.MlaPrepKernelIdeal.nD Cert.MlaPrepKernelIdeal.τ).loc Cert.MlaPrepKernelIdeal.main_arg6))
      ∧ r.2.sem = fun _ => 0)

def quiescent_MlaPrepReferenceIdeal [hMlaPrepReferenceIdeal : Cert.MlaPrepReferenceIdeal.Facts] : Prop :=
  ∀ (m : (ℓ : Loc Cert.MlaPrepReferenceIdeal.nD Cert.MlaPrepReferenceIdeal.τ Cert.MlaPrepReferenceIdeal.sig) → Buf (Elt Ideal) ℓ) (g : Dev Cert.MlaPrepReferenceIdeal.nD → PrngReg), Pre_MlaPrepReferenceIdeal m →
    θ_run (Cert.MlaPrepReferenceIdeal.defs (F := Ideal)) (onTc (τ := Cert.MlaPrepReferenceIdeal.τ) (Cert.MlaPrepReferenceIdeal.main (F := Ideal))) ⟨m, fun _ => 0, g⟩ (fun r => (∀ c : Dev Cert.MlaPrepReferenceIdeal.nD,
      r.2.mem ((c.tc : Thread Cert.MlaPrepReferenceIdeal.nD Cert.MlaPrepReferenceIdeal.τ).loc Cert.MlaPrepReferenceIdeal.main_arg0) = m ((c.tc : Thread Cert.MlaPrepReferenceIdeal.nD Cert.MlaPrepReferenceIdeal.τ).loc Cert.MlaPrepReferenceIdeal.main_arg0)
      ∧ r.2.mem ((c.tc : Thread Cert.MlaPrepReferenceIdeal.nD Cert.MlaPrepReferenceIdeal.τ).loc Cert.MlaPrepReferenceIdeal.main_arg1) = m ((c.tc : Thread Cert.MlaPrepReferenceIdeal.nD Cert.MlaPrepReferenceIdeal.τ).loc Cert.MlaPrepReferenceIdeal.main_arg1)
      ∧ r.2.mem ((c.tc : Thread Cert.MlaPrepReferenceIdeal.nD Cert.MlaPrepReferenceIdeal.τ).loc Cert.MlaPrepReferenceIdeal.main_arg2) = m ((c.tc : Thread Cert.MlaPrepReferenceIdeal.nD Cert.MlaPrepReferenceIdeal.τ).loc Cert.MlaPrepReferenceIdeal.main_arg2)
      ∧ r.2.mem ((c.tc : Thread Cert.MlaPrepReferenceIdeal.nD Cert.MlaPrepReferenceIdeal.τ).loc Cert.MlaPrepReferenceIdeal.main_arg3) = m ((c.tc : Thread Cert.MlaPrepReferenceIdeal.nD Cert.MlaPrepReferenceIdeal.τ).loc Cert.MlaPrepReferenceIdeal.main_arg3)
      ∧ r.2.mem ((c.tc : Thread Cert.MlaPrepReferenceIdeal.nD Cert.MlaPrepReferenceIdeal.τ).loc Cert.MlaPrepReferenceIdeal.main_arg4) = m ((c.tc : Thread Cert.MlaPrepReferenceIdeal.nD Cert.MlaPrepReferenceIdeal.τ).loc Cert.MlaPrepReferenceIdeal.main_arg4)
      ∧ r.2.mem ((c.tc : Thread Cert.MlaPrepReferenceIdeal.nD Cert.MlaPrepReferenceIdeal.τ).loc Cert.MlaPrepReferenceIdeal.main_arg5) = m ((c.tc : Thread Cert.MlaPrepReferenceIdeal.nD Cert.MlaPrepReferenceIdeal.τ).loc Cert.MlaPrepReferenceIdeal.main_arg5)
      ∧ r.2.mem ((c.tc : Thread Cert.MlaPrepReferenceIdeal.nD Cert.MlaPrepReferenceIdeal.τ).loc Cert.MlaPrepReferenceIdeal.main_arg6) = m ((c.tc : Thread Cert.MlaPrepReferenceIdeal.nD Cert.MlaPrepReferenceIdeal.τ).loc Cert.MlaPrepReferenceIdeal.main_arg6))
      ∧ r.2.sem = fun _ => 0)

def quiescent_MlaPrepReferenceIdeal_pre_mla_prep_finite [hMlaPrepReferenceIdeal : Cert.MlaPrepReferenceIdeal.Facts] [hPre_mla_prep_finite : Cert.Pre_mla_prep_finite.Facts] : Prop :=
  ∀ (m : (ℓ : Loc Cert.MlaPrepReferenceIdeal.nD Cert.MlaPrepReferenceIdeal.τ Cert.MlaPrepReferenceIdeal.sig) → Buf (Elt Ideal) ℓ) (g : Dev Cert.MlaPrepReferenceIdeal.nD → PrngReg), Pre_MlaPrepReferenceIdeal_mla_prep_finite m →
    θ_run (Cert.MlaPrepReferenceIdeal.defs (F := Ideal)) (onTc (τ := Cert.MlaPrepReferenceIdeal.τ) (Cert.MlaPrepReferenceIdeal.main (F := Ideal))) ⟨m, fun _ => 0, g⟩ (fun r => (∀ c : Dev Cert.MlaPrepReferenceIdeal.nD,
      r.2.mem ((c.tc : Thread Cert.MlaPrepReferenceIdeal.nD Cert.MlaPrepReferenceIdeal.τ).loc Cert.MlaPrepReferenceIdeal.main_arg0) = m ((c.tc : Thread Cert.MlaPrepReferenceIdeal.nD Cert.MlaPrepReferenceIdeal.τ).loc Cert.MlaPrepReferenceIdeal.main_arg0)
      ∧ r.2.mem ((c.tc : Thread Cert.MlaPrepReferenceIdeal.nD Cert.MlaPrepReferenceIdeal.τ).loc Cert.MlaPrepReferenceIdeal.main_arg1) = m ((c.tc : Thread Cert.MlaPrepReferenceIdeal.nD Cert.MlaPrepReferenceIdeal.τ).loc Cert.MlaPrepReferenceIdeal.main_arg1)
      ∧ r.2.mem ((c.tc : Thread Cert.MlaPrepReferenceIdeal.nD Cert.MlaPrepReferenceIdeal.τ).loc Cert.MlaPrepReferenceIdeal.main_arg2) = m ((c.tc : Thread Cert.MlaPrepReferenceIdeal.nD Cert.MlaPrepReferenceIdeal.τ).loc Cert.MlaPrepReferenceIdeal.main_arg2)
      ∧ r.2.mem ((c.tc : Thread Cert.MlaPrepReferenceIdeal.nD Cert.MlaPrepReferenceIdeal.τ).loc Cert.MlaPrepReferenceIdeal.main_arg3) = m ((c.tc : Thread Cert.MlaPrepReferenceIdeal.nD Cert.MlaPrepReferenceIdeal.τ).loc Cert.MlaPrepReferenceIdeal.main_arg3)
      ∧ r.2.mem ((c.tc : Thread Cert.MlaPrepReferenceIdeal.nD Cert.MlaPrepReferenceIdeal.τ).loc Cert.MlaPrepReferenceIdeal.main_arg4) = m ((c.tc : Thread Cert.MlaPrepReferenceIdeal.nD Cert.MlaPrepReferenceIdeal.τ).loc Cert.MlaPrepReferenceIdeal.main_arg4)
      ∧ r.2.mem ((c.tc : Thread Cert.MlaPrepReferenceIdeal.nD Cert.MlaPrepReferenceIdeal.τ).loc Cert.MlaPrepReferenceIdeal.main_arg5) = m ((c.tc : Thread Cert.MlaPrepReferenceIdeal.nD Cert.MlaPrepReferenceIdeal.τ).loc Cert.MlaPrepReferenceIdeal.main_arg5)
      ∧ r.2.mem ((c.tc : Thread Cert.MlaPrepReferenceIdeal.nD Cert.MlaPrepReferenceIdeal.τ).loc Cert.MlaPrepReferenceIdeal.main_arg6) = m ((c.tc : Thread Cert.MlaPrepReferenceIdeal.nD Cert.MlaPrepReferenceIdeal.τ).loc Cert.MlaPrepReferenceIdeal.main_arg6))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_MlaKernel_MlaKernelIdeal : Prop :=
  IdealRules.named_const.Statement Cert.MlaKernelIdeal.κ "mla_scale" .f32 0x3E16C740#32 (((Real.sqrt 96)⁻¹ * (Real.log 2)⁻¹ : ℝ) : EReal)

def algebraic_MlaKernelIdeal_MlaReferenceIdeal_pre_mla_finite [hMlaKernelIdeal : Cert.MlaKernelIdeal.Facts] [hMlaReferenceIdeal : Cert.MlaReferenceIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_mla_finite m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)) →
    ∃ (v0 : (c : Dev Cert.MlaKernelIdeal.nD) → Buf (Elt Ideal) ((c.tc : Thread Cert.MlaKernelIdeal.nD Cert.MlaKernelIdeal.τ).loc Cert.MlaKernelIdeal.main_v12)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v12) = v0 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v21) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)) →
    ∃ (v0 : (c : Dev Cert.MergeKernelIdeal.nD) → Buf (Elt Ideal) ((c.tc : Thread Cert.MergeKernelIdeal.nD Cert.MergeKernelIdeal.τ).loc Cert.MergeKernelIdeal.main_v17)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v17) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v114) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_InProjKernel_InProjKernelIdeal : Prop :=
  True

def algebraic_InProjKernelIdeal_InProjReferenceIdeal_pre_in_proj_finite [hInProjKernelIdeal : Cert.InProjKernelIdeal.Facts] [hInProjReferenceIdeal : Cert.InProjReferenceIdeal.Facts] [hPre_in_proj_finite : Cert.Pre_in_proj_finite.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjKernelIdeal_in_proj_finite m →
    (∀ c : Dev Cert.InProjKernelIdeal.nD,
      m' ((c.tc : Thread Cert.InProjReferenceIdeal.nD Cert.InProjReferenceIdeal.τ).loc Cert.InProjReferenceIdeal.main_arg0) = m ((c.tc : Thread Cert.InProjKernelIdeal.nD Cert.InProjKernelIdeal.τ).loc Cert.InProjKernelIdeal.main_arg0)
      ∧ m' ((c.tc : Thread Cert.InProjReferenceIdeal.nD Cert.InProjReferenceIdeal.τ).loc Cert.InProjReferenceIdeal.main_arg1) = m ((c.tc : Thread Cert.InProjKernelIdeal.nD Cert.InProjKernelIdeal.τ).loc Cert.InProjKernelIdeal.main_arg1)
      ∧ m' ((c.tc : Thread Cert.InProjReferenceIdeal.nD Cert.InProjReferenceIdeal.τ).loc Cert.InProjReferenceIdeal.main_arg2) = m ((c.tc : Thread Cert.InProjKernelIdeal.nD Cert.InProjKernelIdeal.τ).loc Cert.InProjKernelIdeal.main_arg2)
      ∧ m' ((c.tc : Thread Cert.InProjReferenceIdeal.nD Cert.InProjReferenceIdeal.τ).loc Cert.InProjReferenceIdeal.main_arg3) = m ((c.tc : Thread Cert.InProjKernelIdeal.nD Cert.InProjKernelIdeal.τ).loc Cert.InProjKernelIdeal.main_arg3)) →
    ∃ (v0 : (c : Dev Cert.InProjKernelIdeal.nD) → Buf (Elt Ideal) ((c.tc : Thread Cert.InProjKernelIdeal.nD Cert.InProjKernelIdeal.τ).loc Cert.InProjKernelIdeal.main_v114_0)) (v1 : (c : Dev Cert.InProjKernelIdeal.nD) → Buf (Elt Ideal) ((c.tc : Thread Cert.InProjKernelIdeal.nD Cert.InProjKernelIdeal.τ).loc Cert.InProjKernelIdeal.main_v114_1)) (v2 : (c : Dev Cert.InProjKernelIdeal.nD) → Buf (Elt Ideal) ((c.tc : Thread Cert.InProjKernelIdeal.nD Cert.InProjKernelIdeal.τ).loc Cert.InProjKernelIdeal.main_v114_2)) (v3 : (c : Dev Cert.InProjKernelIdeal.nD) → Buf (Elt Ideal) ((c.tc : Thread Cert.InProjKernelIdeal.nD Cert.InProjKernelIdeal.τ).loc Cert.InProjKernelIdeal.main_v114_3)) (v4 : (c : Dev Cert.InProjKernelIdeal.nD) → Buf (Elt Ideal) ((c.tc : Thread Cert.InProjKernelIdeal.nD Cert.InProjKernelIdeal.τ).loc Cert.InProjKernelIdeal.main_v114_4)) (v5 : (c : Dev Cert.InProjKernelIdeal.nD) → Buf (Elt Ideal) ((c.tc : Thread Cert.InProjKernelIdeal.nD Cert.InProjKernelIdeal.τ).loc Cert.InProjKernelIdeal.main_v114_5)) (v6 : (c : Dev Cert.InProjKernelIdeal.nD) → Buf (Elt Ideal) ((c.tc : Thread Cert.InProjKernelIdeal.nD Cert.InProjKernelIdeal.τ).loc Cert.InProjKernelIdeal.main_v114_6)) (v7 : (c : Dev Cert.InProjKernelIdeal.nD) → Buf (Elt Ideal) ((c.tc : Thread Cert.InProjKernelIdeal.nD Cert.InProjKernelIdeal.τ).loc Cert.InProjKernelIdeal.main_v114_7)) (v8 : (c : Dev Cert.InProjKernelIdeal.nD) → Buf (Elt Ideal) ((c.tc : Thread Cert.InProjKernelIdeal.nD Cert.InProjKernelIdeal.τ).loc Cert.InProjKernelIdeal.main_v114_8)) (v9 : (c : Dev Cert.InProjKernelIdeal.nD) → Buf (Elt Ideal) ((c.tc : Thread Cert.InProjKernelIdeal.nD Cert.InProjKernelIdeal.τ).loc Cert.InProjKernelIdeal.main_v114_9)) (v10 : (c : Dev Cert.InProjKernelIdeal.nD) → Buf (Elt Ideal) ((c.tc : Thread Cert.InProjKernelIdeal.nD Cert.InProjKernelIdeal.τ).loc Cert.InProjKernelIdeal.main_v114_10)) (v11 : (c : Dev Cert.InProjKernelIdeal.nD) → Buf (Elt Ideal) ((c.tc : Thread Cert.InProjKernelIdeal.nD Cert.InProjKernelIdeal.τ).loc Cert.InProjKernelIdeal.main_v114_11)),
      θ_run (Cert.InProjKernelIdeal.defs (F := Ideal)) (onTc (τ := Cert.InProjKernelIdeal.τ) (Cert.InProjKernelIdeal.main (F := Ideal))) ⟨m, fun _ => 0, g⟩ (fun r => ∀ c : Dev Cert.InProjKernelIdeal.nD,
          r.2.mem ((c.tc : Thread Cert.InProjKernelIdeal.nD Cert.InProjKernelIdeal.τ).loc Cert.InProjKernelIdeal.main_v114_0) = v0 c
          ∧ r.2.mem ((c.tc : Thread Cert.InProjKernelIdeal.nD Cert.InProjKernelIdeal.τ).loc Cert.InProjKernelIdeal.main_v114_1) = v1 c
          ∧ r.2.mem ((c.tc : Thread Cert.InProjKernelIdeal.nD Cert.InProjKernelIdeal.τ).loc Cert.InProjKernelIdeal.main_v114_2) = v2 c
          ∧ r.2.mem ((c.tc : Thread Cert.InProjKernelIdeal.nD Cert.InProjKernelIdeal.τ).loc Cert.InProjKernelIdeal.main_v114_3) = v3 c
          ∧ r.2.mem ((c.tc : Thread Cert.InProjKernelIdeal.nD Cert.InProjKernelIdeal.τ).loc Cert.InProjKernelIdeal.main_v114_4) = v4 c
          ∧ r.2.mem ((c.tc : Thread Cert.InProjKernelIdeal.nD Cert.InProjKernelIdeal.τ).loc Cert.InProjKernelIdeal.main_v114_5) = v5 c
          ∧ r.2.mem ((c.tc : Thread Cert.InProjKernelIdeal.nD Cert.InProjKernelIdeal.τ).loc Cert.InProjKernelIdeal.main_v114_6) = v6 c
          ∧ r.2.mem ((c.tc : Thread Cert.InProjKernelIdeal.nD Cert.InProjKernelIdeal.τ).loc Cert.InProjKernelIdeal.main_v114_7) = v7 c
          ∧ r.2.mem ((c.tc : Thread Cert.InProjKernelIdeal.nD Cert.InProjKernelIdeal.τ).loc Cert.InProjKernelIdeal.main_v114_8) = v8 c
          ∧ r.2.mem ((c.tc : Thread Cert.InProjKernelIdeal.nD Cert.InProjKernelIdeal.τ).loc Cert.InProjKernelIdeal.main_v114_9) = v9 c
          ∧ r.2.mem ((c.tc : Thread Cert.InProjKernelIdeal.nD Cert.InProjKernelIdeal.τ).loc Cert.InProjKernelIdeal.main_v114_10) = v10 c
          ∧ r.2.mem ((c.tc : Thread Cert.InProjKernelIdeal.nD Cert.InProjKernelIdeal.τ).loc Cert.InProjKernelIdeal.main_v114_11) = v11 c
          ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
          ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
          ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
          ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v172) = v0 c
          ∧ r.2.mem ((c.tc : Thread Cert.InProjReferenceIdeal.nD Cert.InProjReferenceIdeal.τ).loc Cert.InProjReferenceIdeal.main_v173) = v1 c
          ∧ r.2.mem ((c.tc : Thread Cert.InProjReferenceIdeal.nD Cert.InProjReferenceIdeal.τ).loc Cert.InProjReferenceIdeal.main_v174) = v2 c
          ∧ r.2.mem ((c.tc : Thread Cert.InProjReferenceIdeal.nD Cert.InProjReferenceIdeal.τ).loc Cert.InProjReferenceIdeal.main_v166) = v3 c
          ∧ r.2.mem ((c.tc : Thread Cert.InProjReferenceIdeal.nD Cert.InProjReferenceIdeal.τ).loc Cert.InProjReferenceIdeal.main_v167) = v4 c
          ∧ r.2.mem ((c.tc : Thread Cert.InProjReferenceIdeal.nD Cert.InProjReferenceIdeal.τ).loc Cert.InProjReferenceIdeal.main_v175) = v5 c
          ∧ r.2.mem ((c.tc : Thread Cert.InProjReferenceIdeal.nD Cert.InProjReferenceIdeal.τ).loc Cert.InProjReferenceIdeal.main_v176) = v6 c
          ∧ r.2.mem ((c.tc : Thread Cert.InProjReferenceIdeal.nD Cert.InProjReferenceIdeal.τ).loc Cert.InProjReferenceIdeal.main_v177) = v7 c
          ∧ r.2.mem ((c.tc : Thread Cert.InProjReferenceIdeal.nD Cert.InProjReferenceIdeal.τ).loc Cert.InProjReferenceIdeal.main_v178) = v8 c
          ∧ r.2.mem ((c.tc : Thread Cert.InProjReferenceIdeal.nD Cert.InProjReferenceIdeal.τ).loc Cert.InProjReferenceIdeal.main_v179) = v9 c
          ∧ r.2.mem ((c.tc : Thread Cert.InProjReferenceIdeal.nD Cert.InProjReferenceIdeal.τ).loc Cert.InProjReferenceIdeal.main_v180) = v10 c
          ∧ r.2.mem ((c.tc : Thread Cert.InProjReferenceIdeal.nD Cert.InProjReferenceIdeal.τ).loc Cert.InProjReferenceIdeal.main_v181) = v11 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_MlaPrepKernel_MlaPrepKernelIdeal : Prop :=
  True

def algebraic_MlaPrepKernelIdeal_MlaPrepReferenceIdeal_pre_mla_prep_finite [hMlaPrepKernelIdeal : Cert.MlaPrepKernelIdeal.Facts] [hMlaPrepReferenceIdeal : Cert.MlaPrepReferenceIdeal.Facts] [hPre_mla_prep_finite : Cert.Pre_mla_prep_finite.Facts] : Prop :=
  ∀ (m : (ℓ : Loc Cert.MlaPrepKernelIdeal.nD Cert.MlaPrepKernelIdeal.τ Cert.MlaPrepKernelIdeal.sig) → Buf (Elt Ideal) ℓ) (g : Dev Cert.MlaPrepKernelIdeal.nD → PrngReg)
    (m' : (ℓ : Loc Cert.MlaPrepReferenceIdeal.nD Cert.MlaPrepReferenceIdeal.τ Cert.MlaPrepReferenceIdeal.sig) → Buf (Elt Ideal) ℓ) (g' : Dev Cert.MlaPrepReferenceIdeal.nD → PrngReg), Pre_MlaPrepKernelIdeal_mla_prep_finite m →
    (∀ c : Dev Cert.MlaPrepKernelIdeal.nD,
      m' ((c.tc : Thread Cert.MlaPrepReferenceIdeal.nD Cert.MlaPrepReferenceIdeal.τ).loc Cert.MlaPrepReferenceIdeal.main_arg0) = m ((c.tc : Thread Cert.MlaPrepKernelIdeal.nD Cert.MlaPrepKernelIdeal.τ).loc Cert.MlaPrepKernelIdeal.main_arg0)
      ∧ m' ((c.tc : Thread Cert.MlaPrepReferenceIdeal.nD Cert.MlaPrepReferenceIdeal.τ).loc Cert.MlaPrepReferenceIdeal.main_arg1) = m ((c.tc : Thread Cert.MlaPrepKernelIdeal.nD Cert.MlaPrepKernelIdeal.τ).loc Cert.MlaPrepKernelIdeal.main_arg1)
      ∧ m' ((c.tc : Thread Cert.MlaPrepReferenceIdeal.nD Cert.MlaPrepReferenceIdeal.τ).loc Cert.MlaPrepReferenceIdeal.main_arg2) = m ((c.tc : Thread Cert.MlaPrepKernelIdeal.nD Cert.MlaPrepKernelIdeal.τ).loc Cert.MlaPrepKernelIdeal.main_arg2)
      ∧ m' ((c.tc : Thread Cert.MlaPrepReferenceIdeal.nD Cert.MlaPrepReferenceIdeal.τ).loc Cert.MlaPrepReferenceIdeal.main_arg3) = m ((c.tc : Thread Cert.MlaPrepKernelIdeal.nD Cert.MlaPrepKernelIdeal.τ).loc Cert.MlaPrepKernelIdeal.main_arg3)
      ∧ m' ((c.tc : Thread Cert.MlaPrepReferenceIdeal.nD Cert.MlaPrepReferenceIdeal.τ).loc Cert.MlaPrepReferenceIdeal.main_arg4) = m ((c.tc : Thread Cert.MlaPrepKernelIdeal.nD Cert.MlaPrepKernelIdeal.τ).loc Cert.MlaPrepKernelIdeal.main_arg4)
      ∧ m' ((c.tc : Thread Cert.MlaPrepReferenceIdeal.nD Cert.MlaPrepReferenceIdeal.τ).loc Cert.MlaPrepReferenceIdeal.main_arg5) = m ((c.tc : Thread Cert.MlaPrepKernelIdeal.nD Cert.MlaPrepKernelIdeal.τ).loc Cert.MlaPrepKernelIdeal.main_arg5)
      ∧ m' ((c.tc : Thread Cert.MlaPrepReferenceIdeal.nD Cert.MlaPrepReferenceIdeal.τ).loc Cert.MlaPrepReferenceIdeal.main_arg6) = m ((c.tc : Thread Cert.MlaPrepKernelIdeal.nD Cert.MlaPrepKernelIdeal.τ).loc Cert.MlaPrepKernelIdeal.main_arg6)) →
    ∃ (v0 : (c : Dev Cert.MlaPrepKernelIdeal.nD) → Buf (Elt Ideal) ((c.tc : Thread Cert.MlaPrepKernelIdeal.nD Cert.MlaPrepKernelIdeal.τ).loc Cert.MlaPrepKernelIdeal.main_v56_0)) (v1 : (c : Dev Cert.MlaPrepKernelIdeal.nD) → Buf (Elt Ideal) ((c.tc : Thread Cert.MlaPrepKernelIdeal.nD Cert.MlaPrepKernelIdeal.τ).loc Cert.MlaPrepKernelIdeal.main_v56_1)) (v2 : (c : Dev Cert.MlaPrepKernelIdeal.nD) → Buf (Elt Ideal) ((c.tc : Thread Cert.MlaPrepKernelIdeal.nD Cert.MlaPrepKernelIdeal.τ).loc Cert.MlaPrepKernelIdeal.main_v56_2)),
      θ_run (Cert.MlaPrepKernelIdeal.defs (F := Ideal)) (onTc (τ := Cert.MlaPrepKernelIdeal.τ) (Cert.MlaPrepKernelIdeal.main (F := Ideal))) ⟨m, fun _ => 0, g⟩ (fun r => ∀ c : Dev Cert.MlaPrepKernelIdeal.nD,
          r.2.mem ((c.tc : Thread Cert.MlaPrepKernelIdeal.nD Cert.MlaPrepKernelIdeal.τ).loc Cert.MlaPrepKernelIdeal.main_v56_0) = v0 c
          ∧ r.2.mem ((c.tc : Thread Cert.MlaPrepKernelIdeal.nD Cert.MlaPrepKernelIdeal.τ).loc Cert.MlaPrepKernelIdeal.main_v56_1) = v1 c
          ∧ r.2.mem ((c.tc : Thread Cert.MlaPrepKernelIdeal.nD Cert.MlaPrepKernelIdeal.τ).loc Cert.MlaPrepKernelIdeal.main_v56_2) = v2 c
          ∧ r.2.mem ((c.tc : Thread Cert.MlaPrepKernelIdeal.nD Cert.MlaPrepKernelIdeal.τ).loc Cert.MlaPrepKernelIdeal.main_arg0) = m ((c.tc : Thread Cert.MlaPrepKernelIdeal.nD Cert.MlaPrepKernelIdeal.τ).loc Cert.MlaPrepKernelIdeal.main_arg0)
          ∧ r.2.mem ((c.tc : Thread Cert.MlaPrepKernelIdeal.nD Cert.MlaPrepKernelIdeal.τ).loc Cert.MlaPrepKernelIdeal.main_arg1) = m ((c.tc : Thread Cert.MlaPrepKernelIdeal.nD Cert.MlaPrepKernelIdeal.τ).loc Cert.MlaPrepKernelIdeal.main_arg1)
          ∧ r.2.mem ((c.tc : Thread Cert.MlaPrepKernelIdeal.nD Cert.MlaPrepKernelIdeal.τ).loc Cert.MlaPrepKernelIdeal.main_arg2) = m ((c.tc : Thread Cert.MlaPrepKernelIdeal.nD Cert.MlaPrepKernelIdeal.τ).loc Cert.MlaPrepKernelIdeal.main_arg2)
          ∧ r.2.mem ((c.tc : Thread Cert.MlaPrepKernelIdeal.nD Cert.MlaPrepKernelIdeal.τ).loc Cert.MlaPrepKernelIdeal.main_arg3) = m ((c.tc : Thread Cert.MlaPrepKernelIdeal.nD Cert.MlaPrepKernelIdeal.τ).loc Cert.MlaPrepKernelIdeal.main_arg3)
          ∧ r.2.mem ((c.tc : Thread Cert.MlaPrepKernelIdeal.nD Cert.MlaPrepKernelIdeal.τ).loc Cert.MlaPrepKernelIdeal.main_arg4) = m ((c.tc : Thread Cert.MlaPrepKernelIdeal.nD Cert.MlaPrepKernelIdeal.τ).loc Cert.MlaPrepKernelIdeal.main_arg4)
          ∧ r.2.mem ((c.tc : Thread Cert.MlaPrepKernelIdeal.nD Cert.MlaPrepKernelIdeal.τ).loc Cert.MlaPrepKernelIdeal.main_arg5) = m ((c.tc : Thread Cert.MlaPrepKernelIdeal.nD Cert.MlaPrepKernelIdeal.τ).loc Cert.MlaPrepKernelIdeal.main_arg5)
          ∧ r.2.mem ((c.tc : Thread Cert.MlaPrepKernelIdeal.nD Cert.MlaPrepKernelIdeal.τ).loc Cert.MlaPrepKernelIdeal.main_arg6) = m ((c.tc : Thread Cert.MlaPrepKernelIdeal.nD Cert.MlaPrepKernelIdeal.τ).loc Cert.MlaPrepKernelIdeal.main_arg6))
      ∧ θ_run (Cert.MlaPrepReferenceIdeal.defs (F := Ideal)) (onTc (τ := Cert.MlaPrepReferenceIdeal.τ) (Cert.MlaPrepReferenceIdeal.main (F := Ideal))) ⟨m', fun _ => 0, g'⟩ (fun r => ∀ c : Dev Cert.MlaPrepReferenceIdeal.nD,
          r.2.mem ((c.tc : Thread Cert.MlaPrepReferenceIdeal.nD Cert.MlaPrepReferenceIdeal.τ).loc Cert.MlaPrepReferenceIdeal.main_v74) = v0 c
          ∧ r.2.mem ((c.tc : Thread Cert.MlaPrepReferenceIdeal.nD Cert.MlaPrepReferenceIdeal.τ).loc Cert.MlaPrepReferenceIdeal.main_v76) = v1 c
          ∧ r.2.mem ((c.tc : Thread Cert.MlaPrepReferenceIdeal.nD Cert.MlaPrepReferenceIdeal.τ).loc Cert.MlaPrepReferenceIdeal.main_v79) = v2 c
          ∧ r.2.mem ((c.tc : Thread Cert.MlaPrepReferenceIdeal.nD Cert.MlaPrepReferenceIdeal.τ).loc Cert.MlaPrepReferenceIdeal.main_arg0) = m' ((c.tc : Thread Cert.MlaPrepReferenceIdeal.nD Cert.MlaPrepReferenceIdeal.τ).loc Cert.MlaPrepReferenceIdeal.main_arg0)
          ∧ r.2.mem ((c.tc : Thread Cert.MlaPrepReferenceIdeal.nD Cert.MlaPrepReferenceIdeal.τ).loc Cert.MlaPrepReferenceIdeal.main_arg1) = m' ((c.tc : Thread Cert.MlaPrepReferenceIdeal.nD Cert.MlaPrepReferenceIdeal.τ).loc Cert.MlaPrepReferenceIdeal.main_arg1)
          ∧ r.2.mem ((c.tc : Thread Cert.MlaPrepReferenceIdeal.nD Cert.MlaPrepReferenceIdeal.τ).loc Cert.MlaPrepReferenceIdeal.main_arg2) = m' ((c.tc : Thread Cert.MlaPrepReferenceIdeal.nD Cert.MlaPrepReferenceIdeal.τ).loc Cert.MlaPrepReferenceIdeal.main_arg2)
          ∧ r.2.mem ((c.tc : Thread Cert.MlaPrepReferenceIdeal.nD Cert.MlaPrepReferenceIdeal.τ).loc Cert.MlaPrepReferenceIdeal.main_arg3) = m' ((c.tc : Thread Cert.MlaPrepReferenceIdeal.nD Cert.MlaPrepReferenceIdeal.τ).loc Cert.MlaPrepReferenceIdeal.main_arg3)
          ∧ r.2.mem ((c.tc : Thread Cert.MlaPrepReferenceIdeal.nD Cert.MlaPrepReferenceIdeal.τ).loc Cert.MlaPrepReferenceIdeal.main_arg4) = m' ((c.tc : Thread Cert.MlaPrepReferenceIdeal.nD Cert.MlaPrepReferenceIdeal.τ).loc Cert.MlaPrepReferenceIdeal.main_arg4)
          ∧ r.2.mem ((c.tc : Thread Cert.MlaPrepReferenceIdeal.nD Cert.MlaPrepReferenceIdeal.τ).loc Cert.MlaPrepReferenceIdeal.main_arg5) = m' ((c.tc : Thread Cert.MlaPrepReferenceIdeal.nD Cert.MlaPrepReferenceIdeal.τ).loc Cert.MlaPrepReferenceIdeal.main_arg5)
          ∧ r.2.mem ((c.tc : Thread Cert.MlaPrepReferenceIdeal.nD Cert.MlaPrepReferenceIdeal.τ).loc Cert.MlaPrepReferenceIdeal.main_arg6) = m' ((c.tc : Thread Cert.MlaPrepReferenceIdeal.nD Cert.MlaPrepReferenceIdeal.τ).loc Cert.MlaPrepReferenceIdeal.main_arg6))

def Claim : Prop :=
  ∃ (hKernel : Cert.Kernel.Facts) (hKernelIdeal : Cert.KernelIdeal.Facts) (hReferenceIdeal : Cert.ReferenceIdeal.Facts) (hMlaKernel : Cert.MlaKernel.Facts) (hMlaKernelIdeal : Cert.MlaKernelIdeal.Facts) (hMlaReferenceIdeal : Cert.MlaReferenceIdeal.Facts) (hMergeKernel : Cert.MergeKernel.Facts) (hMergeKernelIdeal : Cert.MergeKernelIdeal.Facts) (hMergeReferenceIdeal : Cert.MergeReferenceIdeal.Facts) (hInProjKernel : Cert.InProjKernel.Facts) (hInProjKernelIdeal : Cert.InProjKernelIdeal.Facts) (hInProjReferenceIdeal : Cert.InProjReferenceIdeal.Facts) (hMlaPrepKernel : Cert.MlaPrepKernel.Facts) (hMlaPrepKernelIdeal : Cert.MlaPrepKernelIdeal.Facts) (hMlaPrepReferenceIdeal : Cert.MlaPrepReferenceIdeal.Facts) (hPre_finite : Cert.Pre_finite.Facts) (hPre_mla_finite : Cert.Pre_mla_finite.Facts) (hPre_in_proj_finite : Cert.Pre_in_proj_finite.Facts) (hPre_mla_prep_finite : Cert.Pre_mla_prep_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlaKernel (hMlaKernel := hMlaKernel)
    ∧ quiescent_MlaKernelIdeal (hMlaKernelIdeal := hMlaKernelIdeal)
    ∧ quiescent_MlaKernelIdeal_pre_mla_finite (hMlaKernelIdeal := hMlaKernelIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_InProjKernel (hInProjKernel := hInProjKernel)
    ∧ quiescent_InProjKernelIdeal (hInProjKernelIdeal := hInProjKernelIdeal)
    ∧ quiescent_InProjKernelIdeal_pre_in_proj_finite (hInProjKernelIdeal := hInProjKernelIdeal) (hPre_in_proj_finite := hPre_in_proj_finite)
    ∧ quiescent_InProjReferenceIdeal (hInProjReferenceIdeal := hInProjReferenceIdeal)
    ∧ quiescent_InProjReferenceIdeal_pre_in_proj_finite (hInProjReferenceIdeal := hInProjReferenceIdeal) (hPre_in_proj_finite := hPre_in_proj_finite)
    ∧ quiescent_MlaPrepKernel (hMlaPrepKernel := hMlaPrepKernel)
    ∧ quiescent_MlaPrepKernelIdeal (hMlaPrepKernelIdeal := hMlaPrepKernelIdeal)
    ∧ quiescent_MlaPrepKernelIdeal_pre_mla_prep_finite (hMlaPrepKernelIdeal := hMlaPrepKernelIdeal) (hPre_mla_prep_finite := hPre_mla_prep_finite)
    ∧ quiescent_MlaPrepReferenceIdeal (hMlaPrepReferenceIdeal := hMlaPrepReferenceIdeal)
    ∧ quiescent_MlaPrepReferenceIdeal_pre_mla_prep_finite (hMlaPrepReferenceIdeal := hMlaPrepReferenceIdeal) (hPre_mla_prep_finite := hPre_mla_prep_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_MlaKernel_MlaKernelIdeal
    ∧ algebraic_MlaKernelIdeal_MlaReferenceIdeal_pre_mla_finite (hMlaKernelIdeal := hMlaKernelIdeal) (hMlaReferenceIdeal := hMlaReferenceIdeal) (hPre_mla_finite := hPre_mla_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_InProjKernel_InProjKernelIdeal
    ∧ algebraic_InProjKernelIdeal_InProjReferenceIdeal_pre_in_proj_finite (hInProjKernelIdeal := hInProjKernelIdeal) (hInProjReferenceIdeal := hInProjReferenceIdeal) (hPre_in_proj_finite := hPre_in_proj_finite)
    ∧ preserves_MlaPrepKernel_MlaPrepKernelIdeal
    ∧ algebraic_MlaPrepKernelIdeal_MlaPrepReferenceIdeal_pre_mla_prep_finite (hMlaPrepKernelIdeal := hMlaPrepKernelIdeal) (hMlaPrepReferenceIdeal := hMlaPrepReferenceIdeal) (hPre_mla_prep_finite := hPre_mla_prep_finite)
-- ==== Pre_finite.lean ====
abbrev S4x8192x512 : Shape := ⟨3, ![4, 8192, 512]⟩
abbrev S64 : Shape := ⟨1, ![64]⟩
abbrev S128 : Shape := ⟨1, ![128]⟩
abbrev S_ : Shape := ⟨0, ![]⟩

class Facts : Prop where
  bcast_S_S4x8192x512 : S_.BroadcastsInDim S4x8192x512 (![] : Fin 0 → Fin S4x8192x512.rank)
  bcast_S_S64 : S_.BroadcastsInDim S64 (![] : Fin 0 → Fin S64.rank)

variable [Facts]

def fn_part1 {F : FTy → Type} [FloatOps F] (main_arg6 : FVec F S64 .f32) (main_v2 : IVec S4x8192x512 1) (main_v5 : IVec S4x8192x512 1) (main_v8 : IVec S4x8192x512 1) (main_v11 : IVec S64 1) (main_v14 : IVec S64 1) (main_v17 : IVec S64 1) : IVec S4x8192x512 1 × IVec S4x8192x512 1 × IVec S4x8192x512 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S4x8192x512 .f32) (main_arg1 : FVec F S4x8192x512 .f32) (main_arg2 : FVec F S4x8192x512 .f32) (main_arg3 : FVec F S64 .f32) (main_arg4 : FVec F S64 .f32) (main_arg5 : FVec F S64 .f32) (main_arg6 : FVec F S64 .f32) (main_arg7 : FVec F S128 .f32) : IVec S4x8192x512 1 × IVec S4x8192x512 1 × IVec S4x8192x512 1 × IVec S64 1 × IVec S64 1 × IVec S64 1 × IVec S64 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x8192x512 .f32 := Host.absf main_arg1
  let main_cst_0 : FVec F S_ .f32 := constant S_ .f32 0x7F800000#32
  let main_v4 : FVec F S4x8192x512 .f32 := broadcastInDim S4x8192x512 ![] bcast_S_S4x8192x512 main_cst_0
  let main_v5 : IVec S4x8192x512 1 := cmpf .olt main_v3 main_v4
  let main_v6 : FVec F S4x8192x512 .f32 := Host.absf main_arg2
  let main_cst_1 : FVec F S_ .f32 := constant S_ .f32 0x7F800000#32
  let main_v7 : FVec F S4x8192x512 .f32 := broadcastInDim S4x8192x512 ![] bcast_S_S4x8192x512 main_cst_1
  let main_v8 : IVec S4x8192x512 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_in_proj_finite.lean ====
abbrev S4x8192x1024 : Shape := ⟨3, ![4, 8192, 1024]⟩
abbrev S4x1024 : Shape := ⟨2, ![4, 1024]⟩
abbrev S1024x4512 : Shape := ⟨2, ![1024, 4512]⟩
abbrev S_ : Shape := ⟨0, ![]⟩

class Facts : Prop where
  bcast_S_S4x8192x1024 : S_.BroadcastsInDim S4x8192x1024 (![] : Fin 0 → Fin S4x8192x1024.rank)
  bcast_S_S4x1024 : S_.BroadcastsInDim S4x1024 (![] : Fin 0 → Fin S4x1024.rank)
  bcast_S_S1024x4512 : S_.BroadcastsInDim S1024x4512 (![] : Fin 0 → Fin S1024x4512.rank)

variable [Facts]

def fn {F : FTy → Type} [FloatOps F] (main_arg0 : FVec F S4x8192x1024 .f32) (main_arg1 : FVec F S4x1024 .f32) (main_arg2 : FVec F S4x1024 .f32) (main_arg3 : FVec F S1024x4512 .f32) : IVec S4x8192x1024 1 × IVec S4x1024 1 × IVec S4x1024 1 × IVec S1024x4512 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S4x1024 .f32 := Host.absf main_arg2
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S1024x4512 .f32 := Host.absf main_arg3
  let main_cst_2 : FVec F S_ .f32 := constant S_ .f32 0x7F800000#32
  let main_v10 : FVec F S1024x4512 .f32 := broadcastInDim S1024x4512 ![] bcast_S_S1024x4512 main_cst_2
  let main_v11 : IVec S1024x4512 1 := cmpf .olt main_v9 main_v10
  (main_v2, main_v5, main_v8, main_v11)
-- ==== Pre_mla_finite.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩

class Facts : Prop where
  bcast_S_S4x8192x8x64 : S_.BroadcastsInDim S4x8192x8x64 (![] : Fin 0 → Fin S4x8192x8x64.rank)
  bcast_S_S4x8192x8x32 : S_.BroadcastsInDim S4x8192x8x32 (![] : Fin 0 → Fin S4x8192x8x32.rank)
  bcast_S_S4x8192x32 : S_.BroadcastsInDim S4x8192x32 (![] : Fin 0 → Fin S4x8192x32.rank)

variable [Facts]

def fn {F : FTy → Type} [FloatOps F] (main_arg0 : FVec F S4x8192x8x64 .f32) (main_arg1 : FVec F S4x8192x8x32 .f32) (main_arg2 : FVec F S4x8192x8x64 .f32) (main_arg3 : FVec F S4x8192x32 .f32) (main_arg4 : FVec F S4x8192x8x64 .f32) : IVec S4x8192x8x64 1 × IVec S4x8192x8x32 1 × IVec S4x8192x8x64 1 × IVec S4x8192x32 1 × IVec S4x8192x8x64 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_v3 : FVec F S4x8192x8x32 .f32 := Host.absf main_arg1
  let main_cst_0 : FVec F S_ .f32 := constant S_ .f32 0x7F800000#32
  let main_v4 : FVec F S4x8192x8x32 .f32 := broadcastInDim S4x8192x8x32 ![] bcast_S_S4x8192x8x32 main_cst_0
  let main_v5 : IVec S4x8192x8x32 1 := cmpf .olt main_v3 main_v4
  let main_v6 : FVec F S4x8192x8x64 .f32 := Host.absf main_arg2
  let main_cst_1 : FVec F S_ .f32 := constant S_ .f32 0x7F800000#32
  let main_v7 : FVec F S4x8192x8x64 .f32 := broadcastInDim S4x8192x8x64 ![] bcast_S_S4x8192x8x64 main_cst_1
  let main_v8 : IVec S4x8192x8x64 1 := cmpf .olt main_v6 main_v7
  let main_v9 : FVec F S4x8192x32 .f32 := Host.absf main_arg3
  let main_cst_2 : FVec F S_ .f32 := constant S_ .f32 0x7F800000#32
  let main_v10 : FVec F S4x8192x32 .f32 := broadcastInDim S4x8192x32 ![] bcast_S_S4x8192x32 main_cst_2
  let main_v11 : IVec S4x8192x32 1 := cmpf .olt main_v9 main_v10
  let main_v12 : FVec F S4x8192x8x64 .f32 := Host.absf main_arg4
  let main_cst_3 : FVec F S_ .f32 := constant S_ .f32 0x7F800000#32
  let main_v13 : FVec F S4x8192x8x64 .f32 := broadcastInDim S4x8192x8x64 ![] bcast_S_S4x8192x8x64 main_cst_3
  let main_v14 : IVec S4x8192x8x64 1 := cmpf .olt main_v12 main_v13
  (main_v2, main_v5, main_v8, main_v11, main_v14)
-- ==== Pre_mla_prep_finite.lean ====
abbrev S4x8192x384 : Shape := ⟨3, ![4, 8192, 384]⟩
abbrev S4x8192x256 : Shape := ⟨3, ![4, 8192, 256]⟩
abbrev S4x8192x32 : Shape := ⟨3, ![4, 8192, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩

class Facts : Prop where
  bcast_S_S4x8192x384 : S_.BroadcastsInDim S4x8192x384 (![] : Fin 0 → Fin S4x8192x384.rank)
  bcast_S_S384 : S_.BroadcastsInDim S384 (![] : Fin 0 → Fin S384.rank)
  bcast_S_S384x768 : S_.BroadcastsInDim S384x768 (![] : Fin 0 → Fin S384x768.rank)

variable [Facts]

def fn {F : FTy → Type} [FloatOps F] (main_arg0 : FVec F S4x8192x384 .f32) (main_arg1 : FVec F S4x8192x256 .f32) (main_arg2 : FVec F S4x8192x32 .f32) (main_arg3 : FVec F S384 .f32) (main_arg4 : FVec F S384x768 .f32) (main_arg5 : FVec F S256 .f32) (main_arg6 : FVec F S256x1024 .f32) : IVec S4x8192x384 1 × IVec S384 1 × IVec S384x768 1 :=
  let main_v0 : FVec F S4x8192x384 .f32 := Host.absf main_arg0
  let main_cst : FVec F S_ .f32 := constant S_ .f32 0x7F800000#32
  let main_v1 : FVec F S4x8192x384 .f32 := broadcastInDim S4x8192x384 ![] bcast_S_S4x8192x384 main_cst
  let main_v2 : IVec S4x8192x384 1 := cmpf .olt main_v0 main_v1
  let main_v3 : FVec F S384 .f32 := Host.absf main_arg3
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S384x768 .f32 := Host.absf main_arg4
  let main_cst_1 : FVec F S_ .f32 := constant S_ .f32 0x7F800000#32
  let main_v7 : FVec F S384x768 .f32 := broadcastInDim S384x768 ![] bcast_S_S384x768 main_cst_1
  let main_v8 : IVec S384x768 1 := cmpf .olt main_v6 main_v7
  (main_v2, main_v5, main_v8)
-- ==== Kernel.lean ====
abbrev S4x8192x512 : Shape := ⟨3, ![4, 8192, 512]⟩
abbrev S64 : Shape := ⟨1, ![64]⟩
abbrev S128 : Shape := ⟨1, ![128]⟩
abbrev S32768x512 : Shape := ⟨2, ![32768, 512]⟩
abbrev S1x64 : Shape := ⟨2, ![1, 64]⟩
abbrev S1x128 : Shape := ⟨2, ![1, 128]⟩
abbrev S4x8x1024x4x128 : Shape := ⟨5, ![4, 8, 1024, 4, 128]⟩
abbrev S4x4x8x128x1024 : Shape := ⟨5, ![4, 4, 8, 128, 1024]⟩
abbrev S2048x128 : Shape := ⟨2, ![2048, 128]⟩
abbrev S8192x128 : Shape := ⟨2, ![8192, 128]⟩
abbrev S1x1x8x128x1024 : Shape := ⟨5, ![1, 1, 8, 128, 1024]⟩
abbrev S512x128 : Shape := ⟨2, ![512, 128]⟩
abbrev S1x512 : Shape := ⟨2, ![1, 512]⟩
abbrev S144x512 : Shape := ⟨2, ![144, 512]⟩
abbrev S1x1x1x128x1024 : Shape := ⟨5, ![1, 1, 1, 128, 1024]⟩
abbrev S128x1024 : Shape := ⟨2, ![128, 1024]⟩
abbrev S16x1024 : Shape := ⟨2, ![16, 1024]⟩
abbrev S144x1024 : Shape := ⟨2, ![144, 1024]⟩
abbrev S1024x128 : Shape := ⟨2, ![1024, 128]⟩
abbrev S1024x512 : Shape := ⟨2, ![1024, 512]⟩
abbrev S512 : Shape := ⟨1, ![512]⟩
abbrev S1 : Shape := ⟨1, ![1]⟩
abbrev S1x1 : Shape := ⟨2, ![1, 1]⟩
abbrev S128x512 : Shape := ⟨2, ![128, 512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32768x512, .f32⟩
  | .hbm, ⟨9, _⟩ => ⟨S32768x512, .f32⟩
  | .hbm, ⟨10, _⟩ => ⟨S32768x512, .bf16⟩
  | .hbm, ⟨11, _⟩ => ⟨S32768x512, .f32⟩
  | .hbm, ⟨12, _⟩ => ⟨S32768x512, .bf16⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x128, .f32⟩
  | .hbm, ⟨18, _⟩ => ⟨S4x8x1024x4x128, .bf16⟩
  | .hbm, ⟨19, _⟩ => ⟨S4x4x8x128x1024, .bf16⟩
  | .hbm, ⟨20, _⟩ => ⟨S32768x512, .bf16⟩
  | .local _ .vmem, ⟨0, _⟩ => ⟨S2048x128, .f32⟩
  | .local _ .vmem, ⟨1, _⟩ => ⟨S2048x128, .f32⟩
  | .local _ .vmem, ⟨2, _⟩ => ⟨S8192x128, .bf16⟩
  | .local _ .vmem, ⟨3, _⟩ => ⟨S8192x128, .bf16⟩
  | .local _ .vmem, ⟨4, _⟩ => ⟨S1x1x8x128x1024, .bf16⟩
  | .local _ .vmem, ⟨5, _⟩ => ⟨S1x1x8x128x1024, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S2048x128, .bf16⟩
  | .local _ .vmem, ⟨12, _⟩ => ⟨S2048x128, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32 : BitVec 32 := 0#32
  let c8_i32 : BitVec 32 := 8#32
  let v65 : BitVec 32 := Scalar.addi c0_i32 c8_i32
  let c1_i32 : BitVec 32 := 1#32
  ⟨c0_i32, v65, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c1024_i32 : BitVec 32 := 1024#32
  let v206 : BitVec 32 := Scalar.muli arg12 c1024_i32
  v206
def k0_off1 (k0_t1 : Fin k0_t1_loop.trips) : Fin 5 → Nat :=
  let c0_78 : Index := 0#32
  let c0_79 : Index := 0#32
  let c0_i32 : BitVec 32 := 0#32
  let c1_i32 : BitVec 32 := 1#32
  let arg12 : BitVec 32 := Scf.iv c0_i32 c1_i32 k0_t1
  let v208 : Index := Scalar.indexCast arg12
  let c0_80 : Index := 0#32
  let c0_81 : Index := 0#32
  ![0, 0, v208.toNat, 0, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1024_i32 : BitVec 32 := 1024#32
  let v206 : BitVec 32 := Scalar.muli arg12 c1024_i32
  let v207 : BitVec 32 := v206
  let v213 : Index := Scalar.indexCast v207
  let c0_83 : Index := 0#32
  ![v213.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S4x8192x512 : Shape := ⟨3, ![4, 8192, 512]⟩
abbrev S64 : Shape := ⟨1, ![64]⟩
abbrev S128 : Shape := ⟨1, ![128]⟩
abbrev S4x8192x4x2x64 : Shape := ⟨5, ![4, 8192, 4, 2, 64]⟩
abbrev S4x8192x4x128 : Shape := ⟨4, ![4, 8192, 4, 128]⟩
abbrev S_ : Shape := ⟨0, ![]⟩
abbrev S4x4x2x8192x8192 : Shape := ⟨5, ![4, 4, 2, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x8192x4x2x64, .f32⟩
  | .hbm, ⟨9, _⟩ => ⟨S4x8192x4x2x64, .f32⟩
  | .hbm, ⟨10, _⟩ => ⟨S4x8192x4x128, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4x2x8192x8192, .f32⟩
  | .hbm, ⟨23, _⟩ => ⟨S_, .f32⟩
  | .hbm, ⟨24, _⟩ => ⟨S4x4x2x8192x8192, .f32⟩
  | .hbm, ⟨25, _⟩ => ⟨S4x4x2x8192x8192, .f32⟩
  | .hbm, ⟨26, _⟩ => ⟨S_, .f32⟩
  | .hbm, ⟨27, _⟩ => ⟨S4x4x2x8192, .f32⟩
  | .hbm, ⟨28, _⟩ => ⟨S_, .f32⟩
  | .hbm, ⟨29, _⟩ => ⟨S4x4x2x8192, .f32⟩
  | .hbm, ⟨30, _⟩ => ⟨S4x4x2x8192, .f32⟩
  | .hbm, ⟨31, _⟩ => ⟨S4x4x2x8192x1, .f32⟩
  | .hbm, ⟨32, _⟩ => ⟨S4x4x2x8192x8192, .f32⟩
  | .hbm, ⟨33, _⟩ => ⟨S4x4x2x8192x8192, .f32⟩
  | .hbm, ⟨34, _⟩ => ⟨S4x4x2x8192x8192, .f32⟩
  | .hbm, ⟨35, _⟩ => ⟨S_, .f32⟩
  | .hbm, ⟨36, _⟩ => ⟨S4x4x2x8192, .f32⟩
  | .hbm, ⟨37, _⟩ => ⟨S4x4x2x8192x1, .f32⟩
  | .hbm, ⟨38, _⟩ => ⟨S4x4x2x8192x8192, .f32⟩
  | .hbm, ⟨39, _⟩ => ⟨S4x4x2x8192x8192, .f32⟩
  | .hbm, ⟨40, _⟩ => ⟨S4x4x1x8192x8192, .f32⟩
  | .hbm, ⟨41, _⟩ => ⟨S4x4x8192x8192, .f32⟩
  | .hbm, ⟨42, _⟩ => ⟨S4x4x1x8192x8192, .f32⟩
  | .hbm, ⟨43, _⟩ => ⟨S4x4x8192x8192, .f32⟩
  | .hbm, ⟨44, _⟩ => ⟨S4x4x8192x8192, .f32⟩
  | .hbm, ⟨45, _⟩ => ⟨S4x4x8192x8192, .f32⟩
  | .hbm, ⟨46, _⟩ => ⟨S4x4x8192x8192, .f32⟩
  | .hbm, ⟨47, _⟩ => ⟨S4x4x128x8192, .f32⟩
  | .hbm, ⟨48, _⟩ => ⟨S4x8192x4x128, .f32⟩
  | .hbm, ⟨49, _⟩ => ⟨S4x8192x4x128, .f32⟩
  | .hbm, ⟨50, _⟩ => ⟨S_, .f32⟩
  | .hbm, ⟨51, _⟩ => ⟨S4x8192x4, .f32⟩
  | .hbm, ⟨52, _⟩ => ⟨S4x8192x4x1, .f32⟩
  | .hbm, ⟨53, _⟩ => ⟨S_, .f32⟩
  | .hbm, ⟨54, _⟩ => ⟨S4x8192x4x1, .f32⟩
  | .hbm, ⟨55, _⟩ => ⟨S4x8192x4x1, .f32⟩
  | .hbm, ⟨56, _⟩ => ⟨S_, .f32⟩
  | .hbm, ⟨57, _⟩ => ⟨S4x8192x4x1, .f32⟩
  | .hbm, ⟨58, _⟩ => ⟨S4x8192x4x1, .f32⟩
  | .hbm, ⟨59, _⟩ => ⟨S4x8192x4x1, .f32⟩
  | .hbm, ⟨60, _⟩ => ⟨S4x8192x4x128, .f32⟩
  | .hbm, ⟨61, _⟩ => ⟨S4x8192x4x128, .f32⟩
  | .hbm, ⟨62, _⟩ => ⟨S1x1x1x128, .f32⟩
  | .hbm, ⟨63, _⟩ => ⟨S4x8192x4x128, .f32⟩
  | .hbm, ⟨64, _⟩ => ⟨S4x8192x4x128, .f32⟩
  | .hbm, ⟨65, _⟩ => ⟨S_, .f32⟩
  | .hbm, ⟨66, _⟩ => ⟨S4x8192x4x128, .f32⟩
  | .hbm, ⟨67, _⟩ => ⟨S4x8192x4x128, .f32⟩
  | .hbm, ⟨68, _⟩ => ⟨S32768x512, .f32⟩
  | .hbm, ⟨69, _⟩ => ⟨S32768x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== MlaKernel.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩
abbrev S4x8192x1x32 : Shape := ⟨4, ![4, 8192, 1, 32]⟩
abbrev S4x8192x8x128 : Shape := ⟨4, ![4, 8192, 8, 128]⟩
abbrev S32768x1024 : Shape := ⟨2, ![32768, 1024]⟩
abbrev S32768x512 : Shape := ⟨2, ![32768, 512]⟩
abbrev S4x8x1024x4x128 : Shape := ⟨5, ![4, 8, 1024, 4, 128]⟩
abbrev S4x4x8x128x1024 : Shape := ⟨5, ![4, 4, 8, 128, 1024]⟩
abbrev S2048x256 : Shape := ⟨2, ![2048, 256]⟩
abbrev S8192x256 : Shape := ⟨2, ![8192, 256]⟩
abbrev S1x1x8x128x1024 : Shape := ⟨5, ![1, 1, 8, 128, 1024]⟩
abbrev S2048x128 : Shape := ⟨2, ![2048, 128]⟩
abbrev S512x128 : Shape := ⟨2, ![512, 128]⟩
abbrev S1x512 : Shape := ⟨2, ![1, 512]⟩
abbrev S128x512 : Shape := ⟨2, ![128, 512]⟩
abbrev S1x1x1x128x1024 : Shape := ⟨5, ![1, 1, 1, 128, 1024]⟩
abbrev S128x1024 : Shape := ⟨2, ![128, 1024]⟩
abbrev S1024x128 : Shape := ⟨2, ![1024, 128]⟩
abbrev S1024x512 : Shape := ⟨2, ![1024, 512]⟩
abbrev S512 : Shape := ⟨1, ![512]⟩

abbrev nBuf : Space → Nat
  | .hbm => 19
  | .vmem => 8
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S_, .f32⟩
  | .hbm, ⟨6, _⟩ => ⟨S4x8192x8x32, .f32⟩
  | .hbm, ⟨7, _⟩ => ⟨S4x8192x1x32, .f32⟩
  | .hbm, ⟨8, _⟩ => ⟨S4x8192x8x32, .f32⟩
  | .hbm, ⟨9, _⟩ => ⟨S4x8192x8x128, .f32⟩
  | .hbm, ⟨10, _⟩ => ⟨S32768x1024, .f32⟩
  | .hbm, ⟨11, _⟩ => ⟨S4x8192x8x128, .f32⟩
  | .hbm, ⟨12, _⟩ => ⟨S32768x1024, .f32⟩
  | .hbm, ⟨13, _⟩ => ⟨S32768x1024, .bf16⟩
  | .hbm, ⟨14, _⟩ => ⟨S32768x512, .f32⟩
  | .hbm, ⟨15, _⟩ => ⟨S32768x512, .bf16⟩
  | .hbm, ⟨16, _⟩ => ⟨S4x8x1024x4x128, .bf16⟩
  | .hbm, ⟨17, _⟩ => ⟨S4x4x8x128x1024, .bf16⟩
  | .hbm, ⟨18, _⟩ => ⟨S32768x512, .bf16⟩
  | .local _ .vmem, ⟨0, _⟩ => ⟨S2048x256, .f32⟩
  | .local _ .vmem, ⟨1, _⟩ => ⟨S2048x256, .f32⟩
  | .local _ .vmem, ⟨2, _⟩ => ⟨S8192x256, .bf16⟩
  | .local _ .vmem, ⟨3, _⟩ => ⟨S8192x256, .bf16⟩
  | .local _ .vmem, ⟨4, _⟩ => ⟨S1x1x8x128x1024, .bf16⟩
  | .local _ .vmem, ⟨5, _⟩ => ⟨S1x1x8x128x1024, .bf16⟩
  | .local _ .vmem, ⟨6, _⟩ => ⟨S2048x128, .bf16⟩
  | .local _ .vmem, ⟨7, _⟩ => ⟨S2048x128, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32 : BitVec 32 := 0#32
  let c8_i32 : BitVec 32 := 8#32
  let v56 : BitVec 32 := Scalar.addi c0_i32 c8_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v107 : BitVec 32 := Scalar.muli arg7 c1024_i32
  v107
def k0_off1 (k0_t1 : Fin k0_t1_loop.trips) : Fin 5 → Nat :=
  let c0_46 : Index := 0#32
  let c0_47 : Index := 0#32
  let c0_i32 : BitVec 32 := 0#32
  let c1_i32 : BitVec 32 := 1#32
  let arg7 : BitVec 32 := Scf.iv c0_i32 c1_i32 k0_t1
  let v109 : Index := Scalar.indexCast arg7
  let c0_48 : Index := 0#32
  let c0_49 : Index := 0#32
  ![0, 0, v109.toNat, 0, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v107 : BitVec 32 := Scalar.muli arg7 c1024_i32
  let v108 : BitVec 32 := v107
  let v120 : Index := Scalar.indexCast v108
  let c0_53 : Index := 0#32
  ![v120.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v107 : BitVec 32 := Scalar.muli arg7 c1024_i32
  let v108 : BitVec 32 := v107
  let v124 : Index := Scalar.indexCast v108
  let c128_55 : Index := 128#32
  ![v124.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaKernelIdeal.lean ====
variable {F : FTy → Type} [FloatOps F] [Named F]
def κ : String → Option EReal := fun
  | "mla_scale" => some (((Real.sqrt 96)⁻¹ * (Real.log 2)⁻¹ : ℝ) : EReal)
  | _ => none
-- ==== MlaReferenceIdeal.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩
abbrev S4x8x8192x8192 : Shape := ⟨4, ![4, 8, 8192, 8192]⟩
abbrev S4x8192x8192x8 : Shape := ⟨4, ![4, 8192, 8192, 8]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S32768x512 : Shape := ⟨2, ![32768, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S_, .f32⟩
  | .hbm, ⟨6, _⟩ => ⟨S_, .f32⟩
  | .hbm, ⟨7, _⟩ => ⟨S4x8x8192x8192, .f32⟩
  | .hbm, ⟨8, _⟩ => ⟨S4x8192x8192x8, .f32⟩
  | .hbm, ⟨9, _⟩ => ⟨S4x8x8192x8192, .f32⟩
  | .hbm, ⟨10, _⟩ => ⟨S4x8x8192x8192, .f32⟩
  | .hbm, ⟨11, _⟩ => ⟨S4x8x8192x8192, .f32⟩
  | .hbm, ⟨12, _⟩ => ⟨S4x8x8192x8192, .f32⟩
  | .hbm, ⟨13, _⟩ => ⟨S_, .f32⟩
  | .hbm, ⟨14, _⟩ => ⟨S4x8x8192, .f32⟩
  | .hbm, ⟨15, _⟩ => ⟨S_, .f32⟩
  | .hbm, ⟨16, _⟩ => ⟨S4x8x8192, .f32⟩
  | .hbm, ⟨17, _⟩ => ⟨S4x8x8192, .f32⟩
  | .hbm, ⟨18, _⟩ => ⟨S4x8x8192x1, .f32⟩
  | .hbm, ⟨19, _⟩ => ⟨S4x8x8192x8192, .f32⟩
  | .hbm, ⟨20, _⟩ => ⟨S4x8x8192x8192, .f32⟩
  | .hbm, ⟨21, _⟩ => ⟨S4x8x8192x8192, .f32⟩
  | .hbm, ⟨22, _⟩ => ⟨S_, .f32⟩
  | .hbm, ⟨23, _⟩ => ⟨S4x8x8192, .f32⟩
  | .hbm, ⟨24, _⟩ => ⟨S4x8x8192x1, .f32⟩
  | .hbm, ⟨25, _⟩ => ⟨S4x8x8192x8192, .f32⟩
  | .hbm, ⟨26, _⟩ => ⟨S4x8x8192x8192, .f32⟩
  | .hbm, ⟨27, _⟩ => ⟨S4x8x64x8192, .f32⟩
  | .hbm, ⟨28, _⟩ => ⟨S4x8192x8x64, .f32⟩
  | .hbm, ⟨29, _⟩ => ⟨S32768x512, .f32⟩
  | .hbm, ⟨30, _⟩ => ⟨S32768x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MergeKernel.lean ====
abbrev S4x8192x1024 : Shape := ⟨3, ![4, 8192, 1024]⟩
abbrev S4x8192x512 : Shape := ⟨3, ![4, 8192, 512]⟩
abbrev S4x1024 : Shape := ⟨2, ![4, 1024]⟩
abbrev S4x1024x1024 : Shape := ⟨3, ![4, 1024, 1024]⟩
abbrev S4x512x1024 : Shape := ⟨3, ![4, 512, 1024]⟩
abbrev S1024x1024 : Shape := ⟨2, ![1024, 1024]⟩
abbrev S1024 : Shape := ⟨1, ![1024]⟩
abbrev S32768x512 : Shape := ⟨2, ![32768, 512]⟩
abbrev S4x1x1024 : Shape := ⟨3, ![4, 1, 1024]⟩
abbrev S32768x1024 : Shape := ⟨2, ![32768, 1024]⟩
abbrev S1x1024 : Shape := ⟨2, ![1, 1024]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S1x1024x1024 : Shape := ⟨3, ![1, 1024, 1024]⟩
abbrev S1x512x1024 : Shape := ⟨3, ![1, 512, 1024]⟩

abbrev nBuf : Space → Nat
  | .hbm => 31
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024x1024, .f32⟩
  | .hbm, ⟨9, _⟩ => ⟨S4x512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S32768x512, .f32⟩
  | .hbm, ⟨20, _⟩ => ⟨S32768x512, .bf16⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S32768x1024, .f32⟩
  | .hbm, ⟨25, _⟩ => ⟨S4x1024x1024, .bf16⟩
  | .hbm, ⟨26, _⟩ => ⟨S4x512x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S4x1024x1024, .bf16⟩
  | .local _ .vmem, ⟨17, _⟩ => ⟨S4x512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S4x8192x1024 : Shape := ⟨3, ![4, 8192, 1024]⟩
abbrev S4x8192x512 : Shape := ⟨3, ![4, 8192, 512]⟩
abbrev S4x1024 : Shape := ⟨2, ![4, 1024]⟩
abbrev S4x1024x1024 : Shape := ⟨3, ![4, 1024, 1024]⟩
abbrev S4x512x1024 : Shape := ⟨3, ![4, 512, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S4x1x1024 : Shape := ⟨3, ![4, 1, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S1x1x1024 : Shape := ⟨3, ![1, 1, 1024]⟩
abbrev S32768x1024 : Shape := ⟨2, ![32768, 1024]⟩

abbrev nBuf : Space → Nat
  | .hbm => 149
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x512, .f32⟩
  | 3 => ⟨S4x8192x512, .f32⟩
  | 4 => ⟨S4x8192x512, .f32⟩
  | 5 => ⟨S4x1024, .f32⟩
  | 6 => ⟨S4x1024, .f32⟩
  | 7 => ⟨S4x1024, .f32⟩
  | 8 => ⟨S4x1024x1024, .f32⟩
  | 9 => ⟨S4x512x1024, .f32⟩
  | 10 => ⟨S1024x1024, .f32⟩
  | 11 => ⟨S1024, .f32⟩
  | 12 => ⟨S1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S4x8192x1024, .f32⟩
  | 20 => ⟨S4x8192x1024, .f32⟩
  | 21 => ⟨S4x8192x1024, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S4x8192x1024, .f32⟩
  | 29 => ⟨S4x8192x1024, .f32⟩
  | 30 => ⟨S_, .f32⟩
  | 31 => ⟨S4x8192x1, .f32⟩
  | 32 => ⟨S4x8192x1, .f32⟩
  | 33 => ⟨S4x8192x1, .f32⟩
  | 34 => ⟨S4x8192x1024, .f32⟩
  | 35 => ⟨S4x8192x1024, .f32⟩
  | 36 => ⟨S4x1x1024, .f32⟩
  | 37 => ⟨S_, .f32⟩
  | 38 => ⟨S4x1x1024, .f32⟩
  | 39 => ⟨S4x1x1024, .f32⟩
  | 40 => ⟨S4x8192x1024, .f32⟩
  | 41 => ⟨S4x8192x1024, .f32⟩
  | 42 => ⟨S4x1x1024, .f32⟩
  | 43 => ⟨S4x8192x1024, .f32⟩
  | 44 => ⟨S4x8192x1024, .f32⟩
  | 45 => ⟨S_, .f32⟩
  | 46 => ⟨S4x8192x1024, .f32⟩
  | 47 => ⟨S1x1024x1024, .f32⟩
  | 48 => ⟨S1024x1024, .f32⟩
  | 49 => ⟨S4x8192x1024, .f32⟩
  | 50 => ⟨S4x8192x1024, .f32⟩
  | 51 => ⟨S4x8192x1024, .f32⟩
  | 52 => ⟨S_, .f32⟩
  | 53 => ⟨S4x8192x1024, .f32⟩
  | 54 => ⟨S4x8192x1024, .f32⟩
  | 55 => ⟨S_, .f32⟩
  | 56 => ⟨S4x8192x1024, .f32⟩
  | 57 => ⟨S4x8192x1024, .f32⟩
  | 58 => ⟨S1x512x1024, .f32⟩
  | 59 => ⟨S512x1024, .f32⟩
  | 60 => ⟨S4x8192x1024, .f32⟩
  | 61 => ⟨S4x8192x1024, .f32⟩
  | 62 => ⟨S4x8192x1024, .f32⟩
  | 63 => ⟨S1x1024x1024, .f32⟩
  | 64 => ⟨S1024x1024, .f32⟩
  | 65 => ⟨S4x8192x1024, .f32⟩
  | 66 => ⟨S4x8192x1024, .f32⟩
  | 67 => ⟨S4x8192x1024, .f32⟩
  | 68 => ⟨S_, .f32⟩
  | 69 => ⟨S4x8192x1024, .f32⟩
  | 70 => ⟨S4x8192x1024, .f32⟩
  | 71 => ⟨S_, .f32⟩
  | 72 => ⟨S4x8192x1024, .f32⟩
  | 73 => ⟨S4x8192x1024, .f32⟩
  | 74 => ⟨S1x512x1024, .f32⟩
  | 75 => ⟨S512x1024, .f32⟩
  | 76 => ⟨S4x8192x1024, .f32⟩
  | 77 => ⟨S4x8192x1024, .f32⟩
  | 78 => ⟨S4x8192x1024, .f32⟩
  | 79 => ⟨S1x1024x1024, .f32⟩
  | 80 => ⟨S1024x1024, .f32⟩
  | 81 => ⟨S4x8192x1024, .f32⟩
  | 82 => ⟨S4x8192x1024, .f32⟩
  | 83 => ⟨S4x8192x1024, .f32⟩
  | 84 => ⟨S_, .f32⟩
  | 85 => ⟨S4x8192x1024, .f32⟩
  | 86 => ⟨S4x8192x1024, .f32⟩
  | 87 => ⟨S_, .f32⟩
  | 88 => ⟨S4x8192x1024, .f32⟩
  | 89 => ⟨S4x8192x1024, .f32⟩
  | 90 => ⟨S1x512x1024, .f32⟩
  | 91 => ⟨S512x1024, .f32⟩
  | 92 => ⟨S4x8192x1024, .f32⟩
  | 93 => ⟨S4x8192x1024, .f32⟩
  | 94 => ⟨S4x8192x1024, .f32⟩
  | 95 => ⟨S1x1024x1024, .f32⟩
  | 96 => ⟨S1024x1024, .f32⟩
  | 97 => ⟨S4x8192x1024, .f32⟩
  | 98 => ⟨S4x8192x1024, .f32⟩
  | 99 => ⟨S4x8192x1024, .f32⟩
  | 100 => ⟨S_, .f32⟩
  | 101 => ⟨S4x8192x1024, .f32⟩
  | 102 => ⟨S4x8192x1024, .f32⟩
  | 103 => ⟨S_, .f32⟩
  | 104 => ⟨S4x8192x1024, .f32⟩
  | 105 => ⟨S4x8192x1024, .f32⟩
  | 106 => ⟨S1x512x1024, .f32⟩
  | 107 => ⟨S512x1024, .f32⟩
  | 108 => ⟨S4x8192x1024, .f32⟩
  | 109 => ⟨S4x8192x1024, .f32⟩
  | 110 => ⟨S4x8192x1024, .f32⟩
  | 111 => ⟨S4x8192x1024, .f32⟩
  | 112 => ⟨S_, .f32⟩
  | 113 => ⟨S4x8192x1024, .f32⟩
  | 114 => ⟨S4x8192x1024, .f32⟩
  | 115 => ⟨S4x1x1024, .f32⟩
  | 116 => ⟨S4x8192x1024, .f32⟩
  | 117 => ⟨S4x8192x1024, .f32⟩
  | 118 => ⟨S4x8192x1024, .f32⟩
  | 119 => ⟨S_, .f32⟩
  | 120 => ⟨S4x8192, .f32⟩
  | 121 => ⟨S4x8192x1, .f32⟩
  | 122 => ⟨S_, .f32⟩
  | 123 => ⟨S4x8192x1, .f32⟩
  | 124 => ⟨S4x8192x1, .f32⟩
  | 125 => ⟨S4x8192x1024, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S_, .f32⟩
  | 1 => ⟨S4x8192, .f32⟩
  | 2 => ⟨S4x8192x1, .f32⟩
  | 3 => ⟨S_, .f32⟩
  | 4 => ⟨S4x8192x1, .f32⟩
  | 5 => ⟨S4x8192x1, .f32⟩
  | 6 => ⟨S4x8192x1024, .f32⟩
  | 7 => ⟨S4x8192x1024, .f32⟩
  | 8 => ⟨S_, .f32⟩
  | 9 => ⟨S4x8192x1, .f32⟩
  | 10 => ⟨S4x8192x1, .f32⟩
  | 11 => ⟨S4x8192x1, .f32⟩
  | 12 => ⟨S4x8192x1024, .f32⟩
  | 13 => ⟨S4x8192x1024, .f32⟩
  | 14 => ⟨S1x1x1024, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_15 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_17 : Ref sig .tc := ⟨.hbm, 128, rfl⟩
abbrev main_v97 : Ref sig .tc := ⟨.hbm, 129, rfl⟩
abbrev main_v98 : Ref sig .tc := ⟨.hbm, 130, rfl⟩
abbrev main_cst_18 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]
-- ==== InProjKernel.lean ====
abbrev S4x8192x1024 : Shape := ⟨3, ![4, 8192, 1024]⟩
abbrev S4x1024 : Shape := ⟨2, ![4, 1024]⟩
abbrev S1024x4512 : Shape := ⟨2, ![1024, 4512]⟩
abbrev S4x1x1024 : Shape := ⟨3, ![4, 1, 1024]⟩
abbrev S32768x1024 : Shape := ⟨2, ![32768, 1024]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x8x64 : Shape := ⟨3, ![1024, 8, 64]⟩
abbrev S1024x8x32 : Shape := ⟨3, ![1024, 8, 32]⟩
abbrev S1024x2x64 : Shape := ⟨3, ![1024, 2, 64]⟩
abbrev S1024x2x32 : Shape := ⟨3, ![1024, 2, 32]⟩
abbrev S1024x1x32 : Shape := ⟨3, ![1024, 1, 32]⟩
abbrev S1024x1x16 : Shape := ⟨3, ![1024, 1, 16]⟩
abbrev S1024x4608 : Shape := ⟨2, ![1024, 4608]⟩
abbrev S1024x1792 : Shape := ⟨2, ![1024, 1792]⟩
abbrev S1024x6400 : Shape := ⟨2, ![1024, 6400]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S16 : Shape := ⟨1, ![16]⟩
abbrev S1x16 : Shape := ⟨2, ![1, 16]⟩
abbrev S8192x16 : Shape := ⟨2, ![8192, 16]⟩
abbrev S8192x128 : Shape := ⟨2, ![8192, 128]⟩
abbrev S32768x512 : Shape := ⟨2, ![32768, 512]⟩
abbrev S32768x128 : Shape := ⟨2, ![32768, 128]⟩
abbrev S32768x384 : Shape := ⟨2, ![32768, 384]⟩
abbrev S32768x256 : Shape := ⟨2, ![32768, 256]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S1x1024 : Shape := ⟨2, ![1, 1024]⟩

abbrev nBuf : Space → Nat
  | .hbm => 178
  | .vmem => 39
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S1024x4512, .f32⟩
  | 4 => ⟨S4x1x1024, .f32⟩
  | 5 => ⟨S4x1x1024, .f32⟩
  | 6 => ⟨S32768x1024, .f32⟩
  | 7 => ⟨S1024x512, .f32⟩
  | 8 => ⟨S1024x128, .f32⟩
  | 9 => ⟨S1024x128, .f32⟩
  | 10 => ⟨S1024x384, .f32⟩
  | 11 => ⟨S1024x256, .f32⟩
  | 12 => ⟨S1024x32, .f32⟩
  | 13 => ⟨S1024x512, .f32⟩
  | 14 => ⟨S1024x512, .f32⟩
  | 15 => ⟨S1024x512, .f32⟩
  | 16 => ⟨S1024x512, .f32⟩
  | 17 => ⟨S1024x512, .f32⟩
  | 18 => ⟨S1024x512, .f32⟩
  | 19 => ⟨S_, .f32⟩
  | 20 => ⟨S1024x512, .f32⟩
  | 21 => ⟨S1024x512, .f32⟩
  | 22 => ⟨S_, .f32⟩
  | 23 => ⟨S1024x512, .f32⟩
  | 24 => ⟨S1024x512, .f32⟩
  | 25 => ⟨S_, .i32⟩
  | 26 => ⟨S_, .f32⟩
  | 27 => ⟨S1024x512, .f32⟩
  | 28 => ⟨S_, .i32⟩
  | 29 => ⟨S_, .f32⟩
  | 30 => ⟨S1024x128, .f32⟩
  | 31 => ⟨S_, .i32⟩
  | 32 => ⟨S_, .f32⟩
  | 33 => ⟨S1024x128, .f32⟩
  | 34 => ⟨S_, .i32⟩
  | 35 => ⟨S_, .f32⟩
  | 36 => ⟨S1024x384, .f32⟩
  | 37 => ⟨S_, .i32⟩
  | 38 => ⟨S_, .f32⟩
  | 39 => ⟨S1024x256, .f32⟩
  | 40 => ⟨S_, .i32⟩
  | 41 => ⟨S_, .f32⟩
  | 42 => ⟨S1024x512, .f32⟩
  | 43 => ⟨S_, .i32⟩
  | 44 => ⟨S_, .f32⟩
  | 45 => ⟨S1024x512, .f32⟩
  | 46 => ⟨S_, .i32⟩
  | 47 => ⟨S_, .f32⟩
  | 48 => ⟨S1024x512, .f32⟩
  | 49 => ⟨S_, .i32⟩
  | 50 => ⟨S_, .f32⟩
  | 51 => ⟨S1024x512, .f32⟩
  | 52 => ⟨S_, .i32⟩
  | 53 => ⟨S_, .f32⟩
  | 54 => ⟨S1024x512, .f32⟩
  | 55 => ⟨S_, .i32⟩
  | 56 => ⟨S_, .f32⟩
  | 57 => ⟨S1024x512, .f32⟩
  | 58 => ⟨S_, .i32⟩
  | 59 => ⟨S_, .f32⟩
  | 60 => ⟨S1024x128, .f32⟩
  | 61 => ⟨S1024x8x64, .f32⟩
  | 62 => ⟨S1024x8x32, .f32⟩
  | 63 => ⟨S1024x8x32, .f32⟩
  | 64 => ⟨S1024x8x32, .f32⟩
  | 65 => ⟨S1024x8x64, .f32⟩
  | 66 => ⟨S1024x512, .f32⟩
  | 67 => ⟨S_, .i32⟩
  | 68 => ⟨S_, .f32⟩
  | 69 => ⟨S1024x512, .f32⟩
  | 70 => ⟨S1024x2x64, .f32⟩
  | 71 => ⟨S1024x2x32, .f32⟩
  | 72 => ⟨S1024x2x32, .f32⟩
  | 73 => ⟨S1024x2x32, .f32⟩
  | 74 => ⟨S1024x2x64, .f32⟩
  | 75 => ⟨S1024x128, .f32⟩
  | 76 => ⟨S_, .i32⟩
  | 77 => ⟨S_, .f32⟩
  | 78 => ⟨S1024x128, .f32⟩
  | 79 => ⟨S1024x8x64, .f32⟩
  | 80 => ⟨S1024x8x32, .f32⟩
  | 81 => ⟨S1024x8x32, .f32⟩
  | 82 => ⟨S1024x8x32, .f32⟩
  | 83 => ⟨S1024x8x64, .f32⟩
  | 84 => ⟨S1024x512, .f32⟩
  | 85 => ⟨S_, .i32⟩
  | 86 => ⟨S_, .f32⟩
  | 87 => ⟨S1024x512, .f32⟩
  | 88 => ⟨S1024x8x64, .f32⟩
  | 89 => ⟨S1024x8x32, .f32⟩
  | 90 => ⟨S1024x8x32, .f32⟩
  | 91 => ⟨S1024x8x32, .f32⟩
  | 92 => ⟨S1024x8x64, .f32⟩
  | 93 => ⟨S1024x512, .f32⟩
  | 94 => ⟨S_, .i32⟩
  | 95 => ⟨S_, .f32⟩
  | 96 => ⟨S1024x512, .f32⟩
  | 97 => ⟨S1024x1x32, .f32⟩
  | 98 => ⟨S1024x1x16, .f32⟩
  | 99 => ⟨S1024x1x16, .f32⟩
  | 100 => ⟨S1024x1x16, .f32⟩
  | 101 => ⟨S1024x1x32, .f32⟩
  | 102 => ⟨S1024x32, .f32⟩
  | 103 => ⟨S_, .i32⟩
  | 104 => ⟨S_, .f32⟩
  | 105 => ⟨S1024x128, .f32⟩
  | 106 => ⟨S1024x4608, .f32⟩
  | 107 => ⟨S1024x1792, .f32⟩
  | 108 => ⟨S1024x6400, .f32⟩
  | 109 => ⟨S1024x6400, .bf16⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S8192, .f32⟩
  | 125 => ⟨S8192x1, .f32⟩
  | 126 => ⟨S1x32, .f32⟩
  | 127 => ⟨S8192x32, .f32⟩
  | _ => ⟨S4x8192x1024, .f32⟩

abbrev hbmTy0_1 (i : Nat) : BufTy := match i % 128 with
  | 0 => ⟨S8192x32, .f32⟩
  | 1 => ⟨S8192x32, .f32⟩
  | 2 => ⟨S8192x32, .f32⟩
  | 3 => ⟨S8192x32, .f32⟩
  | 4 => ⟨S8192x64, .f32⟩
  | 5 => ⟨S8192x64, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S8192, .f32⟩
  | 21 => ⟨S8192x1, .f32⟩
  | 22 => ⟨S1x16, .f32⟩
  | 23 => ⟨S8192x16, .f32⟩
  | 24 => ⟨S8192x16, .f32⟩
  | 25 => ⟨S8192x16, .f32⟩
  | 26 => ⟨S8192x16, .f32⟩
  | 27 => ⟨S8192x16, .f32⟩
  | 28 => ⟨S8192x32, .f32⟩
  | 29 => ⟨S8192x32, .f32⟩
  | 30 => ⟨S8192x128, .f32⟩
  | 31 => ⟨S8192x128, .f32⟩
  | 32 => ⟨S_, .i32⟩
  | 33 => ⟨S_, .f32⟩
  | 34 => ⟨S8192x128, .f32⟩
  | 35 => ⟨S_, .i32⟩
  | 36 => ⟨S_, .f32⟩
  | 37 => ⟨S8192x128, .f32⟩
  | 38 => ⟨S32768x512, .bf16⟩
  | 39 => ⟨S32768x128, .bf16⟩
  | 40 => ⟨S32768x128, .bf16⟩
  | 41 => ⟨S32768x384, .f32⟩
  | 42 => ⟨S32768x256, .f32⟩
  | 43 => ⟨S32768x128, .bf16⟩
  | 44 => ⟨S32768x512, .bf16⟩
  | 45 => ⟨S32768x512, .bf16⟩
  | 46 => ⟨S32768x512, .bf16⟩
  | 47 => ⟨S32768x512, .bf16⟩
  | 48 => ⟨S32768x512, .bf16⟩
  | 49 => ⟨S32768x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x6400, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x384, .f32⟩
  | .local _ .vmem, ⟨22, _⟩ => ⟨S512x384, .f32⟩
  | .local _ .vmem, ⟨23, _⟩ => ⟨S512x256, .f32⟩
  | .local _ .vmem, ⟨24, _⟩ => ⟨S512x256, .f32⟩
  | .local _ .vmem, ⟨25, _⟩ => ⟨S512x128, .bf16⟩
  | .local _ .vmem, ⟨26, _⟩ => ⟨S512x128, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_c_1 : Ref sig .tc := ⟨.hbm, 28, rfl⟩
abbrev main_call1_v0 : Ref sig .tc := ⟨.hbm, 29, rfl⟩
abbrev main_v20 : Ref sig .tc := ⟨.hbm, 30, rfl⟩
abbrev main_c_2 : Ref sig .tc := ⟨.hbm, 31, rfl⟩
abbrev main_call2_v0 : Ref sig .tc := ⟨.hbm, 32, rfl⟩
abbrev main_v21 : Ref sig .tc := ⟨.hbm, 33, rfl⟩
abbrev main_c_3 : Ref sig .tc := ⟨.hbm, 34, rfl⟩
abbrev main_call3_v0 : Ref sig .tc := ⟨.hbm, 35, rfl⟩
abbrev main_v22 : Ref sig .tc := ⟨.hbm, 36, rfl⟩
abbrev main_c_4 : Ref sig .tc := ⟨.hbm, 37, rfl⟩
abbrev main_call4_v0 : Ref sig .tc := ⟨.hbm, 38, rfl⟩
abbrev main_v23 : Ref sig .tc := ⟨.hbm, 39, rfl⟩
abbrev main_c_5 : Ref sig .tc := ⟨.hbm, 40, rfl⟩
abbrev main_call5_v0 : Ref sig .tc := ⟨.hbm, 41, rfl⟩
abbrev main_v24 : Ref sig .tc := ⟨.hbm, 42, rfl⟩
abbrev main_c_6 : Ref sig .tc := ⟨.hbm, 43, rfl⟩
abbrev main_call6_v0 : Ref sig .tc := ⟨.hbm, 44, rfl⟩
abbrev main_v25 : Ref sig .tc := ⟨.hbm, 45, rfl⟩
abbrev main_c_7 : Ref sig .tc := ⟨.hbm, 46, rfl⟩
abbrev main_call7_v0 : Ref sig .tc := ⟨.hbm, 47, rfl⟩
abbrev main_v26 : Ref sig .tc := ⟨.hbm, 48, rfl⟩
abbrev main_c_8 : Ref sig .tc := ⟨.hbm, 49, rfl⟩
abbrev main_call8_v0 : Ref sig .tc := ⟨.hbm, 50, rfl⟩
abbrev main_v27 : Ref sig .tc := ⟨.hbm, 51, rfl⟩
abbrev main_c_9 : Ref sig .tc := ⟨.hbm, 52, rfl⟩
abbrev main_call9_v0 : Ref sig .tc := ⟨.hbm, 53, rfl⟩
abbrev main_v28 : Ref sig .tc := ⟨.hbm, 54, rfl⟩
abbrev main_c_10 : Ref sig .tc := ⟨.hbm, 55, rfl⟩
abbrev main_call10_v0 : Ref sig .tc := ⟨.hbm, 56, rfl⟩
abbrev main_v29 : Ref sig .tc := ⟨.hbm, 57, rfl⟩
abbrev main_c_11 : Ref sig .tc := ⟨.hbm, 58, rfl⟩
abbrev main_call11_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_12 : Ref sig .tc := ⟨.hbm, 67, rfl⟩
abbrev main_call12_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_13 : Ref sig .tc := ⟨.hbm, 76, rfl⟩
abbrev main_call13_v0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_14 : Ref sig .tc := ⟨.hbm, 85, rfl⟩
abbrev main_call14_v0 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_15 : Ref sig .tc := ⟨.hbm, 94, rfl⟩
abbrev main_call15_v0 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_16 : Ref sig .tc := ⟨.hbm, 103, rfl⟩
abbrev main_call16_v0 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_17 : Ref sig .tc := ⟨.hbm, 111, rfl⟩
abbrev main_v71 : Ref sig .tc := ⟨.hbm, 112, rfl⟩
abbrev main_v72 : Ref sig .tc := ⟨.hbm, 113, rfl⟩
abbrev main_cst_18 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_19 : Ref sig .tc := ⟨.hbm, 118, rfl⟩
abbrev main_v76 : Ref sig .tc := ⟨.hbm, 119, rfl⟩
abbrev main_v77 : Ref sig .tc := ⟨.hbm, 120, rfl⟩
abbrev main_cst_20 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_cst_22 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_23 : Ref sig .tc := ⟨.hbm, 142, rfl⟩
abbrev main_v96 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_25 : Ref sig .tc := ⟨.hbm, 160, rfl⟩
abbrev main_call17_v0 : Ref sig .tc := ⟨.hbm, 161, rfl⟩
abbrev main_v112 : Ref sig .tc := ⟨.hbm, 162, rfl⟩
abbrev main_c_26 : Ref sig .tc := ⟨.hbm, 163, rfl⟩
abbrev main_call18_v0 : Ref sig .tc := ⟨.hbm, 164, rfl⟩
abbrev main_v113 : Ref sig .tc := ⟨.hbm, 165, rfl⟩
abbrev main_v114_0 : Ref sig .tc := ⟨.hbm, 166, rfl⟩
abbrev main_v114_1 : Ref sig .tc := ⟨.hbm, 167, rfl⟩
abbrev main_v114_2 : Ref sig .tc := ⟨.hbm, 168, rfl⟩
abbrev main_v114_3 : Ref sig .tc := ⟨.hbm, 169, rfl⟩
abbrev main_v114_4 : Ref sig .tc := ⟨.hbm, 170, rfl⟩
abbrev main_v114_5 : Ref sig .tc := ⟨.hbm, 171, rfl⟩
abbrev main_v114_6 : Ref sig .tc := ⟨.hbm, 172, rfl⟩
abbrev main_v114_7 : Ref sig .tc := ⟨.hbm, 173, rfl⟩
abbrev main_v114_8 : Ref sig .tc := ⟨.hbm, 174, rfl⟩
abbrev main_v114_9 : Ref sig .tc := ⟨.hbm, 175, rfl⟩
abbrev main_v114_10 : Ref sig .tc := ⟨.hbm, 176, rfl⟩
abbrev main_v114_11 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InProjReferenceIdeal.lean ====
abbrev S4x8192x1024 : Shape := ⟨3, ![4, 8192, 1024]⟩
abbrev S4x1024 : Shape := ⟨2, ![4, 1024]⟩
abbrev S1024x4512 : Shape := ⟨2, ![1024, 4512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S16 : Shape := ⟨1, ![16]⟩
abbrev S1x16 : Shape := ⟨2, ![1, 16]⟩
abbrev S8192x16 : Shape := ⟨2, ![8192, 16]⟩
abbrev S4x8192 : Shape := ⟨2, ![4, 8192]⟩
abbrev S4x8192x1 : Shape := ⟨3, ![4, 8192, 1]⟩
abbrev S4x1x1024 : Shape := ⟨3, ![4, 1, 1024]⟩
abbrev S4x8192x4512 : Shape := ⟨3, ![4, 8192, 4512]⟩
abbrev S4x8192x512 : Shape := ⟨3, ![4, 8192, 512]⟩
abbrev S4x8192x128 : Shape := ⟨3, ![4, 8192, 128]⟩
abbrev S4x8192x384 : Shape := ⟨3, ![4, 8192, 384]⟩
abbrev S4x8192x256 : Shape := ⟨3, ![4, 8192, 256]⟩
abbrev S4x8192x32 : Shape := ⟨3, ![4, 8192, 32]⟩
abbrev S4x8192x8x64 : Shape := ⟨4, ![4, 8192, 8, 64]⟩
abbrev S4x8192x8x32 : Shape := ⟨4, ![4, 8192, 8, 32]⟩
abbrev S1x8192x1x32 : Shape := ⟨4, ![1, 8192, 1, 32]⟩
abbrev S32768x512 : Shape := ⟨2, ![32768, 512]⟩
abbrev S4x8192x2x64 : Shape := ⟨4, ![4, 8192, 2, 64]⟩
abbrev S4x8192x2x32 : Shape := ⟨4, ![4, 8192, 2, 32]⟩
abbrev S32768x128 : Shape := ⟨2, ![32768, 128]⟩
abbrev S4x8192x1x32 : Shape := ⟨4, ![4, 8192, 1, 32]⟩
abbrev S4x8192x1x16 : Shape := ⟨4, ![4, 8192, 1, 16]⟩
abbrev S1x8192x1x16 : Shape := ⟨4, ![1, 8192, 1, 16]⟩
abbrev S32768x32 : Shape := ⟨2, ![32768, 32]⟩
abbrev S32768x384 : Shape := ⟨2, ![32768, 384]⟩
abbrev S32768x256 : Shape := ⟨2, ![32768, 256]⟩

abbrev nBuf : Space → Nat
  | .hbm => 204
  | .vmem => 0
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S1024x4512, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S8192, .f32⟩
  | 19 => ⟨S8192x1, .f32⟩
  | 20 => ⟨S1x32, .f32⟩
  | 21 => ⟨S8192x32, .f32⟩
  | 22 => ⟨S8192x32, .f32⟩
  | 23 => ⟨S8192x32, .f32⟩
  | 24 => ⟨S8192x32, .f32⟩
  | 25 => ⟨S8192x32, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S8192, .f32⟩
  | 41 => ⟨S8192x1, .f32⟩
  | 42 => ⟨S1x16, .f32⟩
  | 43 => ⟨S8192x16, .f32⟩
  | 44 => ⟨S8192x16, .f32⟩
  | 45 => ⟨S8192x16, .f32⟩
  | 46 => ⟨S8192x16, .f32⟩
  | 47 => ⟨S8192x16, .f32⟩
  | 48 => ⟨S_, .f32⟩
  | 49 => ⟨S4x8192, .f32⟩
  | 50 => ⟨S4x8192x1, .f32⟩
  | 51 => ⟨S_, .f32⟩
  | 52 => ⟨S4x8192x1, .f32⟩
  | 53 => ⟨S4x8192x1, .f32⟩
  | 54 => ⟨S4x8192x1024, .f32⟩
  | 55 => ⟨S4x8192x1024, .f32⟩
  | 56 => ⟨S4x8192x1024, .f32⟩
  | 57 => ⟨S_, .f32⟩
  | 58 => ⟨S4x8192, .f32⟩
  | 59 => ⟨S4x8192x1, .f32⟩
  | 60 => ⟨S_, .f32⟩
  | 61 => ⟨S4x8192x1, .f32⟩
  | 62 => ⟨S4x8192x1, .f32⟩
  | 63 => ⟨S4x8192x1024, .f32⟩
  | 64 => ⟨S4x8192x1024, .f32⟩
  | 65 => ⟨S_, .f32⟩
  | 66 => ⟨S4x8192x1, .f32⟩
  | 67 => ⟨S4x8192x1, .f32⟩
  | 68 => ⟨S4x8192x1, .f32⟩
  | 69 => ⟨S4x8192x1024, .f32⟩
  | 70 => ⟨S4x8192x1024, .f32⟩
  | 71 => ⟨S4x1x1024, .f32⟩
  | 72 => ⟨S_, .f32⟩
  | 73 => ⟨S4x1x1024, .f32⟩
  | 74 => ⟨S4x1x1024, .f32⟩
  | 75 => ⟨S4x8192x1024, .f32⟩
  | 76 => ⟨S4x8192x1024, .f32⟩
  | 77 => ⟨S4x1x1024, .f32⟩
  | 78 => ⟨S4x8192x1024, .f32⟩
  | 79 => ⟨S4x8192x1024, .f32⟩
  | 80 => ⟨S4x8192x4512, .f32⟩
  | 81 => ⟨S4x8192x512, .f32⟩
  | 82 => ⟨S4x8192x128, .f32⟩
  | 83 => ⟨S4x8192x128, .f32⟩
  | 84 => ⟨S4x8192x384, .f32⟩
  | 85 => ⟨S4x8192x256, .f32⟩
  | 86 => ⟨S4x8192x32, .f32⟩
  | 87 => ⟨S4x8192x512, .f32⟩
  | 88 => ⟨S4x8192x512, .f32⟩
  | 89 => ⟨S4x8192x512, .f32⟩
  | 90 => ⟨S4x8192x512, .f32⟩
  | 91 => ⟨S4x8192x512, .f32⟩
  | 92 => ⟨S4x8192x512, .f32⟩
  | 93 => ⟨S4x8192x8x64, .f32⟩
  | 94 => ⟨S4x8192x8x32, .f32⟩
  | 95 => ⟨S4x8192x8x32, .f32⟩
  | 96 => ⟨S1x8192x1x32, .f32⟩
  | 97 => ⟨S1x8192x1x32, .f32⟩
  | 98 => ⟨S4x8192x8x32, .f32⟩
  | 99 => ⟨S4x8192x8x32, .f32⟩
  | 100 => ⟨S4x8192x8x32, .f32⟩
  | 101 => ⟨S4x8192x8x32, .f32⟩
  | 102 => ⟨S4x8192x8x32, .f32⟩
  | 103 => ⟨S4x8192x8x32, .f32⟩
  | 104 => ⟨S4x8192x8x32, .f32⟩
  | 105 => ⟨S4x8192x8x32, .f32⟩
  | 106 => ⟨S4x8192x8x32, .f32⟩
  | 107 => ⟨S4x8192x8x32, .f32⟩
  | 108 => ⟨S4x8192x8x64, .f32⟩
  | 109 => ⟨S32768x512, .f32⟩
  | 110 => ⟨S_, .f32⟩
  | 111 => ⟨S32768x512, .f32⟩
  | 112 => ⟨S32768x512, .f32⟩
  | 113 => ⟨S4x8192x2x64, .f32⟩
  | 114 => ⟨S4x8192x2x32, .f32⟩
  | 115 => ⟨S4x8192x2x32, .f32⟩
  | 116 => ⟨S1x8192x1x32, .f32⟩
  | 117 => ⟨S1x8192x1x32, .f32⟩
  | 118 => ⟨S4x8192x2x32, .f32⟩
  | 119 => ⟨S4x8192x2x32, .f32⟩
  | 120 => ⟨S4x8192x2x32, .f32⟩
  | 121 => ⟨S4x8192x2x32, .f32⟩
  | 122 => ⟨S4x8192x2x32, .f32⟩
  | 123 => ⟨S4x8192x2x32, .f32⟩
  | 124 => ⟨S4x8192x2x32, .f32⟩
  | 125 => ⟨S4x8192x2x32, .f32⟩
  | 126 => ⟨S4x8192x2x32, .f32⟩
  | 127 => ⟨S4x8192x2x32, .f32⟩
  | _ => ⟨S4x8192x1024, .f32⟩

abbrev hbmTy0_1 (i : Nat) : BufTy := match i % 128 with
  | 0 => ⟨S4x8192x2x64, .f32⟩
  | 1 => ⟨S32768x128, .f32⟩
  | 2 => ⟨S4x8192x8x64, .f32⟩
  | 3 => ⟨S4x8192x8x32, .f32⟩
  | 4 => ⟨S4x8192x8x32, .f32⟩
  | 5 => ⟨S1x8192x1x32, .f32⟩
  | 6 => ⟨S1x8192x1x32, .f32⟩
  | 7 => ⟨S4x8192x8x32, .f32⟩
  | 8 => ⟨S4x8192x8x32, .f32⟩
  | 9 => ⟨S4x8192x8x32, .f32⟩
  | 10 => ⟨S4x8192x8x32, .f32⟩
  | 11 => ⟨S4x8192x8x32, .f32⟩
  | 12 => ⟨S4x8192x8x32, .f32⟩
  | 13 => ⟨S4x8192x8x32, .f32⟩
  | 14 => ⟨S4x8192x8x32, .f32⟩
  | 15 => ⟨S4x8192x8x32, .f32⟩
  | 16 => ⟨S4x8192x8x32, .f32⟩
  | 17 => ⟨S4x8192x8x64, .f32⟩
  | 18 => ⟨S32768x512, .f32⟩
  | 19 => ⟨S4x8192x8x64, .f32⟩
  | 20 => ⟨S4x8192x8x32, .f32⟩
  | 21 => ⟨S4x8192x8x32, .f32⟩
  | 22 => ⟨S1x8192x1x32, .f32⟩
  | 23 => ⟨S1x8192x1x32, .f32⟩
  | 24 => ⟨S4x8192x8x32, .f32⟩
  | 25 => ⟨S4x8192x8x32, .f32⟩
  | 26 => ⟨S4x8192x8x32, .f32⟩
  | 27 => ⟨S4x8192x8x32, .f32⟩
  | 28 => ⟨S4x8192x8x32, .f32⟩
  | 29 => ⟨S4x8192x8x32, .f32⟩
  | 30 => ⟨S4x8192x8x32, .f32⟩
  | 31 => ⟨S4x8192x8x32, .f32⟩
  | 32 => ⟨S4x8192x8x32, .f32⟩
  | 33 => ⟨S4x8192x8x32, .f32⟩
  | 34 => ⟨S4x8192x8x64, .f32⟩
  | 35 => ⟨S32768x512, .f32⟩
  | 36 => ⟨S4x8192x1x32, .f32⟩
  | 37 => ⟨S4x8192x1x16, .f32⟩
  | 38 => ⟨S4x8192x1x16, .f32⟩
  | 39 => ⟨S1x8192x1x16, .f32⟩
  | 40 => ⟨S1x8192x1x16, .f32⟩
  | 41 => ⟨S4x8192x1x16, .f32⟩
  | 42 => ⟨S4x8192x1x16, .f32⟩
  | 43 => ⟨S4x8192x1x16, .f32⟩
  | 44 => ⟨S4x8192x1x16, .f32⟩
  | 45 => ⟨S4x8192x1x16, .f32⟩
  | 46 => ⟨S4x8192x1x16, .f32⟩
  | 47 => ⟨S4x8192x1x16, .f32⟩
  | 48 => ⟨S4x8192x1x16, .f32⟩
  | 49 => ⟨S4x8192x1x16, .f32⟩
  | 50 => ⟨S4x8192x1x16, .f32⟩
  | 51 => ⟨S4x8192x1x32, .f32⟩
  | 52 => ⟨S32768x32, .f32⟩
  | 53 => ⟨S_, .i32⟩
  | 54 => ⟨S_, .f32⟩
  | 55 => ⟨S32768x128, .f32⟩
  | 56 => ⟨S_, .f32⟩
  | 57 => ⟨S4x8192x512, .f32⟩
  | 58 => ⟨S4x8192x512, .f32⟩
  | 59 => ⟨S32768x128, .f32⟩
  | 60 => ⟨S32768x384, .f32⟩
  | 61 => ⟨S32768x256, .f32⟩
  | 62 => ⟨S32768x512, .f32⟩
  | 63 => ⟨S32768x512, .f32⟩
  | 64 => ⟨S32768x512, .f32⟩
  | 65 => ⟨S32768x512, .f32⟩
  | 66 => ⟨S32768x512, .bf16⟩
  | 67 => ⟨S32768x128, .bf16⟩
  | 68 => ⟨S32768x128, .bf16⟩
  | 69 => ⟨S32768x128, .bf16⟩
  | 70 => ⟨S32768x512, .bf16⟩
  | 71 => ⟨S32768x512, .bf16⟩
  | 72 => ⟨S32768x512, .bf16⟩
  | 73 => ⟨S32768x512, .bf16⟩
  | 74 => ⟨S32768x512, .bf16⟩
  | 75 => ⟨S32768x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_13 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_c : Ref sig .tc := ⟨.hbm, 181, rfl⟩
abbrev main_call0_v0 : Ref sig .tc := ⟨.hbm, 182, rfl⟩
abbrev main_v162 : Ref sig .tc := ⟨.hbm, 183, rfl⟩
abbrev main_cst_14 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩

abbrev nD : Nat := 1
abbrev τ : Topo := Topo.v7x

variable {F : FTy → Type} [FloatOps F]
-- ==== MlaPrepKernel.lean ====
abbrev S4x8192x384 : Shape := ⟨3, ![4, 8192, 384]⟩
abbrev S4x8192x256 : Shape := ⟨3, ![4, 8192, 256]⟩
abbrev S4x8192x32 : Shape := ⟨3, ![4, 8192, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S128x1024 : Shape := ⟨2, ![128, 1024]⟩
abbrev S32768x32 : Shape := ⟨2, ![32768, 32]⟩
abbrev S_ : Shape := ⟨0, ![]⟩
abbrev S32768x128 : Shape := ⟨2, ![32768, 128]⟩
abbrev S32768x384 : Shape := ⟨2, ![32768, 384]⟩
abbrev S32768x256 : Shape := ⟨2, ![32768, 256]⟩
abbrev S384x8x96 : Shape := ⟨3, ![384, 8, 96]⟩
abbrev S384x8x128 : Shape := ⟨3, ![384, 8, 128]⟩
abbrev S384x1024 : Shape := ⟨2, ![384, 1024]⟩
abbrev S384x8x32 : Shape := ⟨3, ![384, 8, 32]⟩
abbrev S384x256 : Shape := ⟨2, ![384, 256]⟩
abbrev S384x8x16 : Shape := ⟨3, ![384, 8, 16]⟩
abbrev S256x8x128 : Shape := ⟨3, ![256, 8, 128]⟩
abbrev S256x8x64 : Shape := ⟨3, ![256, 8, 64]⟩
abbrev S256x512 : Shape := ⟨2, ![256, 512]⟩
abbrev S1x384 : Shape := ⟨2, ![1, 384]⟩
abbrev S1x256 : Shape := ⟨2, ![1, 256]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S8192x128 : Shape := ⟨2, ![8192, 128]⟩
abbrev S32768x1024 : Shape := ⟨2, ![32768, 1024]⟩
abbrev S32768x512 : Shape := ⟨2, ![32768, 512]⟩
abbrev S512x384 : Shape := ⟨2, ![512, 384]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 82
  | .vmem => 23
  | .smem => 0
  | _ => 0

abbrev bufTy : (tb : Table) → Fin (tcTables nBuf tb) → BufTy
  | .hbm, ⟨0, _⟩ => ⟨S4x8192x384, .f32⟩
  | .hbm, ⟨1, _⟩ => ⟨S4x8192x256, .f32⟩
  | .hbm, ⟨2, _⟩ => ⟨S4x8192x32, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S128x1024, .bf16⟩
  | .hbm, ⟨8, _⟩ => ⟨S32768x32, .f32⟩
  | .hbm, ⟨9, _⟩ => ⟨S_, .i32⟩
  | .hbm, ⟨10, _⟩ => ⟨S_, .f32⟩
  | .hbm, ⟨11, _⟩ => ⟨S32768x128, .f32⟩
  | .hbm, ⟨12, _⟩ => ⟨S32768x128, .bf16⟩
  | .hbm, ⟨13, _⟩ => ⟨S32768x384, .f32⟩
  | .hbm, ⟨14, _⟩ => ⟨S32768x256, .f32⟩
  | .hbm, ⟨15, _⟩ => ⟨S384x8x96, .f32⟩
  | .hbm, ⟨16, _⟩ => ⟨S_, .i32⟩
  | .hbm, ⟨17, _⟩ => ⟨S_, .f32⟩
  | .hbm, ⟨18, _⟩ => ⟨S384x8x128, .f32⟩
  | .hbm, ⟨19, _⟩ => ⟨S384x1024, .f32⟩
  | .hbm, ⟨20, _⟩ => ⟨S384x8x32, .f32⟩
  | .hbm, ⟨21, _⟩ => ⟨S384x256, .f32⟩
  | .hbm, ⟨22, _⟩ => ⟨S384x8x32, .f32⟩
  | .hbm, ⟨23, _⟩ => ⟨S384x8x16, .f32⟩
  | .hbm, ⟨24, _⟩ => ⟨S384x8x16, .f32⟩
  | .hbm, ⟨25, _⟩ => ⟨S384x8x16, .f32⟩
  | .hbm, ⟨26, _⟩ => ⟨S384x8x32, .f32⟩
  | .hbm, ⟨27, _⟩ => ⟨S384x256, .f32⟩
  | .hbm, ⟨28, _⟩ => ⟨S384x8x32, .f32⟩
  | .hbm, ⟨29, _⟩ => ⟨S_, .i32⟩
  | .hbm, ⟨30, _⟩ => ⟨S_, .f32⟩
  | .hbm, ⟨31, _⟩ => ⟨S384x8x128, .f32⟩
  | .hbm, ⟨32, _⟩ => ⟨S384x1024, .f32⟩
  | .hbm, ⟨33, _⟩ => ⟨S256x8x128, .f32⟩
  | .hbm, ⟨34, _⟩ => ⟨S256x8x64, .f32⟩
  | .hbm, ⟨35, _⟩ => ⟨S_, .i32⟩
  | .hbm, ⟨36, _⟩ => ⟨S_, .f32⟩
  | .hbm, ⟨37, _⟩ => ⟨S256x8x128, .f32⟩
  | .hbm, ⟨38, _⟩ => ⟨S256x1024, .f32⟩
  | .hbm, ⟨39, _⟩ => ⟨S256x8x64, .f32⟩
  | .hbm, ⟨40, _⟩ => ⟨S256x512, .f32⟩
  | .hbm, ⟨41, _⟩ => ⟨S1x384, .f32⟩
  | .hbm, ⟨42, _⟩ => ⟨S1x256, .f32⟩
  | .hbm, ⟨43, _⟩ => ⟨S384x1024, .bf16⟩
  | .hbm, ⟨44, _⟩ => ⟨S384x1024, .bf16⟩
  | .hbm, ⟨45, _⟩ => ⟨S256x1024, .bf16⟩
  | .hbm, ⟨46, _⟩ => ⟨S256x512, .bf16⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S8192, .f32⟩
  | .hbm, ⟨62, _⟩ => ⟨S8192x1, .f32⟩
  | .hbm, ⟨63, _⟩ => ⟨S1x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x32, .f32⟩
  | .hbm, ⟨70, _⟩ => ⟨S8192x32, .f32⟩
  | .hbm, ⟨71, _⟩ => ⟨S_, .f32⟩
  | .hbm, ⟨72, _⟩ => ⟨S8192x64, .f32⟩
  | .hbm, ⟨73, _⟩ => ⟨S_, .f32⟩
  | .hbm, ⟨74, _⟩ => ⟨S8192x64, .f32⟩
  | .hbm, ⟨75, _⟩ => ⟨S_, .f32⟩
  | .hbm, ⟨76, _⟩ => ⟨S8192x32, .f32⟩
  | .hbm, ⟨77, _⟩ => ⟨S8192x128, .f32⟩
  | .hbm, ⟨78, _⟩ => ⟨S8192x128, .f32⟩
  | .hbm, ⟨79, _⟩ => ⟨S32768x1024, .bf16⟩
  | .hbm, ⟨80, _⟩ => ⟨S32768x1024, .bf16⟩
  | .hbm, ⟨81, _⟩ => ⟨S32768x512, .bf16⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .bf16⟩
  | .local _ .vmem, ⟨5, _⟩ => ⟨S512x128, .bf16⟩
  | .local _ .vmem, ⟨6, _⟩ => ⟨S1x384, .f32⟩
  | .local _ .vmem, ⟨7, _⟩ => ⟨S1x256, .f32⟩
  | .local _ .vmem, ⟨8, _⟩ => ⟨S384x1024, .bf16⟩
  | .local _ .vmem, ⟨9, _⟩ => ⟨S384x1024, .bf16⟩
  | .local _ .vmem, ⟨10, _⟩ => ⟨S256x1024, .bf16⟩
  | .local _ .vmem, ⟨11, _⟩ => ⟨S128x1024, .bf16⟩
  | .local _ .vmem, ⟨12, _⟩ => ⟨S256x512, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | _, _ => ⟨S4x8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_call3_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56_0 : Ref sig .tc := ⟨.hbm, 79, rfl⟩
abbrev main_v56_1 : Ref sig .tc := ⟨.hbm, 80, rfl⟩
abbrev main_v56_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlaPrepReferenceIdeal.lean ====
abbrev S4x8192x384 : Shape := ⟨3, ![4, 8192, 384]⟩
abbrev S4x8192x256 : Shape := ⟨3, ![4, 8192, 256]⟩
abbrev S4x8192x32 : Shape := ⟨3, ![4, 8192, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S4x8192 : Shape := ⟨2, ![4, 8192]⟩
abbrev S4x8192x1 : Shape := ⟨3, ![4, 8192, 1]⟩
abbrev S1x1x384 : Shape := ⟨3, ![1, 1, 384]⟩
abbrev S4x8192x768 : Shape := ⟨3, ![4, 8192, 768]⟩
abbrev S4x8192x8x96 : Shape := ⟨4, ![4, 8192, 8, 96]⟩
abbrev S4x8192x8x32 : Shape := ⟨4, ![4, 8192, 8, 32]⟩
abbrev S4x8192x8x16 : Shape := ⟨4, ![4, 8192, 8, 16]⟩
abbrev S1x8192x1x16 : Shape := ⟨4, ![1, 8192, 1, 16]⟩
abbrev S1x1x256 : Shape := ⟨3, ![1, 1, 256]⟩
abbrev S4x8192x1024 : Shape := ⟨3, ![4, 8192, 1024]⟩
abbrev S4x8192x8x128 : Shape := ⟨4, ![4, 8192, 8, 128]⟩
abbrev S4x8192x1x32 : Shape := ⟨4, ![4, 8192, 1, 32]⟩
abbrev S4x8192x8x64 : Shape := ⟨4, ![4, 8192, 8, 64]⟩
abbrev S32768x1024 : Shape := ⟨2, ![32768, 1024]⟩
abbrev S32768x512 : Shape := ⟨2, ![32768, 512]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x384, .f32⟩
  | .hbm, ⟨1, _⟩ => ⟨S4x8192x256, .f32⟩
  | .hbm, ⟨2, _⟩ => ⟨S4x8192x32, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S8192, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S4x8192x384, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x384, .f32⟩
  | .hbm, ⟨41, _⟩ => ⟨S4x8192x384, .f32⟩
  | .hbm, ⟨42, _⟩ => ⟨S1x1x384, .f32⟩
  | .hbm, ⟨43, _⟩ => ⟨S4x8192x384, .f32⟩
  | .hbm, ⟨44, _⟩ => ⟨S4x8192x384, .f32⟩
  | .hbm, ⟨45, _⟩ => ⟨S4x8192x768, .f32⟩
  | .hbm, ⟨46, _⟩ => ⟨S4x8192x8x96, .f32⟩
  | .hbm, ⟨47, _⟩ => ⟨S4x8192x8x32, .f32⟩
  | .hbm, ⟨48, _⟩ => ⟨S4x8192x8x16, .f32⟩
  | .hbm, ⟨49, _⟩ => ⟨S4x8192x8x16, .f32⟩
  | .hbm, ⟨50, _⟩ => ⟨S1x8192x1x16, .f32⟩
  | .hbm, ⟨51, _⟩ => ⟨S1x8192x1x16, .f32⟩
  | .hbm, ⟨52, _⟩ => ⟨S4x8192x8x16, .f32⟩
  | .hbm, ⟨53, _⟩ => ⟨S4x8192x8x16, .f32⟩
  | .hbm, ⟨54, _⟩ => ⟨S4x8192x8x16, .f32⟩
  | .hbm, ⟨55, _⟩ => ⟨S4x8192x8x16, .f32⟩
  | .hbm, ⟨56, _⟩ => ⟨S4x8192x8x16, .f32⟩
  | .hbm, ⟨57, _⟩ => ⟨S4x8192x8x16, .f32⟩
  | .hbm, ⟨58, _⟩ => ⟨S4x8192x8x16, .f32⟩
  | .hbm, ⟨59, _⟩ => ⟨S4x8192x8x16, .f32⟩
  | .hbm, ⟨60, _⟩ => ⟨S4x8192x8x16, .f32⟩
  | .hbm, ⟨61, _⟩ => ⟨S4x8192x8x16, .f32⟩
  | .hbm, ⟨62, _⟩ => ⟨S4x8192x8x32, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192x256, .f32⟩
  | .hbm, ⟨75, _⟩ => ⟨S4x8192x256, .f32⟩
  | .hbm, ⟨76, _⟩ => ⟨S1x1x256, .f32⟩
  | .hbm, ⟨77, _⟩ => ⟨S4x8192x256, .f32⟩
  | .hbm, ⟨78, _⟩ => ⟨S4x8192x256, .f32⟩
  | .hbm, ⟨79, _⟩ => ⟨S4x8192x1024, .f32⟩
  | .hbm, ⟨80, _⟩ => ⟨S4x8192x8x128, .f32⟩
  | .hbm, ⟨81, _⟩ => ⟨S4x8192x1x32, .f32⟩
  | .hbm, ⟨82, _⟩ => ⟨S4x8192x8x32, .f32⟩
  | .hbm, ⟨83, _⟩ => ⟨S_, .f32⟩
  | .hbm, ⟨84, _⟩ => ⟨S4x8192x8x32, .f32⟩
  | .hbm, ⟨85, _⟩ => ⟨S4x8192x8x64, .f32⟩
  | .hbm, ⟨86, _⟩ => ⟨S4x8192x8x96, .f32⟩
  | .hbm, ⟨87, _⟩ => ⟨S4x8192x8x128, .f32⟩
  | .hbm, ⟨88, _⟩ => ⟨S4x8192x8x64, .f32⟩
  | .hbm, ⟨89, _⟩ => ⟨S4x8192x8x96, .f32⟩
  | .hbm, ⟨90, _⟩ => ⟨S4x8192x8x128, .f32⟩
  | .hbm, ⟨91, _⟩ => ⟨S32768x1024, .f32⟩
  | .hbm, ⟨92, _⟩ => ⟨S32768x1024, .bf16⟩
  | .hbm, ⟨93, _⟩ => ⟨S32768x1024, .f32⟩
  | .hbm, ⟨94, _⟩ => ⟨S32768x1024, .bf16⟩
  | .hbm, ⟨95, _⟩ => ⟨S4x8192x8x64, .f32⟩
  | .hbm, ⟨96, _⟩ => ⟨S32768x512, .f32⟩
  | .hbm, ⟨97, _⟩ => ⟨S32768x512, .bf16⟩
  | _, _ => ⟨S4x8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Proof.Chain.lean ====
/- The carried values of the key loop, as eight separate chains.  A block of 512 queries and one of the two score
   maps make a chain; its state is the running maximum of each query's scores and the running weighted sum of the
   value rows (the last sixteen rows of which accumulate the weights themselves). -/
module

public import proofs.«01_k».proof.Proof.Gen.KernelIdeal.Value
public import Idealize.ShloMosaic.Lib.Pipeline.Value

@[expose] public section

set_option maxRecDepth 16384

noncomputable section

namespace Cert.Diff

open Cert.KernelIdeal Cert.KernelIdeal.Gen Idealize.ShloMosaic Idealize.ShloMosaic.Tactic Idealize.ShloMosaic.TcCoe Idealize.SL.Sem

variable {F : FTy → Type} [FloatOps F] [Named F]

/-- One chain's state: the running maxima and the running weighted sums. -/
abbrev St (F : FTy → Type) := FVec F S1x512 .f32 × FVec F S144x512 .f32

/-- The chain's state after one more tile of 1024 keys and values. -/
def step (q : FVec F S512x128 .bf16) (kt : Vec F S1024x128 .bf16) (vt : Vec F S1x1x1x128x1024 .bf16) (s : St F) : St F :=
  (k0_pay11 s.1 (k0_pay2 q kt), k0_pay12 s.1 s.2 (k0_pay1 vt) (k0_pay2 q kt))

/-- The chain's state before tile `n`. -/
def chain (q : FVec F S512x128 .bf16) (kt : ℕ → Vec F S1024x128 .bf16) (vt : ℕ → Vec F S1x1x1x128x1024 .bf16) : ℕ → St F
  | 0 => (k0_pay46, k0_pay47)
  | n + 1 => step q (kt n) (vt n) (chain q kt vt n)

/-- Eight chains' states laid out as the loop carries them. -/
abbrev pack (c : Fin 8 → St F) : FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 :=
  ((c 0).1, (c 0).2, (c 1).1, (c 1).2, (c 2).1, (c 2).2, (c 3).1, (c 3).2,
   (c 4).1, (c 4).2, (c 5).1, (c 5).2, (c 6).1, (c 6).2, (c 7).1, (c 7).2)

/-- The key tile that trip `k` loads from a block of 8192 keys. -/
def keyTileAt (x1 : Vec F S8192x128 .bf16) (k : Fin k0_t1_loop.trips) : Vec F S1024x128 .bf16 :=
  View.ld x1 (Rect.unit (s := S8192x128) (k0_off2 k) S1024x128.size (k0_off2_inb k))

/-- The value tile that trip `k` loads from a block of 8 tiles. -/
def valTileAt (x2 : Vec F S1x1x8x128x1024 .bf16) (k : Fin k0_t1_loop.trips) : Vec F S1x1x1x128x1024 .bf16 :=
  View.ld x2 (Rect.unit (s := S1x1x8x128x1024) (k0_off1 k) S1x1x1x128x1024.size (k0_off1_inb k))

/-- Trip number `n`, modulo the eight trips. -/
def trip (n : ℕ) : Fin k0_t1_loop.trips := ⟨n % 8, Nat.mod_lt _ (by decide)⟩

/-- Key tile number `n`. -/
def keyTile (x1 : Vec F S8192x128 .bf16) (n : ℕ) : Vec F S1024x128 .bf16 := keyTileAt x1 (trip n)

/-- Value tile number `n`. -/
def valTile (x2 : Vec F S1x1x8x128x1024 .bf16) (n : ℕ) : Vec F S1x1x1x128x1024 .bf16 := valTileAt x2 (trip n)

/-- A trip's own number names it. -/
theorem trip_val (k : Fin k0_t1_loop.trips) : trip k.val = k := Fin.ext (Nat.mod_eq_of_lt k.isLt)

section Loop

variable  (𝒱 : Variants) (c : Dev nD) (bd : Option 𝒱.V) (i : grid0.Coords) (arg3 : Memref sig .tc .vmem S2048x128 .f32) (harg3 : arg3.IsWhole) (arg4 : Memref sig .tc .vmem S8192x128 .bf16) (harg4 : arg4.IsWhole) (arg5 : Memref sig .tc .vmem S1x1x8x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S2048x128 .bf16) (harg11 : arg11.IsWhole) (v0 : IVec S512x128 32) (v9 : FVec F S512x128 .bf16) (v12 : FVec F S512x128 .bf16) (v21 : FVec F S512x128 .bf16) (v24 : FVec F S512x128 .bf16) (v33 : FVec F S512x128 .bf16) (v36 : FVec F S512x128 .bf16) (v37 : Vec F S512x128 .f32) (X_arg4 : BufTy.Contents (Elt F) arg4.view.ty) (X_arg5 : BufTy.Contents (Elt F) arg5.view.ty)
/-- One trip of the loop moves each of the eight chains by one tile. -/
theorem trip_eq (k : Fin k0_t1_loop.trips) (C : Fin 8 → St F) :
  tripR_k0_t1 𝒱 c bd i arg3 harg3 arg4 harg4 arg5 harg5 arg6 harg6 arg7 harg7 arg8 harg8 arg9 harg9 arg10 harg10 arg11 harg11 v0 v9 v12 v21 v24 v33 v36 v37 X_arg4 X_arg5 k (pack C)
   = pack fun r => step (![v9, v12, v21, v24, v33, v36, k0_pay44 v0 v37, k0_pay45 v0 v37] r) (keyTile (arg4.view.read (Elt F) X_arg4) k.val) (valTile (arg5.view.read (Elt F) X_arg5) k.val) (C r) := by
  unfold keyTile valTile
  rw [trip_val]
  unfold tripR_k0_t1 trip_k0_t1
  dsimp only
  rfl

/-- Before trip `n` the loop carries the eight chains' states before tile `n`. -/
theorem st_eq (C : Fin 8 → St F) (n : ℕ) (hn : n ≤ 8) :
  st_k0_t1 𝒱 c bd i arg3 harg3 arg4 harg4 arg5 harg5 arg6 harg6 arg7 harg7 arg8 harg8 arg9 harg9 arg10 harg10 arg11 harg11 v0 v9 v12 v21 v24 v33 v36 v37 X_arg4 X_arg5 (pack fun _ => (k0_pay46, k0_pay47)) n
   = pack fun r => chain (![v9, v12, v21, v24, v33, v36, k0_pay44 v0 v37, k0_pay45 v0 v37] r) (keyTile (arg4.view.read (Elt F) X_arg4)) (valTile (arg5.view.read (Elt F) X_arg5)) n := by
  induction n with
  | zero => rfl
  | succ n ih =>
    rw [st_k0_t1_succ (k := ⟨n, hn⟩)]
    dsimp only
    rw [ih (by omega), trip_eq]
    rfl

end Loop

end Cert.Diff
end
-- ==== Proof.Block.lean ====
/- What one grid point's body stores: four blocks of 512 rows, each the normalised difference of two attention averages. -/
module

public import proofs.«01_k».proof.Proof.Chain
public import Idealize.ShloMosaic.Lib.Pointwise

@[expose] public section

set_option maxRecDepth 16384

noncomputable section

namespace Cert.Diff

open Cert.KernelIdeal Cert.KernelIdeal.Gen Idealize.ShloMosaic Idealize.ShloMosaic.Tactic Idealize.ShloMosaic.TcCoe Idealize.SL.Sem

variable {F : FTy → Type} [FloatOps F] [Named F]

/-- The rows `512 r`, …, `512 r + 511` of a block of 2048 query rows. -/
def qRows (x0 : Vec F S2048x128 .f32) (r : Fin 4) : Vec F S512x128 .f32 :=
  View.ld x0 (Rect.unit (s := S2048x128) ![512 * r.val, 0] S512x128.size (by
    intro a; fin_cases a <;> simp <;> omega))

/-- The weighted sums of map `μ` for query block `xq`, after all eight tiles. -/
def avg (xq : Vec F S512x128 .f32) (x1 : Vec F S8192x128 .bf16) (x2 : Vec F S1x1x8x128x1024 .bf16) (μ : Fin 2) : FVec F S144x512 .f32 :=
  (chain (![k0_pay32 xq, k0_pay33 xq] μ) (keyTile x1) (valTile x2) 8).2

/-- The stored block for the query rows `xq`. -/
def outRows (xq : Vec F S512x128 .f32) (x1 : Vec F S8192x128 .bf16) (x2 : Vec F S1x1x8x128x1024 .bf16)
    (x3 x4 x5 x6 : Vec F S1x64 .f32) (x7 : Vec F S1x128 .f32) : FVec F S512x128 .bf16 :=
  k0_pay75 (avg xq x1 x2 0) (avg xq x1 x2 1) (k0_pay65 (avg xq x1 x2 0)) (k0_pay66 (avg xq x1 x2 1)) (k0_pay71 x3 x4 x5 x6) x7

/-- The whole stored block of 2048 rows. -/
def outAll (x0 : Vec F S2048x128 .f32) (x1 : Vec F S8192x128 .bf16) (x2 : Vec F S1x1x8x128x1024 .bf16)
    (x3 x4 x5 x6 : Vec F S1x64 .f32) (x7 : Vec F S1x128 .f32) : Vec F S2048x128 .bf16 := fun y =>
  outRows (qRows x0 ⟨(y 0).val / 512, Nat.div_lt_of_lt_mul (y 0).isLt⟩) x1 x2 x3 x4 x5 x6 x7
    (ix2 ⟨(y 0).val % 512, Nat.mod_lt _ (by decide)⟩ (y 1))

/-- The whole block read at an index of its `r`-th block of 512 rows. -/
theorem outAll_emb (x0 : Vec F S2048x128 .f32) (x1 : Vec F S8192x128 .bf16) (x2 : Vec F S1x1x8x128x1024 .bf16)
    (x3 x4 x5 x6 : Vec F S1x64 .f32) (x7 : Vec F S1x128 .f32) (r : Fin 4) (off : Fin 2 → ℕ) (hoff : off = ![512 * r.val, 0])
    (inb : ∀ a, off a + S512x128.size a ≤ S2048x128.size a) (x : S512x128.Idx) :
    outAll x0 x1 x2 x3 x4 x5 x6 x7 ((Rect.unit (s := S2048x128) off S512x128.size inb).emb x) = outRows (qRows x0 r) x1 x2 x3 x4 x5 x6 x7 x := by
  subst hoff
  have e0 : (((Rect.unit (s := S2048x128) ![512 * r.val, 0] S512x128.size inb).emb x) 0).val = 512 * r.val + (x 0).val := by
    show 512 * r.val + 1 * (x 0).val = _; omega
  have e1 : (((Rect.unit (s := S2048x128) ![512 * r.val, 0] S512x128.size inb).emb x) 1) = x 1 := by
    apply Fin.ext; show 0 + 1 * (x 1).val = _; omega
  have hx : (x 0).val < 512 := (x 0).isLt
  unfold outAll
  have h0 : (⟨(((Rect.unit (s := S2048x128) ![512 * r.val, 0] S512x128.size inb).emb x) 0).val / 512, Nat.div_lt_of_lt_mul (((Rect.unit (s := S2048x128) ![512 * r.val, 0] S512x128.size inb).emb x) 0).isLt⟩ : Fin 4) = r := by
    apply Fin.ext; show _ / 512 = _; rw [e0]; omega
  have h1 : (ix2 ⟨(((Rect.unit (s := S2048x128) ![512 * r.val, 0] S512x128.size inb).emb x) 0).val % 512, Nat.mod_lt _ (by decide)⟩ (((Rect.unit (s := S2048x128) ![512 * r.val, 0] S512x128.size inb).emb x) 1) : S512x128.Idx) = x := by
    funext a
    match a with
    | ⟨0, _⟩ => apply Fin.ext; show _ % 512 = (x 0).val; rw [e0]; omega
    | ⟨1, _⟩ => exact e1
  rw [h0, h1]

section Out

variable (c : Dev nD) (i : grid0.Coords) (arg3 : Memref sig .tc .vmem S2048x128 .f32) (harg3 : arg3.IsWhole) (arg4 : Memref sig .tc .vmem S8192x128 .bf16) (harg4 : arg4.IsWhole) (arg5 : Memref sig .tc .vmem S1x1x8x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S2048x128 .bf16) (harg11 : arg11.IsWhole)
variable (x0 : Vec F S2048x128 .f32) (x1 : Vec F S8192x128 .bf16) (x2 : Vec F S1x1x8x128x1024 .bf16) (x3 x4 x5 x6 : Vec F S1x64 .f32) (x7 : Vec F S1x128 .f32)

/-- What a grid point's body leaves in its output block. -/
theorem out_eq : out0_A_8 c i arg3 harg3 arg4 harg4 arg5 harg5 arg6 harg6 arg7 harg7 arg8 harg8 arg9 harg9 arg10 harg10 arg11 harg11 x0 x1 x2 x3 x4 x5 x6 x7
    = outAll x0 x1 x2 x3 x4 x5 x6 x7 := by
  have z2 : (![0, 0] : Fin 2 → ℕ) = fun _ => 0 := by decide
  have cov := cover0_A_8 c i arg3 harg3 arg4 harg4 arg5 harg5 arg6 harg6 arg7 harg7 arg8 harg8 arg9 harg9 arg10 harg10 arg11 harg11 x0 x1 x2 x3 x4 x5 x6 x7
  unfold out0_A_8; rw [View.read_writes_eq_canon _ _ _ cov]
  funext y
  refine View.canon_apply_of_pieces _ _ ?_ y (cov y)
  clear cov
  unfold kernelRun0_A; dsimp only
  sl_unfold_words
  have htr : Scf.trips k0_t1_loop.lb k0_t1_loop.ub k0_t1_loop.st = 8 := by decide
  have hst := fun v0 v9 v12 v21 v24 v33 v36 v37 =>
    st_eq Variants.none c none i arg3 harg3 arg4 harg4 arg5 harg5 arg6 harg6 arg7 harg7 arg8 harg8 arg9 harg9 arg10 harg10 arg11 harg11 (F := F) v0 v9 v12 v21 v24 v33 v36 v37 (harg4.unread x1) (harg5.unread x2) (fun _ => (k0_pay46, k0_pay47)) 8 le_rfl
  have hinit : (pack fun _ => (k0_pay46 (F := F), k0_pay47)) = (k0_pay46, k0_pay47, k0_pay48, k0_pay49, k0_pay50, k0_pay51, k0_pay52, k0_pay53, k0_pay54, k0_pay55, k0_pay56, k0_pay57, k0_pay58, k0_pay59, k0_pay60, k0_pay61) := rfl
  rw [hinit] at hst
  simp only [htr, hst, View.readAt_eq_ld, harg3.read_unread, harg4.read_unread, harg5.read_unread, harg6.read_unread, harg7.read_unread, harg8.read_unread, harg9.read_unread, harg10.read_unread]
  have l6 : ∀ z : Vec F S1x64 .f32, View.ld z (Rect.unit (s := S1x64) ![0, 0] ![1, 64] inb_S1x64_S1x64_0_0) = z := fun z => View.ld_unit_zero (S := S1x64) z2 inb_S1x64_S1x64_0_0 z
  have l7 : ∀ z : Vec F S1x128 .f32, View.ld z (Rect.unit (s := S1x128) ![0, 0] ![1, 128] inb_S1x128_S1x128_0_0) = z := fun z => View.ld_unit_zero (S := S1x128) z2 inb_S1x128_S1x128_0_0 z
  simp only [l6, l7]
  clear hst hinit
  refine List.forall_mem_cons.2 ⟨fun x => ?_, List.forall_mem_cons.2 ⟨fun x => ?_, List.forall_mem_cons.2 ⟨fun x => ?_, List.forall_mem_cons.2 ⟨fun x => ?_, fun _ h => absurd h (List.not_mem_nil)⟩⟩⟩⟩
  · refine Eq.trans ?_ (outAll_emb x0 x1 x2 x3 x4 x5 x6 x7 3 _ rfl inb_S2048x128_S512x128_1536_0 x).symm; rfl
  · refine Eq.trans ?_ (outAll_emb x0 x1 x2 x3 x4 x5 x6 x7 2 _ rfl inb_S2048x128_S512x128_1024_0 x).symm; rfl
  · refine Eq.trans ?_ (outAll_emb x0 x1 x2 x3 x4 x5 x6 x7 1 _ rfl inb_S2048x128_S512x128_512_0 x).symm; rfl
  · refine Eq.trans ?_ (outAll_emb x0 x1 x2 x3 x4 x5 x6 x7 0 _ rfl inb_S2048x128_S512x128_0_0 x).symm; rfl

end Out

end Cert.Diff
end
-- ==== Proof.Flash.lean ====
/- The running softmax average over tiles, in real numbers: whatever real shift the running maximum supplies, the
   quotient of the two running sums is the softmax-weighted average. -/
module

public import Idealize.ShloMosaic.PureOps.Ideal.Laws
public import Mathlib.Analysis.SpecialFunctions.Pow.Real

@[expose] public section

noncomputable section

namespace Cert.Diff

open Idealize.ShloMosaic
open scoped BigOperators

/-- A finite sum of reals, embedded, is the sum of the embedded reals. -/
theorem coe_sum {I : Type} (s : Finset I) (f : I → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, folded from minus infinity, is a real. -/
theorem fold_max_real {I : Type} [Fintype I] [Nonempty I] (f : I → ℝ) :
    ∃ M : ℝ, Finset.univ.fold max (⊥ : EReal) (fun i => (f i : EReal)) = M := by
  classical
  have key : ∀ s : Finset I, s.fold max (⊥ : EReal) (fun i => (f i : EReal)) = ⊥ ∨
      ∃ M : ℝ, s.fold max (⊥ : EReal) (fun i => (f i : EReal)) = M := by
    intro s
    induction s using Finset.induction_on with
    | empty => left; simp
    | insert a s ha ih =>
      right
      rw [Finset.fold_insert ha]
      rcases ih with h | ⟨M, h⟩
      · exact ⟨f a, by rw [h]; simp⟩
      · exact ⟨max (f a) M, by rw [h]; exact (EReal.coe_strictMono.monotone.map_max).symm⟩
  rcases key Finset.univ with h | h
  · exfalso
    obtain ⟨i⟩ := ‹Nonempty I›
    have : (f i : EReal) ≤ Finset.univ.fold max (⊥ : EReal) (fun i => (f i : EReal)) :=
      Finset.le_fold_max _ |>.2 (Or.inr ⟨i, Finset.mem_univ _, le_rfl⟩)
    rw [h] at this
    exact EReal.coe_ne_bot _ (le_bot_iff.1 this)
  · exact h

/-- `2 ^ (x - y)` of reals, in the extended reals. -/
theorem exp2_sub (x y : ℝ) : Ideal.exp2 ((x : EReal) - (y : EReal)) = (((2 : ℝ) ^ (x - y) : ℝ) : EReal) := by
  rw [← EReal.coe_sub, Ideal.exp2_coe]; rfl

/-- THE RUNNING SUMS.  A maximum that starts at a real and absorbs each tile's scores, and sums that are rescaled by
    `2 ^ (old maximum - new maximum)` before each tile's weighted values are added, hold after `n` tiles the sums of
    the values weighted by `2 ^ (score - maximum)`. -/
theorem running {D I : Type} [Fintype I] [Nonempty I] (N : ℕ) (σ : ℕ → I → ℝ) (w : ℕ → D → I → ℝ)
    (m : ℕ → EReal) (a : ℕ → D → EReal) (μ : ℝ) (h0 : m 0 = μ) (ha0 : ∀ d, a 0 d = 0)
    (hm : ∀ n < N, m (n + 1) = max (m n) (Finset.univ.fold max (⊥ : EReal) fun i => (σ n i : EReal)))
    (ha : ∀ n < N, ∀ d, a (n + 1) d = Ideal.exp2 (m n - m (n + 1)) * a n d
      + ∑ i, (w n d i : EReal) * Ideal.exp2 ((σ n i : EReal) - m (n + 1))) :
    ∀ n ≤ N, ∃ M : ℝ, m n = M ∧ ∀ d, a n d = ((∑ t ∈ Finset.range n, ∑ i, w t d i * (2 : ℝ) ^ (σ t i - M) : ℝ) : EReal) := by
  intro n
  induction n with
  | zero => intro _; exact ⟨μ, h0, fun d => by rw [ha0]; simp⟩
  | succ n ih =>
    intro hn
    obtain ⟨M, hM, hA⟩ := ih (by omega)
    obtain ⟨T, hT⟩ := fold_max_real (σ n)
    have hM' : m (n + 1) = ((max M T : ℝ) : EReal) := by rw [hm n (by omega), hM, hT]; exact (EReal.coe_strictMono.monotone.map_max).symm
    refine ⟨max M T, hM', fun d => ?_⟩
    rw [ha n (by omega), hM, hM', hA, exp2_sub, ← EReal.coe_mul, Finset.sum_range_succ, EReal.coe_add]
    congr 1
    · congr 1
      rw [Finset.mul_sum]
      refine Finset.sum_congr rfl fun t _ => ?_
      rw [Finset.mul_sum]
      refine Finset.sum_congr rfl fun i _ => ?_
      have : (2 : ℝ) ^ (σ t i - max M T) = 2 ^ (M - max M T) * 2 ^ (σ t i - M) := by
        rw [← Real.rpow_add (by norm_num)]; congr 1; ring
      rw [this]; ring
    · rw [coe_sum]
      refine Finset.sum_congr rfl fun i _ => ?_
      rw [exp2_sub, ← EReal.coe_mul]

/-- The average of `v` weighted by the exponentials of `x`. -/
def wavg {J : Type} [Fintype J] (x v : J → ℝ) : ℝ := (∑ j, Real.exp (x j) * v j) / ∑ j, Real.exp (x j)

/-- The sum of exponentials over a nonempty index set is positive. -/
theorem sum_exp_pos {J : Type} [Fintype J] [Nonempty J] (x : J → ℝ) : 0 < ∑ j, Real.exp (x j) :=
  Finset.sum_pos (fun _ _ => Real.exp_pos _) Finset.univ_nonempty

/-- Dividing reals, the second nonzero, in the extended reals. -/
theorem div_real (x y : ℝ) (h : y ≠ 0) : Ideal.div (x : EReal) (y : EReal) = ((x / y : ℝ) : EReal) := by
  rw [Ideal.div_coe h, ← EReal.coe_mul, mul_one_div]

/-- The quotient of the two running sums is the weighted average with logits `score · log 2`. -/
theorem quot_eq_wavg {J : Type} [Fintype J] [Nonempty J] (σ v : J → ℝ) (M : ℝ) :
    Ideal.div ((∑ j, v j * (2 : ℝ) ^ (σ j - M) : ℝ) : EReal) ((∑ j, 1 * (2 : ℝ) ^ (σ j - M) : ℝ) : EReal)
      = ((wavg (fun j => σ j * Real.log 2) v : ℝ) : EReal) := by
  have e : ∀ j, (2 : ℝ) ^ (σ j - M) = 2 ^ (-M) * Real.exp (σ j * Real.log 2) := by
    intro j
    rw [sub_eq_add_neg, add_comm, Real.rpow_add (by norm_num), Real.rpow_def_of_pos (by norm_num : (0 : ℝ) < 2) (σ j), mul_comm (Real.log 2)]
  have h2 : (0 : ℝ) < 2 ^ (-M) := Real.rpow_pos_of_pos (by norm_num) _
  have hs := sum_exp_pos fun j => σ j * Real.log 2
  have num : (∑ j, v j * (2 : ℝ) ^ (σ j - M)) = 2 ^ (-M) * ∑ j, Real.exp (σ j * Real.log 2) * v j := by
    rw [Finset.mul_sum]; refine Finset.sum_congr rfl fun j _ => ?_; rw [e]; ring
  have den : (∑ j, 1 * (2 : ℝ) ^ (σ j - M)) = 2 ^ (-M) * ∑ j, Real.exp (σ j * Real.log 2) := by
    rw [Finset.mul_sum]; refine Finset.sum_congr rfl fun j _ => ?_; rw [e]; ring
  rw [num, den, div_real _ _ (mul_pos h2 hs).ne', mul_div_mul_left _ _ h2.ne']
  rfl

/-- One softmax weight, computed with a real shift. -/
theorem softmax_weight {J : Type} [Fintype J] [Nonempty J] (x : J → ℝ) (M : ℝ) (j : J) :
    Ideal.div (Ideal.exp ((x j : EReal) - (M : EReal))) (∑ i, Ideal.exp ((x i : EReal) - (M : EReal)))
      = ((Real.exp (x j) / ∑ i, Real.exp (x i) : ℝ) : EReal) := by
  have e : ∀ i, Ideal.exp ((x i : EReal) - (M : EReal)) = ((Real.exp (-M) * Real.exp (x i) : ℝ) : EReal) := by
    intro i; rw [← EReal.coe_sub, Ideal.exp_coe, ← Real.exp_add]; congr 2; ring
  simp only [e]
  rw [← coe_sum, ← Finset.mul_sum, div_real _ _ (mul_pos (Real.exp_pos _) (sum_exp_pos x)).ne',
    mul_div_mul_left _ _ (Real.exp_pos _).ne']

/-- The average as a sum of weights times values. -/
theorem wavg_eq_sum {J : Type} [Fintype J] (x v : J → ℝ) :
    wavg x v = ∑ j, (Real.exp (x j) / ∑ i, Real.exp (x i)) * v j := by
  unfold wavg; rw [Finset.sum_div]; refine Finset.sum_congr rfl fun j _ => ?_; ring

/-- A sum over eight tiles of 1024 is the sum over all 8192 positions. -/
theorem sum_tiles {α : Type} [AddCommMonoid α] (f : Fin 8192 → α) :
    ∑ t ∈ Finset.range 8, ∑ i : Fin 1024, f ⟨(1024 * t + i.val) % 8192, Nat.mod_lt _ (by decide)⟩ = ∑ j, f j := by
  rw [Finset.sum_range, ← Fintype.sum_prod_type']
  refine Fintype.sum_equiv (finProdFinEquiv (m := 8) (n := 1024)) _ _ fun p => ?_
  congr 1
  apply Fin.ext
  have h1 : p.1.val < 8 := p.1.isLt
  have h2 : p.2.val < 1024 := p.2.isLt
  show (1024 * p.1.val + p.2.val) % 8192 = p.2.val + 1024 * p.1.val
  omega

end Cert.Diff
end
-- ==== Proof.Spec.lean ====
/- The differential attention's result over real queries, keys and values: the two softmax averages of a head, their
   difference, and its root-mean-square norm. -/
module

public import proofs.«01_k».proof.Proof.Flash

@[expose] public section

noncomputable section

namespace Cert.Diff

open Idealize.ShloMosaic
open scoped BigOperators

/-- Lane `e` of map `μ`'s half of the 128 lanes. -/
def lane (μ : Fin 2) (e : Fin 64) : Fin 128 := ⟨64 * μ.val + e.val, by omega⟩

/-- The logit of query row `q` and key row `k` in map `μ`. -/
def logit (q k : Fin 128 → ℝ) (μ : Fin 2) : ℝ := (∑ e, q (lane μ e) * k (lane μ e)) * (1 / 8)

/-- Channel `x` of head `h` among the 512. -/
def chan (h : Fin 4) (x : Fin 128) : Fin 512 := ⟨h.val * 128 + x.val, by omega⟩

/-- An array of queries, keys or values: batch entry, position, channel. -/
abbrev Arr := Fin 4 → Fin 8192 → Fin 512 → ℝ

/-- Map `μ`'s attention average of head `h` at position `s`. -/
def att (Q K V : Arr) (b h : Fin 4) (s : Fin 8192) (μ : Fin 2) (d : Fin 128) : ℝ :=
  wavg (fun t => logit (fun x => Q b s (chan h x)) (fun x => K b t (chan h x)) μ) fun t => V b t (chan h d)

/-- The difference of the two maps' averages, the second weighted by `Λ`. -/
def dif (Q K V : Arr) (Λ : ℝ) (b h : Fin 4) (s : Fin 8192) (d : Fin 128) : ℝ :=
  att Q K V b h s 0 d - Λ * att Q K V b h s 1 d

/-- A vector's root-mean-square norm, times the weights and the constant factor. -/
def normed (D : Fin 128 → ℝ) (w : Fin 128 → EReal) (d : Fin 128) : EReal :=
  (D d : EReal) * Ideal.rsqrt (Ideal.div (∑ x, (D x : EReal) * (D x : EReal)) (Ideal.ofBits .f32 0x43000000#32)
    + Ideal.ofBits .f32 0x3727C5AC#32) * w d * Ideal.ofBits .f32 0x3F4CCCCD#32

/-- Lambda, from the four learned vectors. -/
def lam (l1 l2 l3 l4 : Fin 64 → EReal) : EReal :=
  Ideal.exp (∑ x, l1 x * l2 x) - Ideal.exp (∑ x, l3 x * l4 x) + Ideal.ofBits .f32 0x3E4CCCCD#32

/-- The result at batch entry `b`, position `s`, head `h`, channel `d`. -/
def res (Q K V : Arr) (Λ : ℝ) (w : Fin 128 → EReal) (b h : Fin 4) (s : Fin 8192) (d : Fin 128) : EReal :=
  normed (dif Q K V Λ b h s) w d

end Cert.Diff
end
-- ==== Proof.Consts.lean ====
/- The float constants of the two programs that the proofs read, as the extended reals they denote. -/
module

public import Idealize.ShloMosaic.PureOps.Ideal

@[expose] public section

noncomputable section

namespace Cert.Consts

open Idealize.ShloMosaic

/-- The pattern of minus infinity. -/
theorem ofBits_neg_inf : Ideal.ofBits .f32 0xFF800000#32 = (⊥ : EReal) := by
  simp [Ideal.ofBits, Ideal.ieee]

/-- `0.125`, by which the reference scales its logits. -/
theorem ofBits_eighth : Ideal.ofBits .f32 0x3E000000#32 = ((1 / 8 : ℝ) : EReal) := by
  simp [Ideal.ofBits, Ideal.ieee, -EReal.coe_mul]; norm_num

/-- The kernel's starting maximum is some real. -/
theorem ofBits_start : ∃ r : ℝ, Ideal.ofBits .f32 0xF149F2CA#32 = (r : EReal) :=
  ⟨_, by simp [Ideal.ofBits, Ideal.ieee, -EReal.coe_mul]; rfl⟩

/-- The constant term of lambda, about 0.2, is some real. -/
theorem ofBits_lambda : ∃ r : ℝ, Ideal.ofBits .f32 1045220557#32 = (r : EReal) :=
  ⟨_, by simp [Ideal.ofBits, Ideal.ieee, -EReal.coe_mul]; rfl⟩

end Cert.Consts

end
-- ==== Proof.Tile.lean ====
/- The kernel's chains read at an index, over real data: after eight tiles the quotient of a value row's sum and the
   weights' sum is the softmax-weighted average of that value row. -/
module

public import proofs.«01_k».proof.Proof.Block
public import proofs.«01_k».proof.Proof.Spec
public import proofs.«01_k».proof.Proof.Consts
public import Idealize.ShloMosaic.PureOps.Ideal

@[expose] public section

set_option maxRecDepth 16384

noncomputable section

namespace Cert.Diff

open Cert.KernelIdeal Cert.KernelIdeal.Gen Idealize.ShloMosaic Idealize.SL.Sem
open scoped BigOperators

/-! ### The payloads at an index -/

/-- A score is the product of a key row and a query row. -/
theorem score_apply (q : FVec Ideal S512x128 .bf16) (kt : Vec Ideal S1024x128 .bf16) (i : Fin 1024) (j : Fin 512) :
    k0_pay2 q kt (ix2 i j) = ∑ x, kt (ix2 i x) * q (ix2 j x) := by
  pointwise [k0_pay2]

/-- The new maximum of a query. -/
theorem max_apply (M : FVec Ideal S1x512 .f32) (s : FVec Ideal S1024x512 .f32) (j : Fin 512) :
    k0_pay11 M s (ix2 0 j) = max (M (ix2 0 j)) (Finset.univ.fold max (⊥ : EReal) fun x : Fin 1024 => s (ix2 x j)) := by
  rw [← Consts.ofBits_neg_inf]
  pointwise [k0_pay11]

/-- The new weighted sum of a value row. -/
theorem sum_apply (M : FVec Ideal S1x512 .f32) (A : FVec Ideal S144x512 .f32) (V : FVec Ideal S144x1024 .bf16)
    (s : FVec Ideal S1024x512 .f32) (d : Fin 144) (j : Fin 512) :
    k0_pay12 M A V s (ix2 d j) = Ideal.exp2 (M (ix2 0 j) - k0_pay11 M s (ix2 0 j)) * A (ix2 d j)
      + ∑ x : Fin 1024, V (ix2 d x) * Ideal.exp2 (s (ix2 x j) - k0_pay11 M s (ix2 0 j)) := by
  pointwise [k0_pay12]
  rfl

/-- The value rows with rows of ones below them. -/
theorem rows_apply (vt : Vec Ideal S1x1x1x128x1024 .bf16) (d : Fin 144) (i : Fin 1024) :
    k0_pay1 vt (ix2 d i) = if h : d.val < 128 then vt (ix5 0 0 0 ⟨d.val, h⟩ i) else 1 := by
  pointwise [k0_pay1]

/-- A key tile at an index. -/
theorem keyTile_apply (x1 : Vec Ideal S8192x128 .bf16) (n : ℕ) (i : Fin 1024) (x : Fin 128) :
    keyTile x1 n (ix2 i x) = x1 (ix2 ⟨1024 * (n % 8) + i.val, by omega⟩ x) := by
  have h : ∀ k : Fin k0_t1_loop.trips, (hk : 1024 * k.val + i.val < 8192) →
      keyTileAt x1 k (ix2 i x) = x1 (ix2 ⟨1024 * k.val + i.val, hk⟩ x) := by
    intro k hk
    pointwise [keyTileAt, k0_off2_eq]
  exact h (trip n) _

/-- A value tile at an index. -/
theorem valTile_apply (x2 : Vec Ideal S1x1x8x128x1024 .bf16) (n : ℕ) (d : Fin 128) (i : Fin 1024) :
    valTile x2 n (ix5 0 0 0 d i) = x2 (ix5 0 0 ⟨n % 8, by omega⟩ d i) := by
  have h : ∀ k : Fin k0_t1_loop.trips, (hk : k.val < 8) →
      valTileAt x2 k (ix5 0 0 0 d i) = x2 (ix5 0 0 ⟨k.val, hk⟩ d i) := by
    intro k hk
    pointwise [valTileAt, k0_off1_eq]
  exact h (trip n) _

/-- The named scale. -/
theorem scale_val :
    Named.named (F := Ideal) Cert.KernelIdeal.κ "qk_scale" (φ := .f32) 0x3E38AA3B#32 = (((1 / 8) * (Real.log 2)⁻¹ : ℝ) : EReal) :=
  IdealRules.named_const.ideal_named_scalar _ _ _ _ rfl

/-- The queries of the first map: the first 64 lanes scaled, the others zero. -/
theorem first_apply (xq : Vec Ideal S512x128 .f32) (j : Fin 512) (x : Fin 128) :
    k0_pay32 xq (ix2 j x) = if x.val < 64 then xq (ix2 j x) * (((1 / 8) * (Real.log 2)⁻¹ : ℝ) : EReal) else 0 := by
  have h : ∀ x : Fin 128, IntOp.cmpi .slt (BitVec.ofNat 32 x.val) 64#32 = if x.val < 64 then 1#1 else 0#1 := by decide
  have h' : k0_pay32 xq (ix2 j x) = Scalar.select (IntOp.cmpi .slt (BitVec.ofNat 32 x.val) 64#32)
      (xq (ix2 j x) * Named.named (F := Ideal) Cert.KernelIdeal.κ "qk_scale" (φ := .f32) 0x3E38AA3B#32) 0 := by
    pointwise [k0_pay32, k0_pay30, k0_pay31]
  rw [h', scale_val, h]
  split_ifs <;> rfl

/-- The queries of the second map: the last 64 lanes scaled, the others zero. -/
theorem second_apply (xq : Vec Ideal S512x128 .f32) (j : Fin 512) (x : Fin 128) :
    k0_pay33 xq (ix2 j x) = if x.val < 64 then 0 else xq (ix2 j x) * (((1 / 8) * (Real.log 2)⁻¹ : ℝ) : EReal) := by
  have h : ∀ x : Fin 128, IntOp.cmpi .sge (BitVec.ofNat 32 x.val) 64#32 = if x.val < 64 then 0#1 else 1#1 := by decide
  have h' : k0_pay33 xq (ix2 j x) = Scalar.select (IntOp.cmpi .sge (BitVec.ofNat 32 x.val) 64#32)
      (xq (ix2 j x) * Named.named (F := Ideal) Cert.KernelIdeal.κ "qk_scale" (φ := .f32) 0x3E38AA3B#32) 0 := by
    pointwise [k0_pay33, k0_pay30, k0_pay31]
  rw [h', scale_val, h]
  split_ifs <;> rfl

/-! ### Scores over real data -/

/-- A sum over 128 lanes, by halves. -/
theorem sum_lanes (f : Fin 128 → ℝ) : ∑ x, f x = ∑ e, f (lane 0 e) + ∑ e, f (lane 1 e) := by
  rw [show (∑ x, f x) = ∑ x : Fin (64 + 64), f x from rfl, Fin.sum_univ_add]
  congr 1

/-- The kernel's scores are the logits over `log 2`: the half of the lanes that is not the map's contributes nothing. -/
theorem score_real (xq : Vec Ideal S512x128 .f32) (kt : Vec Ideal S1024x128 .bf16) (μ : Fin 2) (i : Fin 1024) (j : Fin 512)
    (q k : Fin 128 → ℝ) (hq : ∀ x, xq (ix2 j x) = (q x : EReal)) (hk : ∀ x, kt (ix2 i x) = (k x : EReal)) :
    k0_pay2 (![k0_pay32 xq, k0_pay33 xq] μ) kt (ix2 i j) = ((logit q k μ * (Real.log 2)⁻¹ : ℝ) : EReal) := by
  have hz : (0 : EReal) = ((0 : ℝ) : EReal) := rfl
  have key : ∀ (Q : FVec Ideal S512x128 .bf16) (r : Fin 128 → ℝ), (∀ x, Q (ix2 j x) = (r x : EReal)) →
      k0_pay2 Q kt (ix2 i j) = ((∑ e, k (lane 0 e) * r (lane 0 e) + ∑ e, k (lane 1 e) * r (lane 1 e) : ℝ) : EReal) := by
    intro Q r hr
    rw [score_apply, ← sum_lanes fun x => k x * r x, coe_sum]
    refine Finset.sum_congr rfl fun x _ => ?_
    rw [hk, hr, ← EReal.coe_mul]
  have e0 : ∀ e : Fin 64, (lane 0 e).val < 64 := fun e => by simp [lane]
  have e1 : ∀ e : Fin 64, ¬ (lane 1 e).val < 64 := fun e => by simp [lane]
  fin_cases μ
  · refine (key (k0_pay32 xq) (fun x => if x.val < 64 then q x * ((1 / 8) * (Real.log 2)⁻¹) else 0) ?_).trans ?_
    · intro x; rw [first_apply, hq]; split_ifs <;> first | rfl | rw [← EReal.coe_mul]
    · congr 1
      simp only [e0, e1, if_true, if_false, mul_zero, Finset.sum_const_zero, add_zero, logit]
      rw [Finset.sum_mul, Finset.sum_mul]
      refine Finset.sum_congr rfl fun e _ => ?_
      show _ = q (lane 0 e) * k (lane 0 e) * (1 / 8) * (Real.log 2)⁻¹
      ring
  · refine (key (k0_pay33 xq) (fun x => if x.val < 64 then 0 else q x * ((1 / 8) * (Real.log 2)⁻¹)) ?_).trans ?_
    · intro x; rw [second_apply, hq]; split_ifs <;> first | rfl | rw [← EReal.coe_mul]
    · congr 1
      simp only [e0, e1, if_true, if_false, mul_zero, Finset.sum_const_zero, zero_add, logit]
      rw [Finset.sum_mul, Finset.sum_mul]
      refine Finset.sum_congr rfl fun e _ => ?_
      show _ = q (lane 1 e) * k (lane 1 e) * (1 / 8) * (Real.log 2)⁻¹
      ring

/-! ### A chain over real data -/

/-- Position `i` of tile `t` among the 8192 keys. -/
abbrev pos (t : ℕ) (i : Fin 1024) : Fin 8192 := ⟨(1024 * t + i.val) % 8192, Nat.mod_lt _ (by decide)⟩

/-- THE CHAIN'S QUOTIENT.  After the eight tiles, a value row's weighted sum over the weights' sum is the average of the
    values weighted by the exponentials of the logits. -/
theorem avg_quot (xq : Vec Ideal S512x128 .f32) (x1 : Vec Ideal S8192x128 .bf16) (x2 : Vec Ideal S1x1x8x128x1024 .bf16)
    (μ : Fin 2) (j : Fin 512) (d : Fin 128) (q : Fin 128 → ℝ) (K V : Fin 8192 → Fin 128 → ℝ)
    (hq : ∀ x, xq (ix2 j x) = (q x : EReal)) (hk : ∀ t x, x1 (ix2 t x) = (K t x : EReal))
    (hv : ∀ (n : Fin 8) (x : Fin 128) (i : Fin 1024), x2 (ix5 0 0 n x i) = (V (pos n.val i) x : EReal)) :
    Ideal.div (avg xq x1 x2 μ (ix2 ⟨d.val, by omega⟩ j)) (avg xq x1 x2 μ (ix2 128 j))
      = ((wavg (fun t => logit q (K t) μ) (fun t => V t d) : ℝ) : EReal) := by
  set c := chain (![k0_pay32 xq, k0_pay33 xq] μ) (keyTile x1) (valTile x2) with hc
  let σ : ℕ → Fin 1024 → ℝ := fun n i => logit q (K (pos n i)) μ * (Real.log 2)⁻¹
  let w : ℕ → Fin 144 → Fin 1024 → ℝ := fun n e i => if h : e.val < 128 then V (pos n i) ⟨e.val, h⟩ else 1
  obtain ⟨μ0, hμ0⟩ := Consts.ofBits_start
  have hs : ∀ n < 8, ∀ i, k0_pay2 (![k0_pay32 xq, k0_pay33 xq] μ) (keyTile x1 n) (ix2 i j) = (σ n i : EReal) := by
    intro n hn i
    refine score_real xq (keyTile x1 n) μ i j q (K (pos n i)) hq fun x => ?_
    rw [keyTile_apply, hk]
    congr 2; apply Fin.ext; show 1024 * (n % 8) + i.val = (1024 * n + i.val) % 8192; omega
  have hw : ∀ n < 8, ∀ e i, k0_pay1 (valTile x2 n) (ix2 e i) = (w n e i : EReal) := by
    intro n hn e i
    rw [rows_apply]
    show _ = ((if h : e.val < 128 then V (pos n i) ⟨e.val, h⟩ else 1 : ℝ) : EReal)
    split_ifs with h
    · rw [valTile_apply, hv]
      congr 2; apply Fin.ext; show (1024 * (n % 8) + i.val) % 8192 = (1024 * n + i.val) % 8192; omega
    · rfl
  obtain ⟨M, -, hA⟩ := running 8 σ w (fun n => (c n).1 (ix2 0 j)) (fun n e => (c n).2 (ix2 e j)) μ0
    (by exact hμ0) (fun e => Ideal.ofBits_zero .f32)
    (fun n hn => by
      show k0_pay11 (c n).1 _ (ix2 0 j) = _
      rw [max_apply]; simp only [hs n hn])
    (fun n hn e => by
      show k0_pay12 (c n).1 (c n).2 _ _ (ix2 e j) = Ideal.exp2 ((c n).1 (ix2 0 j) - k0_pay11 (c n).1 _ (ix2 0 j)) * _ + _
      rw [sum_apply]; simp only [hs n hn, hw n hn]; rfl)
    8 le_rfl
  have hpos : ∀ (f : Fin 8192 → ℝ), ∑ t ∈ Finset.range 8, ∑ i : Fin 1024, f (pos t i) = ∑ t, f t := fun f => sum_tiles f
  have hd : avg xq x1 x2 μ (ix2 ⟨d.val, by omega⟩ j)
      = ((∑ t, V t d * (2 : ℝ) ^ (logit q (K t) μ * (Real.log 2)⁻¹ - M) : ℝ) : EReal) := by
    refine (hA ⟨d.val, by omega⟩).trans ?_
    rw [← hpos]
    simp only [w, σ, d.isLt, dif_pos, Fin.eta]
  have h1 : avg xq x1 x2 μ (ix2 128 j)
      = ((∑ t, 1 * (2 : ℝ) ^ (logit q (K t) μ * (Real.log 2)⁻¹ - M) : ℝ) : EReal) := by
    refine (hA 128).trans ?_
    rw [← hpos]
    simp only [w, σ]
    rfl
  refine (congrArg₂ Ideal.div hd h1).trans ((quot_eq_wavg _ _ _).trans ?_)
  refine congrArg (fun f : Fin 8192 → ℝ => ((wavg f (fun t => V t d) : ℝ) : EReal)) (funext fun t => ?_)
  show logit q (K t) μ * (Real.log 2)⁻¹ * Real.log 2 = _
  rw [mul_assoc, inv_mul_cancel₀ (Real.log_pos (by norm_num)).ne', mul_one]

/-! ### The stored rows over real data -/

/-- The last stage, given the two quotients. -/
theorem last_apply (A1 A2 : FVec Ideal S144x512 .f32) (l : FVec Ideal S1x1 .f32) (w : Vec Ideal S1x128 .f32) (j : Fin 512)
    (d : Fin 128) (Λ : ℝ) (a1 a2 : Fin 128 → ℝ) (hl : l (ix2 0 0) = (Λ : EReal))
    (h1 : ∀ x : Fin 128, Ideal.div (A1 (ix2 ⟨x.val, by omega⟩ j)) (A1 (ix2 128 j)) = (a1 x : EReal))
    (h2 : ∀ x : Fin 128, Ideal.div (A2 (ix2 ⟨x.val, by omega⟩ j)) (A2 (ix2 128 j)) = (a2 x : EReal)) :
    k0_pay75 A1 A2 (k0_pay65 A1) (k0_pay66 A2) l w (ix2 j d) = normed (fun x => a1 x - Λ * a2 x) (fun x => w (ix2 0 x)) d := by
  have e : ∀ x : Fin 128, Ideal.div (A1 (ix2 ⟨x.val, by omega⟩ j)) (A1 (ix2 128 j))
      - l (ix2 0 0) * Ideal.div (A2 (ix2 ⟨x.val, by omega⟩ j)) (A2 (ix2 128 j)) = ((a1 x - Λ * a2 x : ℝ) : EReal) := by
    intro x; rw [h1, h2, hl, ← EReal.coe_mul, ← EReal.coe_sub]
  unfold normed
  simp only [← e]
  pointwise [k0_pay75, k0_pay65, k0_pay66]

/-- The kernel's lambda. -/
theorem lam_apply (x3 x4 x5 x6 : Vec Ideal S1x64 .f32) :
    k0_pay71 x3 x4 x5 x6 (ix2 0 0) = lam (fun x => x3 (ix2 0 x)) (fun x => x4 (ix2 0 x)) (fun x => x5 (ix2 0 x)) fun x => x6 (ix2 0 x) := by
  unfold lam
  pointwise [k0_pay71]

/-- A stored row. -/
theorem outRows_apply (xq : Vec Ideal S512x128 .f32) (x1 : Vec Ideal S8192x128 .bf16) (x2 : Vec Ideal S1x1x8x128x1024 .bf16)
    (x3 x4 x5 x6 : Vec Ideal S1x64 .f32) (x7 : Vec Ideal S1x128 .f32) (j : Fin 512) (d : Fin 128)
    (q : Fin 128 → ℝ) (K V : Fin 8192 → Fin 128 → ℝ) (Λ : ℝ)
    (hq : ∀ x, xq (ix2 j x) = (q x : EReal)) (hk : ∀ t x, x1 (ix2 t x) = (K t x : EReal))
    (hv : ∀ (n : Fin 8) (x : Fin 128) (i : Fin 1024), x2 (ix5 0 0 n x i) = (V (pos n.val i) x : EReal))
    (hl : lam (fun x => x3 (ix2 0 x)) (fun x => x4 (ix2 0 x)) (fun x => x5 (ix2 0 x)) (fun x => x6 (ix2 0 x)) = (Λ : EReal)) :
    outRows xq x1 x2 x3 x4 x5 x6 x7 (ix2 j d) = normed (fun x => wavg (fun t => logit q (K t) 0) (fun t => V t x)
      - Λ * wavg (fun t => logit q (K t) 1) (fun t => V t x)) (fun x => x7 (ix2 0 x)) d :=
  last_apply _ _ _ _ j d Λ (fun x => wavg (fun t => logit q (K t) 0) fun t => V t x)
    (fun x => wavg (fun t => logit q (K t) 1) fun t => V t x) ((lam_apply _ _ _ _).trans hl)
    (fun x => avg_quot xq x1 x2 0 j x q K V hq hk hv) (fun x => avg_quot xq x1 x2 1 j x q K V hq hk hv)

end Cert.Diff
end
-- ==== Proof.Window.lean ====
/- What each grid point's input blocks hold, as entries of the argument arrays. -/
module

public import proofs.«01_k».proof.Proof.Gen.KernelIdeal.Value
public import proofs.«01_k».proof.Proof.Spec
public import Idealize.ShloMosaic.Lib.Pipeline.ValueKit
public import Idealize.ShloMosaic.Lib.Claim
public import Idealize.ShloMosaic.Lib.Pointwise

@[expose] public section

set_option maxRecDepth 16384

noncomputable section

namespace Cert.Diff

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The grid point's batch entry. -/
def bat : Fin 4 := ⟨(grid0.coords t 0).val, (grid0.coords t 0).isLt⟩
/-- The grid point's head. -/
def head : Fin 4 := ⟨(grid0.coords t 1).val, (grid0.coords t 1).isLt⟩
/-- The grid point's tile of 2048 queries. -/
def tile : Fin 4 := ⟨(grid0.coords t 2).val, (grid0.coords t 2).isLt⟩

/-- Where the windows' blocks lie. -/
theorem index_facts : ∀ t : Fin cfg0.N,
    win0_0.index t = ![(bat t).val * 4 + (tile t).val, (head t).val] ∧ win0_1.index t = ![(bat t).val, (head t).val]
    ∧ win0_2.index t = ![(bat t).val, (head t).val, 0, 0, 0] ∧ win0_8.index t = ![(bat t).val * 4 + (tile t).val, (head t).val] :=
  (by decide +kernel : ∀ t : Fin grid0.N, _)

/-- The windows of the small arrays stay at their only block. -/
theorem index_small : ∀ t : Fin cfg0.N, win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The flattened queries the launch reads. -/
theorem entry_q (b : Fin 4) (s : Fin 8192) (k : Fin 512) :
    V m c main_v0 (ix2 ⟨b.val * 8192 + s.val, by omega⟩ k) = m ((c : Thread nD τ).loc main_arg0) (ix3 b s k) := by
  entry_read
  pointwise

/-- The flattened keys the launch reads. -/
theorem entry_k (b : Fin 4) (s : Fin 8192) (k : Fin 512) :
    V m c main_v2 (ix2 ⟨b.val * 8192 + s.val, by omega⟩ k) = m ((c : Thread nD τ).loc main_arg1) (ix3 b s k) := by
  entry_read
  pointwise
  blk_ext

/-- The values the launch reads, by batch entry, head, tile, channel and position. -/
theorem entry_v (b h : Fin 4) (n : Fin 8) (x : Fin 128) (i : Fin 1024) :
    V m c main_v11 (ix5 b h n x i) = m ((c : Thread nD τ).loc main_arg2) (ix3 b ⟨n.val * 1024 + i.val, by omega⟩ (chan h x)) := by
  entry_read
  pointwise
  blk_ext [chan]

/-- The query block. -/
theorem read_q (i : Fin 2048) (x : Fin 128) : iblk m c 0 t (ix2 i x)
    = m ((c : Thread nD τ).loc main_arg0) (ix3 (bat t) ⟨(tile t).val * 2048 + i.val, by omega⟩ (chan (head t) x)) := by
  have e := (index_facts t).1
  have h : ((cfg0.win 0).blk t).view.emb (ix2 i x)
      = ix2 (⟨(bat t).val * 8192 + ((tile t).val * 2048 + i.val), by omega⟩ : Fin 32768) (chan (head t) x) := by
    blk_ext [e, chan]
  exact (congrArg (V m c main_v0) h).trans (entry_q m c (bat t) ⟨(tile t).val * 2048 + i.val, by omega⟩ (chan (head t) x))

/-- The key block: all the batch entry's keys. -/
theorem read_k (i : Fin 8192) (x : Fin 128) : iblk m c 1 t (ix2 i x)
    = m ((c : Thread nD τ).loc main_arg1) (ix3 (bat t) i (chan (head t) x)) := by
  have e := (index_facts t).2.1
  have h : ((cfg0.win 1).blk t).view.emb (ix2 i x)
      = ix2 (⟨(bat t).val * 8192 + i.val, by omega⟩ : Fin 32768) (chan (head t) x) := by
    blk_ext [e, chan]
  exact (congrArg (V m c main_v2) h).trans (entry_k m c (bat t) i (chan (head t) x))

/-- The value block: all the batch entry's values, in eight tiles. -/
theorem read_v (n : Fin 8) (x : Fin 128) (i : Fin 1024) : iblk m c 2 t (ix5 0 0 n x i)
    = m ((c : Thread nD τ).loc main_arg2) (ix3 (bat t) ⟨n.val * 1024 + i.val, by omega⟩ (chan (head t) x)) := by
  have e := (index_facts t).2.2.1
  have h : ((cfg0.win 2).blk t).view.emb (ix5 0 0 n x i) = ix5 (bat t) (head t) n x i := by
    blk_ext [e, chan]
  exact (congrArg (V m c main_v11) h).trans (entry_v m c (bat t) (head t) n x i)

/-- The first lambda vector. -/
theorem read_l1 (x : Fin 64) : iblk m c 3 t (ix2 0 x) = m ((c : Thread nD τ).loc main_arg3) (ix1 x) := by
  have e := (index_small t).1
  have h : ((cfg0.win 3).blk t).view.emb (ix2 0 x) = ix2 0 x := by blk_ext [e]
  refine (congrArg (V m c main_v5) h).trans ?_
  entry_read; pointwise

/-- The second lambda vector. -/
theorem read_l2 (x : Fin 64) : iblk m c 4 t (ix2 0 x) = m ((c : Thread nD τ).loc main_arg4) (ix1 x) := by
  have e := (index_small t).2.1
  have h : ((cfg0.win 4).blk t).view.emb (ix2 0 x) = ix2 0 x := by blk_ext [e]
  refine (congrArg (V m c main_v6) h).trans ?_
  entry_read; pointwise

/-- The third lambda vector. -/
theorem read_l3 (x : Fin 64) : iblk m c 5 t (ix2 0 x) = m ((c : Thread nD τ).loc main_arg5) (ix1 x) := by
  have e := (index_small t).2.2.1
  have h : ((cfg0.win 5).blk t).view.emb (ix2 0 x) = ix2 0 x := by blk_ext [e]
  refine (congrArg (V m c main_v7) h).trans ?_
  entry_read; pointwise

/-- The fourth lambda vector. -/
theorem read_l4 (x : Fin 64) : iblk m c 6 t (ix2 0 x) = m ((c : Thread nD τ).loc main_arg6) (ix1 x) := by
  have e := (index_small t).2.2.2.1
  have h : ((cfg0.win 6).blk t).view.emb (ix2 0 x) = ix2 0 x := by blk_ext [e]
  refine (congrArg (V m c main_v8) h).trans ?_
  entry_read; pointwise

/-- The norm's weights. -/
theorem read_w (x : Fin 128) : iblk m c 7 t (ix2 0 x) = m ((c : Thread nD τ).loc main_arg7) (ix1 x) := by
  have e := (index_small t).2.2.2.2
  have h : ((cfg0.win 7).blk t).view.emb (ix2 0 x) = ix2 0 x := by blk_ext [e]
  refine (congrArg (V m c main_v9) h).trans ?_
  entry_read; pointwise

/-- Where an output block's element lies in the result. -/
theorem emb_out (i : Fin 2048) (x : Fin 128) : ((cfg0.win 8).blk t).view.emb (ix2 i x)
    = ix2 (⟨(bat t).val * 8192 + ((tile t).val * 2048 + i.val), by omega⟩ : Fin 32768) (chan (head t) x) := by
  have e := (index_facts t).2.2.2
  blk_ext [e, chan]

end Cert.Diff
end
-- ==== Proof.Array.lean ====
/- The kernel's result array over real data. -/
module

public import proofs.«01_k».proof.Proof.Tile
public import proofs.«01_k».proof.Proof.Window

@[expose] public section

set_option maxRecDepth 16384

noncomputable section

namespace Cert.Diff

open Cert.KernelIdeal Cert.KernelIdeal.Gen Idealize.ShloMosaic Idealize.ShloMosaic.TcCoe Idealize.SL.Sem
open scoped BigOperators

/-- A block of 512 query rows at an index. -/
theorem qRows_apply (x0 : Vec Ideal S2048x128 .f32) (r : Fin 4) (j : Fin 512) (x : Fin 128) :
    qRows x0 r (ix2 j x) = x0 (ix2 ⟨512 * r.val + j.val, by omega⟩ x) := by
  pointwise [qRows]

variable (m : (ℓ : Loc nD τ sig) → Buf (Elt Ideal) ℓ) (c : Dev nD) (Q K V : Arr) (Λ : ℝ)

/-- What a grid point stores. -/
theorem block_apply (t : Fin cfg0.N)
    (hq : ∀ b s x, m ((c : Thread nD τ).loc main_arg0) (ix3 b s x) = (Q b s x : EReal))
    (hk : ∀ b s x, m ((c : Thread nD τ).loc main_arg1) (ix3 b s x) = (K b s x : EReal))
    (hv : ∀ b s x, m ((c : Thread nD τ).loc main_arg2) (ix3 b s x) = (V b s x : EReal))
    (hl : lam (fun x => m ((c : Thread nD τ).loc main_arg3) (ix1 x)) (fun x => m ((c : Thread nD τ).loc main_arg4) (ix1 x))
      (fun x => m ((c : Thread nD τ).loc main_arg5) (ix1 x)) (fun x => m ((c : Thread nD τ).loc main_arg6) (ix1 x)) = (Λ : EReal))
    (i : Fin 2048) (d : Fin 128) :
    outAll (iblk m c 0 t) (iblk m c 1 t) (iblk m c 2 t) (iblk m c 3 t) (iblk m c 4 t) (iblk m c 5 t) (iblk m c 6 t) (iblk m c 7 t) (ix2 i d)
      = res Q K V Λ (fun x => m ((c : Thread nD τ).loc main_arg7) (ix1 x)) (bat t) (head t) ⟨(tile t).val * 2048 + i.val, by omega⟩ d := by
  refine (outRows_apply _ _ _ _ _ _ _ _ ⟨i.val % 512, Nat.mod_lt _ (by decide)⟩ d
    (fun x => Q (bat t) ⟨(tile t).val * 2048 + i.val, by omega⟩ (chan (head t) x)) (fun s x => K (bat t) s (chan (head t) x))
    (fun s x => V (bat t) s (chan (head t) x)) Λ ?_ ?_ ?_ ?_).trans ?_
  · intro x
    rw [qRows_apply, ← hq]
    refine Eq.trans (congrArg (fun y => iblk m c 0 t (ix2 y x)) (Fin.ext ?_)) (read_q m c t i x)
    show 512 * (i.val / 512) + i.val % 512 = i.val
    omega
  · intro s x
    exact (read_k m c t s x).trans (hk _ _ _)
  · intro n x j
    refine (read_v m c t n x j).trans ((hv _ _ _).trans ?_)
    refine congrArg (fun y => ((V (bat t) y (chan (head t) x) : ℝ) : EReal)) (Fin.ext ?_)
    show n.val * 1024 + j.val = (1024 * n.val + j.val) % 8192
    omega
  · simp only [read_l1, read_l2, read_l3, read_l4]
    exact hl
  · unfold res
    simp only [read_w]
    rfl

/-- The result array's function. -/
def resArr (w : Fin 128 → EReal) : S32768x512.Idx → EReal := fun y =>
  res Q K V Λ w ⟨(y 0).val / 8192, Nat.div_lt_of_lt_mul (y 0).isLt⟩ ⟨(y 1).val / 128, Nat.div_lt_of_lt_mul (y 1).isLt⟩
    ⟨(y 0).val % 8192, Nat.mod_lt _ (by decide)⟩ ⟨(y 1).val % 128, Nat.mod_lt _ (by decide)⟩

/-- The result array's function at a row and channel given by their parts. -/
theorem resArr_apply (w : Fin 128 → EReal) (b h : Fin 4) (s : Fin 8192) (d : Fin 128) :
    resArr Q K V Λ w (ix2 (⟨b.val * 8192 + s.val, by omega⟩ : Fin 32768) (chan h d)) = res Q K V Λ w b h s d := by
  have h1 : (⟨(b.val * 8192 + s.val) / 8192, by omega⟩ : Fin 4) = b := Fin.ext (by show _ / 8192 = b.val; omega)
  have h2 : (⟨(b.val * 8192 + s.val) % 8192, by omega⟩ : Fin 8192) = s := Fin.ext (by show _ % 8192 = s.val; omega)
  have h3 : (⟨(h.val * 128 + d.val) / 128, by omega⟩ : Fin 4) = h := Fin.ext (by show _ / 128 = h.val; omega)
  have h4 : (⟨(h.val * 128 + d.val) % 128, by omega⟩ : Fin 128) = d := Fin.ext (by show _ % 128 = d.val; omega)
  show res Q K V Λ w ⟨(b.val * 8192 + s.val) / 8192, _⟩ ⟨(h.val * 128 + d.val) / 128, _⟩ ⟨(b.val * 8192 + s.val) % 8192, _⟩ ⟨(h.val * 128 + d.val) % 128, _⟩ = _
  rw [h1, h2, h3, h4]

/-- THE KERNEL'S RESULT ARRAY. -/
theorem array_eq
    (hq : ∀ b s x, m ((c : Thread nD τ).loc main_arg0) (ix3 b s x) = (Q b s x : EReal))
    (hk : ∀ b s x, m ((c : Thread nD τ).loc main_arg1) (ix3 b s x) = (K b s x : EReal))
    (hv : ∀ b s x, m ((c : Thread nD τ).loc main_arg2) (ix3 b s x) = (V b s x : EReal))
    (hl : lam (fun x => m ((c : Thread nD τ).loc main_arg3) (ix1 x)) (fun x => m ((c : Thread nD τ).loc main_arg4) (ix1 x))
      (fun x => m ((c : Thread nD τ).loc main_arg5) (ix1 x)) (fun x => m ((c : Thread nD τ).loc main_arg6) (ix1 x)) = (Λ : EReal)) :
    (dats m 0 c).arrAt 8 cfg0.N = resArr Q K V Λ (fun x => m ((c : Thread nD τ).loc main_arg7) (ix1 x)) := by
  refine (dats m 0 c).arrAt_eq_of_covers 8 _ (by decide +kernel) fun t hf y => ?_
  refine (congrFun (Cert.KernelIdeal.Value.flushed8_A m c t) y).trans ?_
  rw [out_eq]
  obtain ⟨i, d, rfl⟩ : ∃ (i : Fin 2048) (d : Fin 128), y = ix2 i d := ⟨y 0, y 1, eq_ix2 (n0 := 2048) (n1 := 128) y⟩
  rw [emb_out]
  exact (block_apply m c Q K V Λ t hq hk hv hl i d).trans
    (resArr_apply Q K V Λ _ (bat t) (head t) ⟨(tile t).val * 2048 + i.val, by omega⟩ d).symm

end Cert.Diff
end
-- ==== Proof.Reference.lean ====
/- The reference read at an index over real data. -/
module

public import proofs.«01_k».proof.Proof.Gen.ReferenceIdeal.Read
public import proofs.«01_k».proof.Proof.Spec
public import proofs.«01_k».proof.Proof.Consts
public import Idealize.ShloMosaic.Lib.Pointwise

@[expose] public section

set_option maxRecDepth 16384

noncomputable section

namespace Cert.Diff.Ref

open Cert.ReferenceIdeal Cert.ReferenceIdeal.Gen Cert.ReferenceIdeal.Read Idealize.ShloMosaic Idealize.SL.Sem
open scoped BigOperators

/-- A host maximum over one axis of real entries, from minus infinity, is real. -/
theorem reduce_max_real {s t u : Shape} {a : Fin s.rank} (x : FVec Ideal s .f32) (hx : ∀ i, ∃ r : ℝ, x i = (r : EReal))
    (init : FVec Ideal u .f32) (hi : ∀ i, init i = (⊥ : EReal)) (h' : s.ReducesTo [a] t) (h : s.Reduces [a] t) (hu : 0 < u.numel)
    (j : t.Idx) (hne : 0 < s.size a) : ∃ M : ℝ, Host.reduce FloatOps.maximumf x init h' hu j = (M : EReal) := by
  choose r hr using hx
  haveI : Nonempty (Fin (s.size a)) := ⟨⟨0, hne⟩⟩
  obtain ⟨M, hM⟩ := fold_max_real fun k : Fin (s.size a) => r (h.lift j k)
  refine ⟨M, ?_⟩
  rw [Host.reduce_eq_fold_single FloatOps.maximumf x init h' h hu j, hi]
  refine Eq.trans ?_ hM
  exact congrArg (fun f => Finset.fold max (⊥ : EReal) f Finset.univ) (funext fun k => hr _)

variable (q k v : (⟨S4x8192x512, .f32⟩ : BufTy).Contents (Elt Ideal)) (x3 x4 x5 x6 : (⟨S64, .f32⟩ : BufTy).Contents (Elt Ideal))
  (x7 : (⟨S128, .f32⟩ : BufTy).Contents (Elt Ideal)) (Q K V : Arr)

/-- The logits. -/
theorem logits (hq : ∀ b s x, q (ix3 b s x) = (Q b s x : EReal)) (hk : ∀ b s x, k (ix3 b s x) = (K b s x : EReal))
    (b h : Fin 4) (μ : Fin 2) (s t : Fin 8192) : val_main_v13 q k (ix5 b h μ s t)
      = ((logit (fun x => Q b s (chan h x)) (fun x => K b t (chan h x)) μ : ℝ) : EReal) := by
  have e : val_main_v13 q k (ix5 b h μ s t) = (∑ e : Fin 64, q (ix3 b s (chan h (lane μ e))) * k (ix3 b t (chan h (lane μ e))))
      * Ideal.ofBits FTy.f32 0x3E000000#32 := by
    have hc : ∀ e : Fin 64, chan h (lane μ e) = ⟨h.val * 128 + μ.val * 64 + e.val, by omega⟩ := fun e =>
      Fin.ext (by show h.val * 128 + (64 * μ.val + e.val) = h.val * 128 + μ.val * 64 + e.val; omega)
    simp only [hc]
    pointwise [val_main_v13, val_main_v12, val_main_cst_2, val_main_v11, val_main_v0, val_main_v1]
  rw [e, Consts.ofBits_eighth]
  simp only [hq, hk, ← EReal.coe_mul, ← coe_sum]
  rfl

/-- The rows' maxima are real. -/
theorem maxima (hq : ∀ b s x, q (ix3 b s x) = (Q b s x : EReal)) (hk : ∀ b s x, k (ix3 b s x) = (K b s x : EReal))
    (i : S4x4x2x8192.Idx) : ∃ M : ℝ, val_main_v16 q k i = (M : EReal) := by
  have hx : ∀ i : S4x4x2x8192x8192.Idx, ∃ r : ℝ, val_main_v13 q k i = (r : EReal) := fun i =>
    ⟨_, (congrArg (val_main_v13 q k) (eq_ix5 i)).trans (logits q k Q K hq hk (i 0) (i 1) (i 2) (i 3) (i 4))⟩
  obtain ⟨M, hM⟩ := reduce_max_real (a := 4) (val_main_v13 q k) hx (val_main_cst_3 (F := Ideal)) (fun _ => Consts.ofBits_neg_inf)
    reducesTo_S4x4x2x8192x8192_S4x4x2x8192_d4 (by decide) h_S_ i (by decide)
  refine ⟨M, ?_⟩
  rw [val_main_v16_apply]
  show max (val_main_v15 i) (val_main_v14 q k i) = _
  rw [val_main_v15_apply, val_main_cst_4_apply]
  unfold val_main_v14
  rw [hM]
  show max (Ideal.ofBits FTy.f32 0xFF800000#32) (M : EReal) = _
  rw [Consts.ofBits_neg_inf]
  exact max_eq_right bot_le

/-- The softmax weights. -/
theorem weights (hq : ∀ b s x, q (ix3 b s x) = (Q b s x : EReal)) (hk : ∀ b s x, k (ix3 b s x) = (K b s x : EReal))
    (b h : Fin 4) (μ : Fin 2) (s t : Fin 8192) : val_main_v24 q k (ix5 b h μ s t)
      = ((Real.exp (logit (fun x => Q b s (chan h x)) (fun x => K b t (chan h x)) μ)
          / ∑ i, Real.exp (logit (fun x => Q b s (chan h x)) (fun x => K b i (chan h x)) μ) : ℝ) : EReal) := by
  have e : val_main_v24 q k (ix5 b h μ s t) = Ideal.div (Ideal.exp (val_main_v13 q k (ix5 b h μ s t) - val_main_v16 q k (ix4 b h μ s)))
      (∑ x : Fin 8192, Ideal.exp (val_main_v13 q k (ix5 b h μ s x) - val_main_v16 q k (ix4 b h μ s))) := by
    pointwise [val_main_v24, val_main_v23, val_main_v22, val_main_v21, val_main_v20, val_main_cst_5, val_main_v19, val_main_v18, val_main_v17]
  obtain ⟨M, hM⟩ := maxima q k Q K hq hk (ix4 b h μ s)
  rw [e, hM]
  simp only [logits q k Q K hq hk]
  exact softmax_weight (fun t => logit (fun x => Q b s (chan h x)) (fun x => K b t (chan h x)) μ) M t

/-- The first map's weights, sliced out. -/
theorem first_map (b h : Fin 4) (s t : Fin 8192) : val_main_v26 q k (ix4 b h s t) = val_main_v24 q k (ix5 b h 0 s t) := by
  rw [val_main_v26_apply, val_main_v25_apply]
  refine congrArg (val_main_v24 q k) (funext fun a => ?_)
  have h1 := b.isLt; have h2 := h.isLt; have h3 := s.isLt; have h4 := t.isLt
  match a with
  | ⟨0, _⟩ => apply Fin.ext; show (((b.val * 4 + h.val) * 8192 + s.val) * 8192 + t.val) / 268435456 = b.val; omega
  | ⟨1, _⟩ => apply Fin.ext; show (((b.val * 4 + h.val) * 8192 + s.val) * 8192 + t.val) / 67108864 % 4 = h.val; omega
  | ⟨2, _⟩ => rfl
  | ⟨3, _⟩ => apply Fin.ext; show (((b.val * 4 + h.val) * 8192 + s.val) * 8192 + t.val) / 8192 % 8192 = s.val; omega
  | ⟨4, _⟩ => apply Fin.ext; show (((b.val * 4 + h.val) * 8192 + s.val) * 8192 + t.val) % 8192 = t.val; omega

/-- The second map's weights, sliced out. -/
theorem second_map (b h : Fin 4) (s t : Fin 8192) : val_main_v28 q k (ix4 b h s t) = val_main_v24 q k (ix5 b h 1 s t) := by
  rw [val_main_v28_apply, val_main_v27_apply]
  refine congrArg (val_main_v24 q k) (funext fun a => ?_)
  have h1 := b.isLt; have h2 := h.isLt; have h3 := s.isLt; have h4 := t.isLt
  match a with
  | ⟨0, _⟩ => apply Fin.ext; show (((b.val * 4 + h.val) * 8192 + s.val) * 8192 + t.val) / 268435456 = b.val; omega
  | ⟨1, _⟩ => apply Fin.ext; show (((b.val * 4 + h.val) * 8192 + s.val) * 8192 + t.val) / 67108864 % 4 = h.val; omega
  | ⟨2, _⟩ => rfl
  | ⟨3, _⟩ => apply Fin.ext; show (((b.val * 4 + h.val) * 8192 + s.val) * 8192 + t.val) / 8192 % 8192 = s.val; omega
  | ⟨4, _⟩ => apply Fin.ext; show (((b.val * 4 + h.val) * 8192 + s.val) * 8192 + t.val) % 8192 = t.val; omega

/-- Lambda. -/
theorem lambda_eq (i : S_.Idx) : val_main_v10 x3 x4 x5 x6 i
    = lam (fun x => x3 (ix1 x)) (fun x => x4 (ix1 x)) (fun x => x5 (ix1 x)) (fun x => x6 (ix1 x)) := by
  rw [show i = ix0 from funext fun a => a.elim0]
  unfold lam
  pointwise [val_main_v10, val_main_v9, val_main_v8, val_main_v7, val_main_v6, val_main_v5, val_main_v4, val_main_v3, val_main_cst, val_main_cst_0, val_main_cst_1]

/-- The values weighted by the difference of the maps are the difference of the maps' averages. -/
theorem attended (hq : ∀ b s x, q (ix3 b s x) = (Q b s x : EReal)) (hk : ∀ b s x, k (ix3 b s x) = (K b s x : EReal))
    (hv : ∀ b s x, v (ix3 b s x) = (V b s x : EReal)) (Λ : ℝ)
    (hl : lam (fun x => x3 (ix1 x)) (fun x => x4 (ix1 x)) (fun x => x5 (ix1 x)) (fun x => x6 (ix1 x)) = (Λ : EReal))
    (b h : Fin 4) (s : Fin 8192) (d : Fin 128) :
    val_main_v33 q k v x3 x4 x5 x6 (ix4 b s h d) = ((dif Q K V Λ b h s d : ℝ) : EReal) := by
  have e : val_main_v33 q k v x3 x4 x5 x6 (ix4 b s h d)
      = ∑ t : Fin 8192, v (ix3 b t (chan h d)) * val_main_v31 q k x3 x4 x5 x6 (ix4 b h s t) := by
    unfold chan
    pointwise [val_main_v33, val_main_v32, val_main_v2]
  have e1 : ∀ t : Fin 8192, val_main_v31 q k x3 x4 x5 x6 (ix4 b h s t)
      = val_main_v24 q k (ix5 b h 0 s t) - (Λ : EReal) * val_main_v24 q k (ix5 b h 1 s t) := by
    intro t
    rw [val_main_v31_apply, val_main_v30_apply, val_main_v29_apply, first_map, second_map, lambda_eq, hl]
    rfl
  rw [e]
  simp only [e1, weights q k Q K hq hk, hv, ← EReal.coe_mul, ← EReal.coe_sub, ← coe_sum]
  congr 1
  unfold dif att
  rw [wavg_eq_sum, wavg_eq_sum, Finset.mul_sum, ← Finset.sum_sub_distrib]
  refine Finset.sum_congr rfl fun t _ => ?_
  ring

/-- The reference's result. -/
theorem result (hq : ∀ b s x, q (ix3 b s x) = (Q b s x : EReal)) (hk : ∀ b s x, k (ix3 b s x) = (K b s x : EReal))
    (hv : ∀ b s x, v (ix3 b s x) = (V b s x : EReal)) (Λ : ℝ)
    (hl : lam (fun x => x3 (ix1 x)) (fun x => x4 (ix1 x)) (fun x => x5 (ix1 x)) (fun x => x6 (ix1 x)) = (Λ : EReal))
    (b h : Fin 4) (s : Fin 8192) (d : Fin 128) :
    val_main_v50 q k v x3 x4 x5 x6 x7 (ix2 (⟨b.val * 8192 + s.val, by omega⟩ : Fin 32768) (chan h d))
      = res Q K V Λ (fun x => x7 (ix1 x)) b h s d := by
  unfold res normed
  simp only [← attended q k v x3 x4 x5 x6 Q K V hq hk hv Λ hl]
  unfold chan
  pointwise [val_main_v50, val_main_v49, val_main_v48, val_main_v47, val_main_cst_9, val_main_v46, val_main_v45, val_main_v44,
    val_main_v43, val_main_v42, val_main_v41, val_main_v40, val_main_v39, val_main_cst_8, val_main_v38, val_main_v37,
    val_main_cst_7, val_main_v36, val_main_v35, val_main_cst_6, val_main_v34]

end Cert.Diff.Ref
end
-- ==== Proof.Finite.lean ====
/- The precondition, read: an array whose absolute values are all below infinity holds reals. -/
module

public import proofs.«01_k».proof.Defs
public import Idealize.ShloMosaic.Lib.Pointwise
public import Idealize.ShloMosaic.PureOps.Ideal

@[expose] public section

noncomputable section

namespace Cert.Diff

open Idealize.ShloMosaic Idealize.SL.Sem

/-- The precondition's shapes spread a constant over an array. -/
theorem preFacts : Cert.Pre_finite.Facts := ⟨by decide, by decide⟩

/-- The pattern of infinity. -/
theorem ofBits_inf : Ideal.ofBits .f32 0x7F800000#32 = (⊤ : EReal) := by
  simp [Ideal.ofBits, Ideal.ieee]

/-- An extended real whose absolute value compares below infinity is a real. -/
theorem real_of_lt (x : EReal) (h : Ideal.cmp .olt (max x (-x)) ⊤ = 1#1) : ∃ r : ℝ, x = (r : EReal) := by
  have hlt : max x (-x) < ⊤ := by
    by_contra hn
    simp [Ideal.cmp, hn] at h
  induction x with
  | bot => simp at hlt
  | top => simp at hlt
  | coe r => exact ⟨r, rfl⟩

/-- An array that passes the precondition's test holds reals. -/
theorem real_of_pre {s : Shape} (x : FVec Ideal s .f32) (hb : Cert.Pre_finite.S_.BroadcastsInDim s (![] : Fin 0 → Fin s.rank))
    (h : cmpf .olt (Host.absf x) (broadcastInDim s ![] hb (constant (F := Ideal) Cert.Pre_finite.S_ .f32 0x7F800000#32)) = fun _ => 1#1)
    (i : s.Idx) : ∃ r : ℝ, x i = (r : EReal) := by
  refine real_of_lt (x i) ?_
  rw [← ofBits_inf]
  exact congrFun h i

variable (m : (ℓ : Loc Cert.KernelIdeal.nD Cert.KernelIdeal.τ Cert.KernelIdeal.sig) → Buf (Elt Ideal) ℓ)

/-- The queries, keys, values and lambda vectors of a memory that satisfies the precondition are reals. -/
theorem reals (h : Cert.Pre_KernelIdeal_finite (hPre_finite := preFacts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  obtain ⟨h0, h1, h2, h3, h4, h5, h6⟩ := h c
  exact ⟨real_of_pre _ preFacts.1 h0, real_of_pre _ preFacts.1 h1, real_of_pre _ preFacts.1 h2, real_of_pre _ preFacts.2 h3,
    real_of_pre _ preFacts.2 h4, real_of_pre _ preFacts.2 h5, real_of_pre _ preFacts.2 h6⟩

end Cert.Diff
end
-- ==== Proof.Claims.lean ====
/- The claims, one theorem each. -/
module

public import proofs.«01_k».proof.Proof.Array
public import proofs.«01_k».proof.Proof.Reference
public import proofs.«01_k».proof.Proof.Finite
public import proofs.«01_k».proof.Proof.Gen.Kernel.Frame
public import Idealize.ShloMosaic.Lib.Quiescent

@[expose] public section

noncomputable section

namespace Cert.Diff

open Idealize.ShloMosaic Idealize.ShloMosaic.TcCoe Idealize.SL.Sem
open scoped BigOperators

/-- The weight of the second map is real when the four vectors are. -/
theorem lam_real (l1 l2 l3 l4 : Fin 64 → ℝ) : ∃ Λ : ℝ, lam (fun x => (l1 x : EReal)) (fun x => (l2 x : EReal))
    (fun x => (l3 x : EReal)) (fun x => (l4 x : EReal)) = (Λ : EReal) := by
  obtain ⟨r, hr⟩ := Consts.ofBits_lambda
  refine ⟨Real.exp (∑ x, l1 x * l2 x) - Real.exp (∑ x, l3 x * l4 x) + r, ?_⟩
  unfold lam
  simp only [← EReal.coe_mul, ← coe_sum, Ideal.exp_coe, EReal.coe_add, EReal.coe_sub]
  rw [hr]

/-- Every index of the result is a row of a sequence of the batch and a channel of a head. -/
theorem exists_row_chan (y : Cert.KernelIdeal.S32768x512.Idx) : ∃ (b : Fin 4) (s : Fin 8192) (h : Fin 4) (d : Fin 128),
    y = ix2 (⟨b.val * 8192 + s.val, by omega⟩ : Fin 32768) (chan h d) := by
  obtain ⟨i, j, rfl⟩ : ∃ (i : Fin 32768) (j : Fin 512), y = ix2 i j := ⟨y 0, y 1, eq_ix2 (n0 := 32768) (n1 := 512) y⟩
  refine ⟨⟨i.val / 8192, by omega⟩, ⟨i.val % 8192, by omega⟩, ⟨j.val / 128, by omega⟩, ⟨j.val % 128, by omega⟩, ?_⟩
  congr 1
  · exact Fin.ext (by show i.val = i.val / 8192 * 8192 + i.val % 8192; omega)
  · exact Fin.ext (by show j.val = j.val / 128 * 128 + j.val % 128; omega)

/-- On finite queries, keys, values and lambda vectors the kernel's result array is the reference's. -/
theorem array_reference (m : (ℓ : Loc Cert.KernelIdeal.nD Cert.KernelIdeal.τ Cert.KernelIdeal.sig) → Buf (Elt Ideal) ℓ)
    (hpre : Cert.Pre_KernelIdeal_finite (hPre_finite := preFacts) m) (c : Dev Cert.KernelIdeal.nD) :
    (Cert.KernelIdeal.Gen.dats m 0 c).arrAt 8 Cert.KernelIdeal.cfg0.N
      = Cert.ReferenceIdeal.Read.val_main_v50 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7)) := by
  obtain ⟨h0, h1, h2, h3, h4, h5, h6⟩ := reals m hpre c
  choose Q hQ using h0
  choose K hK using h1
  choose V hV using h2
  choose l1 hl1 using h3
  choose l2 hl2 using h4
  choose l3 hl3 using h5
  choose l4 hl4 using h6
  obtain ⟨Λ, hΛ⟩ := lam_real (fun x => l1 (ix1 x)) (fun x => l2 (ix1 x)) (fun x => l3 (ix1 x)) (fun x => l4 (ix1 x))
  simp only [← hl1, ← hl2, ← hl3, ← hl4] at hΛ
  rw [array_eq m c (fun b s x => Q (ix3 b s x)) (fun b s x => K (ix3 b s x)) (fun b s x => V (ix3 b s x)) Λ
    (fun b s x => hQ _) (fun b s x => hK _) (fun b s x => hV _) hΛ]
  funext y
  obtain ⟨b, s, h, d, rfl⟩ := exists_row_chan y
  rw [resArr_apply]
  exact (Ref.result _ _ _ _ _ _ _ _ (fun b s x => Q (ix3 b s x)) (fun b s x => K (ix3 b s x)) (fun b s x => V (ix3 b s x))
    (fun b s x => hQ _) (fun b s x => hK _) (fun b s x => hV _) Λ hΛ b h s d).symm

/-- The kernel terminates and leaves its arguments and semaphores as they were. -/
theorem frame_p : Cert.quiescent_Kernel (hKernel := Cert.Kernel.Gen.facts) := fun m ρ _ => Cert.Kernel.Gen.frame m ρ

/-- The ideal kernel terminates and leaves its arguments and semaphores as they were. -/
theorem frame_pi : Cert.quiescent_KernelIdeal (hKernelIdeal := Cert.KernelIdeal.Gen.facts) := fun m ρ _ => Cert.KernelIdeal.Gen.frame m ρ

/-- So it does on finite arguments. -/
theorem frame_pi_finite : Cert.quiescent_KernelIdeal_pre_finite (hKernelIdeal := Cert.KernelIdeal.Gen.facts) (hPre_finite := preFacts) :=
  fun m ρ _ => Cert.KernelIdeal.Gen.frame m ρ

/-- The ideal reference terminates and leaves its arguments and semaphores as they were. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- So it does on finite arguments. -/
theorem frame_ri_finite : Cert.quiescent_ReferenceIdeal_pre_finite (hReferenceIdeal := Cert.ReferenceIdeal.Gen.facts) (hPre_finite := preFacts) :=
  fun m ρ _ => frame_ri m ρ trivial

/-- The ideal kernel is the kernel with its scale read as log₂ e / 8. -/
theorem preserves : Cert.preserves_Kernel_KernelIdeal :=
  IdealRules.named_const.statement Cert.KernelIdeal.κ "qk_scale" .f32 0x3E38AA3B#32 _ rfl

/-- On finite arguments kernel and reference compute the same array over the extended reals. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v50_eq, e0, e1, e2, e3, e4, e5, e6, e7]
  exact (array_reference m hpre c).symm

end Cert.Diff
end
-- ==== Proof.Mla.Chain.lean ====
/- The carried values of the key loop, as eight separate chains.  A block of 512 queries and one head of the pair make a
   chain; its state is the running maximum of each query's scores and the running weighted sums of the 128 value rows,
   of which the 64 that are not the head's are replaced by ones and so accumulate the weights themselves. -/
module

public import proofs.«01_k».proof.Proof.Gen.MlaKernelIdeal.Value
public import Idealize.ShloMosaic.Lib.Pipeline.Value

@[expose] public section

set_option maxRecDepth 16384

noncomputable section

namespace Cert.Mla

open Cert.MlaKernelIdeal Cert.MlaKernelIdeal.Gen Idealize.ShloMosaic Idealize.ShloMosaic.Tactic Idealize.ShloMosaic.TcCoe Idealize.SL.Sem

variable {F : FTy → Type} [FloatOps F] [Named F]

/-- One chain's state: the running maxima and the running weighted sums. -/
abbrev St (F : FTy → Type) := FVec F S1x512 .f32 × FVec F S128x512 .f32

/-- The value rows of head `κ` of the pair, with ones in place of the other head's. -/
def rows (κ : Fin 2) (vt : Vec F S1x1x1x128x1024 .bf16) : FVec F S128x1024 .bf16 := ![k0_pay7 vt, k0_pay8 vt] κ

/-- The chain's state after one more tile of 1024 keys and values. -/
def step (κ : Fin 2) (q : FVec F S512x128 .bf16) (kt : Vec F S1024x128 .bf16) (vt : Vec F S1x1x1x128x1024 .bf16) (s : St F) : St F :=
  (k0_pay17 s.1 (k0_pay9 q kt), k0_pay18 s.1 s.2 (rows κ vt) (k0_pay9 q kt))

/-- The chain's state before tile `n`. -/
def chain (κ : Fin 2) (q : FVec F S512x128 .bf16) (kt : ℕ → Vec F S1024x128 .bf16) (vt : ℕ → Vec F S1x1x1x128x1024 .bf16) : ℕ → St F
  | 0 => (k0_pay42, k0_pay43)
  | n + 1 => step κ q (kt n) (vt n) (chain κ q kt vt n)

/-- Eight chains' states laid out as the loop carries them. -/
abbrev pack (c : Fin 8 → St F) : FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32 × FVec F S1x512 .f32 × FVec F S128x512 .f32 :=
  ((c 0).1, (c 0).2, (c 1).1, (c 1).2, (c 2).1, (c 2).2, (c 3).1, (c 3).2,
   (c 4).1, (c 4).2, (c 5).1, (c 5).2, (c 6).1, (c 6).2, (c 7).1, (c 7).2)

/-- The head of the pair that each of the eight chains serves. -/
abbrev side : Fin 8 → Fin 2 := ![0, 1, 0, 1, 0, 1, 0, 1]

/-- The key tile that trip `k` loads for head `κ` of the pair from a block of 8192 keys. -/
def keyTileAt (κ : Fin 2) (x1 : Vec F S8192x256 .bf16) (k : Fin k0_t1_loop.trips) : Vec F S1024x128 .bf16 :=
  ![View.ld x1 (Rect.unit (s := S8192x256) (k0_off2 k) S1024x128.size (k0_off2_inb k)),
    View.ld x1 (Rect.unit (s := S8192x256) (k0_off3 k) S1024x128.size (k0_off3_inb k))] κ

/-- The value tile that trip `k` loads from a block of 8 tiles. -/
def valTileAt (x2 : Vec F S1x1x8x128x1024 .bf16) (k : Fin k0_t1_loop.trips) : Vec F S1x1x1x128x1024 .bf16 :=
  View.ld x2 (Rect.unit (s := S1x1x8x128x1024) (k0_off1 k) S1x1x1x128x1024.size (k0_off1_inb k))

/-- Trip number `n`, modulo the eight trips. -/
def trip (n : ℕ) : Fin k0_t1_loop.trips := ⟨n % 8, Nat.mod_lt _ (by decide)⟩

/-- Key tile number `n` of head `κ` of the pair. -/
def keyTile (κ : Fin 2) (x1 : Vec F S8192x256 .bf16) (n : ℕ) : Vec F S1024x128 .bf16 := keyTileAt κ x1 (trip n)

/-- Value tile number `n`. -/
def valTile (x2 : Vec F S1x1x8x128x1024 .bf16) (n : ℕ) : Vec F S1x1x1x128x1024 .bf16 := valTileAt x2 (trip n)

/-- A trip's own number names it. -/
theorem trip_val (k : Fin k0_t1_loop.trips) : trip k.val = k := Fin.ext (Nat.mod_eq_of_lt k.isLt)

section Loop

variable (𝒱 : Variants) (c : Dev nD) (bd : Option 𝒱.V) (i : grid0.Coords) (arg3 : Memref sig .tc .vmem S2048x256 .f32) (harg3 : arg3.IsWhole) (arg4 : Memref sig .tc .vmem S8192x256 .bf16) (harg4 : arg4.IsWhole) (arg5 : Memref sig .tc .vmem S1x1x8x128x1024 .bf16) (harg5 : arg5.IsWhole) (arg6 : Memref sig .tc .vmem S2048x128 .bf16) (harg6 : arg6.IsWhole)
  (v4 v9 v14 v19 v24 v29 v34 : FVec F S512x128 .bf16) (v35 : Vec F S512x128 .f32) (X_arg4 : BufTy.Contents (Elt F) arg4.view.ty) (X_arg5 : BufTy.Contents (Elt F) arg5.view.ty)

/-- One trip of the loop moves each of the eight chains by one tile. -/
theorem trip_eq (k : Fin k0_t1_loop.trips) (C : Fin 8 → St F) :
  tripR_k0_t1 𝒱 c bd i arg3 harg3 arg4 harg4 arg5 harg5 arg6 harg6 v4 v9 v14 v19 v24 v29 v34 v35 X_arg4 X_arg5 k (pack C)
   = pack fun r => step (side r) (![v4, v9, v14, v19, v24, v29, v34, k0_pay41 v35] r) (keyTile (side r) (arg4.view.read (Elt F) X_arg4) k.val) (valTile (arg5.view.read (Elt F) X_arg5) k.val) (C r) := by
  unfold keyTile valTile
  rw [trip_val]
  unfold tripR_k0_t1 trip_k0_t1
  dsimp only
  rfl

/-- Before trip `n` the loop carries the eight chains' states before tile `n`. -/
theorem st_eq (n : ℕ) (hn : n ≤ 8) :
  st_k0_t1 𝒱 c bd i arg3 harg3 arg4 harg4 arg5 harg5 arg6 harg6 v4 v9 v14 v19 v24 v29 v34 v35 X_arg4 X_arg5 (pack fun _ => (k0_pay42, k0_pay43)) n
   = pack fun r => chain (side r) (![v4, v9, v14, v19, v24, v29, v34, k0_pay41 v35] r) (keyTile (side r) (arg4.view.read (Elt F) X_arg4)) (valTile (arg5.view.read (Elt F) X_arg5)) n := by
  induction n with
  | zero => rfl
  | succ n ih =>
    rw [st_k0_t1_succ (k := ⟨n, hn⟩)]
    dsimp only
    rw [ih (by omega), trip_eq]
    rfl

end Loop

end Cert.Mla
end
-- ==== Proof.Mla.Block.lean ====
/- What one grid point's body stores: four blocks of 512 rows, each the two heads' averages side by side. -/
module

public import proofs.«01_k».proof.Proof.Mla.Chain
public import Idealize.ShloMosaic.Lib.Pointwise

@[expose] public section

set_option maxRecDepth 16384

noncomputable section

namespace Cert.Mla

open Cert.MlaKernelIdeal Cert.MlaKernelIdeal.Gen Idealize.ShloMosaic Idealize.ShloMosaic.Tactic Idealize.ShloMosaic.TcCoe Idealize.SL.Sem

variable {F : FTy → Type} [FloatOps F] [Named F]

/-- The rows `512 r`, …, `512 r + 511` of a block of 2048 query rows, in the lanes of head `κ` of the pair. -/
def qRows (x0 : Vec F S2048x256 .f32) (r : Fin 4) (κ : Fin 2) : Vec F S512x128 .f32 :=
  View.ld x0 (Rect.unit (s := S2048x256) ![512 * r.val, 128 * κ.val] S512x128.size (by
    intro a; fin_cases a <;> simp <;> omega))

/-- The weighted sums of head `κ` for its query block `xq`, after all eight tiles. -/
def avg (κ : Fin 2) (xq : Vec F S512x128 .f32) (x1 : Vec F S8192x256 .bf16) (x2 : Vec F S1x1x8x128x1024 .bf16) : FVec F S128x512 .f32 :=
  (chain κ (k0_pay34 xq) (keyTile κ x1) (valTile x2) 8).2

/-- The stored block for the query rows `xq` of the first head and `xr` of the second. -/
def outRows (xq xr : Vec F S512x128 .f32) (x1 : Vec F S8192x256 .bf16) (x2 : Vec F S1x1x8x128x1024 .bf16) : FVec F S512x128 .bf16 :=
  k0_pay1 (k0_pay63 (avg 0 xq x1 x2)) (k0_pay64 (avg 1 xr x1 x2))

/-- The whole stored block of 2048 rows. -/
def outAll (x0 : Vec F S2048x256 .f32) (x1 : Vec F S8192x256 .bf16) (x2 : Vec F S1x1x8x128x1024 .bf16) : Vec F S2048x128 .bf16 := fun y =>
  outRows (qRows x0 ⟨(y 0).val / 512, Nat.div_lt_of_lt_mul (y 0).isLt⟩ 0) (qRows x0 ⟨(y 0).val / 512, Nat.div_lt_of_lt_mul (y 0).isLt⟩ 1) x1 x2
    (ix2 ⟨(y 0).val % 512, Nat.mod_lt _ (by decide)⟩ (y 1))

/-- The whole block read at an index of its `r`-th block of 512 rows. -/
theorem outAll_emb (x0 : Vec F S2048x256 .f32) (x1 : Vec F S8192x256 .bf16) (x2 : Vec F S1x1x8x128x1024 .bf16)
    (r : Fin 4) (off : Fin 2 → ℕ) (hoff : off = ![512 * r.val, 0])
    (inb : ∀ a, off a + S512x128.size a ≤ S2048x128.size a) (x : S512x128.Idx) :
    outAll x0 x1 x2 ((Rect.unit (s := S2048x128) off S512x128.size inb).emb x) = outRows (qRows x0 r 0) (qRows x0 r 1) x1 x2 x := by
  subst hoff
  have e0 : (((Rect.unit (s := S2048x128) ![512 * r.val, 0] S512x128.size inb).emb x) 0).val = 512 * r.val + (x 0).val := by
    show 512 * r.val + 1 * (x 0).val = _; omega
  have e1 : (((Rect.unit (s := S2048x128) ![512 * r.val, 0] S512x128.size inb).emb x) 1) = x 1 := by
    apply Fin.ext; show 0 + 1 * (x 1).val = _; omega
  have hx : (x 0).val < 512 := (x 0).isLt
  unfold outAll
  have h0 : (⟨(((Rect.unit (s := S2048x128) ![512 * r.val, 0] S512x128.size inb).emb x) 0).val / 512, Nat.div_lt_of_lt_mul (((Rect.unit (s := S2048x128) ![512 * r.val, 0] S512x128.size inb).emb x) 0).isLt⟩ : Fin 4) = r := by
    apply Fin.ext; show _ / 512 = _; rw [e0]; omega
  have h1 : (ix2 ⟨(((Rect.unit (s := S2048x128) ![512 * r.val, 0] S512x128.size inb).emb x) 0).val % 512, Nat.mod_lt _ (by decide)⟩ (((Rect.unit (s := S2048x128) ![512 * r.val, 0] S512x128.size inb).emb x) 1) : S512x128.Idx) = x := by
    funext a
    match a with
    | ⟨0, _⟩ => apply Fin.ext; show _ % 512 = (x 0).val; rw [e0]; omega
    | ⟨1, _⟩ => exact e1
  rw [h0, h1]

section Out

variable (c : Dev nD) (i : grid0.Coords) (arg3 : Memref sig .tc .vmem S2048x256 .f32) (harg3 : arg3.IsWhole) (arg4 : Memref sig .tc .vmem S8192x256 .bf16) (harg4 : arg4.IsWhole) (arg5 : Memref sig .tc .vmem S1x1x8x128x1024 .bf16) (harg5 : arg5.IsWhole) (arg6 : Memref sig .tc .vmem S2048x128 .bf16) (harg6 : arg6.IsWhole)
variable (x0 : Vec F S2048x256 .f32) (x1 : Vec F S8192x256 .bf16) (x2 : Vec F S1x1x8x128x1024 .bf16)

/-- What a grid point's body leaves in its output block. -/
theorem out_eq : out0_A_3 c i arg3 harg3 arg4 harg4 arg5 harg5 arg6 harg6 x0 x1 x2 = outAll x0 x1 x2 := by
  have cov := cover0_A_3 c i arg3 harg3 arg4 harg4 arg5 harg5 arg6 harg6 x0 x1 x2
  unfold out0_A_3; rw [View.read_writes_eq_canon _ _ _ cov]
  funext y
  refine View.canon_apply_of_pieces _ _ ?_ y (cov y)
  clear cov
  unfold kernelRun0_A; dsimp only
  sl_unfold_words
  have htr : Scf.trips k0_t1_loop.lb k0_t1_loop.ub k0_t1_loop.st = 8 := by decide
  have hst := fun v4 v9 v14 v19 v24 v29 v34 v35 =>
    st_eq Variants.none c none i arg3 harg3 arg4 harg4 arg5 harg5 arg6 harg6 (F := F) v4 v9 v14 v19 v24 v29 v34 v35 (harg4.unread x1) (harg5.unread x2) 8 le_rfl
  have hinit : (pack fun _ => (k0_pay42 (F := F), k0_pay43)) = (k0_pay42, k0_pay43, k0_pay44, k0_pay45, k0_pay46, k0_pay47, k0_pay48, k0_pay49, k0_pay50, k0_pay51, k0_pay52, k0_pay53, k0_pay54, k0_pay55, k0_pay56, k0_pay57) := rfl
  rw [hinit] at hst
  simp only [htr, hst, View.readAt_eq_ld, harg3.read_unread, harg4.read_unread, harg5.read_unread]
  clear hst hinit
  refine List.forall_mem_cons.2 ⟨fun x => ?_, List.forall_mem_cons.2 ⟨fun x => ?_, List.forall_mem_cons.2 ⟨fun x => ?_, List.forall_mem_cons.2 ⟨fun x => ?_, fun _ h => absurd h (List.not_mem_nil)⟩⟩⟩⟩
  · refine Eq.trans ?_ (outAll_emb x0 x1 x2 3 _ rfl inb_S2048x128_S512x128_1536_0 x).symm; rfl
  · refine Eq.trans ?_ (outAll_emb x0 x1 x2 2 _ rfl inb_S2048x128_S512x128_1024_0 x).symm; rfl
  · refine Eq.trans ?_ (outAll_emb x0 x1 x2 1 _ rfl inb_S2048x128_S512x128_512_0 x).symm; rfl
  · refine Eq.trans ?_ (outAll_emb x0 x1 x2 0 _ rfl inb_S2048x128_S512x128_0_0 x).symm; rfl

end Out

end Cert.Mla
end
-- ==== Proof.Mla.Spec.lean ====
/- The latent attention's result over real queries, keys and values: one softmax average for each head, whose logits add
   a content part of 64 lanes and a rotated part of 32. -/
module

public import proofs.«01_k».proof.Proof.Flash

@[expose] public section

set_option maxRecDepth 16384

noncomputable section

namespace Cert.Mla

open Idealize.ShloMosaic Cert.Diff
open scoped BigOperators

/-- A head's 128 lanes: 64 of content, 32 rotated, 32 of zeros. -/
def row (n : Fin 64 → ℝ) (r : Fin 32 → ℝ) (x : Fin 128) : ℝ :=
  if h : x.val < 64 then n ⟨x.val, h⟩ else if h' : x.val < 96 then r ⟨x.val - 64, by omega⟩ else 0

/-- The logit of a query and a key, each given by its content and rotated parts. -/
def logit (qn : Fin 64 → ℝ) (qr : Fin 32 → ℝ) (kn : Fin 64 → ℝ) (kr : Fin 32 → ℝ) : ℝ :=
  (∑ e, qn e * kn e + ∑ e, qr e * kr e) / Real.sqrt 96

/-- The product of two heads' lanes is that of their contents plus that of their rotated parts. -/
theorem sum_row (qn : Fin 64 → ℝ) (qr : Fin 32 → ℝ) (kn : Fin 64 → ℝ) (kr : Fin 32 → ℝ) :
    ∑ x, row kn kr x * row qn qr x = ∑ e, qn e * kn e + ∑ e, qr e * kr e := by
  rw [show (∑ x, row kn kr x * row qn qr x) = ∑ x : Fin (64 + (32 + 32)), row kn kr x * row qn qr x from rfl,
    Fin.sum_univ_add, Fin.sum_univ_add]
  have e1 : ∀ (n : Fin 64 → ℝ) (r : Fin 32 → ℝ) (e : Fin 64), row n r (Fin.castAdd (32 + 32) e : Fin (64 + (32 + 32))) = n e := by
    intro n r e
    have h : (Fin.castAdd (32 + 32) e : Fin (64 + (32 + 32))).val < 64 := e.isLt
    exact dif_pos h
  have e2 : ∀ (n : Fin 64 → ℝ) (r : Fin 32 → ℝ) (e : Fin 32), row n r (Fin.natAdd 64 (Fin.castAdd 32 e) : Fin (64 + (32 + 32))) = r e := by
    intro n r e
    have hv : (Fin.natAdd 64 (Fin.castAdd 32 e) : Fin (64 + (32 + 32))).val = 64 + e.val := rfl
    unfold row
    rw [dif_neg (by rw [hv]; omega), dif_pos (by rw [hv]; omega)]
    exact congrArg r (Fin.ext (by show 64 + e.val - 64 = e.val; omega))
  have e3 : ∀ (n : Fin 64 → ℝ) (r : Fin 32 → ℝ) (e : Fin 32), row n r (Fin.natAdd 64 (Fin.natAdd 32 e) : Fin (64 + (32 + 32))) = 0 := by
    intro n r e
    have hv : (Fin.natAdd 64 (Fin.natAdd 32 e) : Fin (64 + (32 + 32))).val = 64 + (32 + e.val) := rfl
    unfold row
    rw [dif_neg (by rw [hv]; omega), dif_neg (by rw [hv]; omega)]
  simp only [e1, e2, e3, mul_zero, Finset.sum_const_zero, add_zero]
  simp only [mul_comm]

/-- Channel `d` of head `h` among the 512. -/
def chan (h : Fin 8) (d : Fin 64) : Fin 512 := ⟨h.val * 64 + d.val, by omega⟩

/-- Head `κ` of pair `p`. -/
def hd (p : Fin 4) (κ : Fin 2) : Fin 8 := ⟨2 * p.val + κ.val, by omega⟩

/-- Lane `d` of head `κ` among a pair's 128. -/
def lane (κ : Fin 2) (d : Fin 64) : Fin 128 := ⟨64 * κ.val + d.val, by omega⟩

/-- An array with an entry for each batch entry, position, head and lane. -/
abbrev Arr (n : ℕ) := Fin 4 → Fin 8192 → Fin 8 → Fin n → ℝ

/-- The result at batch entry `b`, position `s`, head `h`, channel `d`. -/
def res (Qn : Arr 64) (Qr : Arr 32) (Kn : Arr 64) (Kr : Fin 4 → Fin 8192 → Fin 32 → ℝ) (V : Arr 64)
    (b : Fin 4) (s : Fin 8192) (h : Fin 8) (d : Fin 64) : ℝ :=
  wavg (fun t => logit (Qn b s h) (Qr b s h) (Kn b t h) (Kr b t)) fun t => V b t h d

end Cert.Mla
end
-- ==== Proof.Mla.Tile.lean ====
/- The kernel's chains read at an index, over real data: after eight tiles the quotient of a value row's sum and the
   weights' sum is the softmax-weighted average of that value row. -/
module

public import proofs.«01_k».proof.Proof.Mla.Block
public import proofs.«01_k».proof.Proof.Mla.Spec
public import proofs.«01_k».proof.Proof.Consts
public import Idealize.ShloMosaic.PureOps.Ideal

@[expose] public section

set_option maxRecDepth 16384

noncomputable section

namespace Cert.Mla

open Cert.MlaKernelIdeal Cert.MlaKernelIdeal.Gen Idealize.ShloMosaic Idealize.SL.Sem Cert.Diff
open scoped BigOperators

/-- A score is the product of a key row and a query row. -/
theorem score_apply (q : FVec Ideal S512x128 .bf16) (kt : Vec Ideal S1024x128 .bf16) (i : Fin 1024) (j : Fin 512) :
    k0_pay9 q kt (ix2 i j) = ∑ x, kt (ix2 i x) * q (ix2 j x) := by
  pointwise [k0_pay9]

/-- The new maximum of a query. -/
theorem max_apply (M : FVec Ideal S1x512 .f32) (s : FVec Ideal S1024x512 .f32) (j : Fin 512) :
    k0_pay17 M s (ix2 0 j) = max (M (ix2 0 j)) (Finset.univ.fold max (⊥ : EReal) fun x : Fin 1024 => s (ix2 x j)) := by
  rw [← Consts.ofBits_neg_inf]
  pointwise [k0_pay17]

/-- The new weighted sum of a value row. -/
theorem sum_apply (M : FVec Ideal S1x512 .f32) (A : FVec Ideal S128x512 .f32) (V : FVec Ideal S128x1024 .bf16)
    (s : FVec Ideal S1024x512 .f32) (d : Fin 128) (j : Fin 512) :
    k0_pay18 M A V s (ix2 d j) = Ideal.exp2 (M (ix2 0 j) - k0_pay17 M s (ix2 0 j)) * A (ix2 d j)
      + ∑ x : Fin 1024, V (ix2 d x) * Ideal.exp2 (s (ix2 x j) - k0_pay17 M s (ix2 0 j)) := by
  pointwise [k0_pay18]
  rfl

/-- The lanes of the first head of a pair. -/
theorem slt_lane : ∀ x : Fin 128, IntOp.cmpi .slt (BitVec.ofNat 32 x.val) 64#32 = if x.val / 64 = 0 then 1#1 else 0#1 := by decide

/-- The value rows of a head, the other head's replaced by ones. -/
theorem rows_apply (κ : Fin 2) (vt : Vec Ideal S1x1x1x128x1024 .bf16) (d : Fin 128) (i : Fin 1024) :
    rows κ vt (ix2 d i) = if d.val / 64 = κ.val then vt (ix5 0 0 0 d i) else 1 := by
  have h0 : k0_pay7 vt (ix2 d i) = Scalar.select (IntOp.cmpi .slt (BitVec.ofNat 32 d.val) 64#32) (vt (ix5 0 0 0 d i)) 1 := by
    pointwise [k0_pay7, k0_pay5, k0_pay6]
  have h1 : k0_pay8 vt (ix2 d i) = Scalar.select (IntOp.cmpi .slt (BitVec.ofNat 32 d.val) 64#32) 1 (vt (ix5 0 0 0 d i)) := by
    pointwise [k0_pay8, k0_pay5, k0_pay6]
  rw [slt_lane] at h0 h1
  have hd := d.isLt
  match κ with
  | 0 =>
    refine h0.trans ?_
    split_ifs <;> first | rfl | omega
  | 1 =>
    refine h1.trans ?_
    show _ = if d.val / 64 = 1 then _ else _
    split_ifs <;> first | rfl | omega

/-- A key tile at an index. -/
theorem keyTile_apply (κ : Fin 2) (x1 : Vec Ideal S8192x256 .bf16) (n : ℕ) (i : Fin 1024) (x : Fin 128) :
    keyTile κ x1 n (ix2 i x) = x1 (ix2 ⟨1024 * (n % 8) + i.val, by omega⟩ ⟨128 * κ.val + x.val, by omega⟩) := by
  have h0 : ∀ k : Fin k0_t1_loop.trips, (hk : 1024 * k.val + i.val < 8192) →
      View.ld x1 (Rect.unit (s := S8192x256) (k0_off2 k) S1024x128.size (k0_off2_inb k)) (ix2 i x)
        = x1 (ix2 ⟨1024 * k.val + i.val, hk⟩ ⟨x.val, by omega⟩) := by
    intro k hk
    pointwise [k0_off2_eq]
  have h1 : ∀ k : Fin k0_t1_loop.trips, (hk : 1024 * k.val + i.val < 8192) →
      View.ld x1 (Rect.unit (s := S8192x256) (k0_off3 k) S1024x128.size (k0_off3_inb k)) (ix2 i x)
        = x1 (ix2 ⟨1024 * k.val + i.val, hk⟩ ⟨128 + x.val, by omega⟩) := by
    intro k hk
    pointwise [k0_off3_eq]
  match κ with
  | 0 =>
    refine (h0 (trip n) (by show 1024 * (n % 8) + _ < _; omega)).trans ?_
    congr 2; exact Fin.ext (by show x.val = 128 * 0 + x.val; omega)
  | 1 => exact h1 (trip n) (by show 1024 * (n % 8) + _ < _; omega)

/-- A value tile at an index. -/
theorem valTile_apply (x2 : Vec Ideal S1x1x8x128x1024 .bf16) (n : ℕ) (d : Fin 128) (i : Fin 1024) :
    valTile x2 n (ix5 0 0 0 d i) = x2 (ix5 0 0 ⟨n % 8, by omega⟩ d i) := by
  have h : ∀ k : Fin k0_t1_loop.trips, (hk : k.val < 8) →
      valTileAt x2 k (ix5 0 0 0 d i) = x2 (ix5 0 0 ⟨k.val, hk⟩ d i) := by
    intro k hk
    pointwise [valTileAt, k0_off1_eq]
  exact h (trip n) _

/-- The scaled queries. -/
theorem scaled_apply (xq : Vec Ideal S512x128 .f32) (j : Fin 512) (x : Fin 128) :
    k0_pay34 xq (ix2 j x) = xq (ix2 j x) * (((Real.sqrt 96)⁻¹ * (Real.log 2)⁻¹ : ℝ) : EReal) := by
  have hs : Named.named (F := Ideal) Cert.MlaKernelIdeal.κ "mla_scale" (φ := .f32) 0x3E16C740#32
      = (((Real.sqrt 96)⁻¹ * (Real.log 2)⁻¹ : ℝ) : EReal) := IdealRules.named_const.ideal_named_scalar _ _ _ _ rfl
  rw [← hs]
  pointwise [k0_pay34]

/-- The kernel's scores are the logits over `log 2`. -/
theorem score_real (xq : Vec Ideal S512x128 .f32) (kt : Vec Ideal S1024x128 .bf16) (i : Fin 1024) (j : Fin 512)
    (qn kn : Fin 64 → ℝ) (qr kr : Fin 32 → ℝ) (hq : ∀ x, xq (ix2 j x) = (row qn qr x : EReal))
    (hk : ∀ x, kt (ix2 i x) = (row kn kr x : EReal)) :
    k0_pay9 (k0_pay34 xq) kt (ix2 i j) = ((logit qn qr kn kr * (Real.log 2)⁻¹ : ℝ) : EReal) := by
  rw [score_apply]
  simp only [scaled_apply, hq, hk, ← EReal.coe_mul, ← coe_sum]
  congr 1
  unfold logit
  rw [← sum_row, div_eq_mul_inv, mul_assoc, Finset.sum_mul]
  refine Finset.sum_congr rfl fun x _ => ?_
  ring

/-- Position `i` of tile `t` among the 8192 keys. -/
abbrev pos (t : ℕ) (i : Fin 1024) : Fin 8192 := ⟨(1024 * t + i.val) % 8192, Nat.mod_lt _ (by decide)⟩

/-- The row of ones that divides head `κ`'s averages. -/
abbrev ones (κ : Fin 2) : Fin 128 := ⟨64 * (1 - κ.val), by omega⟩

/-- THE CHAIN'S QUOTIENT.  After the eight tiles, a value row's weighted sum over the weights' sum is the average of the
    values weighted by the exponentials of the logits. -/
theorem avg_quot (κ : Fin 2) (xq : Vec Ideal S512x128 .f32) (x1 : Vec Ideal S8192x256 .bf16) (x2 : Vec Ideal S1x1x8x128x1024 .bf16)
    (j : Fin 512) (d : Fin 64) (qn : Fin 64 → ℝ) (qr : Fin 32 → ℝ) (kn : Fin 8192 → Fin 64 → ℝ) (kr : Fin 8192 → Fin 32 → ℝ)
    (V : Fin 8192 → Fin 64 → ℝ) (hq : ∀ x, xq (ix2 j x) = (row qn qr x : EReal))
    (hk : ∀ t (x : Fin 128), x1 (ix2 t ⟨128 * κ.val + x.val, by omega⟩) = (row (kn t) (kr t) x : EReal))
    (hv : ∀ (n : Fin 8) (x : Fin 64) (i : Fin 1024), x2 (ix5 0 0 n (lane κ x) i) = (V (pos n.val i) x : EReal)) :
    Ideal.div (avg κ xq x1 x2 (ix2 (lane κ d) j)) (avg κ xq x1 x2 (ix2 (ones κ) j))
      = ((wavg (fun t => logit qn qr (kn t) (kr t)) (fun t => V t d) : ℝ) : EReal) := by
  set c := chain κ (k0_pay34 xq) (keyTile κ x1) (valTile x2) with hc
  let σ : ℕ → Fin 1024 → ℝ := fun n i => logit qn qr (kn (pos n i)) (kr (pos n i)) * (Real.log 2)⁻¹
  let w : ℕ → Fin 128 → Fin 1024 → ℝ := fun n e i =>
    if e.val / 64 = κ.val then V (pos n i) ⟨e.val % 64, Nat.mod_lt _ (by decide)⟩ else 1
  obtain ⟨μ0, hμ0⟩ := Consts.ofBits_start
  have hs : ∀ n < 8, ∀ i, k0_pay9 (k0_pay34 xq) (keyTile κ x1 n) (ix2 i j) = (σ n i : EReal) := by
    intro n hn i
    refine score_real xq (keyTile κ x1 n) i j qn (kn (pos n i)) qr (kr (pos n i)) hq fun x => ?_
    rw [keyTile_apply, hk]
    have e : (⟨1024 * (n % 8) + i.val, by omega⟩ : Fin 8192) = pos n i :=
      Fin.ext (by show 1024 * (n % 8) + i.val = (1024 * n + i.val) % 8192; omega)
    rw [e]
  have hw : ∀ n < 8, ∀ e i, rows κ (valTile x2 n) (ix2 e i) = (w n e i : EReal) := by
    intro n hn e i
    rw [rows_apply]
    show _ = ((if e.val / 64 = κ.val then V (pos n i) ⟨e.val % 64, _⟩ else 1 : ℝ) : EReal)
    split_ifs with h
    · have el : e = lane κ ⟨e.val % 64, Nat.mod_lt _ (by decide)⟩ :=
        Fin.ext (by show e.val = 64 * κ.val + e.val % 64; omega)
      rw [valTile_apply]
      refine (congrArg (fun z => x2 (ix5 0 0 _ z i)) el).trans ((hv _ _ _).trans ?_)
      refine congrArg (fun z => ((V z _ : ℝ) : EReal)) (Fin.ext ?_)
      show (1024 * (n % 8) + i.val) % 8192 = (1024 * n + i.val) % 8192; omega
    · rfl
  obtain ⟨M, -, hA⟩ := running 8 σ w (fun n => (c n).1 (ix2 0 j)) (fun n e => (c n).2 (ix2 e j)) μ0
    (by exact hμ0) (fun e => Ideal.ofBits_zero .f32)
    (fun n hn => by
      show k0_pay17 (c n).1 _ (ix2 0 j) = _
      rw [max_apply]; simp only [hs n hn])
    (fun n hn e => by
      show k0_pay18 (c n).1 (c n).2 _ _ (ix2 e j) = Ideal.exp2 ((c n).1 (ix2 0 j) - k0_pay17 (c n).1 _ (ix2 0 j)) * _ + _
      rw [sum_apply]; simp only [hs n hn, hw n hn]; rfl)
    8 le_rfl
  have hpos : ∀ (f : Fin 8192 → ℝ), ∑ t ∈ Finset.range 8, ∑ i : Fin 1024, f (pos t i) = ∑ t, f t := fun f => sum_tiles f
  have hd : avg κ xq x1 x2 (ix2 (lane κ d) j)
      = ((∑ t, V t d * (2 : ℝ) ^ (logit qn qr (kn t) (kr t) * (Real.log 2)⁻¹ - M) : ℝ) : EReal) := by
    refine (hA (lane κ d)).trans ?_
    rw [← hpos]
    have e1 : (lane κ d).val / 64 = κ.val := by show (64 * κ.val + d.val) / 64 = κ.val; omega
    have e2 : (⟨(lane κ d).val % 64, Nat.mod_lt _ (by decide)⟩ : Fin 64) = d :=
      Fin.ext (by show (64 * κ.val + d.val) % 64 = d.val; omega)
    simp only [w, σ, e1, if_true, e2]
  have h1 : avg κ xq x1 x2 (ix2 (ones κ) j)
      = ((∑ t, 1 * (2 : ℝ) ^ (logit qn qr (kn t) (kr t) * (Real.log 2)⁻¹ - M) : ℝ) : EReal) := by
    refine (hA (ones κ)).trans ?_
    rw [← hpos]
    have e1 : ¬ (ones κ).val / 64 = κ.val := by
      show ¬ 64 * (1 - κ.val) / 64 = κ.val; omega
    simp only [w, σ, e1, if_false]
  refine (congrArg₂ Ideal.div hd h1).trans ((quot_eq_wavg _ _ _).trans ?_)
  refine congrArg (fun f : Fin 8192 → ℝ => ((wavg f (fun t => V t d) : ℝ) : EReal)) (funext fun t => ?_)
  show logit qn qr (kn t) (kr t) * (Real.log 2)⁻¹ * Real.log 2 = _
  rw [mul_assoc, inv_mul_cancel₀ (Real.log_pos (by norm_num)).ne', mul_one]

/-- The stored lanes: each head's quotients. -/
theorem last_apply (A B : FVec Ideal S128x512 .f32) (j : Fin 512) (d : Fin 128) :
    k0_pay1 (k0_pay63 A) (k0_pay64 B) (ix2 j d) = if d.val / 64 = 0 then Ideal.div (A (ix2 d j)) (A (ix2 64 j))
      else Ideal.div (B (ix2 d j)) (B (ix2 0 j)) := by
  have h : k0_pay1 (k0_pay63 A) (k0_pay64 B) (ix2 j d) = Scalar.select (IntOp.cmpi .slt (BitVec.ofNat 32 d.val) 64#32)
      (Ideal.div (A (ix2 d j)) (A (ix2 64 j))) (Ideal.div (B (ix2 d j)) (B (ix2 0 j))) := by
    pointwise [k0_pay1, k0_pay63, k0_pay64]
  rw [h, slt_lane]
  split_ifs <;> rfl

/-- A stored row, in the lanes of head `κ`. -/
theorem outRows_apply (X : Fin 2 → Vec Ideal S512x128 .f32) (x1 : Vec Ideal S8192x256 .bf16) (x2 : Vec Ideal S1x1x8x128x1024 .bf16)
    (κ : Fin 2) (j : Fin 512) (d : Fin 64) (qn : Fin 64 → ℝ) (qr : Fin 32 → ℝ) (kn : Fin 8192 → Fin 64 → ℝ)
    (kr : Fin 8192 → Fin 32 → ℝ) (V : Fin 8192 → Fin 64 → ℝ) (hq : ∀ x, X κ (ix2 j x) = (row qn qr x : EReal))
    (hk : ∀ t (x : Fin 128), x1 (ix2 t ⟨128 * κ.val + x.val, by omega⟩) = (row (kn t) (kr t) x : EReal))
    (hv : ∀ (n : Fin 8) (x : Fin 64) (i : Fin 1024), x2 (ix5 0 0 n (lane κ x) i) = (V (pos n.val i) x : EReal)) :
    outRows (X 0) (X 1) x1 x2 (ix2 j (lane κ d)) = ((wavg (fun t => logit qn qr (kn t) (kr t)) (fun t => V t d) : ℝ) : EReal) := by
  refine Eq.trans ?_ (avg_quot κ (X κ) x1 x2 j d qn qr kn kr V hq hk hv)
  refine (last_apply _ _ j (lane κ d)).trans ?_
  have hd := d.isLt
  match κ with
  | 0 => exact if_pos (by show (64 * 0 + d.val) / 64 = 0; omega)
  | 1 => exact if_neg (by show ¬ (64 * 1 + d.val) / 64 = 0; omega)

end Cert.Mla
end
-- ==== Proof.Mla.Window.lean ====
/- What each grid point's input blocks hold, as entries of the argument arrays. -/
module

public import proofs.«01_k».proof.Proof.Gen.MlaKernelIdeal.Value
public import proofs.«01_k».proof.Proof.Mla.Spec
public import Idealize.ShloMosaic.Lib.Pipeline.ValueKit
public import Idealize.ShloMosaic.Lib.Claim
public import Idealize.ShloMosaic.Lib.Pointwise

@[expose] public section

set_option maxRecDepth 16384

noncomputable section

namespace Cert.Mla

open Cert.MlaKernelIdeal Cert.MlaKernelIdeal.Gen Idealize.ShloMosaic Idealize.ShloMosaic.TcCoe Idealize.SL.Sem

variable (m : (ℓ : Loc nD τ sig) → Buf (Elt Ideal) ℓ) (c : Dev nD) (t : Fin cfg0.N)

/-- The grid point's batch entry. -/
def bat : Fin 4 := ⟨(grid0.coords t 0).val, (grid0.coords t 0).isLt⟩
/-- The grid point's pair of heads. -/
def pair : Fin 4 := ⟨(grid0.coords t 1).val, (grid0.coords t 1).isLt⟩
/-- The grid point's tile of 2048 queries. -/
def tile : Fin 4 := ⟨(grid0.coords t 2).val, (grid0.coords t 2).isLt⟩

/-- Where the windows' blocks lie. -/
theorem index_facts : ∀ t : Fin cfg0.N,
    win0_0.index t = ![(bat t).val * 4 + (tile t).val, (pair t).val] ∧ win0_1.index t = ![(bat t).val, (pair t).val]
    ∧ win0_2.index t = ![(bat t).val, (pair t).val, 0, 0, 0] ∧ win0_3.index t = ![(bat t).val * 4 + (tile t).val, (pair t).val] :=
  (by decide +kernel : ∀ t : Fin grid0.N, _)

/-- The 128 lanes of head `h` that three arrays put side by side. -/
def joined (n : Fin 64 → EReal) (r : Fin 32 → EReal) (x : Fin 128) : EReal :=
  if h : x.val < 64 then n ⟨x.val, h⟩ else if h' : x.val < 96 then r ⟨x.val - 64, by omega⟩ else 0

/-- Reals side by side. -/
theorem joined_real (n : Fin 64 → ℝ) (r : Fin 32 → ℝ) (x : Fin 128) :
    joined (fun e => (n e : EReal)) (fun e => (r e : EReal)) x = (row n r x : EReal) := by
  unfold joined row
  split_ifs <;> rfl

/-- Three pieces side by side, flattened, at an index. -/
theorem flat_apply (u : FVec Ideal S4x8192x8x64 .f32) (v : FVec Ideal S4x8192x8x32 .f32) (b : Fin 4) (s : Fin 8192) (h : Fin 8) (x : Fin 128) :
    shapeCast S32768x1024 (concatenate S4x8192x8x128 3 [⟨S4x8192x8x64, u⟩, ⟨S4x8192x8x32, v⟩,
      ⟨S4x8192x8x32, (broadcastInDim S4x8192x8x32 ![] bcast_S_S4x8192x8x32 (constant S_ .f32 0x00000000#32) : FVec Ideal S4x8192x8x32 .f32)⟩]
      concatenates_S4x8192x8x64_S4x8192x8x32_S4x8192x8x32_S4x8192x8x128_d3) shapeCasts_S4x8192x8x128_S32768x1024
      (ix2 ⟨b.val * 8192 + s.val, by omega⟩ ⟨h.val * 128 + x.val, by omega⟩)
      = joined (fun e => u (ix4 b s h e)) (fun e => v (ix4 b s h e)) x := by
  unfold joined
  pointwise
  refine dite_congr rfl (fun _ => rfl) fun h1 => dite_congr (propext ⟨fun h2 => ?_, fun h2 => ?_⟩) (fun _ => rfl) fun _ => rfl
  · have h3 : x.val - 64 < 32 := h2
    omega
  · have h3 : ¬ x.val < 64 := h1
    show x.val - 64 < 32
    omega

/-- The flattened queries the launch reads. -/
theorem entry_q (b : Fin 4) (s : Fin 8192) (h : Fin 8) (x : Fin 128) :
    V m c main_v4 (ix2 ⟨b.val * 8192 + s.val, by omega⟩ ⟨h.val * 128 + x.val, by omega⟩)
      = joined (fun e => m ((c : Thread nD τ).loc main_arg0) (ix4 b s h e)) (fun e => m ((c : Thread nD τ).loc main_arg1) (ix4 b s h e)) x :=
  flat_apply (m ((c : Thread nD τ).loc main_arg0)) (m ((c : Thread nD τ).loc main_arg1)) b s h x

/-- The rotated keys, the same for every head. -/
def spread (v : FVec Ideal S4x8192x32 .f32) : FVec Ideal S4x8192x8x32 .f32 :=
  broadcastInDim S4x8192x8x32 ![0, 1, 2, 3] bcast_S4x8192x1x32_S4x8192x8x32_0_1_2_3
    (broadcastInDim S4x8192x1x32 ![0, 1, 3] bcast_S4x8192x32_S4x8192x1x32_0_1_3 v)

/-- The rotated keys of a head. -/
theorem spread_apply (v : FVec Ideal S4x8192x32 .f32) (b : Fin 4) (s : Fin 8192) (h : Fin 8) (e : Fin 32) :
    spread v (ix4 b s h e) = v (ix3 b s e) := by
  pointwise [spread]

/-- The flattened keys the launch reads. -/
theorem entry_k (b : Fin 4) (s : Fin 8192) (h : Fin 8) (x : Fin 128) :
    V m c main_v7 (ix2 ⟨b.val * 8192 + s.val, by omega⟩ ⟨h.val * 128 + x.val, by omega⟩)
      = joined (fun e => m ((c : Thread nD τ).loc main_arg2) (ix4 b s h e)) (fun e => m ((c : Thread nD τ).loc main_arg3) (ix3 b s e)) x := by
  simp only [← spread_apply (m ((c : Thread nD τ).loc main_arg3)) b s h]
  exact flat_apply (m ((c : Thread nD τ).loc main_arg2)) (spread (m ((c : Thread nD τ).loc main_arg3))) b s h x

/-- The values the launch reads, by batch entry, pair, tile, lane and position. -/
theorem entry_v (b p : Fin 4) (n : Fin 8) (κ : Fin 2) (d : Fin 64) (i : Fin 1024) :
    V m c main_v11 (ix5 b p n (lane κ d) i) = m ((c : Thread nD τ).loc main_arg4) (ix4 b ⟨n.val * 1024 + i.val, by omega⟩ (hd p κ) d) := by
  entry_read
  pointwise
  blk_ext [lane, hd]

/-- The query block. -/
theorem read_q (i : Fin 2048) (κ : Fin 2) (x : Fin 128) : iblk m c 0 t (ix2 i ⟨128 * κ.val + x.val, by omega⟩)
    = joined (fun e => m ((c : Thread nD τ).loc main_arg0) (ix4 (bat t) ⟨(tile t).val * 2048 + i.val, by omega⟩ (hd (pair t) κ) e))
      (fun e => m ((c : Thread nD τ).loc main_arg1) (ix4 (bat t) ⟨(tile t).val * 2048 + i.val, by omega⟩ (hd (pair t) κ) e)) x := by
  have e := (index_facts t).1
  have h : ((cfg0.win 0).blk t).view.emb (ix2 i ⟨128 * κ.val + x.val, by omega⟩)
      = ix2 (⟨(bat t).val * 8192 + ((tile t).val * 2048 + i.val), by omega⟩ : Fin 32768)
        (⟨(hd (pair t) κ).val * 128 + x.val, by omega⟩ : Fin 1024) := by
    blk_ext [e, hd]
  exact (congrArg (V m c main_v4) h).trans (entry_q m c (bat t) ⟨(tile t).val * 2048 + i.val, by omega⟩ (hd (pair t) κ) x)

/-- The key block: all the batch entry's keys. -/
theorem read_k (i : Fin 8192) (κ : Fin 2) (x : Fin 128) : iblk m c 1 t (ix2 i ⟨128 * κ.val + x.val, by omega⟩)
    = joined (fun e => m ((c : Thread nD τ).loc main_arg2) (ix4 (bat t) i (hd (pair t) κ) e))
      (fun e => m ((c : Thread nD τ).loc main_arg3) (ix3 (bat t) i e)) x := by
  have e := (index_facts t).2.1
  have h : ((cfg0.win 1).blk t).view.emb (ix2 i ⟨128 * κ.val + x.val, by omega⟩)
      = ix2 (⟨(bat t).val * 8192 + i.val, by omega⟩ : Fin 32768) (⟨(hd (pair t) κ).val * 128 + x.val, by omega⟩ : Fin 1024) := by
    blk_ext [e, hd]
  exact (congrArg (V m c main_v7) h).trans (entry_k m c (bat t) i (hd (pair t) κ) x)

/-- The value block: all the batch entry's values, in eight tiles. -/
theorem read_v (n : Fin 8) (κ : Fin 2) (d : Fin 64) (i : Fin 1024) : iblk m c 2 t (ix5 0 0 n (lane κ d) i)
    = m ((c : Thread nD τ).loc main_arg4) (ix4 (bat t) ⟨n.val * 1024 + i.val, by omega⟩ (hd (pair t) κ) d) := by
  have e := (index_facts t).2.2.1
  have h : ((cfg0.win 2).blk t).view.emb (ix5 0 0 n (lane κ d) i) = ix5 (bat t) (pair t) n (lane κ d) i := by
    blk_ext [e]
  exact (congrArg (V m c main_v11) h).trans (entry_v m c (bat t) (pair t) n κ d i)

/-- Where an output block's element lies in the result. -/
theorem emb_out (i : Fin 2048) (κ : Fin 2) (d : Fin 64) : ((cfg0.win 3).blk t).view.emb (ix2 i (lane κ d))
    = ix2 (⟨(bat t).val * 8192 + ((tile t).val * 2048 + i.val), by omega⟩ : Fin 32768) (chan (hd (pair t) κ) d) := by
  have e := (index_facts t).2.2.2
  blk_ext [e, chan, lane, hd]

end Cert.Mla
end
-- ==== Proof.Mla.Array.lean ====
/- The kernel's result array over real data. -/
module

public import proofs.«01_k».proof.Proof.Mla.Tile
public import proofs.«01_k».proof.Proof.Mla.Window

@[expose] public section

set_option maxRecDepth 16384

noncomputable section

namespace Cert.Mla

open Cert.MlaKernelIdeal Cert.MlaKernelIdeal.Gen Idealize.ShloMosaic Idealize.ShloMosaic.TcCoe Idealize.SL.Sem
open scoped BigOperators

/-- A block of 512 query rows at an index. -/
theorem qRows_apply (x0 : Vec Ideal S2048x256 .f32) (r : Fin 4) (κ : Fin 2) (j : Fin 512) (x : Fin 128) :
    qRows x0 r κ (ix2 j x) = x0 (ix2 ⟨512 * r.val + j.val, by omega⟩ ⟨128 * κ.val + x.val, by omega⟩) := by
  pointwise [qRows]

/-- Every lane of a pair is a lane of one of its heads. -/
theorem exists_lane (y : Fin 128) : ∃ (κ : Fin 2) (d : Fin 64), y = lane κ d :=
  ⟨⟨y.val / 64, by omega⟩, ⟨y.val % 64, by omega⟩, Fin.ext (by show y.val = 64 * (y.val / 64) + y.val % 64; omega)⟩

variable (m : (ℓ : Loc nD τ sig) → Buf (Elt Ideal) ℓ) (c : Dev nD)
  (Qn : Arr 64) (Qr : Arr 32) (Kn : Arr 64) (Kr : Fin 4 → Fin 8192 → Fin 32 → ℝ) (V : Arr 64)
  (h0 : ∀ b s h x, m ((c : Thread nD τ).loc main_arg0) (ix4 b s h x) = (Qn b s h x : EReal))
  (h1 : ∀ b s h x, m ((c : Thread nD τ).loc main_arg1) (ix4 b s h x) = (Qr b s h x : EReal))
  (h2 : ∀ b s h x, m ((c : Thread nD τ).loc main_arg2) (ix4 b s h x) = (Kn b s h x : EReal))
  (h3 : ∀ b s x, m ((c : Thread nD τ).loc main_arg3) (ix3 b s x) = (Kr b s x : EReal))
  (h4 : ∀ b s h x, m ((c : Thread nD τ).loc main_arg4) (ix4 b s h x) = (V b s h x : EReal))

include h0 h1 h2 h3 h4

/-- What a grid point stores. -/
theorem block_apply (t : Fin cfg0.N) (i : Fin 2048) (κ : Fin 2) (d : Fin 64) :
    outAll (iblk m c 0 t) (iblk m c 1 t) (iblk m c 2 t) (ix2 i (lane κ d))
      = ((res Qn Qr Kn Kr V (bat t) ⟨(tile t).val * 2048 + i.val, by omega⟩ (hd (pair t) κ) d : ℝ) : EReal) := by
  refine (outRows_apply (fun κ => qRows (iblk m c 0 t) ⟨i.val / 512, by omega⟩ κ) _ _ κ ⟨i.val % 512, Nat.mod_lt _ (by decide)⟩ d
    (Qn (bat t) ⟨(tile t).val * 2048 + i.val, by omega⟩ (hd (pair t) κ)) (Qr (bat t) ⟨(tile t).val * 2048 + i.val, by omega⟩ (hd (pair t) κ))
    (fun s => Kn (bat t) s (hd (pair t) κ)) (fun s => Kr (bat t) s) (fun s => V (bat t) s (hd (pair t) κ)) ?_ ?_ ?_)
  · intro x
    rw [qRows_apply, ← joined_real]
    simp only [← h0, ← h1]
    refine Eq.trans (congrArg (fun y => iblk m c 0 t (ix2 y _)) (Fin.ext ?_)) (read_q m c t i κ x)
    show 512 * (i.val / 512) + i.val % 512 = i.val
    omega
  · intro s x
    rw [← joined_real]
    simp only [← h2, ← h3]
    exact read_k m c t s κ x
  · intro n x j
    refine (read_v m c t n κ x j).trans ((h4 _ _ _ _).trans ?_)
    refine congrArg (fun y => ((V (bat t) y (hd (pair t) κ) x : ℝ) : EReal)) (Fin.ext ?_)
    show n.val * 1024 + j.val = (1024 * n.val + j.val) % 8192
    omega

omit h0 h1 h2 h3 h4

/-- The result array's function. -/
def resArr : S32768x512.Idx → EReal := fun y =>
  ((res Qn Qr Kn Kr V ⟨(y 0).val / 8192, Nat.div_lt_of_lt_mul (y 0).isLt⟩ ⟨(y 0).val % 8192, Nat.mod_lt _ (by decide)⟩
    ⟨(y 1).val / 64, Nat.div_lt_of_lt_mul (y 1).isLt⟩ ⟨(y 1).val % 64, Nat.mod_lt _ (by decide)⟩ : ℝ) : EReal)

/-- The result array's function at a row and channel given by their parts. -/
theorem resArr_apply (b : Fin 4) (s : Fin 8192) (h : Fin 8) (d : Fin 64) :
    resArr Qn Qr Kn Kr V (ix2 (⟨b.val * 8192 + s.val, by omega⟩ : Fin 32768) (chan h d)) = ((res Qn Qr Kn Kr V b s h d : ℝ) : EReal) := by
  have e1 : (⟨(b.val * 8192 + s.val) / 8192, by omega⟩ : Fin 4) = b := Fin.ext (by show _ / 8192 = b.val; omega)
  have e2 : (⟨(b.val * 8192 + s.val) % 8192, by omega⟩ : Fin 8192) = s := Fin.ext (by show _ % 8192 = s.val; omega)
  have e3 : (⟨(h.val * 64 + d.val) / 64, by omega⟩ : Fin 8) = h := Fin.ext (by show _ / 64 = h.val; omega)
  have e4 : (⟨(h.val * 64 + d.val) % 64, by omega⟩ : Fin 64) = d := Fin.ext (by show _ % 64 = d.val; omega)
  show ((res Qn Qr Kn Kr V ⟨(b.val * 8192 + s.val) / 8192, _⟩ ⟨(b.val * 8192 + s.val) % 8192, _⟩ ⟨(h.val * 64 + d.val) / 64, _⟩ ⟨(h.val * 64 + d.val) % 64, _⟩ : ℝ) : EReal) = _
  rw [e1, e2, e3, e4]

include h0 h1 h2 h3 h4

/-- THE KERNEL'S RESULT ARRAY. -/
theorem array_eq : (dats m 0 c).arrAt 3 cfg0.N = resArr Qn Qr Kn Kr V := by
  refine (dats m 0 c).arrAt_eq_of_covers 3 _ (by decide +kernel) fun t hf y => ?_
  refine (congrFun (Cert.MlaKernelIdeal.Value.flushed3_A m c t) y).trans ?_
  rw [out_eq]
  obtain ⟨i, x, rfl⟩ : ∃ (i : Fin 2048) (x : Fin 128), y = ix2 i x := ⟨y 0, y 1, eq_ix2 (n0 := 2048) (n1 := 128) y⟩
  obtain ⟨κ, d, rfl⟩ := exists_lane x
  rw [emb_out]
  exact (block_apply m c Qn Qr Kn Kr V h0 h1 h2 h3 h4 t i κ d).trans
    (resArr_apply Qn Qr Kn Kr V (bat t) ⟨(tile t).val * 2048 + i.val, by omega⟩ (hd (pair t) κ) d).symm

end Cert.Mla
end
-- ==== Proof.Mla.Reference.lean ====
/- The reference read at an index over real data. -/
module

public import proofs.«01_k».proof.Proof.Gen.MlaReferenceIdeal.Read
public import proofs.«01_k».proof.Proof.Mla.Spec
public import proofs.«01_k».proof.Proof.Consts
public import proofs.«01_k».proof.Proof.Reference
public import Idealize.ShloMosaic.Lib.Pointwise

@[expose] public section

set_option maxRecDepth 16384

noncomputable section

namespace Cert.Mla.Ref

open Cert.MlaReferenceIdeal Cert.MlaReferenceIdeal.Gen Cert.MlaReferenceIdeal.Read Idealize.ShloMosaic Idealize.SL.Sem Cert.Diff Cert.Mla
open scoped BigOperators

/-- The pattern of 96. -/
theorem ofBits_96 : Ideal.ofBits .f32 0x42C00000#32 = ((96 : ℝ) : EReal) := by
  simp [Ideal.ofBits, Ideal.ieee, -EReal.coe_mul]; norm_num

variable (x0 : (⟨S4x8192x8x64, .f32⟩ : BufTy).Contents (Elt Ideal)) (x1 : (⟨S4x8192x8x32, .f32⟩ : BufTy).Contents (Elt Ideal))
  (x2 : (⟨S4x8192x8x64, .f32⟩ : BufTy).Contents (Elt Ideal)) (x3 : (⟨S4x8192x32, .f32⟩ : BufTy).Contents (Elt Ideal))
  (x4 : (⟨S4x8192x8x64, .f32⟩ : BufTy).Contents (Elt Ideal))
  (Qn : Arr 64) (Qr : Arr 32) (Kn : Arr 64) (Kr : Fin 4 → Fin 8192 → Fin 32 → ℝ) (V : Arr 64)
  (h0 : ∀ b s h x, x0 (ix4 b s h x) = (Qn b s h x : EReal)) (h1 : ∀ b s h x, x1 (ix4 b s h x) = (Qr b s h x : EReal))
  (h2 : ∀ b s h x, x2 (ix4 b s h x) = (Kn b s h x : EReal)) (h3 : ∀ b s x, x3 (ix3 b s x) = (Kr b s x : EReal))
  (h4 : ∀ b s h x, x4 (ix4 b s h x) = (V b s h x : EReal))

include h0 h1 h2 h3

/-- The logits. -/
theorem logits (b : Fin 4) (h : Fin 8) (s t : Fin 8192) : val_main_v6 x0 x1 x2 x3 (ix4 b h s t)
    = ((Mla.logit (Qn b s h) (Qr b s h) (Kn b t h) (Kr b t) : ℝ) : EReal) := by
  have e : val_main_v6 x0 x1 x2 x3 (ix4 b h s t)
      = Ideal.div (∑ e : Fin 64, x0 (ix4 b s h e) * x2 (ix4 b t h e) + ∑ e : Fin 32, x3 (ix3 b t e) * x1 (ix4 b s h e))
        (Ideal.sqrt (Ideal.ofBits FTy.f32 0x42C00000#32)) := by
    pointwise [val_main_v6, val_main_v5, val_main_v4, val_main_v3, val_main_v2, val_main_v1, val_main_v0, val_main_cst]
  rw [e, ofBits_96, Ideal.sqrt_coe, if_neg (by norm_num)]
  simp only [h0, h1, h2, h3, ← EReal.coe_mul, ← coe_sum, ← EReal.coe_add]
  rw [div_real _ _ (by positivity)]
  unfold Mla.logit
  simp only [mul_comm]

/-- The rows' maxima are real. -/
theorem maxima (i : S4x8x8192.Idx) : ∃ M : ℝ, val_main_v9 x0 x1 x2 x3 i = (M : EReal) := by
  have hx : ∀ i : S4x8x8192x8192.Idx, ∃ r : ℝ, val_main_v6 x0 x1 x2 x3 i = (r : EReal) := fun i =>
    ⟨_, (congrArg (val_main_v6 x0 x1 x2 x3) (eq_ix4 i)).trans (logits x0 x1 x2 x3 Qn Qr Kn Kr h0 h1 h2 h3 (i 0) (i 1) (i 2) (i 3))⟩
  obtain ⟨M, hM⟩ := Cert.Diff.Ref.reduce_max_real (a := 3) (val_main_v6 x0 x1 x2 x3) hx (val_main_cst_0 (F := Ideal)) (fun _ => Consts.ofBits_neg_inf)
    reducesTo_S4x8x8192x8192_S4x8x8192_d3 (by decide) h_S_ i (by decide)
  refine ⟨M, ?_⟩
  rw [val_main_v9_apply]
  show max (val_main_v8 i) (val_main_v7 x0 x1 x2 x3 i) = _
  rw [val_main_v8_apply, val_main_cst_1_apply]
  unfold val_main_v7
  rw [hM]
  show max (Ideal.ofBits FTy.f32 0xFF800000#32) (M : EReal) = _
  rw [Consts.ofBits_neg_inf]
  exact max_eq_right bot_le

/-- The softmax weights. -/
theorem weights (b : Fin 4) (h : Fin 8) (s t : Fin 8192) : val_main_v17 x0 x1 x2 x3 (ix4 b h s t)
    = ((Real.exp (Mla.logit (Qn b s h) (Qr b s h) (Kn b t h) (Kr b t))
        / ∑ i, Real.exp (Mla.logit (Qn b s h) (Qr b s h) (Kn b i h) (Kr b i)) : ℝ) : EReal) := by
  have e : val_main_v17 x0 x1 x2 x3 (ix4 b h s t)
      = Ideal.div (Ideal.exp (val_main_v6 x0 x1 x2 x3 (ix4 b h s t) - val_main_v9 x0 x1 x2 x3 (ix3 b h s)))
        (∑ x : Fin 8192, Ideal.exp (val_main_v6 x0 x1 x2 x3 (ix4 b h s x) - val_main_v9 x0 x1 x2 x3 (ix3 b h s))) := by
    pointwise [val_main_v17, val_main_v16, val_main_v15, val_main_v14, val_main_v13, val_main_cst_2, val_main_v12, val_main_v11, val_main_v10]
  obtain ⟨M, hM⟩ := maxima x0 x1 x2 x3 Qn Qr Kn Kr h0 h1 h2 h3 (ix3 b h s)
  rw [e, hM]
  simp only [logits x0 x1 x2 x3 Qn Qr Kn Kr h0 h1 h2 h3]
  exact softmax_weight (fun t => Mla.logit (Qn b s h) (Qr b s h) (Kn b t h) (Kr b t)) M t

include h4

/-- The reference's result. -/
theorem result (b : Fin 4) (s : Fin 8192) (h : Fin 8) (d : Fin 64) :
    val_main_v21 x0 x1 x2 x3 x4 (ix2 (⟨b.val * 8192 + s.val, by omega⟩ : Fin 32768) (Mla.chan h d))
      = ((Mla.res Qn Qr Kn Kr V b s h d : ℝ) : EReal) := by
  have e : val_main_v21 x0 x1 x2 x3 x4 (ix2 (⟨b.val * 8192 + s.val, by omega⟩ : Fin 32768) (Mla.chan h d))
      = ∑ t : Fin 8192, x4 (ix4 b t h d) * val_main_v17 x0 x1 x2 x3 (ix4 b h s t) := by
    unfold Mla.chan
    pointwise [val_main_v21, val_main_v20, val_main_v19, val_main_v18]
  rw [e]
  simp only [weights x0 x1 x2 x3 Qn Qr Kn Kr h0 h1 h2 h3, h4, ← EReal.coe_mul, ← coe_sum]
  congr 1
  unfold Mla.res
  rw [wavg_eq_sum]
  refine Finset.sum_congr rfl fun t _ => ?_
  ring

end Cert.Mla.Ref
end
-- ==== Proof.Mla.Claims.lean ====
/- The latent attention's claims, one theorem each. -/
module

public import proofs.«01_k».proof.Proof.Mla.Array
public import proofs.«01_k».proof.Proof.Mla.Reference
public import proofs.«01_k».proof.Proof.Finite
public import proofs.«01_k».proof.Proof.Gen.MlaKernel.Frame
public import Idealize.ShloMosaic.Lib.Quiescent

@[expose] public section

noncomputable section

namespace Cert.Mla

open Idealize.ShloMosaic Idealize.ShloMosaic.TcCoe Idealize.SL.Sem
open scoped BigOperators

/-- The precondition's shapes spread a constant over an array. -/
theorem preFacts : Cert.Pre_mla_finite.Facts := ⟨by decide, by decide, by decide⟩

/-- The entries of a memory's arguments that satisfy the precondition are reals. -/
theorem reals (m : (ℓ : Loc Cert.MlaKernelIdeal.nD Cert.MlaKernelIdeal.τ Cert.MlaKernelIdeal.sig) → Buf (Elt Ideal) ℓ)
    (h : Cert.Pre_MlaKernelIdeal_mla_finite (hPre_mla_finite := preFacts) m) (c : Dev Cert.MlaKernelIdeal.nD) :
    (∀ i, ∃ r : ℝ, m ((c.tc : Thread Cert.MlaKernelIdeal.nD Cert.MlaKernelIdeal.τ).loc Cert.MlaKernelIdeal.main_arg0) i = (r : EReal))
    ∧ (∀ i, ∃ r : ℝ, m ((c.tc : Thread Cert.MlaKernelIdeal.nD Cert.MlaKernelIdeal.τ).loc Cert.MlaKernelIdeal.main_arg1) i = (r : EReal))
    ∧ (∀ i, ∃ r : ℝ, m ((c.tc : Thread Cert.MlaKernelIdeal.nD Cert.MlaKernelIdeal.τ).loc Cert.MlaKernelIdeal.main_arg2) i = (r : EReal))
    ∧ (∀ i, ∃ r : ℝ, m ((c.tc : Thread Cert.MlaKernelIdeal.nD Cert.MlaKernelIdeal.τ).loc Cert.MlaKernelIdeal.main_arg3) i = (r : EReal))
    ∧ (∀ i, ∃ r : ℝ, m ((c.tc : Thread Cert.MlaKernelIdeal.nD Cert.MlaKernelIdeal.τ).loc Cert.MlaKernelIdeal.main_arg4) i = (r : EReal)) := by
  obtain ⟨h0, h1, h2, h3, h4⟩ := h c
  exact ⟨Diff.real_of_pre _ preFacts.1 h0, Diff.real_of_pre _ preFacts.2 h1, Diff.real_of_pre _ preFacts.1 h2,
    Diff.real_of_pre _ preFacts.3 h3, Diff.real_of_pre _ preFacts.1 h4⟩

/-- Every index of the result is a row of a sequence of the batch and a channel of a head. -/
theorem exists_row_chan (y : Cert.MlaKernelIdeal.S32768x512.Idx) : ∃ (b : Fin 4) (s : Fin 8192) (h : Fin 8) (d : Fin 64),
    y = ix2 (⟨b.val * 8192 + s.val, by omega⟩ : Fin 32768) (chan h d) := by
  obtain ⟨i, j, rfl⟩ : ∃ (i : Fin 32768) (j : Fin 512), y = ix2 i j := ⟨y 0, y 1, eq_ix2 (n0 := 32768) (n1 := 512) y⟩
  refine ⟨⟨i.val / 8192, by omega⟩, ⟨i.val % 8192, by omega⟩, ⟨j.val / 64, by omega⟩, ⟨j.val % 64, by omega⟩, ?_⟩
  congr 1
  · exact Fin.ext (by show i.val = i.val / 8192 * 8192 + i.val % 8192; omega)
  · exact Fin.ext (by show j.val = j.val / 64 * 64 + j.val % 64; omega)

/-- On finite arguments the kernel's result array is the reference's. -/
theorem array_reference (m : (ℓ : Loc Cert.MlaKernelIdeal.nD Cert.MlaKernelIdeal.τ Cert.MlaKernelIdeal.sig) → Buf (Elt Ideal) ℓ)
    (hpre : Cert.Pre_MlaKernelIdeal_mla_finite (hPre_mla_finite := preFacts) m) (c : Dev Cert.MlaKernelIdeal.nD) :
    (Cert.MlaKernelIdeal.Gen.dats m 0 c).arrAt 3 Cert.MlaKernelIdeal.cfg0.N
      = Cert.MlaReferenceIdeal.Read.val_main_v21 (F := Ideal)
        (m ((c : Thread Cert.MlaKernelIdeal.nD Cert.MlaKernelIdeal.τ).loc Cert.MlaKernelIdeal.main_arg0))
        (m ((c : Thread Cert.MlaKernelIdeal.nD Cert.MlaKernelIdeal.τ).loc Cert.MlaKernelIdeal.main_arg1))
        (m ((c : Thread Cert.MlaKernelIdeal.nD Cert.MlaKernelIdeal.τ).loc Cert.MlaKernelIdeal.main_arg2))
        (m ((c : Thread Cert.MlaKernelIdeal.nD Cert.MlaKernelIdeal.τ).loc Cert.MlaKernelIdeal.main_arg3))
        (m ((c : Thread Cert.MlaKernelIdeal.nD Cert.MlaKernelIdeal.τ).loc Cert.MlaKernelIdeal.main_arg4)) := by
  obtain ⟨h0, h1, h2, h3, h4⟩ := reals m hpre c
  choose Qn hQn using h0
  choose Qr hQr using h1
  choose Kn hKn using h2
  choose Kr hKr using h3
  choose V hV using h4
  rw [array_eq m c (fun b s h x => Qn (ix4 b s h x)) (fun b s h x => Qr (ix4 b s h x)) (fun b s h x => Kn (ix4 b s h x))
    (fun b s x => Kr (ix3 b s x)) (fun b s h x => V (ix4 b s h x))
    (fun b s h x => hQn _) (fun b s h x => hQr _) (fun b s h x => hKn _) (fun b s x => hKr _) (fun b s h x => hV _)]
  funext y
  obtain ⟨b, s, h, d, rfl⟩ := exists_row_chan y
  rw [resArr_apply]
  exact (Ref.result _ _ _ _ _ (fun b s h x => Qn (ix4 b s h x)) (fun b s h x => Qr (ix4 b s h x)) (fun b s h x => Kn (ix4 b s h x))
    (fun b s x => Kr (ix3 b s x)) (fun b s h x => V (ix4 b s h x))
    (fun b s h x => hQn _) (fun b s h x => hQr _) (fun b s h x => hKn _) (fun b s x => hKr _) (fun b s h x => hV _) b s h d).symm

/-- The kernel terminates and leaves its arguments and semaphores as they were. -/
theorem frame_p : Cert.quiescent_MlaKernel (hMlaKernel := Cert.MlaKernel.Gen.facts) := fun m ρ _ => Cert.MlaKernel.Gen.frame m ρ

/-- The ideal kernel terminates and leaves its arguments and semaphores as they were. -/
theorem frame_pi : Cert.quiescent_MlaKernelIdeal (hMlaKernelIdeal := Cert.MlaKernelIdeal.Gen.facts) := fun m ρ _ => Cert.MlaKernelIdeal.Gen.frame m ρ

/-- So it does on finite arguments. -/
theorem frame_pi_finite : Cert.quiescent_MlaKernelIdeal_pre_mla_finite (hMlaKernelIdeal := Cert.MlaKernelIdeal.Gen.facts) (hPre_mla_finite := preFacts) :=
  fun m ρ _ => Cert.MlaKernelIdeal.Gen.frame m ρ

/-- The ideal reference terminates and leaves its arguments and semaphores as they were. -/
theorem frame_ri : Cert.quiescent_MlaReferenceIdeal (hMlaReferenceIdeal := Cert.MlaReferenceIdeal.Gen.facts) := fun m ρ _ =>
  (θ_run Cert.MlaReferenceIdeal.defs _ _).mono (fun r h => ⟨fun c => (h c).2, Idealize.ShloMosaic.sem_eq_zero_of_no_sems (by decide) r.2⟩)
    (Cert.MlaReferenceIdeal.Value.run (F := Ideal) m ρ)

/-- So it does on finite arguments. -/
theorem frame_ri_finite : Cert.quiescent_MlaReferenceIdeal_pre_mla_finite (hMlaReferenceIdeal := Cert.MlaReferenceIdeal.Gen.facts) (hPre_mla_finite := preFacts) :=
  fun m ρ _ => frame_ri m ρ trivial

/-- The ideal kernel is the kernel with its scale read as log₂ e / √96. -/
theorem preserves : Cert.preserves_MlaKernel_MlaKernelIdeal :=
  IdealRules.named_const.statement Cert.MlaKernelIdeal.κ "mla_scale" .f32 0x3E16C740#32 _ rfl

/-- On finite arguments kernel and reference compute the same array over the extended reals. -/
theorem algebraic : Cert.algebraic_MlaKernelIdeal_MlaReferenceIdeal_pre_mla_finite (hMlaKernelIdeal := Cert.MlaKernelIdeal.Gen.facts)
    (hMlaReferenceIdeal := Cert.MlaReferenceIdeal.Gen.facts) (hPre_mla_finite := preFacts) := by
  intro m ρ m' ρ' hpre hagree
  refine ⟨_, Cert.MlaKernelIdeal.Value.run_blocks (F := Ideal) m ρ, ?_⟩
  refine (θ_run Cert.MlaReferenceIdeal.defs _ _).mono (fun _ h c => ⟨(h c).1.trans ?_, (h c).2⟩)
    (Cert.MlaReferenceIdeal.Value.run (F := Ideal) m' ρ')
  obtain ⟨e0, e1, e2, e3, e4⟩ := hagree c
  rw [Cert.MlaReferenceIdeal.Read.val_main_v21_eq, e0, e1, e2, e3, e4]
  exact (array_reference m hpre c).symm

end Cert.Mla
end
-- ==== Proof.Merge.Spec.lean ====
/- The gated merge at one row: the modulated norm, four gated branches, the output projection, the residual and the norm
   after it. -/
module

public import Idealize.ShloMosaic.PureOps.Ideal

@[expose] public section

noncomputable section

namespace Cert.Merge

open Idealize.ShloMosaic
open scoped BigOperators

/-- The mean of a row. -/
def mean (x : Fin 1024 → EReal) : EReal := Ideal.div (∑ k, x k) (Ideal.ofBits .f32 0x44800000#32)

/-- A row centred and scaled to unit variance. -/
def nrm (x : Fin 1024 → EReal) (j : Fin 1024) : EReal :=
  (x j - mean x) * Ideal.rsqrt (mean (fun k => (x k - mean x) * (x k - mean x)) + Ideal.ofBits .f32 0x3727C5AC#32)

/-- The normed row, scaled and shifted. -/
def modulated (x sc sh : Fin 1024 → EReal) (j : Fin 1024) : EReal := nrm x j * (Ideal.ofBits .f32 0x3F800000#32 + sc j) + sh j

/-- The logistic function. -/
def gate (z : EReal) : EReal := Ideal.div (Ideal.ofBits .f32 0x3F800000#32) (Ideal.ofBits .f32 0x3F800000#32 + Ideal.exp (-z))

/-- One branch, gated. -/
def term (u : Fin 1024 → EReal) (wg : Fin 1024 → Fin 1024 → EReal) (o : Fin 512 → EReal) (wb : Fin 512 → Fin 1024 → EReal)
    (j : Fin 1024) : EReal := gate (∑ k, u k * wg k j) * ∑ k, o k * wb k j

/-- The four gated branches added. -/
def mixed (u : Fin 1024 → EReal) (wg : Fin 4 → Fin 1024 → Fin 1024 → EReal) (o : Fin 4 → Fin 512 → EReal)
    (wb : Fin 4 → Fin 512 → Fin 1024 → EReal) (j : Fin 1024) : EReal :=
  term u (wg 0) (o 0) (wb 0) j + term u (wg 1) (o 1) (wb 1) j + term u (wg 2) (o 2) (wb 2) j + term u (wg 3) (o 3) (wb 3) j

/-- The result row. -/
def res (x sh sc gm : Fin 1024 → EReal) (o : Fin 4 → Fin 512 → EReal) (wg : Fin 4 → Fin 1024 → Fin 1024 → EReal)
    (wb : Fin 4 → Fin 512 → Fin 1024 → EReal) (wo : Fin 1024 → Fin 1024 → EReal) (g b : Fin 1024 → EReal) (j : Fin 1024) : EReal :=
  nrm (fun i => Ideal.ofBits .f32 0x3FB504F3#32 * x i + gm i * ∑ k, mixed (modulated x sc sh) wg o wb k * wo k i) j * g j + b j

end Cert.Merge
end
-- ==== Proof.Merge.Tile.lean ====
/- What a grid point stores, as the merge of its rows. -/
module

public import proofs.«01_k».proof.Proof.Gen.MergeKernelIdeal.Frame
public import proofs.«01_k».proof.Proof.Merge.Spec
public import Idealize.ShloMosaic.Lib.Pipeline.Value
public import Idealize.ShloMosaic.Lib.Pointwise

@[expose] public section

set_option maxRecDepth 16384

noncomputable section

namespace Cert.Merge

open Cert.MergeKernelIdeal Cert.MergeKernelIdeal.Gen Idealize.ShloMosaic Idealize.ShloMosaic.TcCoe Idealize.SL.Sem
open scoped BigOperators

/-- The modulated rows. -/
theorem modulated_apply (v0 : Vec Ideal S512x1024 .f32) (v1 v2 : Vec Ideal S1x1x1024 .f32) (i : Fin 512) (j : Fin 1024) :
    k0_pay3 v0 v1 v2 (ix2 i j)
      = modulated (fun k => v0 (ix2 i k)) (fun k => v1 (ix3 0 0 k)) (fun k => v2 (ix3 0 0 k)) j := by
  unfold modulated nrm mean
  pointwise [k0_pay3, k0_pay2]

/-- The first gate's denominator. -/
theorem den_apply (v0 : Vec Ideal S512x1024 .f32) (v1 v2 : Vec Ideal S1x1x1024 .f32) (w : Vec Ideal S1x1024x1024 .bf16)
    (i : Fin 512) (j : Fin 1024) : k0_pay4 v0 v1 v2 w (ix2 i j)
      = Ideal.ofBits .f32 0x3F800000#32 + Ideal.exp (-∑ k, k0_pay3 v0 v1 v2 (ix2 i k) * w (ix3 0 k j)) := by
  rw [← zero_sub]
  pointwise [k0_pay4]

/-- The first two branches. -/
theorem two_apply (u : FVec Ideal S512x1024 .bf16) (d : FVec Ideal S512x1024 .f32) (o0 o1 : Vec Ideal S512x512 .bf16)
    (w0 w1 : Vec Ideal S1x512x1024 .bf16) (g1 : Vec Ideal S1x1024x1024 .bf16) (i : Fin 512) (j : Fin 1024) :
    k0_pay6 u d k0_pay5 o0 w0 g1 o1 w1 (ix2 i j)
      = Ideal.div (Ideal.ofBits .f32 0x3F800000#32) (d (ix2 i j)) * (∑ k, o0 (ix2 i k) * w0 (ix3 0 k j))
        + term (fun k => u (ix2 i k)) (fun k j => g1 (ix3 0 k j)) (fun k => o1 (ix2 i k)) (fun k j => w1 (ix3 0 k j)) j := by
  unfold term gate
  rw [← zero_sub]
  pointwise [k0_pay6, k0_pay5]

/-- The third gate. -/
theorem gate_apply (u : FVec Ideal S512x1024 .bf16) (g : Vec Ideal S1x1024x1024 .bf16) (i : Fin 512) (j : Fin 1024) :
    k0_pay7 u g (ix2 i j) = gate (∑ k, u (ix2 i k) * g (ix3 0 k j)) := by
  unfold gate
  rw [← zero_sub]
  pointwise [k0_pay7]

/-- The output projection of the four branches, times the residual's gate. -/
theorem proj_apply (u : FVec Ideal S512x1024 .bf16) (s γ : FVec Ideal S512x1024 .f32) (o2 o3 : Vec Ideal S512x512 .bf16)
    (w2 w3 : Vec Ideal S1x512x1024 .bf16) (g3 : Vec Ideal S1x1024x1024 .bf16) (wo : Vec Ideal S1024x1024 .bf16)
    (gm : Vec Ideal S1x1x1024 .f32) (i : Fin 512) (j : Fin 1024) :
    k0_pay9 u s γ o2 w2 g3 o3 w3 wo gm (ix2 i j)
      = gm (ix3 0 0 j) * ∑ n, (s (ix2 i n) + γ (ix2 i n) * (∑ k, o2 (ix2 i k) * w2 (ix3 0 k n))
        + term (fun k => u (ix2 i k)) (fun k j => g3 (ix3 0 k j)) (fun k => o3 (ix2 i k)) (fun k j => w3 (ix3 0 k j)) n) * wo (ix2 n j) := by
  unfold term gate
  simp only [← zero_sub]
  pointwise [k0_pay9]

/-- The scaled residual. -/
theorem resid_apply (v : Vec Ideal S512x1024 .f32) (i : Fin 512) (j : Fin 1024) :
    k0_pay8 (k0_pay2 v) (ix2 i j) = Ideal.ofBits .f32 0x3FB504F3#32 * v (ix2 i j) := by
  pointwise [k0_pay8, k0_pay2]

/-- The norm after the residual. -/
theorem last_apply (a b : FVec Ideal S512x1024 .f32) (g c : Vec Ideal S1x1024 .f32) (i : Fin 512) (j : Fin 1024) :
    k0_pay1 a b g c (ix2 i j) = nrm (fun k => a (ix2 i k) + b (ix2 i k)) j * g (ix2 0 j) + c (ix2 0 j) := by
  unfold nrm mean
  pointwise [k0_pay1]

/-- Gate matrix `n` of the four. -/
theorem gates_apply (x8 : Vec Ideal S4x1024x1024 .bf16) (k j : Fin 1024) :
    View.ld x8 r0_2 (ix3 0 k j) = x8 (ix3 0 k j) ∧ View.ld x8 r0_5 (ix3 0 k j) = x8 (ix3 1 k j)
    ∧ View.ld x8 r0_7 (ix3 0 k j) = x8 (ix3 2 k j) ∧ View.ld x8 r0_9 (ix3 0 k j) = x8 (ix3 3 k j) := by
  refine ⟨?_, ?_, ?_, ?_⟩ <;> pointwise []

/-- Branch matrix `n` of the four. -/
theorem branches_apply (x9 : Vec Ideal S4x512x1024 .bf16) (k : Fin 512) (j : Fin 1024) :
    View.ld x9 r0_4 (ix3 0 k j) = x9 (ix3 0 k j) ∧ View.ld x9 r0_6 (ix3 0 k j) = x9 (ix3 1 k j)
    ∧ View.ld x9 r0_8 (ix3 0 k j) = x9 (ix3 2 k j) ∧ View.ld x9 r0_10 (ix3 0 k j) = x9 (ix3 3 k j) := by
  refine ⟨?_, ?_, ?_, ?_⟩ <;> pointwise []

/-- What a grid point stores. -/
theorem out_apply (x0 : Vec Ideal S512x1024 .f32) (x1 x2 x3 x4 : Vec Ideal S512x512 .bf16) (x5 x6 x7 : Vec Ideal S1x1x1024 .f32)
    (x8 : Vec Ideal S4x1024x1024 .bf16) (x9 : Vec Ideal S4x512x1024 .bf16) (x10 : Vec Ideal S1024x1024 .bf16)
    (x11 x12 : Vec Ideal S1x1024 .f32) (i : Fin 512) (j : Fin 1024) :
    out0_13 x0 x1 x2 x3 x4 x5 x6 x7 x8 x9 x10 x11 x12 (ix2 i j)
      = res (fun k => x0 (ix2 i k)) (fun k => x5 (ix3 0 0 k)) (fun k => x6 (ix3 0 0 k)) (fun k => x7 (ix3 0 0 k))
        (fun n k => (![x1, x2, x3, x4] n) (ix2 i k)) (fun n k j => x8 (ix3 n k j)) (fun n k j => x9 (ix3 n k j))
        (fun k j => x10 (ix2 k j)) (fun k => x11 (ix2 0 k)) (fun k => x12 (ix2 0 k)) j := by
  have z2 : (![0, 0] : Fin 2 → ℕ) = fun _ => 0 := by decide
  have z3 : (![0, 0, 0] : Fin 3 → ℕ) = fun _ => 0 := by decide
  have l0 : View.ld x0 r0_0 = x0 := View.ld_unit_zero (S := S512x1024) z2 _ x0
  have l1 : ∀ z : Vec Ideal S512x512 .bf16, View.ld z r0_3 = z := fun z => View.ld_unit_zero (S := S512x512) z2 _ z
  have l5 : ∀ z : Vec Ideal S1x1x1024 .f32, View.ld z r0_1 = z := fun z => View.ld_unit_zero (S := S1x1x1024) z3 _ z
  have l10 : View.ld x10 r0_11 = x10 := View.ld_unit_zero (S := S1024x1024) z2 _ x10
  have l11 : ∀ z : Vec Ideal S1x1024 .f32, View.ld z r0_12 = z := fun z => View.ld_unit_zero (S := S1x1024) z2 _ z
  have g := gates_apply x8
  have b := branches_apply x9
  unfold out0_13 k0_pay10
  rw [View.canon_unit_zero z2]
  simp only [l0, l1, l5, l10, l11]
  unfold res mixed
  simp only [last_apply, resid_apply, proj_apply, two_apply, den_apply, gate_apply, modulated_apply,
    fun k j => (g k j).1, fun k j => (g k j).2.1, fun k j => (g k j).2.2.1, fun k j => (g k j).2.2.2,
    fun k j => (b k j).1, fun k j => (b k j).2.1, fun k j => (b k j).2.2.1, fun k j => (b k j).2.2.2]
  rfl

end Cert.Merge
end
-- ==== Proof.Merge.Window.lean ====
/- What each grid point's input blocks hold, as entries of the argument arrays. -/
module

public import proofs.«01_k».proof.Proof.Gen.MergeKernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.Merge

open Cert.MergeKernelIdeal Cert.MergeKernelIdeal.Gen Idealize.ShloMosaic Idealize.ShloMosaic.TcCoe Idealize.SL.Sem

variable (m : (ℓ : Loc nD τ sig) → Buf (Elt Ideal) ℓ) (c : Dev nD) (t : Fin cfg0.N)

/-- The grid point's number: its block of 512 rows. -/
def pt : Fin 64 := ⟨(grid0.coords t 0).val, (grid0.coords t 0).isLt⟩
/-- The grid point's batch entry. -/
def bat : Fin 4 := ⟨(pt t).val / 16, by have := (pt t).isLt; omega⟩
/-- The position of the grid point's `i`-th row. -/
def pos (i : Fin 512) : Fin 8192 := ⟨(pt t).val % 16 * 512 + i.val, by have := (pt t).isLt; omega⟩

/-- Where the windows' blocks lie. -/
theorem index_facts : ∀ t : Fin cfg0.N,
    win0_0.index t = ![(pt t).val, 0] ∧ win0_1.index t = ![(pt t).val, 0] ∧ win0_2.index t = ![(pt t).val, 0]
    ∧ win0_3.index t = ![(pt t).val, 0] ∧ win0_4.index t = ![(pt t).val, 0] ∧ win0_5.index t = ![(bat t).val, 0, 0]
    ∧ win0_6.index t = ![(bat t).val, 0, 0] ∧ win0_7.index t = ![(bat t).val, 0, 0] ∧ win0_8.index t = ![0, 0, 0]
    ∧ win0_9.index t = ![0, 0, 0] ∧ win0_10.index t = ![0, 0] ∧ win0_11.index t = ![0, 0] ∧ win0_12.index t = ![0, 0]
    ∧ win0_13.index t = ![(pt t).val, 0] :=
  (by decide +kernel : ∀ t : Fin grid0.N, _)

/-- The input's rows the launch reads. -/
theorem entry_x (b : Fin 4) (s : Fin 8192) (k : Fin 1024) :
    V m c main_v11 (ix2 ⟨b.val * 8192 + s.val, by omega⟩ k) = m ((c : Thread nD τ).loc main_arg0) (ix3 b s k) := by
  entry_read
  pointwise
  blk_ext []

/-- The first mixer's rows the launch reads. -/
theorem entry_a (b : Fin 4) (s : Fin 8192) (k : Fin 512) :
    V m c main_v1 (ix2 ⟨b.val * 8192 + s.val, by omega⟩ k) = m ((c : Thread nD τ).loc main_arg1) (ix3 b s k) := by
  entry_read
  pointwise
  blk_ext []

/-- The second mixer's. -/
theorem entry_b (b : Fin 4) (s : Fin 8192) (k : Fin 512) :
    V m c main_v3 (ix2 ⟨b.val * 8192 + s.val, by omega⟩ k) = m ((c : Thread nD τ).loc main_arg2) (ix3 b s k) := by
  entry_read
  pointwise
  blk_ext []

/-- The third mixer's. -/
theorem entry_c (b : Fin 4) (s : Fin 8192) (k : Fin 512) :
    V m c main_v5 (ix2 ⟨b.val * 8192 + s.val, by omega⟩ k) = m ((c : Thread nD τ).loc main_arg3) (ix3 b s k) := by
  entry_read
  pointwise
  blk_ext []

/-- The fourth mixer's. -/
theorem entry_d (b : Fin 4) (s : Fin 8192) (k : Fin 512) :
    V m c main_v7 (ix2 ⟨b.val * 8192 + s.val, by omega⟩ k) = m ((c : Thread nD τ).loc main_arg4) (ix3 b s k) := by
  entry_read
  pointwise
  blk_ext []

/-- The shift the launch reads. -/
theorem entry_sh (b : Fin 4) (k : Fin 1024) : V m c main_v8 (ix3 b 0 k) = m ((c : Thread nD τ).loc main_arg5) (ix2 b k) := by
  entry_read
  pointwise

/-- The scale the launch reads. -/
theorem entry_sc (b : Fin 4) (k : Fin 1024) : V m c main_v9 (ix3 b 0 k) = m ((c : Thread nD τ).loc main_arg6) (ix2 b k) := by
  entry_read
  pointwise

/-- The residual's gate the launch reads. -/
theorem entry_gm (b : Fin 4) (k : Fin 1024) : V m c main_v10 (ix3 b 0 k) = m ((c : Thread nD τ).loc main_arg7) (ix2 b k) := by
  entry_read
  pointwise

/-- The gate matrices the launch reads. -/
theorem entry_wg (n : Fin 4) (k j : Fin 1024) : V m c main_v12 (ix3 n k j) = m ((c : Thread nD τ).loc main_arg8) (ix3 n k j) := by
  entry_read
  pointwise

/-- The branch matrices the launch reads. -/
theorem entry_wb (n : Fin 4) (k : Fin 512) (j : Fin 1024) :
    V m c main_v13 (ix3 n k j) = m ((c : Thread nD τ).loc main_arg9) (ix3 n k j) := by
  entry_read
  pointwise

/-- The output matrix the launch reads. -/
theorem entry_wo (k j : Fin 1024) : V m c main_v14 (ix2 k j) = m ((c : Thread nD τ).loc main_arg10) (ix2 k j) := by
  entry_read
  pointwise

/-- The last gain the launch reads. -/
theorem entry_g (k : Fin 1024) : V m c main_v15 (ix2 0 k) = m ((c : Thread nD τ).loc main_arg11) (ix1 k) := by
  entry_read
  pointwise

/-- The last bias the launch reads. -/
theorem entry_bias (k : Fin 1024) : V m c main_v16 (ix2 0 k) = m ((c : Thread nD τ).loc main_arg12) (ix1 k) := by
  entry_read
  pointwise

/-- The input block. -/
theorem read_x (i : Fin 512) (k : Fin 1024) :
    iblk m c 0 t (ix2 i k) = m ((c : Thread nD τ).loc main_arg0) (ix3 (bat t) (pos t i) k) := by
  have e := (index_facts t).1
  have h : ((cfg0.win 0).blk t).view.emb (ix2 i k) = ix2 (⟨(bat t).val * 8192 + (pos t i).val, by omega⟩ : Fin 32768) k := by
    blk_ext [e, bat, pos]
  exact (congrArg (V m c main_v11) h).trans (entry_x m c (bat t) (pos t i) k)

/-- The first mixer's block. -/
theorem read_a (i k : Fin 512) :
    iblk m c 1 t (ix2 i k) = m ((c : Thread nD τ).loc main_arg1) (ix3 (bat t) (pos t i) k) := by
  have e := (index_facts t).2.1
  have h : ((cfg0.win 1).blk t).view.emb (ix2 i k) = ix2 (⟨(bat t).val * 8192 + (pos t i).val, by omega⟩ : Fin 32768) k := by
    blk_ext [e, bat, pos]
  exact (congrArg (V m c main_v1) h).trans (entry_a m c (bat t) (pos t i) k)

/-- The second mixer's block. -/
theorem read_b (i k : Fin 512) :
    iblk m c 2 t (ix2 i k) = m ((c : Thread nD τ).loc main_arg2) (ix3 (bat t) (pos t i) k) := by
  have e := (index_facts t).2.2.1
  have h : ((cfg0.win 2).blk t).view.emb (ix2 i k) = ix2 (⟨(bat t).val * 8192 + (pos t i).val, by omega⟩ : Fin 32768) k := by
    blk_ext [e, bat, pos]
  exact (congrArg (V m c main_v3) h).trans (entry_b m c (bat t) (pos t i) k)

/-- The third mixer's block. -/
theorem read_c (i k : Fin 512) :
    iblk m c 3 t (ix2 i k) = m ((c : Thread nD τ).loc main_arg3) (ix3 (bat t) (pos t i) k) := by
  have e := (index_facts t).2.2.2.1
  have h : ((cfg0.win 3).blk t).view.emb (ix2 i k) = ix2 (⟨(bat t).val * 8192 + (pos t i).val, by omega⟩ : Fin 32768) k := by
    blk_ext [e, bat, pos]
  exact (congrArg (V m c main_v5) h).trans (entry_c m c (bat t) (pos t i) k)

/-- The fourth mixer's block. -/
theorem read_d (i k : Fin 512) :
    iblk m c 4 t (ix2 i k) = m ((c : Thread nD τ).loc main_arg4) (ix3 (bat t) (pos t i) k) := by
  have e := (index_facts t).2.2.2.2.1
  have h : ((cfg0.win 4).blk t).view.emb (ix2 i k) = ix2 (⟨(bat t).val * 8192 + (pos t i).val, by omega⟩ : Fin 32768) k := by
    blk_ext [e, bat, pos]
  exact (congrArg (V m c main_v7) h).trans (entry_d m c (bat t) (pos t i) k)

/-- The shift's block. -/
theorem read_sh (k : Fin 1024) : iblk m c 5 t (ix3 0 0 k) = m ((c : Thread nD τ).loc main_arg5) (ix2 (bat t) k) := by
  have e := (index_facts t).2.2.2.2.2.1
  have h : ((cfg0.win 5).blk t).view.emb (ix3 0 0 k) = ix3 (bat t) 0 k := by blk_ext [e]
  exact (congrArg (V m c main_v8) h).trans (entry_sh m c (bat t) k)

/-- The scale's block. -/
theorem read_sc (k : Fin 1024) : iblk m c 6 t (ix3 0 0 k) = m ((c : Thread nD τ).loc main_arg6) (ix2 (bat t) k) := by
  have e := (index_facts t).2.2.2.2.2.2.1
  have h : ((cfg0.win 6).blk t).view.emb (ix3 0 0 k) = ix3 (bat t) 0 k := by blk_ext [e]
  exact (congrArg (V m c main_v9) h).trans (entry_sc m c (bat t) k)

/-- The block of the residual's gate. -/
theorem read_gm (k : Fin 1024) : iblk m c 7 t (ix3 0 0 k) = m ((c : Thread nD τ).loc main_arg7) (ix2 (bat t) k) := by
  have e := (index_facts t).2.2.2.2.2.2.2.1
  have h : ((cfg0.win 7).blk t).view.emb (ix3 0 0 k) = ix3 (bat t) 0 k := by blk_ext [e]
  exact (congrArg (V m c main_v10) h).trans (entry_gm m c (bat t) k)

/-- The gate matrices' block. -/
theorem read_wg (n : Fin 4) (k j : Fin 1024) : iblk m c 8 t (ix3 n k j) = m ((c : Thread nD τ).loc main_arg8) (ix3 n k j) := by
  have e := (index_facts t).2.2.2.2.2.2.2.2.1
  have h : ((cfg0.win 8).blk t).view.emb (ix3 n k j) = ix3 n k j := by blk_ext [e]
  exact (congrArg (V m c main_v12) h).trans (entry_wg m c n k j)

/-- The branch matrices' block. -/
theorem read_wb (n : Fin 4) (k : Fin 512) (j : Fin 1024) :
    iblk m c 9 t (ix3 n k j) = m ((c : Thread nD τ).loc main_arg9) (ix3 n k j) := by
  have e := (index_facts t).2.2.2.2.2.2.2.2.2.1
  have h : ((cfg0.win 9).blk t).view.emb (ix3 n k j) = ix3 n k j := by blk_ext [e]
  exact (congrArg (V m c main_v13) h).trans (entry_wb m c n k j)

/-- The output matrix's block. -/
theorem read_wo (k j : Fin 1024) : iblk m c 10 t (ix2 k j) = m ((c : Thread nD τ).loc main_arg10) (ix2 k j) := by
  have e := (index_facts t).2.2.2.2.2.2.2.2.2.2.1
  have h : ((cfg0.win 10).blk t).view.emb (ix2 k j) = ix2 k j := by blk_ext [e]
  exact (congrArg (V m c main_v14) h).trans (entry_wo m c k j)

/-- The last gain's block. -/
theorem read_g (k : Fin 1024) : iblk m c 11 t (ix2 0 k) = m ((c : Thread nD τ).loc main_arg11) (ix1 k) := by
  have e := (index_facts t).2.2.2.2.2.2.2.2.2.2.2.1
  have h : ((cfg0.win 11).blk t).view.emb (ix2 0 k) = ix2 0 k := by blk_ext [e]
  exact (congrArg (V m c main_v15) h).trans (entry_g m c k)

/-- The last bias's block. -/
theorem read_bias (k : Fin 1024) : iblk m c 12 t (ix2 0 k) = m ((c : Thread nD τ).loc main_arg12) (ix1 k) := by
  have e := (index_facts t).2.2.2.2.2.2.2.2.2.2.2.2.1
  have h : ((cfg0.win 12).blk t).view.emb (ix2 0 k) = ix2 0 k := by blk_ext [e]
  exact (congrArg (V m c main_v16) h).trans (entry_bias m c k)

/-- Where an output block's element lies in the result. -/
theorem emb_out (i : Fin 512) (j : Fin 1024) : ((cfg0.win 13).blk t).view.emb (ix2 i j)
    = ix2 (⟨(bat t).val * 8192 + (pos t i).val, by omega⟩ : Fin 32768) j := by
  have e := (index_facts t).2.2.2.2.2.2.2.2.2.2.2.2.2
  blk_ext [e, bat, pos]

end Cert.Merge
end
-- ==== Proof.Merge.Array.lean ====
/- The kernel's result array. -/
module

public import proofs.«01_k».proof.Proof.Merge.Tile
public import proofs.«01_k».proof.Proof.Merge.Window

@[expose] public section

set_option maxRecDepth 16384

noncomputable section

namespace Cert.Merge

open Cert.MergeKernelIdeal Cert.MergeKernelIdeal.Gen Idealize.ShloMosaic Idealize.ShloMosaic.TcCoe Idealize.SL.Sem
open scoped BigOperators

/-- The result at batch entry `b`, position `s`, channel `j`, of the thirteen arguments. -/
def row (x : FVec Ideal S4x8192x1024 .f32) (oa ob oc od : FVec Ideal S4x8192x512 .f32) (sh sc gm : FVec Ideal S4x1024 .f32)
    (wg : FVec Ideal S4x1024x1024 .f32) (wb : FVec Ideal S4x512x1024 .f32) (wo : FVec Ideal S1024x1024 .f32) (g bi : FVec Ideal S1024 .f32)
    (b : Fin 4) (s : Fin 8192) (j : Fin 1024) : EReal :=
  res (fun k => x (ix3 b s k)) (fun k => sh (ix2 b k)) (fun k => sc (ix2 b k)) (fun k => gm (ix2 b k))
    (fun n k => (![oa, ob, oc, od] n) (ix3 b s k)) (fun n k j => wg (ix3 n k j)) (fun n k j => wb (ix3 n k j))
    (fun k j => wo (ix2 k j)) (fun k => g (ix1 k)) (fun k => bi (ix1 k)) j

variable (m : (ℓ : Loc nD τ sig) → Buf (Elt Ideal) ℓ) (c : Dev nD)

/-- The result at batch entry `b`, position `s`, channel `j`, of a memory's arguments. -/
abbrev rowOf (b : Fin 4) (s : Fin 8192) (j : Fin 1024) : EReal :=
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) b s j

/-- The mixers' blocks. -/
theorem read_o (t : Fin cfg0.N) (n : Fin 4) (i k : Fin 512) :
    ((![iblk m c 1 t, iblk m c 2 t, iblk m c 3 t, iblk m c 4 t] : Fin 4 → Vec Ideal S512x512 .bf16) n) (ix2 i k)
      = ((![m ((c : Thread nD τ).loc main_arg1), m ((c : Thread nD τ).loc main_arg2), m ((c : Thread nD τ).loc main_arg3),
        m ((c : Thread nD τ).loc main_arg4)] : Fin 4 → FVec Ideal S4x8192x512 .f32) n) (ix3 (bat t) (pos t i) k) := by
  fin_cases n
  · exact read_a m c t i k
  · exact read_b m c t i k
  · exact read_c m c t i k
  · exact read_d m c t i k

/-- What a grid point stores. -/
theorem block_apply (t : Fin cfg0.N) (i : Fin 512) (j : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 i j) = rowOf m c (bat t) (pos t i) j := by
  refine (out_apply _ _ _ _ _ _ _ _ _ _ _ _ _ i j).trans ?_
  unfold rowOf row
  congr 1
  · exact funext fun k => read_x m c t i k
  · exact funext fun k => read_sh m c t k
  · exact funext fun k => read_sc m c t k
  · exact funext fun k => read_gm m c t k
  · exact funext fun n => funext fun k => read_o m c t n i k
  · exact funext fun n => funext fun k => funext fun j => read_wg m c t n k j
  · exact funext fun n => funext fun k => funext fun j => read_wb m c t n k j
  · exact funext fun k => funext fun j => read_wo m c t k j
  · exact funext fun k => read_g m c t k
  · exact funext fun k => read_bias m c t k

/-- The result array's function. -/
def resArr : S32768x1024.Idx → EReal := fun y =>
  rowOf m c ⟨(y 0).val / 8192, Nat.div_lt_of_lt_mul (y 0).isLt⟩ ⟨(y 0).val % 8192, Nat.mod_lt _ (by decide)⟩ (y 1)

/-- The result array's function at a row given by its parts. -/
theorem resArr_apply (b : Fin 4) (s : Fin 8192) (j : Fin 1024) :
    resArr m c (ix2 (⟨b.val * 8192 + s.val, by omega⟩ : Fin 32768) j) = rowOf m c b s j := by
  have e1 : (⟨(b.val * 8192 + s.val) / 8192, by omega⟩ : Fin 4) = b := Fin.ext (by show _ / 8192 = b.val; omega)
  have e2 : (⟨(b.val * 8192 + s.val) % 8192, by omega⟩ : Fin 8192) = s := Fin.ext (by show _ % 8192 = s.val; omega)
  show rowOf m c ⟨(b.val * 8192 + s.val) / 8192, _⟩ ⟨(b.val * 8192 + s.val) % 8192, _⟩ j = _
  rw [e1, e2]

/-- THE KERNEL'S RESULT ARRAY. -/
theorem array_eq : (dats m 0 c).arrAt 13 cfg0.N = resArr m c := by
  refine (dats m 0 c).arrAt_eq_of_covers 13 _ (by decide +kernel) fun t hf y => ?_
  refine (congrFun (Cert.MergeKernelIdeal.Value.flushed13 m c t) y).trans ?_
  obtain ⟨i, j, rfl⟩ : ∃ (i : Fin 512) (j : Fin 1024), y = ix2 i j := ⟨y 0, y 1, eq_ix2 (n0 := 512) (n1 := 1024) y⟩
  rw [emb_out]
  exact (block_apply m c t i j).trans (resArr_apply m c (bat t) (pos t i) j).symm

end Cert.Merge
end
-- ==== Proof.Merge.Reference.lean ====
/- The reference read at an index. -/
module

public import proofs.«01_k».proof.Proof.Gen.MergeReferenceIdeal.Read
public import proofs.«01_k».proof.Proof.Merge.Spec
public import Idealize.ShloMosaic.Lib.Pointwise

@[expose] public section

set_option maxRecDepth 16384

noncomputable section

namespace Cert.Merge.Ref

open Cert.MergeReferenceIdeal Cert.MergeReferenceIdeal.Gen Cert.MergeReferenceIdeal.Read Idealize.ShloMosaic Idealize.SL.Sem
open scoped BigOperators

variable (x : (⟨S4x8192x1024, .f32⟩ : BufTy).Contents (Elt Ideal)) (oa ob oc od : (⟨S4x8192x512, .f32⟩ : BufTy).Contents (Elt Ideal))
  (sh sc gm : (⟨S4x1024, .f32⟩ : BufTy).Contents (Elt Ideal)) (wg : (⟨S4x1024x1024, .f32⟩ : BufTy).Contents (Elt Ideal))
  (wb : (⟨S4x512x1024, .f32⟩ : BufTy).Contents (Elt Ideal)) (wo : (⟨S1024x1024, .f32⟩ : BufTy).Contents (Elt Ideal))
  (g bi : (⟨S1024, .f32⟩ : BufTy).Contents (Elt Ideal)) (b : Fin 4) (s : Fin 8192)

/-- The row's mean. -/
theorem mean_x : val_main_v3 x (ix3 b s 0) = mean (fun k => x (ix3 b s k)) := by
  unfold mean
  pointwise [val_main_v3, val_main_v2, val_main_v1, val_main_v0, val_main_cst, val_main_cst_0]

/-- The row's mean of squares. -/
theorem var_x : val_main_v10 x (ix3 b s 0)
    = mean (fun k => (x (ix3 b s k) - val_main_v3 x (ix3 b s 0)) * (x (ix3 b s k) - val_main_v3 x (ix3 b s 0))) := by
  unfold mean
  pointwise [val_main_v10, val_main_v9, val_main_v8, val_main_v7, val_main_v6, val_main_v5, val_main_v4, val_main_cst_1, val_main_cst_2]

/-- The modulated row. -/
theorem modulated_eq (j : Fin 1024) : val_main_v25 x sh sc (ix3 b s j)
    = modulated (fun k => x (ix3 b s k)) (fun k => sc (ix2 b k)) (fun k => sh (ix2 b k)) j := by
  unfold modulated nrm
  rw [← mean_x, ← var_x]
  pointwise [val_main_v25, val_main_v24, val_main_v23, val_main_v22, val_main_v21, val_main_v20, val_main_v19, val_main_v18, val_main_v17,
    val_main_v16, val_main_v15, val_main_v14, val_main_v13, val_main_v12, val_main_v11, val_main_cst_3, val_main_cst_4]

/-- The first gated branch. -/
theorem term_oa (j : Fin 1024) : val_main_v39 x oa sh sc wg wb (ix3 b s j)
    = term (fun k => val_main_v25 x sh sc (ix3 b s k)) (fun k j => wg (ix3 0 k j)) (fun k => oa (ix3 b s k)) (fun k j => wb (ix3 0 k j)) j := by
  unfold term gate
  pointwise [val_main_v39, val_main_v38, val_main_v37, val_main_v36, val_main_v35, val_main_v34, val_main_v33, val_main_v32, val_main_v31, val_main_v30, val_main_v29, val_main_v28, val_main_v27, val_main_cst_6, val_main_cst_7]

/-- The second gated branch. -/
theorem term_ob (j : Fin 1024) : val_main_v53 x ob sh sc wg wb (ix3 b s j)
    = term (fun k => val_main_v25 x sh sc (ix3 b s k)) (fun k j => wg (ix3 1 k j)) (fun k => ob (ix3 b s k)) (fun k j => wb (ix3 1 k j)) j := by
  unfold term gate
  pointwise [val_main_v53, val_main_v52, val_main_v51, val_main_v50, val_main_v49, val_main_v48, val_main_v47, val_main_v46, val_main_v45, val_main_v44, val_main_v43, val_main_v42, val_main_v41, val_main_cst_8, val_main_cst_9]

/-- The third gated branch. -/
theorem term_oc (j : Fin 1024) : val_main_v67 x oc sh sc wg wb (ix3 b s j)
    = term (fun k => val_main_v25 x sh sc (ix3 b s k)) (fun k j => wg (ix3 2 k j)) (fun k => oc (ix3 b s k)) (fun k j => wb (ix3 2 k j)) j := by
  unfold term gate
  pointwise [val_main_v67, val_main_v66, val_main_v65, val_main_v64, val_main_v63, val_main_v62, val_main_v61, val_main_v60, val_main_v59, val_main_v58, val_main_v57, val_main_v56, val_main_v55, val_main_cst_10, val_main_cst_11]

/-- The fourth gated branch. -/
theorem term_od (j : Fin 1024) : val_main_v81 x od sh sc wg wb (ix3 b s j)
    = term (fun k => val_main_v25 x sh sc (ix3 b s k)) (fun k j => wg (ix3 3 k j)) (fun k => od (ix3 b s k)) (fun k j => wb (ix3 3 k j)) j := by
  unfold term gate
  pointwise [val_main_v81, val_main_v80, val_main_v79, val_main_v78, val_main_v77, val_main_v76, val_main_v75, val_main_v74, val_main_v73, val_main_v72, val_main_v71, val_main_v70, val_main_v69, val_main_cst_12, val_main_cst_13]

/-- The branches' sum. -/
theorem mixed_eq (j : Fin 1024) : val_main_v82 x oa ob oc od sh sc wg wb (ix3 b s j)
    = mixed (modulated (fun k => x (ix3 b s k)) (fun k => sc (ix2 b k)) (fun k => sh (ix2 b k))) (fun n k j => wg (ix3 n k j))
      (fun n k => (![oa, ob, oc, od] n) (ix3 b s k)) (fun n k j => wb (ix3 n k j)) j := by
  have e : val_main_v82 x oa ob oc od sh sc wg wb (ix3 b s j)
      = val_main_v39 x oa sh sc wg wb (ix3 b s j) + val_main_v53 x ob sh sc wg wb (ix3 b s j)
        + val_main_v67 x oc sh sc wg wb (ix3 b s j) + val_main_v81 x od sh sc wg wb (ix3 b s j) := by
    pointwise [val_main_v82, val_main_v68, val_main_v54, val_main_v40, val_main_v26, val_main_cst_5]
  rw [e, term_oa, term_ob, term_oc, term_od]
  simp only [modulated_eq]
  rfl

/-- The residual with the projected branches. -/
theorem resid_eq (j : Fin 1024) : val_main_v89 x oa ob oc od sh sc gm wg wb wo (ix3 b s j)
    = Ideal.ofBits .f32 0x3FB504F3#32 * x (ix3 b s j) + gm (ix2 b j) * ∑ k, val_main_v82 x oa ob oc od sh sc wg wb (ix3 b s k) * wo (ix2 k j) := by
  pointwise [val_main_v89, val_main_v88, val_main_v87, val_main_v86, val_main_v85, val_main_v84, val_main_v83, val_main_cst_14]

/-- The mean of the residual's row. -/
theorem mean_z : val_main_v93 x oa ob oc od sh sc gm wg wb wo (ix3 b s 0)
    = mean (fun k => val_main_v89 x oa ob oc od sh sc gm wg wb wo (ix3 b s k)) := by
  unfold mean
  pointwise [val_main_v93, val_main_v92, val_main_v91, val_main_v90, val_main_cst_15, val_main_cst_16]

/-- Its mean of squares. -/
theorem var_z : val_main_v100 x oa ob oc od sh sc gm wg wb wo (ix3 b s 0)
    = mean (fun k => (val_main_v89 x oa ob oc od sh sc gm wg wb wo (ix3 b s k) - val_main_v93 x oa ob oc od sh sc gm wg wb wo (ix3 b s 0))
      * (val_main_v89 x oa ob oc od sh sc gm wg wb wo (ix3 b s k) - val_main_v93 x oa ob oc od sh sc gm wg wb wo (ix3 b s 0))) := by
  unfold mean
  pointwise [val_main_v100, val_main_v99, val_main_v98, val_main_v97, val_main_v96, val_main_v95, val_main_v94, val_main_cst_17, val_main_cst_18]

/-- The result's rows, over the residual's. -/
theorem last_eq (j : Fin 1024) : val_main_v114 x oa ob oc od sh sc gm wg wb wo g bi (ix2 (⟨b.val * 8192 + s.val, by omega⟩ : Fin 32768) j)
    = nrm (fun k => val_main_v89 x oa ob oc od sh sc gm wg wb wo (ix3 b s k)) j * g (ix1 j) + bi (ix1 j) := by
  unfold nrm
  rw [← mean_z, ← var_z]
  pointwise [val_main_v114, val_main_v113, val_main_v112, val_main_v111, val_main_v110, val_main_v109, val_main_v108, val_main_v107,
    val_main_v106, val_main_v105, val_main_v104, val_main_v103, val_main_v102, val_main_v101, val_main_cst_19]

/-- The reference's result. -/
theorem result (j : Fin 1024) : val_main_v114 x oa ob oc od sh sc gm wg wb wo g bi (ix2 (⟨b.val * 8192 + s.val, by omega⟩ : Fin 32768) j)
    = res (fun k => x (ix3 b s k)) (fun k => sh (ix2 b k)) (fun k => sc (ix2 b k)) (fun k => gm (ix2 b k))
      (fun n k => (![oa, ob, oc, od] n) (ix3 b s k)) (fun n k j => wg (ix3 n k j)) (fun n k j => wb (ix3 n k j))
      (fun k j => wo (ix2 k j)) (fun k => g (ix1 k)) (fun k => bi (ix1 k)) j := by
  rw [last_eq]
  simp only [resid_eq, mixed_eq]
  rfl

end Cert.Merge.Ref
end
-- ==== Proof.Merge.Claims.lean ====
/- The gated merge's claims, one theorem each. -/
module

public import proofs.«01_k».proof.Proof.Merge.Array
public import proofs.«01_k».proof.Proof.Merge.Reference
public import proofs.«01_k».proof.Defs
public import proofs.«01_k».proof.Proof.Gen.MergeKernel.Frame
public import Idealize.ShloMosaic.Lib.Quiescent

@[expose] public section

noncomputable section

namespace Cert.Merge

open Idealize.ShloMosaic Idealize.ShloMosaic.TcCoe Idealize.SL.Sem

/-- Every index of the result is a row of a sequence of the batch and a channel. -/
theorem exists_row (y : Cert.MergeKernelIdeal.S32768x1024.Idx) : ∃ (b : Fin 4) (s : Fin 8192) (j : Fin 1024),
    y = ix2 (⟨b.val * 8192 + s.val, by omega⟩ : Fin 32768) j := by
  obtain ⟨i, j, rfl⟩ : ∃ (i : Fin 32768) (j : Fin 1024), y = ix2 i j := ⟨y 0, y 1, eq_ix2 (n0 := 32768) (n1 := 1024) y⟩
  refine ⟨⟨i.val / 8192, by omega⟩, ⟨i.val % 8192, by omega⟩, j, ?_⟩
  congr 1
  exact Fin.ext (by show i.val = i.val / 8192 * 8192 + i.val % 8192; omega)

/-- The kernel's result array is the reference's. -/
theorem array_reference (m : (ℓ : Loc Cert.MergeKernelIdeal.nD Cert.MergeKernelIdeal.τ Cert.MergeKernelIdeal.sig) → Buf (Elt Ideal) ℓ)
    (c : Dev Cert.MergeKernelIdeal.nD) :
    (Cert.MergeKernelIdeal.Gen.dats m 0 c).arrAt 13 Cert.MergeKernelIdeal.cfg0.N
      = Cert.MergeReferenceIdeal.Read.val_main_v114 (F := Ideal)
        (m ((c : Thread Cert.MergeKernelIdeal.nD Cert.MergeKernelIdeal.τ).loc Cert.MergeKernelIdeal.main_arg0))
        (m ((c : Thread Cert.MergeKernelIdeal.nD Cert.MergeKernelIdeal.τ).loc Cert.MergeKernelIdeal.main_arg1))
        (m ((c : Thread Cert.MergeKernelIdeal.nD Cert.MergeKernelIdeal.τ).loc Cert.MergeKernelIdeal.main_arg2))
        (m ((c : Thread Cert.MergeKernelIdeal.nD Cert.MergeKernelIdeal.τ).loc Cert.MergeKernelIdeal.main_arg3))
        (m ((c : Thread Cert.MergeKernelIdeal.nD Cert.MergeKernelIdeal.τ).loc Cert.MergeKernelIdeal.main_arg4))
        (m ((c : Thread Cert.MergeKernelIdeal.nD Cert.MergeKernelIdeal.τ).loc Cert.MergeKernelIdeal.main_arg5))
        (m ((c : Thread Cert.MergeKernelIdeal.nD Cert.MergeKernelIdeal.τ).loc Cert.MergeKernelIdeal.main_arg6))
        (m ((c : Thread Cert.MergeKernelIdeal.nD Cert.MergeKernelIdeal.τ).loc Cert.MergeKernelIdeal.main_arg7))
        (m ((c : Thread Cert.MergeKernelIdeal.nD Cert.MergeKernelIdeal.τ).loc Cert.MergeKernelIdeal.main_arg8))
        (m ((c : Thread Cert.MergeKernelIdeal.nD Cert.MergeKernelIdeal.τ).loc Cert.MergeKernelIdeal.main_arg9))
        (m ((c : Thread Cert.MergeKernelIdeal.nD Cert.MergeKernelIdeal.τ).loc Cert.MergeKernelIdeal.main_arg10))
        (m ((c : Thread Cert.MergeKernelIdeal.nD Cert.MergeKernelIdeal.τ).loc Cert.MergeKernelIdeal.main_arg11))
        (m ((c : Thread Cert.MergeKernelIdeal.nD Cert.MergeKernelIdeal.τ).loc Cert.MergeKernelIdeal.main_arg12)) := by
  rw [array_eq m c]
  funext y
  obtain ⟨b, s, j, rfl⟩ := exists_row y
  rw [resArr_apply]
  exact (Ref.result _ _ _ _ _ _ _ _ _ _ _ _ _ b s j).symm

/-- The kernel terminates and leaves its arguments and semaphores as they were. -/
theorem frame_p : Cert.quiescent_MergeKernel (hMergeKernel := Cert.MergeKernel.Gen.facts) := fun m ρ _ => Cert.MergeKernel.Gen.frame m ρ

/-- The ideal kernel terminates and leaves its arguments and semaphores as they were. -/
theorem frame_pi : Cert.quiescent_MergeKernelIdeal (hMergeKernelIdeal := Cert.MergeKernelIdeal.Gen.facts) :=
  fun m ρ _ => Cert.MergeKernelIdeal.Gen.frame m ρ

/-- The ideal reference terminates and leaves its arguments and semaphores as they were. -/
theorem frame_ri : Cert.quiescent_MergeReferenceIdeal (hMergeReferenceIdeal := Cert.MergeReferenceIdeal.Gen.facts) := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

/-- The ideal kernel is the kernel. -/
theorem preserves : Cert.preserves_MergeKernel_MergeKernelIdeal := trivial

/-- Kernel and reference compute the same array over the extended reals. -/
theorem algebraic : Cert.algebraic_MergeKernelIdeal_MergeReferenceIdeal (hMergeKernelIdeal := Cert.MergeKernelIdeal.Gen.facts)
    (hMergeReferenceIdeal := Cert.MergeReferenceIdeal.Gen.facts) := by
  intro m ρ m' ρ' _ hagree
  refine ⟨_, Cert.MergeKernelIdeal.Value.run_blocks (F := Ideal) m ρ, ?_⟩
  refine (θ_run Cert.MergeReferenceIdeal.defs _ _).mono (fun _ h c => ⟨(h c).1.trans ?_, (h c).2⟩)
    (Cert.MergeReferenceIdeal.Value.run (F := Ideal) m' ρ')
  obtain ⟨e0, e1, e2, e3, e4, e5, e6, e7, e8, e9, e10, e11, e12⟩ := hagree c
  rw [Cert.MergeReferenceIdeal.Read.val_main_v114_eq, e0, e1, e2, e3, e4, e5, e6, e7, e8, e9, e10, e11, e12]
  exact (array_reference m c).symm

end Cert.Merge
end
-- ==== Proof.InProj.Tile.lean ====
/- What a grid point stores: products of the modulated rows with columns of the weights, and rotated ones. -/
module

public import proofs.«01_k».proof.Proof.Gen.InProjKernelIdeal.Frame
public import proofs.«01_k».proof.Proof.Merge.Spec
public import Idealize.ShloMosaic.Lib.Pipeline.Value
public import Idealize.ShloMosaic.Lib.Pipeline.ValueKit
public import Idealize.ShloMosaic.Lib.Pointwise

@[expose] public section

set_option maxRecDepth 16384

noncomputable section

namespace Cert.InProj

open Cert.InProjKernelIdeal Cert.InProjKernelIdeal.Gen Idealize.ShloMosaic Idealize.ShloMosaic.TcCoe Idealize.SL.Sem
open scoped BigOperators

/-- The modulated rows. -/
theorem modulated_apply (v0 : Vec Ideal S512x1024 .f32) (v1 v2 : Vec Ideal S1x1x1024 .f32) (i : Fin 512) (j : Fin 1024) :
    k0_pay1 v0 v1 v2 (ix2 i j)
      = Cert.Merge.modulated (fun k => v0 (ix2 i k)) (fun k => v1 (ix3 0 0 k)) (fun k => v2 (ix3 0 0 k)) j := by
  unfold Cert.Merge.modulated Cert.Merge.nrm Cert.Merge.mean
  pointwise [k0_pay1]

/-- A table's 128 lanes repeated four times. -/
theorem four_apply (v : FVec Ideal S512x128 .f32) (i j : Fin 512) :
    concatenate S512x512 1 [⟨S512x128, v⟩, ⟨S512x128, v⟩, ⟨S512x128, v⟩, ⟨S512x128, v⟩]
      concatenates_S512x128_S512x128_S512x128_S512x128_S512x512_d1 (ix2 i j)
      = v (ix2 i ⟨j.val % 128, Nat.mod_lt _ (by decide)⟩) := by
  pointwise
  split_ifs with h1 h2 h3
  all_goals blk_ext []

/-- A product plain. -/
theorem plain512_apply (u : FVec Ideal S512x1024 .bf16) (w : Vec Ideal S1024x512 .bf16) (i j : Fin 512) :
    k0_pay15 u w (ix2 i j) = ∑ k, u (ix2 i k) * w (ix2 k j) := by
  pointwise [k0_pay15]

/-- A product of 128 columns. -/
theorem plain128_apply (u : FVec Ideal S512x1024 .bf16) (w : Vec Ideal S1024x128 .bf16) (i : Fin 512) (j : Fin 128) :
    k0_pay7 u w (ix2 i j) = ∑ k, u (ix2 i k) * w (ix2 k j) := by
  pointwise [k0_pay7]

/-- A product of 384 columns. -/
theorem plain384_apply (u : FVec Ideal S512x1024 .bf16) (w : Vec Ideal S1024x384 .bf16) (i : Fin 512) (j : Fin 384) :
    k0_pay8 u w (ix2 i j) = ∑ k, u (ix2 i k) * w (ix2 k j) := by
  pointwise [k0_pay8]

/-- A product of 256 columns. -/
theorem plain256_apply (u : FVec Ideal S512x1024 .bf16) (w : Vec Ideal S1024x256 .bf16) (i : Fin 512) (j : Fin 256) :
    k0_pay10 u (k0_pay9 w) (constant S512x256 .f32 0x00000000#32) (ix2 i j) = ∑ k, u (ix2 i k) * w (ix2 k j) := by
  pointwise [k0_pay10, k0_pay9]

/-- Two products against cosine and sine. -/
theorem roped512_apply (u : FVec Ideal S512x1024 .bf16) (c s : FVec Ideal S512x128 .f32) (w r : Vec Ideal S1024x512 .bf16) (i j : Fin 512) :
    k0_pay12 u c s w r (ix2 i j) = (∑ k, u (ix2 i k) * w (ix2 k j)) * c (ix2 i ⟨j.val % 128, Nat.mod_lt _ (by decide)⟩)
      + (∑ k, u (ix2 i k) * r (ix2 k j)) * s (ix2 i ⟨j.val % 128, Nat.mod_lt _ (by decide)⟩) := by
  rw [← four_apply c i j, ← four_apply s i j]
  unfold k0_pay12
  generalize concatenate S512x512 1 [⟨S512x128, c⟩, ⟨S512x128, c⟩, ⟨S512x128, c⟩, ⟨S512x128, c⟩] _ = C
  generalize concatenate S512x512 1 [⟨S512x128, s⟩, ⟨S512x128, s⟩, ⟨S512x128, s⟩, ⟨S512x128, s⟩] _ = S
  pointwise []

/-- The first mixer's queries' payload is the third's. -/
theorem pay5_eq (v0 : Vec Ideal S512x1024 .f32) (v1 v2 : Vec Ideal S1x1x1024 .f32) (c s : FVec Ideal S512x128 .f32)
    (w r : Vec Ideal S1024x512 .bf16) : k0_pay5 (k0_pay1 v0 v1 v2) c s (k0_pay4 v0 v1 v2 w) r = k0_pay12 (k0_pay1 v0 v1 v2) c s w r := rfl

/-- The third mixer's keys' payload is its queries'. -/
theorem pay14_eq (u : FVec Ideal S512x1024 .bf16) (c s : FVec Ideal S512x128 .f32)
    (w r : Vec Ideal S1024x512 .bf16) : k0_pay14 u c s (k0_pay13 w) (constant S512x512 .f32 0x00000000#32) r = k0_pay12 u c s w r := rfl

/-- Two products of 128 columns against cosine and sine. -/
theorem roped128_apply (u : FVec Ideal S512x1024 .bf16) (c s : FVec Ideal S512x128 .f32) (w r : Vec Ideal S1024x128 .bf16) (i : Fin 512) (j : Fin 128) :
    k0_pay6 u c s w r (ix2 i j) = (∑ k, u (ix2 i k) * w (ix2 k j)) * c (ix2 i j) + (∑ k, u (ix2 i k) * r (ix2 k j)) * s (ix2 i j) := by
  pointwise [k0_pay6]

/-- The same with the rotary key's tables. -/
theorem ropedkr_apply (u : FVec Ideal S512x1024 .bf16) (c s : Vec Ideal S512x128 .f32) (w r : Vec Ideal S1024x128 .bf16) (i : Fin 512) (j : Fin 128) :
    k0_pay11 u c s w r (ix2 i j) = (∑ k, u (ix2 i k) * w (ix2 k j)) * c (ix2 i j) + (∑ k, u (ix2 i k) * r (ix2 k j)) * s (ix2 i j) := by
  pointwise [k0_pay11]

section

variable (x0 : Vec Ideal S512x1024 .f32) (x1 x2 : Vec Ideal S1x1x1024 .f32) (x3 : Vec Ideal S1024x6400 .bf16) (x4 x5 x6 x7 : Vec Ideal S512x128 .f32)

/-- The modulated rows of the loaded blocks. -/
theorem pay19_eq : k0_pay19 x0 x1 x2 x3 x4 x5 x6 x7 = k0_pay1 x0 x2 x1 := by
  have z2 : (![0, 0] : Fin 2 → ℕ) = fun _ => 0 := by decide
  have z3 : (![0, 0, 0] : Fin 3 → ℕ) = fun _ => 0 := by decide
  have l0 : View.ld x0 r0_0 = x0 := View.ld_unit_zero (S := S512x1024) z2 _ x0
  have l1 : ∀ z : Vec Ideal S1x1x1024 .f32, View.ld z r0_1 = z := fun z => View.ld_unit_zero (S := S1x1x1024) z3 _ z
  unfold k0_pay19
  rw [l0, l1, l1]

/-- The cosines loaded. -/
theorem pay20_eq : k0_pay20 x0 x1 x2 x3 x4 x5 x6 x7 = x4 := by
  have z2 : (![0, 0] : Fin 2 → ℕ) = fun _ => 0 := by decide
  have l0 : View.ld x4 r0_2 = x4 := View.ld_unit_zero (S := S512x128) z2 _ x4
  unfold k0_pay20
  rw [l0]
  funext y
  obtain ⟨i, j, rfl⟩ : ∃ (i : Fin 512) (j : Fin 128), y = ix2 i j := ⟨y 0, y 1, eq_ix2 (n0 := 512) (n1 := 128) y⟩
  pointwise [k0_pay2]

/-- The sines loaded. -/
theorem pay21_eq : k0_pay21 x0 x1 x2 x3 x4 x5 x6 x7 = x5 := by
  have z2 : (![0, 0] : Fin 2 → ℕ) = fun _ => 0 := by decide
  have l0 : View.ld x5 r0_2 = x5 := View.ld_unit_zero (S := S512x128) z2 _ x5
  unfold k0_pay21
  rw [l0]
  funext y
  obtain ⟨i, j, rfl⟩ : ∃ (i : Fin 512) (j : Fin 128), y = ix2 i j := ⟨y 0, y 1, eq_ix2 (n0 := 512) (n1 := 128) y⟩
  pointwise [k0_pay3]

/-- A row's product with column `n` of the launch's weights. -/
def colSum (i : Fin 512) (n : Fin 6400) : EReal :=
  ∑ k, Cert.Merge.modulated (fun k => x0 (ix2 i k)) (fun k => x2 (ix3 0 0 k)) (fun k => x1 (ix3 0 0 k)) k * x3 (ix2 k n)

/-- The loads of 512 columns. -/
theorem ld512_apply (k : Fin 1024) (j : Fin 512) :
    View.ld x3 r0_3 (ix2 k j) = x3 (ix2 k ⟨0 + j.val, by omega⟩)
    ∧ View.ld x3 r0_4 (ix2 k j) = x3 (ix2 k ⟨4608 + j.val, by omega⟩)
    ∧ View.ld x3 r0_15 (ix2 k j) = x3 (ix2 k ⟨1408 + j.val, by omega⟩)
    ∧ View.ld x3 r0_16 (ix2 k j) = x3 (ix2 k ⟨5248 + j.val, by omega⟩)
    ∧ View.ld x3 r0_17 (ix2 k j) = x3 (ix2 k ⟨1920 + j.val, by omega⟩)
    ∧ View.ld x3 r0_18 (ix2 k j) = x3 (ix2 k ⟨5760 + j.val, by omega⟩)
    ∧ View.ld x3 r0_19 (ix2 k j) = x3 (ix2 k ⟨2432 + j.val, by omega⟩)
    ∧ View.ld x3 r0_20 (ix2 k j) = x3 (ix2 k ⟨2944 + j.val, by omega⟩)
    ∧ View.ld x3 r0_21 (ix2 k j) = x3 (ix2 k ⟨3456 + j.val, by omega⟩)
    ∧ View.ld x3 r0_22 (ix2 k j) = x3 (ix2 k ⟨3968 + j.val, by omega⟩) := by
  refine ⟨?_, ?_, ?_, ?_, ?_, ?_, ?_, ?_, ?_, ?_⟩ <;> (pointwise []; try blk_ext [])

/-- The loads of 128 columns. -/
theorem ld128_apply (k : Fin 1024) (j : Fin 128) :
    View.ld x3 r0_6 (ix2 k j) = x3 (ix2 k ⟨512 + j.val, by omega⟩)
    ∧ View.ld x3 r0_7 (ix2 k j) = x3 (ix2 k ⟨5120 + j.val, by omega⟩)
    ∧ View.ld x3 r0_8 (ix2 k j) = x3 (ix2 k ⟨640 + j.val, by omega⟩)
    ∧ View.ld x3 r0_13 (ix2 k j) = x3 (ix2 k ⟨4480 + j.val, by omega⟩)
    ∧ View.ld x3 r0_14 (ix2 k j) = x3 (ix2 k ⟨6272 + j.val, by omega⟩) := by
  refine ⟨?_, ?_, ?_, ?_, ?_⟩ <;> (pointwise []; try blk_ext [])

/-- The loads of 384 columns. -/
theorem ld384_apply (k : Fin 1024) (j : Fin 384) :
    View.ld x3 r0_9 (ix2 k j) = x3 (ix2 k ⟨768 + j.val, by omega⟩) := by
  pointwise []
  try blk_ext []

/-- The loads of 256 columns. -/
theorem ld256_apply (k : Fin 1024) (j : Fin 256) :
    View.ld x3 r0_11 (ix2 k j) = x3 (ix2 k ⟨1152 + j.val, by omega⟩) := by
  pointwise []
  try blk_ext []

/-- Window 8's block. -/
theorem out8_apply (i : Fin 512) (j : Fin 512) : out0_8 x0 x1 x2 x3 x4 x5 x6 x7 (ix2 i j)
    = colSum x0 x1 x2 x3 i ⟨0 + j.val, by omega⟩ * x4 (ix2 i ⟨j.val % 128, Nat.mod_lt _ (by decide)⟩)
      + colSum x0 x1 x2 x3 i ⟨4608 + j.val, by omega⟩ * x5 (ix2 i ⟨j.val % 128, Nat.mod_lt _ (by decide)⟩) := by
  have z2 : (![0, 0] : Fin 2 → ℕ) = fun _ => 0 := by decide
  unfold out0_8
  rw [View.canon_unit_zero z2, pay19_eq, pay20_eq, pay21_eq]
  have z3 : (![0, 0, 0] : Fin 3 → ℕ) = fun _ => 0 := by decide
  have l0 : View.ld x0 r0_0 = x0 := View.ld_unit_zero (S := S512x1024) z2 _ x0
  have l1 : ∀ z : Vec Ideal S1x1x1024 .f32, View.ld z r0_1 = z := fun z => View.ld_unit_zero (S := S1x1x1024) z3 _ z
  rw [l0, l1, l1, pay5_eq]
  refine (roped512_apply (k0_pay1 x0 x2 x1) x4 x5 (View.ld x3 r0_3) (View.ld x3 r0_4) i j).trans ?_
  unfold colSum
  simp only [modulated_apply, fun k => (ld512_apply x3 k j).1, fun k => (ld512_apply x3 k j).2.1]

/-- Window 9's block. -/
theorem out9_apply (i : Fin 512) (j : Fin 128) : out0_9 x0 x1 x2 x3 x4 x5 x6 x7 (ix2 i j)
    = colSum x0 x1 x2 x3 i ⟨512 + j.val, by omega⟩ * x4 (ix2 i j)
      + colSum x0 x1 x2 x3 i ⟨5120 + j.val, by omega⟩ * x5 (ix2 i j) := by
  have z2 : (![0, 0] : Fin 2 → ℕ) = fun _ => 0 := by decide
  unfold out0_9
  rw [View.canon_unit_zero z2, pay19_eq, pay20_eq, pay21_eq]
  refine (roped128_apply (k0_pay1 x0 x2 x1) x4 x5 (View.ld x3 r0_6) (View.ld x3 r0_7) i j).trans ?_
  unfold colSum
  simp only [modulated_apply, fun k => (ld128_apply x3 k j).1, fun k => (ld128_apply x3 k j).2.1]

/-- Window 10's block. -/
theorem out10_apply (i : Fin 512) (j : Fin 128) : out0_10 x0 x1 x2 x3 x4 x5 x6 x7 (ix2 i j)
    = colSum x0 x1 x2 x3 i ⟨640 + j.val, by omega⟩ := by
  have z2 : (![0, 0] : Fin 2 → ℕ) = fun _ => 0 := by decide
  unfold out0_10
  rw [View.canon_unit_zero z2, pay19_eq]
  refine (plain128_apply (k0_pay1 x0 x2 x1) (View.ld x3 r0_8) i j).trans ?_
  unfold colSum
  simp only [modulated_apply, fun k => (ld128_apply x3 k j).2.2.1]

/-- Window 11's block. -/
theorem out11_apply (i : Fin 512) (j : Fin 384) : out0_11 x0 x1 x2 x3 x4 x5 x6 x7 (ix2 i j)
    = colSum x0 x1 x2 x3 i ⟨768 + j.val, by omega⟩ := by
  have z2 : (![0, 0] : Fin 2 → ℕ) = fun _ => 0 := by decide
  unfold out0_11
  rw [View.canon_unit_zero z2, pay19_eq]
  refine (plain384_apply (k0_pay1 x0 x2 x1) (View.ld x3 r0_9) i j).trans ?_
  unfold colSum
  simp only [modulated_apply, fun k => (ld384_apply x3 k j)]

/-- Window 12's block. -/
theorem out12_apply (i : Fin 512) (j : Fin 256) : out0_12 x0 x1 x2 x3 x4 x5 x6 x7 (ix2 i j)
    = colSum x0 x1 x2 x3 i ⟨1152 + j.val, by omega⟩ := by
  have z2 : (![0, 0] : Fin 2 → ℕ) = fun _ => 0 := by decide
  unfold out0_12
  rw [View.canon_unit_zero z2, pay19_eq]
  refine (plain256_apply (k0_pay1 x0 x2 x1) (View.ld x3 r0_11) i j).trans ?_
  unfold colSum
  simp only [modulated_apply, fun k => (ld256_apply x3 k j)]

/-- Window 13's block. -/
theorem out13_apply (i : Fin 512) (j : Fin 128) : out0_13 x0 x1 x2 x3 x4 x5 x6 x7 (ix2 i j)
    = colSum x0 x1 x2 x3 i ⟨4480 + j.val, by omega⟩ * x6 (ix2 i j)
      + colSum x0 x1 x2 x3 i ⟨6272 + j.val, by omega⟩ * x7 (ix2 i j) := by
  have z2 : (![0, 0] : Fin 2 → ℕ) = fun _ => 0 := by decide
  unfold out0_13
  rw [View.canon_unit_zero z2, pay19_eq]
  have l6 : ∀ z : Vec Ideal S512x128 .f32, View.ld z r0_2 = z := fun z => View.ld_unit_zero (S := S512x128) z2 _ z
  rw [l6, l6]
  refine (ropedkr_apply (k0_pay1 x0 x2 x1) x6 x7 (View.ld x3 r0_13) (View.ld x3 r0_14) i j).trans ?_
  unfold colSum
  simp only [modulated_apply, fun k => (ld128_apply x3 k j).2.2.2.1, fun k => (ld128_apply x3 k j).2.2.2.2]

/-- Window 14's block. -/
theorem out14_apply (i : Fin 512) (j : Fin 512) : out0_14 x0 x1 x2 x3 x4 x5 x6 x7 (ix2 i j)
    = colSum x0 x1 x2 x3 i ⟨1408 + j.val, by omega⟩ * x4 (ix2 i ⟨j.val % 128, Nat.mod_lt _ (by decide)⟩)
      + colSum x0 x1 x2 x3 i ⟨5248 + j.val, by omega⟩ * x5 (ix2 i ⟨j.val % 128, Nat.mod_lt _ (by decide)⟩) := by
  have z2 : (![0, 0] : Fin 2 → ℕ) = fun _ => 0 := by decide
  unfold out0_14
  rw [View.canon_unit_zero z2, pay19_eq, pay20_eq, pay21_eq]
  refine (roped512_apply (k0_pay1 x0 x2 x1) x4 x5 (View.ld x3 r0_15) (View.ld x3 r0_16) i j).trans ?_
  unfold colSum
  simp only [modulated_apply, fun k => (ld512_apply x3 k j).2.2.1, fun k => (ld512_apply x3 k j).2.2.2.1]

/-- Window 15's block. -/
theorem out15_apply (i : Fin 512) (j : Fin 512) : out0_15 x0 x1 x2 x3 x4 x5 x6 x7 (ix2 i j)
    = colSum x0 x1 x2 x3 i ⟨1920 + j.val, by omega⟩ * x4 (ix2 i ⟨j.val % 128, Nat.mod_lt _ (by decide)⟩)
      + colSum x0 x1 x2 x3 i ⟨5760 + j.val, by omega⟩ * x5 (ix2 i ⟨j.val % 128, Nat.mod_lt _ (by decide)⟩) := by
  have z2 : (![0, 0] : Fin 2 → ℕ) = fun _ => 0 := by decide
  unfold out0_15
  rw [View.canon_unit_zero z2, pay19_eq, pay20_eq, pay21_eq]
  rw [pay14_eq]
  refine (roped512_apply (k0_pay1 x0 x2 x1) x4 x5 (View.ld x3 r0_17) (View.ld x3 r0_18) i j).trans ?_
  unfold colSum
  simp only [modulated_apply, fun k => (ld512_apply x3 k j).2.2.2.2.1, fun k => (ld512_apply x3 k j).2.2.2.2.2.1]

/-- Window 16's block. -/
theorem out16_apply (i : Fin 512) (j : Fin 512) : out0_16 x0 x1 x2 x3 x4 x5 x6 x7 (ix2 i j)
    = colSum x0 x1 x2 x3 i ⟨2432 + j.val, by omega⟩ := by
  have z2 : (![0, 0] : Fin 2 → ℕ) = fun _ => 0 := by decide
  unfold out0_16
  rw [View.canon_unit_zero z2, pay19_eq]
  refine (plain512_apply (k0_pay1 x0 x2 x1) (View.ld x3 r0_19) i j).trans ?_
  unfold colSum
  simp only [modulated_apply, fun k => (ld512_apply x3 k j).2.2.2.2.2.2.1]

/-- Window 17's block. -/
theorem out17_apply (i : Fin 512) (j : Fin 512) : out0_17 x0 x1 x2 x3 x4 x5 x6 x7 (ix2 i j)
    = colSum x0 x1 x2 x3 i ⟨2944 + j.val, by omega⟩ := by
  have z2 : (![0, 0] : Fin 2 → ℕ) = fun _ => 0 := by decide
  unfold out0_17
  rw [View.canon_unit_zero z2, pay19_eq]
  refine (plain512_apply (k0_pay1 x0 x2 x1) (View.ld x3 r0_20) i j).trans ?_
  unfold colSum
  simp only [modulated_apply, fun k => (ld512_apply x3 k j).2.2.2.2.2.2.2.1]

/-- Window 18's block. -/
theorem out18_apply (i : Fin 512) (j : Fin 512) : out0_18 x0 x1 x2 x3 x4 x5 x6 x7 (ix2 i j)
    = colSum x0 x1 x2 x3 i ⟨3456 + j.val, by omega⟩ := by
  have z2 : (![0, 0] : Fin 2 → ℕ) = fun _ => 0 := by decide
  unfold out0_18
  rw [View.canon_unit_zero z2, pay19_eq]
  refine (plain512_apply (k0_pay1 x0 x2 x1) (View.ld x3 r0_21) i j).trans ?_
  unfold colSum
  simp only [modulated_apply, fun k => (ld512_apply x3 k j).2.2.2.2.2.2.2.2.1]

/-- Window 19's block. -/
theorem out19_apply (i : Fin 512) (j : Fin 512) : out0_19 x0 x1 x2 x3 x4 x5 x6 x7 (ix2 i j)
    = colSum x0 x1 x2 x3 i ⟨3968 + j.val, by omega⟩ := by
  have z2 : (![0, 0] : Fin 2 → ℕ) = fun _ => 0 := by decide
  unfold out0_19
  rw [View.canon_unit_zero z2, pay19_eq]
  refine (plain512_apply (k0_pay1 x0 x2 x1) (View.ld x3 r0_22) i j).trans ?_
  unfold colSum
  simp only [modulated_apply, fun k => (ld512_apply x3 k j).2.2.2.2.2.2.2.2.2]
end

end Cert.InProj
end
-- ==== Proof.InProj.Spec.lean ====
/- The input projection at one row: the modulated row times the weights, rotary halves, and the laws that bring the
   kernel's rotated columns to them. -/
module

public import proofs.«01_k».proof.Proof.Merge.Spec
public import proofs.«01_k».proof.Proof.Flash
public import proofs.«01_k».proof.Proof.Consts
public import Idealize.ShloMosaic.PureOps.Ideal

@[expose] public section

noncomputable section

namespace Cert.InProj

open Idealize.ShloMosaic Cert.Diff
open scoped BigOperators

/-- Column `n` of the 4512. -/
def colAt (n : ℕ) : Fin 4512 := ⟨n % 4512, Nat.mod_lt _ (by decide)⟩

/-- The angle of frequency `e` at position `s`; `z` is the head's width. -/
def angle (z : EReal) (s e : ℕ) : EReal :=
  (((BitVec.ofNat 32 s).toInt : ℝ) : EReal) * Ideal.pow (Ideal.ofBits .f32 0x461C4000#32)
    (Ideal.div (-(Ideal.ofBits .f32 0x00000000#32 + Ideal.ofBits .f32 0x40000000#32 * (((BitVec.ofNat 32 e).toInt : ℝ) : EReal))) z)

/-- The angles of 64-wide heads. -/
def angle64 : ℕ → ℕ → EReal := angle (Ideal.ofBits .f32 0x42800000#32)
/-- The angles of the 32-wide key. -/
def angle32 : ℕ → ℕ → EReal := angle (Ideal.ofBits .f32 0x42000000#32)

/-- A row's product with column `n`. -/
def prod (u : Fin 1024 → EReal) (w : Fin 1024 → Fin 4512 → EReal) (n : ℕ) : EReal := ∑ k, u k * w k (colAt n)

/-- Heads of `2 d` channels, each pair of halves rotated by the angles `θ`. -/
def roped (d : ℕ) (p : ℕ → EReal) (θ : ℕ → EReal) (j : ℕ) : EReal :=
  if j % (2 * d) < d then p j * Ideal.cos (θ (j % d)) - p (j + d) * Ideal.sin (θ (j % d))
  else p (j - d) * Ideal.sin (θ (j % d)) + p j * Ideal.cos (θ (j % d))

/-- A column of the rotated weights. -/
def rotated (d : ℕ) (w : ℕ → EReal) (j : ℕ) : EReal := if j % (2 * d) < d then -w (j + d) else w (j - d)

/-- An eighth. -/
theorem eighth : ∃ r : ℝ, 0 ≤ r ∧ Ideal.ofBits .f32 0x3E000000#32 = (r : EReal) :=
  ⟨1 / 8, by norm_num, by simp [Ideal.ofBits, Ideal.ieee, -EReal.coe_mul]; norm_num⟩

/-- A sum against negated columns. -/
theorem sum_neg (u w : Fin 1024 → ℝ) : ∑ k, (u k : EReal) * -(w k : EReal) = -∑ k, (u k : EReal) * (w k : EReal) := by
  simp only [← EReal.coe_neg, ← EReal.coe_mul, ← coe_sum, mul_neg, Finset.sum_neg_distrib]

/-- A sum against scaled columns. -/
theorem sum_scaled (u w : Fin 1024 → ℝ) (r : ℝ) :
    ∑ k, (u k : EReal) * ((w k : EReal) * (r : EReal)) = (∑ k, (u k : EReal) * (w k : EReal)) * (r : EReal) := by
  simp only [← EReal.coe_mul, ← coe_sum, Finset.sum_mul, mul_assoc]

/-- Products with a head's columns and with its rotated columns, against cosine and sine, are the rotated products. -/
theorem roped_eq (d o : ℕ) (u : Fin 1024 → ℝ) (w : Fin 1024 → Fin 4512 → ℝ) (θ : ℕ → EReal) (j : ℕ) :
    (∑ k, (u k : EReal) * (w k (colAt (o + j)) : EReal)) * Ideal.cos (θ (j % d))
      + (∑ k, (u k : EReal) * rotated d (fun n => (w k (colAt (o + n)) : EReal)) j) * Ideal.sin (θ (j % d))
      = roped d (fun n => prod (fun k => (u k : EReal)) (fun k n => (w k n : EReal)) (o + n)) θ j := by
  unfold rotated roped prod
  split_ifs
  · rw [sum_neg, EReal.neg_mul, ← sub_eq_add_neg]
  · rw [add_comm]

/-- The same with the columns scaled. -/
theorem roped_scaled (d o : ℕ) (u : Fin 1024 → ℝ) (w : Fin 1024 → Fin 4512 → ℝ) (θ : ℕ → EReal) (j : ℕ) (r : ℝ) (hr : 0 ≤ r) :
    (∑ k, (u k : EReal) * ((w k (colAt (o + j)) : EReal) * (r : EReal))) * Ideal.cos (θ (j % d))
      + (∑ k, (u k : EReal) * rotated d (fun n => (w k (colAt (o + n)) : EReal) * (r : EReal)) j) * Ideal.sin (θ (j % d))
      = roped d (fun n => prod (fun k => (u k : EReal)) (fun k n => (w k n : EReal)) (o + n)) θ j * (r : EReal) := by
  have e : ∀ n, ∑ k, (u k : EReal) * ((w k n : EReal) * (r : EReal)) = (∑ k, (u k : EReal) * (w k n : EReal)) * (r : EReal) :=
    fun n => sum_scaled u (fun k => w k n) r
  have h := roped_eq d o u (fun k n => w k n * r) θ j
  have h1 : roped d (fun n => prod (fun k => (u k : EReal)) (fun k n => ((w k n * r : ℝ) : EReal)) (o + n)) θ j
      = roped d (fun n => prod (fun k => (u k : EReal)) (fun k n => (w k n : EReal)) (o + n) * (r : EReal)) θ j := by
    unfold prod
    simp only [EReal.coe_mul, e]
  rw [h1] at h
  simp only [EReal.coe_mul] at h
  rw [h]
  have hd : ∀ a b : EReal, (a + b) * (r : EReal) = a * (r : EReal) + b * (r : EReal) := fun a b =>
    EReal.right_distrib_of_nonneg_of_ne_top (EReal.coe_nonneg.2 hr) (EReal.coe_ne_top r) a b
  have hs : ∀ a b : EReal, (a - b) * (r : EReal) = a * (r : EReal) - b * (r : EReal) := fun a b => by
    rw [sub_eq_add_neg, hd, EReal.neg_mul, ← sub_eq_add_neg]
  unfold roped
  split_ifs
  · exact (congrArg₂ (· - ·) (mul_right_comm _ _ _) (mul_right_comm _ _ _)).trans (hs _ _).symm
  · exact (congrArg₂ (· + ·) (mul_right_comm _ _ _) (mul_right_comm _ _ _)).trans (hd _ _).symm

/-- The modulated row of finite arguments is real. -/
theorem modulated_real (x sc sh : Fin 1024 → ℝ) (j : Fin 1024) :
    ∃ r : ℝ, Cert.Merge.modulated (fun k => (x k : EReal)) (fun k => (sc k : EReal)) (fun k => (sh k : EReal)) j = (r : EReal) := by
  obtain ⟨n, hn0, hn⟩ : ∃ n : ℝ, 0 < n ∧ Ideal.ofBits .f32 0x44800000#32 = (n : EReal) :=
    ⟨1024, by norm_num, by simp [Ideal.ofBits, Ideal.ieee, -EReal.coe_mul]; norm_num⟩
  obtain ⟨ε, hε0, hε⟩ : ∃ n : ℝ, 0 < n ∧ Ideal.ofBits .f32 0x3727C5AC#32 = (n : EReal) :=
    ⟨10995116 * (2 ^ 40)⁻¹, by positivity, by simp [Ideal.ofBits, Ideal.ieee, -EReal.coe_mul]⟩
  obtain ⟨o, ho⟩ : ∃ n : ℝ, Ideal.ofBits .f32 0x3F800000#32 = (n : EReal) :=
    ⟨_, by simp [Ideal.ofBits, Ideal.ieee, -EReal.coe_mul]; rfl⟩
  have hm : ∀ y : Fin 1024 → ℝ, Cert.Merge.mean (fun k => (y k : EReal)) = (((∑ k, y k) / n : ℝ) : EReal) := fun y => by
    unfold Cert.Merge.mean
    rw [hn, ← coe_sum, div_real _ _ hn0.ne']
  have hv : 0 < (∑ k, (x k - (∑ k, x k) / n) * (x k - (∑ k, x k) / n)) / n + ε :=
    add_pos_of_nonneg_of_pos (div_nonneg (Finset.sum_nonneg fun k _ => mul_self_nonneg _) hn0.le) hε0
  unfold Cert.Merge.modulated Cert.Merge.nrm
  simp only [hm, ← EReal.coe_sub, ← EReal.coe_mul, hε, ho, ← EReal.coe_add, Ideal.rsqrt_coe]
  rw [if_neg hv.not_gt, if_neg hv.ne']
  exact ⟨_, by rw [← EReal.coe_mul, ← EReal.coe_mul, ← EReal.coe_add]⟩

end Cert.InProj
end
-- ==== Proof.InProj.Tables.lean ====
/- The rotation's tables the launch reads: cosines and sines of the angles, repeated over the lanes. -/
module

public import proofs.«01_k».proof.Proof.Gen.InProjKernelIdeal.Frame
public import proofs.«01_k».proof.Proof.InProj.Spec
public import Idealize.ShloMosaic.Lib.KernelVsHost
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.InProj

open Cert.InProjKernelIdeal Cert.InProjKernelIdeal.Gen Idealize.ShloMosaic Idealize.ShloMosaic.TcCoe Idealize.SL.Sem

/-- The positions times the frequencies of 64-wide heads. -/
def angles64 : FVec Ideal S8192x32 .f32 :=
  mulf (broadcastInDim S8192x32 ![0, 1] bcast_S8192x1_S8192x32_0_1
      (broadcastInDim S8192x1 ![0] bcast_S8192_S8192x1_0 (sitofp .f32 (iotaInDim S8192 32 0) : FVec Ideal S8192 .f32)))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))) : FVec Ideal S32 .f32)))

/-- The positions times the frequencies of the 32-wide key. -/
def angles32 : FVec Ideal S8192x16 .f32 :=
  mulf (broadcastInDim S8192x16 ![0, 1] bcast_S8192x1_S8192x16_0_1
      (broadcastInDim S8192x1 ![0] bcast_S8192_S8192x1_0 (sitofp .f32 (iotaInDim S8192 32 0) : FVec Ideal S8192 .f32)))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))) : FVec Ideal S16 .f32)))

/-- The angles at an index. -/
theorem angles64_apply (s : Fin 8192) (e : Fin 32) : angles64 (ix2 s e) = angle64 s.val e.val := by
  unfold angle64 angle
  pointwise [angles64]
  rfl

/-- The angles at an index. -/
theorem angles32_apply (s : Fin 8192) (e : Fin 16) : angles32 (ix2 s e) = angle32 s.val e.val := by
  unfold angle32 angle
  pointwise [angles32]
  rfl

/-- Thirty-two lanes four times. -/
def wide64 (x : FVec Ideal S8192x32 .f32) : FVec Ideal S8192x128 .f32 :=
  concatenate S8192x128 1
    [⟨S8192x64, concatenate S8192x64 1 [⟨S8192x32, x⟩, ⟨S8192x32, x⟩] concatenates_S8192x32_S8192x32_S8192x64_d1⟩,
      ⟨S8192x64, concatenate S8192x64 1 [⟨S8192x32, x⟩, ⟨S8192x32, x⟩] concatenates_S8192x32_S8192x32_S8192x64_d1⟩]
    concatenates_S8192x64_S8192x64_S8192x128_d1

/-- Sixteen lanes twice, padded to 128 lanes. -/
def wide32 (x : FVec Ideal S8192x16 .f32) : FVec Ideal S8192x128 .f32 :=
  pad S8192x128 ![0, 0] ![0, 96] ![0, 0] (concatenate S8192x32 1 [⟨S8192x16, x⟩, ⟨S8192x16, x⟩] concatenates_S8192x16_S8192x16_S8192x32_d1)
    (sitofp .f32 (constantI S_ 32 0#32) : FVec Ideal S_ .f32) pads_S8192x32_S8192x128_000_0960 h_S_

/-- A repeated lane. -/
theorem wide64_apply (x : FVec Ideal S8192x32 .f32) (s : Fin 8192) (l : Fin 128) :
    wide64 x (ix2 s l) = x (ix2 s ⟨l.val % 32, by omega⟩) := by
  pointwise [wide64]
  split_ifs
  all_goals blk_ext []

/-- A repeated lane of sixteen. -/
theorem twice_apply (x : FVec Ideal S8192x16 .f32) (s : Fin 8192) (l : Fin 32) :
    concatenate S8192x32 1 [⟨S8192x16, x⟩, ⟨S8192x16, x⟩] concatenates_S8192x16_S8192x16_S8192x32_d1 (ix2 s l)
      = x (ix2 s ⟨l.val % 16, by omega⟩) := by
  pointwise []
  split_ifs
  all_goals blk_ext []

/-- A lane of the padded table. -/
theorem wide32_apply (x : FVec Ideal S8192x16 .f32) (s : Fin 8192) (l : Fin 128) :
    wide32 x (ix2 s l) = if l.val < 32 then x (ix2 s ⟨l.val % 16, by omega⟩) else 0 := by
  split_ifs with h
  · refine Eq.trans (pad_apply_of_inside _ _ _ _ _ _ _ _ (ix2 s (⟨l.val, h⟩ : Fin 32)) fun a => by fin_cases a <;> simp)
      (twice_apply x s ⟨l.val, h⟩)
  · refine Eq.trans (pad_apply_of_not_inside _ _ _ _ _ _ _ _ 1 fun hh => h ?_) ?_
    · have := hh.2.2
      simpa using this
    · show ((BitVec.toInt (0#32) : ℝ) : EReal) = 0
      simp

variable (m : (ℓ : Loc nD τ sig) → Buf (Elt Ideal) ℓ) (c : Dev nD) (s : Fin 8192) (l : Fin 128)

/-- The cosines of 64-wide heads. -/
theorem entry_cos64 : V m c main_v110 (ix2 s l) = Ideal.cos (angle64 s.val (l.val % 32)) := by
  have e : V m c main_v110 = wide64 (Host.cos angles64) := rfl
  rw [e, wide64_apply]
  exact congrArg Ideal.cos (angles64_apply s ⟨l.val % 32, by omega⟩)

/-- The sines of 64-wide heads. -/
theorem entry_sin64 : V m c main_v111 (ix2 s l) = Ideal.sin (angle64 s.val (l.val % 32)) := by
  have e : V m c main_v111 = wide64 (Host.sin angles64) := rfl
  rw [e, wide64_apply]
  exact congrArg Ideal.sin (angles64_apply s ⟨l.val % 32, by omega⟩)

/-- The cosines of the rotary key. -/
theorem entry_cos32 : V m c main_v112 (ix2 s l) = if l.val < 32 then Ideal.cos (angle32 s.val (l.val % 16)) else 0 := by
  have e : V m c main_v112 = wide32 (Host.cos angles32) := rfl
  rw [e, wide32_apply]
  exact if_congr Iff.rfl (congrArg Ideal.cos (angles32_apply s ⟨l.val % 16, by omega⟩)) rfl

/-- The sines of the rotary key. -/
theorem entry_sin32 : V m c main_v113 (ix2 s l) = if l.val < 32 then Ideal.sin (angle32 s.val (l.val % 16)) else 0 := by
  have e : V m c main_v113 = wide32 (Host.sin angles32) := rfl
  rw [e, wide32_apply]
  exact if_congr Iff.rfl (congrArg Ideal.sin (angles32_apply s ⟨l.val % 16, by omega⟩)) rfl

end Cert.InProj
end
-- ==== Proof.InProj.Weights.lean ====
/- The launch's weight matrix: the twelve groups of columns side by side and, after them, the rotated halves of five. -/
module

public import proofs.«01_k».proof.Proof.Gen.InProjKernelIdeal.Frame
public import proofs.«01_k».proof.Proof.InProj.Spec
public import Idealize.ShloMosaic.Lib.KernelVsHost
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.InProj

open Cert.InProjKernelIdeal Cert.InProjKernelIdeal.Gen Idealize.ShloMosaic Idealize.ShloMosaic.TcCoe Idealize.SL.Sem

/-- The padding value the host makes. -/
def nil : FVec Ideal S_ .f32 := sitofp .f32 (constantI S_ 32 0#32)

/-- Columns padded by none. -/
def pad512 (x : FVec Ideal S1024x512 .f32) : FVec Ideal S1024x512 .f32 :=
  pad S1024x512 ![0, 0] ![0, 0] ![0, 0] x nil pads_S1024x512_S1024x512_000_000 h_S_
/-- Columns padded by none. -/
def pad128 (x : FVec Ideal S1024x128 .f32) : FVec Ideal S1024x128 .f32 :=
  pad S1024x128 ![0, 0] ![0, 0] ![0, 0] x nil pads_S1024x128_S1024x128_000_000 h_S_
/-- Columns padded by none. -/
def pad384 (x : FVec Ideal S1024x384 .f32) : FVec Ideal S1024x384 .f32 :=
  pad S1024x384 ![0, 0] ![0, 0] ![0, 0] x nil pads_S1024x384_S1024x384_000_000 h_S_
/-- Columns padded by none. -/
def pad256 (x : FVec Ideal S1024x256 .f32) : FVec Ideal S1024x256 .f32 :=
  pad S1024x256 ![0, 0] ![0, 0] ![0, 0] x nil pads_S1024x256_S1024x256_000_000 h_S_
/-- Thirty-two columns padded with zeros to 128. -/
def pad32 (x : FVec Ideal S1024x32 .f32) : FVec Ideal S1024x128 .f32 :=
  pad S1024x128 ![0, 0] ![0, 96] ![0, 0] x nil pads_S1024x32_S1024x128_000_0960 h_S_

/-- Every column times an eighth. -/
def scaled (x : FVec Ideal S1024x512 .f32) : FVec Ideal S1024x512 .f32 :=
  mulf x (broadcastInDim S1024x512 ![] bcast_S_S1024x512 (constant S_ .f32 0x3E000000#32 : FVec Ideal S_ .f32))

/-- Eight heads' halves swapped, the second negated. -/
def rot8 (x : FVec Ideal S1024x512 .f32) : FVec Ideal S1024x512 .f32 :=
  shapeCast S1024x512 (concatenate S1024x8x64 2
    [⟨S1024x8x32, (Host.negf (extractStridedSlice S1024x8x32 ![0, 0, 32] (shapeCast S1024x8x64 x shapeCasts_S1024x512_S1024x8x64)
        slices_S1024x8x64_S1024x8x32_0_0_32) : FVec Ideal S1024x8x32 .f32)⟩,
      ⟨S1024x8x32, extractStridedSlice S1024x8x32 ![0, 0, 0] (shapeCast S1024x8x64 x shapeCasts_S1024x512_S1024x8x64)
        slices_S1024x8x64_S1024x8x32_0_0_0⟩]
    concatenates_S1024x8x32_S1024x8x32_S1024x8x64_d2) shapeCasts_S1024x8x64_S1024x512
/-- Two heads' halves swapped, the second negated. -/
def rot2 (x : FVec Ideal S1024x128 .f32) : FVec Ideal S1024x128 .f32 :=
  shapeCast S1024x128 (concatenate S1024x2x64 2
    [⟨S1024x2x32, (Host.negf (extractStridedSlice S1024x2x32 ![0, 0, 32] (shapeCast S1024x2x64 x shapeCasts_S1024x128_S1024x2x64)
        slices_S1024x2x64_S1024x2x32_0_0_32) : FVec Ideal S1024x2x32 .f32)⟩,
      ⟨S1024x2x32, extractStridedSlice S1024x2x32 ![0, 0, 0] (shapeCast S1024x2x64 x shapeCasts_S1024x128_S1024x2x64)
        slices_S1024x2x64_S1024x2x32_0_0_0⟩]
    concatenates_S1024x2x32_S1024x2x32_S1024x2x64_d2) shapeCasts_S1024x2x64_S1024x128
/-- The rotary key's halves swapped, the second negated. -/
def rot1 (x : FVec Ideal S1024x32 .f32) : FVec Ideal S1024x32 .f32 :=
  shapeCast S1024x32 (concatenate S1024x1x32 2
    [⟨S1024x1x16, (Host.negf (extractStridedSlice S1024x1x16 ![0, 0, 16] (shapeCast S1024x1x32 x shapeCasts_S1024x32_S1024x1x32)
        slices_S1024x1x32_S1024x1x16_0_0_16) : FVec Ideal S1024x1x16 .f32)⟩,
      ⟨S1024x1x16, extractStridedSlice S1024x1x16 ![0, 0, 0] (shapeCast S1024x1x32 x shapeCasts_S1024x32_S1024x1x32)
        slices_S1024x1x32_S1024x1x16_0_0_0⟩]
    concatenates_S1024x1x16_S1024x1x16_S1024x1x32_d2) shapeCasts_S1024x1x32_S1024x32

/-- The twelve groups side by side. -/
def mainCols (x0 : FVec Ideal S1024x512 .f32) (x1 : FVec Ideal S1024x128 .f32) (x2 : FVec Ideal S1024x128 .f32) (x3 : FVec Ideal S1024x384 .f32) (x4 : FVec Ideal S1024x256 .f32) (x5 : FVec Ideal S1024x512 .f32) (x6 : FVec Ideal S1024x512 .f32) (x7 : FVec Ideal S1024x512 .f32) (x8 : FVec Ideal S1024x512 .f32) (x9 : FVec Ideal S1024x512 .f32) (x10 : FVec Ideal S1024x512 .f32) (x11 : FVec Ideal S1024x128 .f32) : FVec Ideal S1024x4608 .f32 :=
  concatenate S1024x4608 1 [⟨S1024x512, x0⟩, ⟨S1024x128, x1⟩, ⟨S1024x128, x2⟩, ⟨S1024x384, x3⟩, ⟨S1024x256, x4⟩, ⟨S1024x512, x5⟩, ⟨S1024x512, x6⟩, ⟨S1024x512, x7⟩, ⟨S1024x512, x8⟩, ⟨S1024x512, x9⟩, ⟨S1024x512, x10⟩, ⟨S1024x128, x11⟩]
    concatenates_S1024x512_S1024x128_S1024x128_S1024x384_S1024x256_S1024x512_S1024x512_S1024x512_S1024x512_S1024x512_S1024x512_S1024x128_S1024x4608_d1

/-- The five rotated groups side by side. -/
def rotCols (y0 : FVec Ideal S1024x512 .f32) (y1 : FVec Ideal S1024x128 .f32) (y2 : FVec Ideal S1024x512 .f32) (y3 : FVec Ideal S1024x512 .f32) (y4 : FVec Ideal S1024x128 .f32) : FVec Ideal S1024x1792 .f32 :=
  concatenate S1024x1792 1 [⟨S1024x512, y0⟩, ⟨S1024x128, y1⟩, ⟨S1024x512, y2⟩, ⟨S1024x512, y3⟩, ⟨S1024x128, y4⟩]
    concatenates_S1024x512_S1024x128_S1024x512_S1024x512_S1024x128_S1024x1792_d1

/-- All the columns, in the launch's type. -/
def cols (a : FVec Ideal S1024x4608 .f32) (b : FVec Ideal S1024x1792 .f32) : FVec Ideal S1024x6400 .bf16 :=
  truncf .bf16 (concatenate S1024x6400 1 [⟨S1024x4608, a⟩, ⟨S1024x1792, b⟩] concatenates_S1024x4608_S1024x1792_S1024x6400_d1) bitsLt_bf16_f32

/-- The columns of `qa`. -/
def qaCols (w : FVec Ideal S1024x4512 .f32) : FVec Ideal S1024x512 .f32 :=
  extractStridedSlice S1024x512 ![0, 0] w slices_S1024x4512_S1024x512_0_0
/-- The columns of `ka`. -/
def kaCols (w : FVec Ideal S1024x4512 .f32) : FVec Ideal S1024x128 .f32 :=
  extractStridedSlice S1024x128 ![0, 512] w slices_S1024x4512_S1024x128_0_512
/-- The columns of `va`. -/
def vaCols (w : FVec Ideal S1024x4512 .f32) : FVec Ideal S1024x128 .f32 :=
  extractStridedSlice S1024x128 ![0, 640] w slices_S1024x4512_S1024x128_0_640
/-- The columns of `cq`. -/
def cqCols (w : FVec Ideal S1024x4512 .f32) : FVec Ideal S1024x384 .f32 :=
  extractStridedSlice S1024x384 ![0, 768] w slices_S1024x4512_S1024x384_0_768
/-- The columns of `ckv`. -/
def ckvCols (w : FVec Ideal S1024x4512 .f32) : FVec Ideal S1024x256 .f32 :=
  extractStridedSlice S1024x256 ![0, 1152] w slices_S1024x4512_S1024x256_0_1152
/-- The columns of `qc`. -/
def qcCols (w : FVec Ideal S1024x4512 .f32) : FVec Ideal S1024x512 .f32 :=
  extractStridedSlice S1024x512 ![0, 1440] w slices_S1024x4512_S1024x512_0_1440
/-- The columns of `kc`. -/
def kcCols (w : FVec Ideal S1024x4512 .f32) : FVec Ideal S1024x512 .f32 :=
  extractStridedSlice S1024x512 ![0, 1952] w slices_S1024x4512_S1024x512_0_1952
/-- The columns of `vc`. -/
def vcCols (w : FVec Ideal S1024x4512 .f32) : FVec Ideal S1024x512 .f32 :=
  extractStridedSlice S1024x512 ![0, 2464] w slices_S1024x4512_S1024x512_0_2464
/-- The columns of `qd`. -/
def qdCols (w : FVec Ideal S1024x4512 .f32) : FVec Ideal S1024x512 .f32 :=
  extractStridedSlice S1024x512 ![0, 2976] w slices_S1024x4512_S1024x512_0_2976
/-- The columns of `kd`. -/
def kdCols (w : FVec Ideal S1024x4512 .f32) : FVec Ideal S1024x512 .f32 :=
  extractStridedSlice S1024x512 ![0, 3488] w slices_S1024x4512_S1024x512_0_3488
/-- The columns of `vd`. -/
def vdCols (w : FVec Ideal S1024x4512 .f32) : FVec Ideal S1024x512 .f32 :=
  extractStridedSlice S1024x512 ![0, 4000] w slices_S1024x4512_S1024x512_0_4000
/-- The columns of `kr`. -/
def krCols (w : FVec Ideal S1024x4512 .f32) : FVec Ideal S1024x32 .f32 :=
  extractStridedSlice S1024x32 ![0, 1408] w slices_S1024x4512_S1024x32_0_1408

/-- The launch's weights. -/
def weights (w : FVec Ideal S1024x4512 .f32) : FVec Ideal S1024x6400 .bf16 :=
  cols (mainCols (pad512 (scaled (qaCols w))) (pad128 (kaCols w)) (pad128 (vaCols w)) (pad384 (cqCols w)) (pad256 (ckvCols w)) (pad512 (qcCols w)) (pad512 (kcCols w)) (pad512 (vcCols w)) (pad512 (scaled (qdCols w))) (pad512 (kdCols w)) (pad512 (vdCols w)) (pad32 (krCols w)))
    (rotCols (pad512 (rot8 (scaled (qaCols w)))) (pad128 (rot2 (kaCols w))) (pad512 (rot8 (qcCols w))) (pad512 (rot8 (kcCols w))) (pad32 (rot1 (krCols w))))

/-- The padding value is zero. -/
theorem nil_apply (i : S_.Idx) : nil i = 0 := by
  show ((BitVec.toInt (0#32) : ℝ) : EReal) = 0
  simp

/-- Padding by none changes nothing. -/
theorem pad512_apply (x : FVec Ideal S1024x512 .f32) (k : Fin 1024) (j : Fin 512) : pad512 x (ix2 k j) = x (ix2 k j) := by
  unfold pad512
  exact pad_apply_of_inside _ _ _ x _ _ _ _ (ix2 k j) (fun a => by fin_cases a <;> simp)

/-- Padding by none changes nothing. -/
theorem pad128_apply (x : FVec Ideal S1024x128 .f32) (k : Fin 1024) (j : Fin 128) : pad128 x (ix2 k j) = x (ix2 k j) := by
  unfold pad128
  exact pad_apply_of_inside _ _ _ x _ _ _ _ (ix2 k j) (fun a => by fin_cases a <;> simp)

/-- Padding by none changes nothing. -/
theorem pad384_apply (x : FVec Ideal S1024x384 .f32) (k : Fin 1024) (j : Fin 384) : pad384 x (ix2 k j) = x (ix2 k j) := by
  unfold pad384
  exact pad_apply_of_inside _ _ _ x _ _ _ _ (ix2 k j) (fun a => by fin_cases a <;> simp)

/-- Padding by none changes nothing. -/
theorem pad256_apply (x : FVec Ideal S1024x256 .f32) (k : Fin 1024) (j : Fin 256) : pad256 x (ix2 k j) = x (ix2 k j) := by
  unfold pad256
  exact pad_apply_of_inside _ _ _ x _ _ _ _ (ix2 k j) (fun a => by fin_cases a <;> simp)

/-- The padded columns. -/
theorem pad32_apply (x : FVec Ideal S1024x32 .f32) (k : Fin 1024) (j : Fin 128) :
    pad32 x (ix2 k j) = if h : j.val < 32 then x (ix2 k ⟨j.val, h⟩) else 0 := by
  rw [← nil_apply (Shape.Idx.first h_S_)]
  unfold pad32
  generalize nil = z
  pointwise []

/-- The scaled columns. -/
theorem scaled_apply (x : FVec Ideal S1024x512 .f32) (k : Fin 1024) (j : Fin 512) :
    scaled x (ix2 k j) = x (ix2 k j) * Ideal.ofBits .f32 0x3E000000#32 := by
  pointwise [scaled]

/-- Eight heads' rotated columns. -/
theorem rot8_apply (x : FVec Ideal S1024x512 .f32) (k : Fin 1024) (j : Fin 512) :
    rot8 x (ix2 k j) = if h : j.val % 64 < 32 then -x (ix2 k ⟨j.val + 32, by omega⟩) else x (ix2 k ⟨j.val - 32, by omega⟩) := by
  pointwise [rot8]
  split_ifs with h
  · simp only [show j.val / 64 * 64 + (32 + j.val % 64) = j.val + 32 by omega]
  all_goals simp only [show j.val / 64 * 64 + (j.val % 64 - 32) = j.val - 32 by omega]

/-- Two heads' rotated columns. -/
theorem rot2_apply (x : FVec Ideal S1024x128 .f32) (k : Fin 1024) (j : Fin 128) :
    rot2 x (ix2 k j) = if h : j.val % 64 < 32 then -x (ix2 k ⟨j.val + 32, by omega⟩) else x (ix2 k ⟨j.val - 32, by omega⟩) := by
  pointwise [rot2]
  split_ifs with h
  · simp only [show j.val / 64 * 64 + (32 + j.val % 64) = j.val + 32 by omega]
  all_goals simp only [show j.val / 64 * 64 + (j.val % 64 - 32) = j.val - 32 by omega]

/-- The rotary key's rotated columns. -/
theorem rot1_apply (x : FVec Ideal S1024x32 .f32) (k : Fin 1024) (j : Fin 32) :
    rot1 x (ix2 k j) = if h : j.val < 16 then -x (ix2 k ⟨j.val + 16, by omega⟩) else x (ix2 k ⟨j.val - 16, by omega⟩) := by
  pointwise [rot1]
  simp only [Nat.add_comm 16 j.val]

section

variable (x0 x5 x6 x7 x8 x9 x10 : FVec Ideal S1024x512 .f32) (x1 x2 x11 : FVec Ideal S1024x128 .f32) (x3 : FVec Ideal S1024x384 .f32) (x4 : FVec Ideal S1024x256 .f32)
  (k : Fin 1024)

/-- Group `qa` among the twelve. -/
theorem main_qa (j : Fin 512) : mainCols x0 x1 x2 x3 x4 x5 x6 x7 x8 x9 x10 x11 (ix2 k ⟨0 + j.val, by omega⟩) = x0 (ix2 k j) := by
  unfold mainCols
  refine concatenate_apply_piece 1 _ _ _ 0 ?_ S1024x512 x0 ?_ ?_ 0 ?_ (ix2 k j) ?_ ?_
  · simp
  · rfl
  · rfl
  · rfl
  · exact fun b hb => by fin_cases b <;> first | rfl | exact absurd rfl hb
  · rfl

/-- Group `ka` among the twelve. -/
theorem main_ka (j : Fin 128) : mainCols x0 x1 x2 x3 x4 x5 x6 x7 x8 x9 x10 x11 (ix2 k ⟨512 + j.val, by omega⟩) = x1 (ix2 k j) := by
  unfold mainCols
  refine concatenate_apply_piece 1 _ _ _ 1 ?_ S1024x128 x1 ?_ ?_ 512 ?_ (ix2 k j) ?_ ?_
  · simp
  · rfl
  · rfl
  · rfl
  · exact fun b hb => by fin_cases b <;> first | rfl | exact absurd rfl hb
  · rfl

/-- Group `va` among the twelve. -/
theorem main_va (j : Fin 128) : mainCols x0 x1 x2 x3 x4 x5 x6 x7 x8 x9 x10 x11 (ix2 k ⟨640 + j.val, by omega⟩) = x2 (ix2 k j) := by
  unfold mainCols
  refine concatenate_apply_piece 1 _ _ _ 2 ?_ S1024x128 x2 ?_ ?_ 640 ?_ (ix2 k j) ?_ ?_
  · simp
  · rfl
  · rfl
  · rfl
  · exact fun b hb => by fin_cases b <;> first | rfl | exact absurd rfl hb
  · rfl

/-- Group `cq` among the twelve. -/
theorem main_cq (j : Fin 384) : mainCols x0 x1 x2 x3 x4 x5 x6 x7 x8 x9 x10 x11 (ix2 k ⟨768 + j.val, by omega⟩) = x3 (ix2 k j) := by
  unfold mainCols
  refine concatenate_apply_piece 1 _ _ _ 3 ?_ S1024x384 x3 ?_ ?_ 768 ?_ (ix2 k j) ?_ ?_
  · simp
  · rfl
  · rfl
  · rfl
  · exact fun b hb => by fin_cases b <;> first | rfl | exact absurd rfl hb
  · rfl

/-- Group `ckv` among the twelve. -/
theorem main_ckv (j : Fin 256) : mainCols x0 x1 x2 x3 x4 x5 x6 x7 x8 x9 x10 x11 (ix2 k ⟨1152 + j.val, by omega⟩) = x4 (ix2 k j) := by
  unfold mainCols
  refine concatenate_apply_piece 1 _ _ _ 4 ?_ S1024x256 x4 ?_ ?_ 1152 ?_ (ix2 k j) ?_ ?_
  · simp
  · rfl
  · rfl
  · rfl
  · exact fun b hb => by fin_cases b <;> first | rfl | exact absurd rfl hb
  · rfl

/-- Group `qc` among the twelve. -/
theorem main_qc (j : Fin 512) : mainCols x0 x1 x2 x3 x4 x5 x6 x7 x8 x9 x10 x11 (ix2 k ⟨1408 + j.val, by omega⟩) = x5 (ix2 k j) := by
  unfold mainCols
  refine concatenate_apply_piece 1 _ _ _ 5 ?_ S1024x512 x5 ?_ ?_ 1408 ?_ (ix2 k j) ?_ ?_
  · simp
  · rfl
  · rfl
  · rfl
  · exact fun b hb => by fin_cases b <;> first | rfl | exact absurd rfl hb
  · rfl

/-- Group `kc` among the twelve. -/
theorem main_kc (j : Fin 512) : mainCols x0 x1 x2 x3 x4 x5 x6 x7 x8 x9 x10 x11 (ix2 k ⟨1920 + j.val, by omega⟩) = x6 (ix2 k j) := by
  unfold mainCols
  refine concatenate_apply_piece 1 _ _ _ 6 ?_ S1024x512 x6 ?_ ?_ 1920 ?_ (ix2 k j) ?_ ?_
  · simp
  · rfl
  · rfl
  · rfl
  · exact fun b hb => by fin_cases b <;> first | rfl | exact absurd rfl hb
  · rfl

/-- Group `vc` among the twelve. -/
theorem main_vc (j : Fin 512) : mainCols x0 x1 x2 x3 x4 x5 x6 x7 x8 x9 x10 x11 (ix2 k ⟨2432 + j.val, by omega⟩) = x7 (ix2 k j) := by
  unfold mainCols
  refine concatenate_apply_piece 1 _ _ _ 7 ?_ S1024x512 x7 ?_ ?_ 2432 ?_ (ix2 k j) ?_ ?_
  · simp
  · rfl
  · rfl
  · rfl
  · exact fun b hb => by fin_cases b <;> first | rfl | exact absurd rfl hb
  · rfl

/-- Group `qd` among the twelve. -/
theorem main_qd (j : Fin 512) : mainCols x0 x1 x2 x3 x4 x5 x6 x7 x8 x9 x10 x11 (ix2 k ⟨2944 + j.val, by omega⟩) = x8 (ix2 k j) := by
  unfold mainCols
  refine concatenate_apply_piece 1 _ _ _ 8 ?_ S1024x512 x8 ?_ ?_ 2944 ?_ (ix2 k j) ?_ ?_
  · simp
  · rfl
  · rfl
  · rfl
  · exact fun b hb => by fin_cases b <;> first | rfl | exact absurd rfl hb
  · rfl

/-- Group `kd` among the twelve. -/
theorem main_kd (j : Fin 512) : mainCols x0 x1 x2 x3 x4 x5 x6 x7 x8 x9 x10 x11 (ix2 k ⟨3456 + j.val, by omega⟩) = x9 (ix2 k j) := by
  unfold mainCols
  refine concatenate_apply_piece 1 _ _ _ 9 ?_ S1024x512 x9 ?_ ?_ 3456 ?_ (ix2 k j) ?_ ?_
  · simp
  · rfl
  · rfl
  · rfl
  · exact fun b hb => by fin_cases b <;> first | rfl | exact absurd rfl hb
  · rfl

/-- Group `vd` among the twelve. -/
theorem main_vd (j : Fin 512) : mainCols x0 x1 x2 x3 x4 x5 x6 x7 x8 x9 x10 x11 (ix2 k ⟨3968 + j.val, by omega⟩) = x10 (ix2 k j) := by
  unfold mainCols
  refine concatenate_apply_piece 1 _ _ _ 10 ?_ S1024x512 x10 ?_ ?_ 3968 ?_ (ix2 k j) ?_ ?_
  · simp
  · rfl
  · rfl
  · rfl
  · exact fun b hb => by fin_cases b <;> first | rfl | exact absurd rfl hb
  · rfl

/-- Group `kr` among the twelve. -/
theorem main_kr (j : Fin 128) : mainCols x0 x1 x2 x3 x4 x5 x6 x7 x8 x9 x10 x11 (ix2 k ⟨4480 + j.val, by omega⟩) = x11 (ix2 k j) := by
  unfold mainCols
  refine concatenate_apply_piece 1 _ _ _ 11 ?_ S1024x128 x11 ?_ ?_ 4480 ?_ (ix2 k j) ?_ ?_
  · simp
  · rfl
  · rfl
  · simp only [List.take, List.map, List.sum_cons, List.sum_nil]; rfl
  · exact fun b hb => by fin_cases b <;> first | rfl | exact absurd rfl hb
  · rfl

end

section

variable (y0 y2 y3 : FVec Ideal S1024x512 .f32) (y1 y4 : FVec Ideal S1024x128 .f32)
  (k : Fin 1024)

/-- Rotated group `qa` among the five. -/
theorem rot_qa (j : Fin 512) : rotCols y0 y1 y2 y3 y4 (ix2 k ⟨0 + j.val, by omega⟩) = y0 (ix2 k j) := by
  unfold rotCols
  refine concatenate_apply_piece 1 _ _ _ 0 ?_ S1024x512 y0 ?_ ?_ 0 ?_ (ix2 k j) ?_ ?_
  · simp
  · rfl
  · rfl
  · rfl
  · exact fun b hb => by fin_cases b <;> first | rfl | exact absurd rfl hb
  · rfl

/-- Rotated group `ka` among the five. -/
theorem rot_ka (j : Fin 128) : rotCols y0 y1 y2 y3 y4 (ix2 k ⟨512 + j.val, by omega⟩) = y1 (ix2 k j) := by
  unfold rotCols
  refine concatenate_apply_piece 1 _ _ _ 1 ?_ S1024x128 y1 ?_ ?_ 512 ?_ (ix2 k j) ?_ ?_
  · simp
  · rfl
  · rfl
  · rfl
  · exact fun b hb => by fin_cases b <;> first | rfl | exact absurd rfl hb
  · rfl

/-- Rotated group `qc` among the five. -/
theorem rot_qc (j : Fin 512) : rotCols y0 y1 y2 y3 y4 (ix2 k ⟨640 + j.val, by omega⟩) = y2 (ix2 k j) := by
  unfold rotCols
  refine concatenate_apply_piece 1 _ _ _ 2 ?_ S1024x512 y2 ?_ ?_ 640 ?_ (ix2 k j) ?_ ?_
  · simp
  · rfl
  · rfl
  · rfl
  · exact fun b hb => by fin_cases b <;> first | rfl | exact absurd rfl hb
  · rfl

/-- Rotated group `kc` among the five. -/
theorem rot_kc (j : Fin 512) : rotCols y0 y1 y2 y3 y4 (ix2 k ⟨1152 + j.val, by omega⟩) = y3 (ix2 k j) := by
  unfold rotCols
  refine concatenate_apply_piece 1 _ _ _ 3 ?_ S1024x512 y3 ?_ ?_ 1152 ?_ (ix2 k j) ?_ ?_
  · simp
  · rfl
  · rfl
  · rfl
  · exact fun b hb => by fin_cases b <;> first | rfl | exact absurd rfl hb
  · rfl

/-- Rotated group `kr` among the five. -/
theorem rot_kr (j : Fin 128) : rotCols y0 y1 y2 y3 y4 (ix2 k ⟨1664 + j.val, by omega⟩) = y4 (ix2 k j) := by
  unfold rotCols
  refine concatenate_apply_piece 1 _ _ _ 4 ?_ S1024x128 y4 ?_ ?_ 1664 ?_ (ix2 k j) ?_ ?_
  · simp
  · rfl
  · rfl
  · rfl
  · exact fun b hb => by fin_cases b <;> first | rfl | exact absurd rfl hb
  · rfl

end

/-- A column of the main groups. -/
theorem cols_left (a : FVec Ideal S1024x4608 .f32) (b : FVec Ideal S1024x1792 .f32) (k : Fin 1024) (j : Fin 4608) :
    cols a b (ix2 k ⟨j.val, by omega⟩) = a (ix2 k j) := by
  show concatenate S1024x6400 1 [⟨S1024x4608, a⟩, ⟨S1024x1792, b⟩] concatenates_S1024x4608_S1024x1792_S1024x6400_d1 _ = _
  refine concatenate_apply_piece 1 _ _ _ 0 ?_ S1024x4608 a ?_ ?_ 0 ?_ (ix2 k j) ?_ ?_
  · simp
  · rfl
  · rfl
  · rfl
  · exact fun b hb => by fin_cases b <;> first | rfl | exact absurd rfl hb
  · exact Nat.zero_add _

/-- A column of the rotated groups. -/
theorem cols_right (a : FVec Ideal S1024x4608 .f32) (b : FVec Ideal S1024x1792 .f32) (k : Fin 1024) (j : Fin 1792) :
    cols a b (ix2 k ⟨4608 + j.val, by omega⟩) = b (ix2 k j) := by
  show concatenate S1024x6400 1 [⟨S1024x4608, a⟩, ⟨S1024x1792, b⟩] concatenates_S1024x4608_S1024x1792_S1024x6400_d1 _ = _
  refine concatenate_apply_piece 1 _ _ _ 1 ?_ S1024x1792 b ?_ ?_ 4608 ?_ (ix2 k j) ?_ ?_
  · simp
  · rfl
  · rfl
  · rfl
  · exact fun b hb => by fin_cases b <;> first | rfl | exact absurd rfl hb
  · rfl

end Cert.InProj
end
-- ==== Proof.InProj.Entry.lean ====
/- The weights the launch reads are the groups of columns side by side: each group by the operations that make it. -/
module

public import proofs.«01_k».proof.Proof.Gen.InProjKernelIdeal.Frame
public import proofs.«01_k».proof.Proof.InProj.Weights
public import Idealize.ShloMosaic.Lib.KernelVsHost
public import Idealize.ShloMosaic.Lib.Pipeline.Value
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 16384

noncomputable section

namespace Cert.InProj

open Cert.InProjKernelIdeal Cert.InProjKernelIdeal.Gen Idealize.ShloMosaic Idealize.ShloMosaic.TcCoe Idealize.SL.Sem

/-- What buffer `r` holds after the first `n` operations of the host. -/
abbrev held (m : (ℓ : Loc nD τ sig) → Buf (Elt Ideal) ℓ) (c : Dev nD) (n : ℕ) (r : Ref sig .tc) :
    Buf (Elt Ideal) ((c : Thread nD τ).loc r) :=
  StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37]) (fun b => m (c, b)) n (Proc.devRef .tc r)

set_option maxHeartbeats 1000000 in
theorem held_19 (m : (ℓ : Loc nD τ sig) → Buf (Elt Ideal) ℓ) (c : Dev nD) :
    held m c 102 main_v19 = pad512 (scaled (qaCols (m ((c : Thread nD τ).loc main_arg3)))) := by
  after_reads_simp
  rfl

set_option maxHeartbeats 1000000 in
theorem held_20 (m : (ℓ : Loc nD τ sig) → Buf (Elt Ideal) ℓ) (c : Dev nD) :
    held m c 102 main_v20 = pad128 (kaCols (m ((c : Thread nD τ).loc main_arg3))) := by
  after_reads_simp
  rfl

set_option maxHeartbeats 1000000 in
theorem held_21 (m : (ℓ : Loc nD τ sig) → Buf (Elt Ideal) ℓ) (c : Dev nD) :
    held m c 102 main_v21 = pad128 (vaCols (m ((c : Thread nD τ).loc main_arg3))) := by
  after_reads_simp
  rfl

set_option maxHeartbeats 1000000 in
theorem held_22 (m : (ℓ : Loc nD τ sig) → Buf (Elt Ideal) ℓ) (c : Dev nD) :
    held m c 102 main_v22 = pad384 (cqCols (m ((c : Thread nD τ).loc main_arg3))) := by
  after_reads_simp
  rfl

set_option maxHeartbeats 1000000 in
theorem held_23 (m : (ℓ : Loc nD τ sig) → Buf (Elt Ideal) ℓ) (c : Dev nD) :
    held m c 102 main_v23 = pad256 (ckvCols (m ((c : Thread nD τ).loc main_arg3))) := by
  after_reads_simp
  rfl

set_option maxHeartbeats 1000000 in
theorem held_24 (m : (ℓ : Loc nD τ sig) → Buf (Elt Ideal) ℓ) (c : Dev nD) :
    held m c 102 main_v24 = pad512 (qcCols (m ((c : Thread nD τ).loc main_arg3))) := by
  after_reads_simp
  rfl

set_option maxHeartbeats 1000000 in
theorem held_25 (m : (ℓ : Loc nD τ sig) → Buf (Elt Ideal) ℓ) (c : Dev nD) :
    held m c 102 main_v25 = pad512 (kcCols (m ((c : Thread nD τ).loc main_arg3))) := by
  after_reads_simp
  rfl

set_option maxHeartbeats 1000000 in
theorem held_26 (m : (ℓ : Loc nD τ sig) → Buf (Elt Ideal) ℓ) (c : Dev nD) :
    held m c 102 main_v26 = pad512 (vcCols (m ((c : Thread nD τ).loc main_arg3))) := by
  after_reads_simp
  rfl

set_option maxHeartbeats 1000000 in
theorem held_27 (m : (ℓ : Loc nD τ sig) → Buf (Elt Ideal) ℓ) (c : Dev nD) :
    held m c 102 main_v27 = pad512 (scaled (qdCols (m ((c : Thread nD τ).loc main_arg3)))) := by
  after_reads_simp
  rfl

set_option maxHeartbeats 1000000 in
theorem held_28 (m : (ℓ : Loc nD τ sig) → Buf (Elt Ideal) ℓ) (c : Dev nD) :
    held m c 102 main_v28 = pad512 (kdCols (m ((c : Thread nD τ).loc main_arg3))) := by
  after_reads_simp
  rfl

set_option maxHeartbeats 1000000 in
theorem held_29 (m : (ℓ : Loc nD τ sig) → Buf (Elt Ideal) ℓ) (c : Dev nD) :
    held m c 102 main_v29 = pad512 (vdCols (m ((c : Thread nD τ).loc main_arg3))) := by
  after_reads_simp
  rfl

set_option maxHeartbeats 1000000 in
theorem held_30 (m : (ℓ : Loc nD τ sig) → Buf (Elt Ideal) ℓ) (c : Dev nD) :
    held m c 102 main_v30 = pad32 (krCols (m ((c : Thread nD τ).loc main_arg3))) := by
  after_reads_simp
  rfl

set_option maxHeartbeats 1000000 in
theorem held_37 (m : (ℓ : Loc nD τ sig) → Buf (Elt Ideal) ℓ) (c : Dev nD) :
    held m c 103 main_v37 = pad512 (rot8 (scaled (qaCols (m ((c : Thread nD τ).loc main_arg3))))) := by
  after_reads_simp
  rfl

set_option maxHeartbeats 1000000 in
theorem held_44 (m : (ℓ : Loc nD τ sig) → Buf (Elt Ideal) ℓ) (c : Dev nD) :
    held m c 103 main_v44 = pad128 (rot2 (kaCols (m ((c : Thread nD τ).loc main_arg3)))) := by
  after_reads_simp
  rfl

set_option maxHeartbeats 1000000 in
theorem held_51 (m : (ℓ : Loc nD τ sig) → Buf (Elt Ideal) ℓ) (c : Dev nD) :
    held m c 103 main_v51 = pad512 (rot8 (qcCols (m ((c : Thread nD τ).loc main_arg3)))) := by
  after_reads_simp
  rfl

set_option maxHeartbeats 1000000 in
theorem held_58 (m : (ℓ : Loc nD τ sig) → Buf (Elt Ideal) ℓ) (c : Dev nD) :
    held m c 103 main_v58 = pad512 (rot8 (kcCols (m ((c : Thread nD τ).loc main_arg3)))) := by
  after_reads_simp
  rfl

set_option maxHeartbeats 1000000 in
theorem held_65 (m : (ℓ : Loc nD τ sig) → Buf (Elt Ideal) ℓ) (c : Dev nD) :
    held m c 103 main_v65 = pad32 (rot1 (krCols (m ((c : Thread nD τ).loc main_arg3)))) := by
  after_reads_simp
  rfl

set_option maxHeartbeats 1000000 in
theorem held_66 (m : (ℓ : Loc nD τ sig) → Buf (Elt Ideal) ℓ) (c : Dev nD) :
    held m c 104 main_v66 =
      mainCols (pad512 (scaled (qaCols (m ((c : Thread nD τ).loc main_arg3))))) (pad128 (kaCols (m ((c : Thread nD τ).loc main_arg3)))) (pad128 (vaCols (m ((c : Thread nD τ).loc main_arg3)))) (pad384 (cqCols (m ((c : Thread nD τ).loc main_arg3)))) (pad256 (ckvCols (m ((c : Thread nD τ).loc main_arg3)))) (pad512 (qcCols (m ((c : Thread nD τ).loc main_arg3)))) (pad512 (kcCols (m ((c : Thread nD τ).loc main_arg3)))) (pad512 (vcCols (m ((c : Thread nD τ).loc main_arg3)))) (pad512 (scaled (qdCols (m ((c : Thread nD τ).loc main_arg3))))) (pad512 (kdCols (m ((c : Thread nD τ).loc main_arg3)))) (pad512 (vdCols (m ((c : Thread nD τ).loc main_arg3)))) (pad32 (krCols (m ((c : Thread nD τ).loc main_arg3)))) := by
  have e : ∀ x, x = mainCols (held m c 102 main_v19) (held m c 102 main_v20) (held m c 102 main_v21) (held m c 102 main_v22) (held m c 102 main_v23) (held m c 102 main_v24) (held m c 102 main_v25) (held m c 102 main_v26) (held m c 102 main_v27) (held m c 102 main_v28) (held m c 102 main_v29) (held m c 102 main_v30) → held m c 104 main_v66 = x := by
    intro x hx
    after_reads_simp
    exact hx.symm
  rw [e _ rfl, held_19, held_20, held_21, held_22, held_23, held_24, held_25, held_26, held_27, held_28, held_29, held_30]

set_option maxHeartbeats 1000000 in
theorem held_67 (m : (ℓ : Loc nD τ sig) → Buf (Elt Ideal) ℓ) (c : Dev nD) :
    held m c 104 main_v67 =
      rotCols (pad512 (rot8 (scaled (qaCols (m ((c : Thread nD τ).loc main_arg3)))))) (pad128 (rot2 (kaCols (m ((c : Thread nD τ).loc main_arg3))))) (pad512 (rot8 (qcCols (m ((c : Thread nD τ).loc main_arg3))))) (pad512 (rot8 (kcCols (m ((c : Thread nD τ).loc main_arg3))))) (pad32 (rot1 (krCols (m ((c : Thread nD τ).loc main_arg3))))) := by
  have e : ∀ x, x = rotCols (held m c 103 main_v37) (held m c 103 main_v44) (held m c 103 main_v51) (held m c 103 main_v58) (held m c 103 main_v65) → held m c 104 main_v67 = x := by
    intro x hx
    after_reads_simp
    exact hx.symm
  rw [e _ rfl, held_37, held_44, held_51, held_58, held_65]

set_option maxHeartbeats 1000000 in
/-- The weights the launch reads. -/
theorem entry_w (m : (ℓ : Loc nD τ sig) → Buf (Elt Ideal) ℓ) (c : Dev nD) :
    V m c main_v69 = weights (m ((c : Thread nD τ).loc main_arg3)) := by
  have e : ∀ x, x = cols (held m c 104 main_v66) (held m c 104 main_v67) → V m c main_v69 = x := by
    intro x hx
    after_reads_simp
    exact hx.symm
  rw [e _ rfl, held_66, held_67, weights]

end Cert.InProj
end
-- ==== Proof.InProj.Window.lean ====
/- What each grid point's input blocks hold, as entries of the argument arrays and of the rotation's tables. -/
module

public import proofs.«01_k».proof.Proof.Gen.InProjKernelIdeal.Value
public import proofs.«01_k».proof.Proof.InProj.Spec
public import proofs.«01_k».proof.Proof.InProj.Tables
public import proofs.«01_k».proof.Proof.InProj.Entry
public import Idealize.ShloMosaic.Lib.Pipeline.ValueKit
public import Idealize.ShloMosaic.Lib.Claim
public import Idealize.ShloMosaic.Lib.Pointwise

@[expose] public section

set_option maxRecDepth 16384

noncomputable section

namespace Cert.InProj

open Cert.InProjKernelIdeal Cert.InProjKernelIdeal.Gen Idealize.ShloMosaic Idealize.ShloMosaic.TcCoe Idealize.SL.Sem

variable (m : (ℓ : Loc nD τ sig) → Buf (Elt Ideal) ℓ) (c : Dev nD) (t : Fin cfg0.N)

/-- The grid point's number: its block of 512 rows. -/
def pt : Fin 64 := ⟨(grid0.coords t 0).val, (grid0.coords t 0).isLt⟩
/-- The grid point's batch entry. -/
def bat : Fin 4 := ⟨(pt t).val / 16, by have := (pt t).isLt; omega⟩
/-- The position of the grid point's `i`-th row. -/
def pos (i : Fin 512) : Fin 8192 := ⟨(pt t).val % 16 * 512 + i.val, by have := (pt t).isLt; omega⟩

/-- Where the input windows' blocks lie. -/
theorem index_facts : ∀ t : Fin cfg0.N,
    win0_0.index t = ![(pt t).val, 0] ∧ win0_1.index t = ![(bat t).val, 0, 0] ∧ win0_2.index t = ![(bat t).val, 0, 0]
    ∧ win0_3.index t = ![0, 0] ∧ win0_4.index t = ![(pt t).val % 16, 0] ∧ win0_5.index t = ![(pt t).val % 16, 0]
    ∧ win0_6.index t = ![(pt t).val % 16, 0] ∧ win0_7.index t = ![(pt t).val % 16, 0] :=
  (by decide +kernel : ∀ t : Fin grid0.N, _)

/-- Where the output windows' blocks lie. -/
theorem out_facts : ∀ t : Fin cfg0.N,
    win0_8.index t = ![(pt t).val, 0] ∧ win0_9.index t = ![(pt t).val, 0] ∧ win0_10.index t = ![(pt t).val, 0]
    ∧ win0_11.index t = ![(pt t).val, 0] ∧ win0_12.index t = ![(pt t).val, 0] ∧ win0_13.index t = ![(pt t).val, 0]
    ∧ win0_14.index t = ![(pt t).val, 0] ∧ win0_15.index t = ![(pt t).val, 0] ∧ win0_16.index t = ![(pt t).val, 0]
    ∧ win0_17.index t = ![(pt t).val, 0] ∧ win0_18.index t = ![(pt t).val, 0] ∧ win0_19.index t = ![(pt t).val, 0] :=
  (by decide +kernel : ∀ t : Fin grid0.N, _)

/-- The input laid out as rows, entry by entry. -/
theorem rows_apply (a : FVec Ideal S4x8192x1024 .f32) (b : Fin 4) (s : Fin 8192) (k : Fin 1024) :
    shapeCast S32768x1024 a shapeCasts_S4x8192x1024_S32768x1024 (ix2 ⟨b.val * 8192 + s.val, by omega⟩ k) = a (ix3 b s k) := by
  unfold shapeCast
  refine congrArg a (Shape.reshapeEquiv_eq_of_rowMajor _ ?_)
  rw [Shape.rowMajor_val_two, Shape.rowMajor_val_three]
  show (b.val * 8192 + s.val) * 1024 + k.val = (b.val * 8192 + s.val) * 1024 + k.val
  rfl

/-- The input's rows the launch reads. -/
theorem entry_x (b : Fin 4) (s : Fin 8192) (k : Fin 1024) :
    V m c main_v2 (ix2 ⟨b.val * 8192 + s.val, by omega⟩ k) = m ((c : Thread nD τ).loc main_arg0) (ix3 b s k) := by
  have e : V m c main_v2 = (shapeCast S32768x1024 (m ((c : Thread nD τ).loc main_arg0) : FVec Ideal S4x8192x1024 .f32)
    shapeCasts_S4x8192x1024_S32768x1024) := rfl
  rw [e]
  exact rows_apply _ b s k

/-- The shift the launch reads. -/
theorem entry_sh (b : Fin 4) (k : Fin 1024) : V m c main_v0 (ix3 b 0 k) = m ((c : Thread nD τ).loc main_arg1) (ix2 b k) := by
  have e : V m c main_v0 = (shapeCast S4x1x1024 (m ((c : Thread nD τ).loc main_arg1) : FVec Ideal S4x1024 .f32)
    shapeCasts_S4x1024_S4x1x1024) := rfl
  rw [e]
  pointwise

/-- The scale the launch reads. -/
theorem entry_sc (b : Fin 4) (k : Fin 1024) : V m c main_v1 (ix3 b 0 k) = m ((c : Thread nD τ).loc main_arg2) (ix2 b k) := by
  have e : V m c main_v1 = (shapeCast S4x1x1024 (m ((c : Thread nD τ).loc main_arg2) : FVec Ideal S4x1024 .f32)
    shapeCasts_S4x1024_S4x1x1024) := rfl
  rw [e]
  pointwise

/-- The input block. -/
theorem read_x (i : Fin 512) (k : Fin 1024) :
    iblk m c 0 t (ix2 i k) = m ((c : Thread nD τ).loc main_arg0) (ix3 (bat t) (pos t i) k) := by
  have e := (index_facts t).1
  have h : ((cfg0.win 0).blk t).view.emb (ix2 i k) = ix2 (⟨(bat t).val * 8192 + (pos t i).val, by omega⟩ : Fin 32768) k := by
    blk_ext [e, bat, pos]
  exact (congrArg (V m c main_v2) h).trans (entry_x m c (bat t) (pos t i) k)

/-- The shift's block. -/
theorem read_sh (k : Fin 1024) : iblk m c 1 t (ix3 0 0 k) = m ((c : Thread nD τ).loc main_arg1) (ix2 (bat t) k) := by
  have e := (index_facts t).2.1
  have h : ((cfg0.win 1).blk t).view.emb (ix3 0 0 k) = ix3 (bat t) 0 k := by blk_ext [e]
  exact (congrArg (V m c main_v0) h).trans (entry_sh m c (bat t) k)

/-- The scale's block. -/
theorem read_sc (k : Fin 1024) : iblk m c 2 t (ix3 0 0 k) = m ((c : Thread nD τ).loc main_arg2) (ix2 (bat t) k) := by
  have e := (index_facts t).2.2.1
  have h : ((cfg0.win 2).blk t).view.emb (ix3 0 0 k) = ix3 (bat t) 0 k := by blk_ext [e]
  exact (congrArg (V m c main_v1) h).trans (entry_sc m c (bat t) k)

/-- The weights' block. -/
theorem read_w (k : Fin 1024) (j : Fin 6400) : iblk m c 3 t (ix2 k j) = weights (m ((c : Thread nD τ).loc main_arg3)) (ix2 k j) := by
  have e := (index_facts t).2.2.2.1
  have h : ((cfg0.win 3).blk t).view.emb (ix2 k j) = ix2 k j := by blk_ext [e]
  exact (congrArg (V m c main_v69) h).trans (congrFun (entry_w m c) (ix2 k j))

/-- The block of 64-wide heads' cosines. -/
theorem read_cos64 (i : Fin 512) (l : Fin 128) : iblk m c 4 t (ix2 i l) = Ideal.cos (angle64 (pos t i).val (l.val % 32)) := by
  have e := (index_facts t).2.2.2.2.1
  have h : ((cfg0.win 4).blk t).view.emb (ix2 i l) = ix2 (pos t i) l := by blk_ext [e, pos]
  exact (congrArg (V m c main_v110) h).trans (entry_cos64 m c (pos t i) l)

/-- The block of 64-wide heads' sines. -/
theorem read_sin64 (i : Fin 512) (l : Fin 128) : iblk m c 5 t (ix2 i l) = Ideal.sin (angle64 (pos t i).val (l.val % 32)) := by
  have e := (index_facts t).2.2.2.2.2.1
  have h : ((cfg0.win 5).blk t).view.emb (ix2 i l) = ix2 (pos t i) l := by blk_ext [e, pos]
  exact (congrArg (V m c main_v111) h).trans (entry_sin64 m c (pos t i) l)

/-- The block of the rotary key's cosines. -/
theorem read_cos32 (i : Fin 512) (l : Fin 128) :
    iblk m c 6 t (ix2 i l) = if l.val < 32 then Ideal.cos (angle32 (pos t i).val (l.val % 16)) else 0 := by
  have e := (index_facts t).2.2.2.2.2.2.1
  have h : ((cfg0.win 6).blk t).view.emb (ix2 i l) = ix2 (pos t i) l := by blk_ext [e, pos]
  exact (congrArg (V m c main_v112) h).trans (entry_cos32 m c (pos t i) l)

/-- The block of the rotary key's sines. -/
theorem read_sin32 (i : Fin 512) (l : Fin 128) :
    iblk m c 7 t (ix2 i l) = if l.val < 32 then Ideal.sin (angle32 (pos t i).val (l.val % 16)) else 0 := by
  have e := (index_facts t).2.2.2.2.2.2.2
  have h : ((cfg0.win 7).blk t).view.emb (ix2 i l) = ix2 (pos t i) l := by blk_ext [e, pos]
  exact (congrArg (V m c main_v113) h).trans (entry_sin32 m c (pos t i) l)

/-- Where window 8's elements lie in its result. -/
theorem emb8 (i : Fin 512) (j : Fin 512) : ((cfg0.win 8).blk t).view.emb (ix2 i j)
    = ix2 (⟨(bat t).val * 8192 + (pos t i).val, by omega⟩ : Fin 32768) j := by
  have e := (out_facts t).1
  blk_ext [e, bat, pos]

/-- Where window 9's elements lie in its result. -/
theorem emb9 (i : Fin 512) (j : Fin 128) : ((cfg0.win 9).blk t).view.emb (ix2 i j)
    = ix2 (⟨(bat t).val * 8192 + (pos t i).val, by omega⟩ : Fin 32768) j := by
  have e := (out_facts t).2.1
  blk_ext [e, bat, pos]

/-- Where window 10's elements lie in its result. -/
theorem emb10 (i : Fin 512) (j : Fin 128) : ((cfg0.win 10).blk t).view.emb (ix2 i j)
    = ix2 (⟨(bat t).val * 8192 + (pos t i).val, by omega⟩ : Fin 32768) j := by
  have e := (out_facts t).2.2.1
  blk_ext [e, bat, pos]

/-- Where window 11's elements lie in its result. -/
theorem emb11 (i : Fin 512) (j : Fin 384) : ((cfg0.win 11).blk t).view.emb (ix2 i j)
    = ix2 (⟨(bat t).val * 8192 + (pos t i).val, by omega⟩ : Fin 32768) j := by
  have e := (out_facts t).2.2.2.1
  blk_ext [e, bat, pos]

/-- Where window 12's elements lie in its result. -/
theorem emb12 (i : Fin 512) (j : Fin 256) : ((cfg0.win 12).blk t).view.emb (ix2 i j)
    = ix2 (⟨(bat t).val * 8192 + (pos t i).val, by omega⟩ : Fin 32768) j := by
  have e := (out_facts t).2.2.2.2.1
  blk_ext [e, bat, pos]

/-- Where window 13's elements lie in its result. -/
theorem emb13 (i : Fin 512) (j : Fin 128) : ((cfg0.win 13).blk t).view.emb (ix2 i j)
    = ix2 (⟨(bat t).val * 8192 + (pos t i).val, by omega⟩ : Fin 32768) j := by
  have e := (out_facts t).2.2.2.2.2.1
  blk_ext [e, bat, pos]

/-- Where window 14's elements lie in its result. -/
theorem emb14 (i : Fin 512) (j : Fin 512) : ((cfg0.win 14).blk t).view.emb (ix2 i j)
    = ix2 (⟨(bat t).val * 8192 + (pos t i).val, by omega⟩ : Fin 32768) j := by
  have e := (out_facts t).2.2.2.2.2.2.1
  blk_ext [e, bat, pos]

/-- Where window 15's elements lie in its result. -/
theorem emb15 (i : Fin 512) (j : Fin 512) : ((cfg0.win 15).blk t).view.emb (ix2 i j)
    = ix2 (⟨(bat t).val * 8192 + (pos t i).val, by omega⟩ : Fin 32768) j := by
  have e := (out_facts t).2.2.2.2.2.2.2.1
  blk_ext [e, bat, pos]

/-- Where window 16's elements lie in its result. -/
theorem emb16 (i : Fin 512) (j : Fin 512) : ((cfg0.win 16).blk t).view.emb (ix2 i j)
    = ix2 (⟨(bat t).val * 8192 + (pos t i).val, by omega⟩ : Fin 32768) j := by
  have e := (out_facts t).2.2.2.2.2.2.2.2.1
  blk_ext [e, bat, pos]

/-- Where window 17's elements lie in its result. -/
theorem emb17 (i : Fin 512) (j : Fin 512) : ((cfg0.win 17).blk t).view.emb (ix2 i j)
    = ix2 (⟨(bat t).val * 8192 + (pos t i).val, by omega⟩ : Fin 32768) j := by
  have e := (out_facts t).2.2.2.2.2.2.2.2.2.1
  blk_ext [e, bat, pos]

/-- Where window 18's elements lie in its result. -/
theorem emb18 (i : Fin 512) (j : Fin 512) : ((cfg0.win 18).blk t).view.emb (ix2 i j)
    = ix2 (⟨(bat t).val * 8192 + (pos t i).val, by omega⟩ : Fin 32768) j := by
  have e := (out_facts t).2.2.2.2.2.2.2.2.2.2.1
  blk_ext [e, bat, pos]

/-- Where window 19's elements lie in its result. -/
theorem emb19 (i : Fin 512) (j : Fin 512) : ((cfg0.win 19).blk t).view.emb (ix2 i j)
    = ix2 (⟨(bat t).val * 8192 + (pos t i).val, by omega⟩ : Fin 32768) j := by
  have e := (out_facts t).2.2.2.2.2.2.2.2.2.2.2
  blk_ext [e, bat, pos]

end Cert.InProj
end
-- ==== Proof.InProj.Columns.lean ====
/- The columns of the launch's weights, as columns of the given weights. -/
module

public import proofs.«01_k».proof.Proof.InProj.Weights

@[expose] public section

set_option maxRecDepth 16384

noncomputable section

namespace Cert.InProj

open Cert.InProjKernelIdeal Cert.InProjKernelIdeal.Gen Idealize.ShloMosaic Idealize.ShloMosaic.TcCoe Idealize.SL.Sem

/-- Column `n` is itself when it is one of the 4512. -/
theorem colAt_eq (n : ℕ) (h : n < 4512) : colAt n = ⟨n, h⟩ := Fin.ext (Nat.mod_eq_of_lt h)

variable (w : FVec Ideal S1024x4512 .f32) (k : Fin 1024)

/-- A column of `qa`. -/
theorem col_qa (j : Fin 512) : qaCols w (ix2 k j) = w (ix2 k (colAt (0 + j.val))) := by
  rw [colAt_eq (0 + j.val) (by omega)]
  unfold qaCols
  pointwise []
  try blk_ext []

/-- A scaled column of `qa`. -/
theorem scol_qa (j : Fin 512) : scaled (qaCols w) (ix2 k j) = w (ix2 k (colAt (0 + j.val))) * Ideal.ofBits .f32 0x3E000000#32 := by
  rw [scaled_apply, col_qa]

/-- A column of `ka`. -/
theorem col_ka (j : Fin 128) : kaCols w (ix2 k j) = w (ix2 k (colAt (512 + j.val))) := by
  rw [colAt_eq (512 + j.val) (by omega)]
  unfold kaCols
  pointwise []
  try blk_ext []

/-- A column of `va`. -/
theorem col_va (j : Fin 128) : vaCols w (ix2 k j) = w (ix2 k (colAt (640 + j.val))) := by
  rw [colAt_eq (640 + j.val) (by omega)]
  unfold vaCols
  pointwise []
  try blk_ext []

/-- A column of `cq`. -/
theorem col_cq (j : Fin 384) : cqCols w (ix2 k j) = w (ix2 k (colAt (768 + j.val))) := by
  rw [colAt_eq (768 + j.val) (by omega)]
  unfold cqCols
  pointwise []
  try blk_ext []

/-- A column of `ckv`. -/
theorem col_ckv (j : Fin 256) : ckvCols w (ix2 k j) = w (ix2 k (colAt (1152 + j.val))) := by
  rw [colAt_eq (1152 + j.val) (by omega)]
  unfold ckvCols
  pointwise []
  try blk_ext []

/-- A column of `qc`. -/
theorem col_qc (j : Fin 512) : qcCols w (ix2 k j) = w (ix2 k (colAt (1440 + j.val))) := by
  rw [colAt_eq (1440 + j.val) (by omega)]
  unfold qcCols
  pointwise []
  try blk_ext []

/-- A column of `kc`. -/
theorem col_kc (j : Fin 512) : kcCols w (ix2 k j) = w (ix2 k (colAt (1952 + j.val))) := by
  rw [colAt_eq (1952 + j.val) (by omega)]
  unfold kcCols
  pointwise []
  try blk_ext []

/-- A column of `vc`. -/
theorem col_vc (j : Fin 512) : vcCols w (ix2 k j) = w (ix2 k (colAt (2464 + j.val))) := by
  rw [colAt_eq (2464 + j.val) (by omega)]
  unfold vcCols
  pointwise []
  try blk_ext []

/-- A column of `qd`. -/
theorem col_qd (j : Fin 512) : qdCols w (ix2 k j) = w (ix2 k (colAt (2976 + j.val))) := by
  rw [colAt_eq (2976 + j.val) (by omega)]
  unfold qdCols
  pointwise []
  try blk_ext []

/-- A scaled column of `qd`. -/
theorem scol_qd (j : Fin 512) : scaled (qdCols w) (ix2 k j) = w (ix2 k (colAt (2976 + j.val))) * Ideal.ofBits .f32 0x3E000000#32 := by
  rw [scaled_apply, col_qd]

/-- A column of `kd`. -/
theorem col_kd (j : Fin 512) : kdCols w (ix2 k j) = w (ix2 k (colAt (3488 + j.val))) := by
  rw [colAt_eq (3488 + j.val) (by omega)]
  unfold kdCols
  pointwise []
  try blk_ext []

/-- A column of `vd`. -/
theorem col_vd (j : Fin 512) : vdCols w (ix2 k j) = w (ix2 k (colAt (4000 + j.val))) := by
  rw [colAt_eq (4000 + j.val) (by omega)]
  unfold vdCols
  pointwise []
  try blk_ext []

/-- A column of `kr`. -/
theorem col_kr (j : Fin 32) : krCols w (ix2 k j) = w (ix2 k (colAt (1408 + j.val))) := by
  rw [colAt_eq (1408 + j.val) (by omega)]
  unfold krCols
  pointwise []
  try blk_ext []

/-- Group `qa` of the launch's columns. -/
theorem w_qa (j : Fin 512) : weights w (ix2 k ⟨0 + j.val, by omega⟩) = w (ix2 k (colAt (0 + j.val))) * Ideal.ofBits .f32 0x3E000000#32 := by
  unfold weights
  refine (cols_left _ _ k ⟨0 + j.val, by omega⟩).trans ?_
  rw [main_qa, pad512_apply, scol_qa]

/-- Group `ka` of the launch's columns. -/
theorem w_ka (j : Fin 128) : weights w (ix2 k ⟨512 + j.val, by omega⟩) = w (ix2 k (colAt (512 + j.val))) := by
  unfold weights
  refine (cols_left _ _ k ⟨512 + j.val, by omega⟩).trans ?_
  rw [main_ka, pad128_apply, col_ka]

/-- Group `va` of the launch's columns. -/
theorem w_va (j : Fin 128) : weights w (ix2 k ⟨640 + j.val, by omega⟩) = w (ix2 k (colAt (640 + j.val))) := by
  unfold weights
  refine (cols_left _ _ k ⟨640 + j.val, by omega⟩).trans ?_
  rw [main_va, pad128_apply, col_va]

/-- Group `cq` of the launch's columns. -/
theorem w_cq (j : Fin 384) : weights w (ix2 k ⟨768 + j.val, by omega⟩) = w (ix2 k (colAt (768 + j.val))) := by
  unfold weights
  refine (cols_left _ _ k ⟨768 + j.val, by omega⟩).trans ?_
  rw [main_cq, pad384_apply, col_cq]

/-- Group `ckv` of the launch's columns. -/
theorem w_ckv (j : Fin 256) : weights w (ix2 k ⟨1152 + j.val, by omega⟩) = w (ix2 k (colAt (1152 + j.val))) := by
  unfold weights
  refine (cols_left _ _ k ⟨1152 + j.val, by omega⟩).trans ?_
  rw [main_ckv, pad256_apply, col_ckv]

/-- Group `qc` of the launch's columns. -/
theorem w_qc (j : Fin 512) : weights w (ix2 k ⟨1408 + j.val, by omega⟩) = w (ix2 k (colAt (1440 + j.val))) := by
  unfold weights
  refine (cols_left _ _ k ⟨1408 + j.val, by omega⟩).trans ?_
  rw [main_qc, pad512_apply, col_qc]

/-- Group `kc` of the launch's columns. -/
theorem w_kc (j : Fin 512) : weights w (ix2 k ⟨1920 + j.val, by omega⟩) = w (ix2 k (colAt (1952 + j.val))) := by
  unfold weights
  refine (cols_left _ _ k ⟨1920 + j.val, by omega⟩).trans ?_
  rw [main_kc, pad512_apply, col_kc]

/-- Group `vc` of the launch's columns. -/
theorem w_vc (j : Fin 512) : weights w (ix2 k ⟨2432 + j.val, by omega⟩) = w (ix2 k (colAt (2464 + j.val))) := by
  unfold weights
  refine (cols_left _ _ k ⟨2432 + j.val, by omega⟩).trans ?_
  rw [main_vc, pad512_apply, col_vc]

/-- Group `qd` of the launch's columns. -/
theorem w_qd (j : Fin 512) : weights w (ix2 k ⟨2944 + j.val, by omega⟩) = w (ix2 k (colAt (2976 + j.val))) * Ideal.ofBits .f32 0x3E000000#32 := by
  unfold weights
  refine (cols_left _ _ k ⟨2944 + j.val, by omega⟩).trans ?_
  rw [main_qd, pad512_apply, scol_qd]

/-- Group `kd` of the launch's columns. -/
theorem w_kd (j : Fin 512) : weights w (ix2 k ⟨3456 + j.val, by omega⟩) = w (ix2 k (colAt (3488 + j.val))) := by
  unfold weights
  refine (cols_left _ _ k ⟨3456 + j.val, by omega⟩).trans ?_
  rw [main_kd, pad512_apply, col_kd]

/-- Group `vd` of the launch's columns. -/
theorem w_vd (j : Fin 512) : weights w (ix2 k ⟨3968 + j.val, by omega⟩) = w (ix2 k (colAt (4000 + j.val))) := by
  unfold weights
  refine (cols_left _ _ k ⟨3968 + j.val, by omega⟩).trans ?_
  rw [main_vd, pad512_apply, col_vd]

/-- Group `kr` of the launch's columns. -/
theorem w_kr (j : Fin 128) : weights w (ix2 k ⟨4480 + j.val, by omega⟩) = if j.val < 32 then w (ix2 k (colAt (1408 + j.val))) else 0 := by
  unfold weights
  refine (cols_left _ _ k ⟨4480 + j.val, by omega⟩).trans ?_
  rw [main_kr, pad32_apply]
  split_ifs with h
  · exact col_kr w k ⟨j.val, h⟩
  · rfl

/-- The rotated group `qa` of the launch's columns. -/
theorem r_qa (j : Fin 512) : weights w (ix2 k ⟨4608 + j.val, by omega⟩)
    = rotated 32 (fun n => w (ix2 k (colAt (0 + n))) * Ideal.ofBits .f32 0x3E000000#32) j.val := by
  have e : (⟨4608 + j.val, by omega⟩ : Fin 6400) = ⟨4608 + (0 + j.val), by omega⟩ := Fin.ext (by show 4608 + j.val = 4608 + (0 + j.val); omega)
  rw [e]
  unfold weights
  refine (cols_right _ _ k ⟨0 + j.val, by omega⟩).trans ?_
  rw [rot_qa, pad512_apply, rot8_apply]
  unfold rotated
  simp only [Nat.reduceMul]
  split_ifs with h
  · exact congrArg (- ·) (scol_qa w k ⟨j.val + 32, by omega⟩)
  · exact scol_qa w k ⟨j.val - 32, by omega⟩

/-- The rotated group `ka` of the launch's columns. -/
theorem r_ka (j : Fin 128) : weights w (ix2 k ⟨5120 + j.val, by omega⟩)
    = rotated 32 (fun n => w (ix2 k (colAt (512 + n)))) j.val := by
  have e : (⟨5120 + j.val, by omega⟩ : Fin 6400) = ⟨4608 + (512 + j.val), by omega⟩ := Fin.ext (by show 5120 + j.val = 4608 + (512 + j.val); omega)
  rw [e]
  unfold weights
  refine (cols_right _ _ k ⟨512 + j.val, by omega⟩).trans ?_
  rw [rot_ka, pad128_apply, rot2_apply]
  unfold rotated
  simp only [Nat.reduceMul]
  split_ifs with h
  · exact congrArg (- ·) (col_ka w k ⟨j.val + 32, by omega⟩)
  · exact col_ka w k ⟨j.val - 32, by omega⟩

/-- The rotated group `qc` of the launch's columns. -/
theorem r_qc (j : Fin 512) : weights w (ix2 k ⟨5248 + j.val, by omega⟩)
    = rotated 32 (fun n => w (ix2 k (colAt (1440 + n)))) j.val := by
  have e : (⟨5248 + j.val, by omega⟩ : Fin 6400) = ⟨4608 + (640 + j.val), by omega⟩ := Fin.ext (by show 5248 + j.val = 4608 + (640 + j.val); omega)
  rw [e]
  unfold weights
  refine (cols_right _ _ k ⟨640 + j.val, by omega⟩).trans ?_
  rw [rot_qc, pad512_apply, rot8_apply]
  unfold rotated
  simp only [Nat.reduceMul]
  split_ifs with h
  · exact congrArg (- ·) (col_qc w k ⟨j.val + 32, by omega⟩)
  · exact col_qc w k ⟨j.val - 32, by omega⟩

/-- The rotated group `kc` of the launch's columns. -/
theorem r_kc (j : Fin 512) : weights w (ix2 k ⟨5760 + j.val, by omega⟩)
    = rotated 32 (fun n => w (ix2 k (colAt (1952 + n)))) j.val := by
  have e : (⟨5760 + j.val, by omega⟩ : Fin 6400) = ⟨4608 + (1152 + j.val), by omega⟩ := Fin.ext (by show 5760 + j.val = 4608 + (1152 + j.val); omega)
  rw [e]
  unfold weights
  refine (cols_right _ _ k ⟨1152 + j.val, by omega⟩).trans ?_
  rw [rot_kc, pad512_apply, rot8_apply]
  unfold rotated
  simp only [Nat.reduceMul]
  split_ifs with h
  · exact congrArg (- ·) (col_kc w k ⟨j.val + 32, by omega⟩)
  · exact col_kc w k ⟨j.val - 32, by omega⟩

/-- The rotated group `kr` of the launch's columns. -/
theorem r_kr (j : Fin 128) : weights w (ix2 k ⟨6272 + j.val, by omega⟩)
    = if j.val < 32 then rotated 16 (fun n => w (ix2 k (colAt (1408 + n)))) j.val else 0 := by
  have e : (⟨6272 + j.val, by omega⟩ : Fin 6400) = ⟨4608 + (1664 + j.val), by omega⟩ := Fin.ext (by show 6272 + j.val = 4608 + (1664 + j.val); omega)
  rw [e]
  unfold weights
  refine (cols_right _ _ k ⟨1664 + j.val, by omega⟩).trans ?_
  rw [rot_kr, pad32_apply]
  split_ifs with h
  · rw [rot1_apply]
    unfold rotated
    simp only [Nat.reduceMul, Nat.mod_eq_of_lt h]
    split_ifs with h1
    · exact congrArg (- ·) (col_kr w k ⟨j.val + 16, by omega⟩)
    · exact col_kr w k ⟨j.val - 16, by omega⟩
  · rfl

end Cert.InProj
end
-- ==== Proof.InProj.Reference.lean ====
/- The reference read at an index. -/
module

public import proofs.«01_k».proof.Proof.Gen.InProjReferenceIdeal.Read
public import proofs.«01_k».proof.Proof.InProj.Spec
public import Idealize.ShloMosaic.Lib.KernelVsHost
public import Idealize.ShloMosaic.Lib.Pipeline.Value
public import Idealize.ShloMosaic.Lib.Pipeline.ValueKit
public import Idealize.ShloMosaic.Lib.Pointwise

@[expose] public section

set_option maxRecDepth 16384

noncomputable section

namespace Cert.InProj.Ref

open Cert.InProjReferenceIdeal Cert.InProjReferenceIdeal.Gen Cert.InProjReferenceIdeal.Read Idealize.ShloMosaic Idealize.SL.Sem
open scoped BigOperators

/-- The cosines of 64-wide heads. -/
theorem cos64_apply (s : Fin 8192) (e : Fin 32) : val_main_v16 (F := Ideal) (ix2 s e) = Ideal.cos (angle64 s.val e.val) := by
  unfold angle64 angle
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_v16]
  rfl

/-- The sines of 64-wide heads. -/
theorem sin64_apply (s : Fin 8192) (e : Fin 32) : val_main_v17 (F := Ideal) (ix2 s e) = Ideal.sin (angle64 s.val e.val) := by
  unfold angle64 angle
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_v17]
  rfl

/-- The cosines of the 32-wide key. -/
theorem cos32_apply (s : Fin 8192) (e : Fin 16) : val_main_v34 (F := Ideal) (ix2 s e) = Ideal.cos (angle32 s.val e.val) := by
  unfold angle32 angle
  pointwise [val_main_v33, val_main_v32, val_main_v31, val_main_v30, val_main_v29, val_main_v28, val_main_v27, val_main_v26, val_main_v25, val_main_v24, val_main_v23, val_main_v22, val_main_v21, val_main_v20, val_main_v19, val_main_v18, val_main_cst_3, val_main_cst_4, val_main_cst_5, val_main_cst_6, val_main_v34]
  rfl

/-- The sines of the 32-wide key. -/
theorem sin32_apply (s : Fin 8192) (e : Fin 16) : val_main_v35 (F := Ideal) (ix2 s e) = Ideal.sin (angle32 s.val e.val) := by
  unfold angle32 angle
  pointwise [val_main_v33, val_main_v32, val_main_v31, val_main_v30, val_main_v29, val_main_v28, val_main_v27, val_main_v26, val_main_v25, val_main_v24, val_main_v23, val_main_v22, val_main_v21, val_main_v20, val_main_v19, val_main_v18, val_main_cst_3, val_main_cst_4, val_main_cst_5, val_main_cst_6, val_main_v35]
  rfl

variable (x : (⟨S4x8192x1024, .f32⟩ : BufTy).Contents (Elt Ideal)) (sh sc : (⟨S4x1024, .f32⟩ : BufTy).Contents (Elt Ideal))
  (w : (⟨S1024x4512, .f32⟩ : BufTy).Contents (Elt Ideal)) (b : Fin 4) (s : Fin 8192)

/-- The row's mean. -/
theorem mean_x : val_main_v39 x (ix3 b s 0) = Cert.Merge.mean (fun k => x (ix3 b s k)) := by
  unfold Cert.Merge.mean
  pointwise [val_main_v39, val_main_v38, val_main_v37, val_main_v36, val_main_cst_7, val_main_cst_8]

/-- The row's mean of squares. -/
theorem var_x : val_main_v46 x (ix3 b s 0)
    = Cert.Merge.mean (fun k => (x (ix3 b s k) - val_main_v39 x (ix3 b s 0)) * (x (ix3 b s k) - val_main_v39 x (ix3 b s 0))) := by
  unfold Cert.Merge.mean
  pointwise [val_main_v46, val_main_v45, val_main_v44, val_main_v43, val_main_v42, val_main_v41, val_main_v40, val_main_cst_9, val_main_cst_10]

/-- The modulated row. -/
theorem modulated_eq (j : Fin 1024) : val_main_v61 x sh sc (ix3 b s j)
    = Cert.Merge.modulated (fun k => x (ix3 b s k)) (fun k => sc (ix2 b k)) (fun k => sh (ix2 b k)) j := by
  unfold Cert.Merge.modulated Cert.Merge.nrm
  rw [← mean_x, ← var_x]
  pointwise [val_main_v61, val_main_v60, val_main_v59, val_main_v58, val_main_v57, val_main_v56, val_main_v55, val_main_v54, val_main_v53,
    val_main_v52, val_main_v51, val_main_v50, val_main_v49, val_main_v48, val_main_v47, val_main_cst_11, val_main_cst_12]

/-- The row's product with column `n`. -/
def P (n : ℕ) : EReal :=
  prod (Cert.Merge.modulated (fun k => x (ix3 b s k)) (fun k => sc (ix2 b k)) (fun k => sh (ix2 b k))) (fun k n => w (ix2 k n)) n

/-- The projection. -/
theorem proj_eq (n : Fin 4512) : val_main_v62 x sh sc w (ix3 b s n) = P x sh sc w b s n.val := by
  have e : colAt n.val = n := Fin.ext (Nat.mod_eq_of_lt n.isLt)
  unfold P prod
  rw [e]
  simp only [← modulated_eq]
  pointwise [val_main_v62]

/-- The result `va`. -/
theorem va_eq (j : Fin 128) : val_main_v174 x sh sc w (ix2 (⟨b.val * 8192 + s.val, by omega⟩ : Fin 32768) j) = P x sh sc w b s (640 + j.val) := by
  rw [← proj_eq x sh sc w b s ⟨640 + j.val, by omega⟩]
  pointwise [val_main_v174, val_main_v165, val_main_v65]
  blk_ext []

/-- The result `cq`. -/
theorem cq_eq (j : Fin 384) : val_main_v166 x sh sc w (ix2 (⟨b.val * 8192 + s.val, by omega⟩ : Fin 32768) j) = P x sh sc w b s (768 + j.val) := by
  rw [← proj_eq x sh sc w b s ⟨768 + j.val, by omega⟩]
  pointwise [val_main_v166, val_main_v66]
  blk_ext []

/-- The result `ckv`. -/
theorem ckv_eq (j : Fin 256) : val_main_v167 x sh sc w (ix2 (⟨b.val * 8192 + s.val, by omega⟩ : Fin 32768) j) = P x sh sc w b s (1152 + j.val) := by
  rw [← proj_eq x sh sc w b s ⟨1152 + j.val, by omega⟩]
  pointwise [val_main_v167, val_main_v67]
  blk_ext []

/-- The result `vc`. -/
theorem vc_eq (j : Fin 512) : val_main_v178 x sh sc w (ix2 (⟨b.val * 8192 + s.val, by omega⟩ : Fin 32768) j) = P x sh sc w b s (2464 + j.val) := by
  rw [← proj_eq x sh sc w b s ⟨2464 + j.val, by omega⟩]
  pointwise [val_main_v178, val_main_v168, val_main_v71]
  blk_ext []

/-- The result `kd`. -/
theorem kd_eq (j : Fin 512) : val_main_v180 x sh sc w (ix2 (⟨b.val * 8192 + s.val, by omega⟩ : Fin 32768) j) = P x sh sc w b s (3488 + j.val) := by
  rw [← proj_eq x sh sc w b s ⟨3488 + j.val, by omega⟩]
  pointwise [val_main_v180, val_main_v170, val_main_v73]
  blk_ext []

/-- The result `vd`. -/
theorem vd_eq (j : Fin 512) : val_main_v181 x sh sc w (ix2 (⟨b.val * 8192 + s.val, by omega⟩ : Fin 32768) j) = P x sh sc w b s (4000 + j.val) := by
  rw [← proj_eq x sh sc w b s ⟨4000 + j.val, by omega⟩]
  pointwise [val_main_v181, val_main_v171, val_main_v74]
  blk_ext []

/-- The result `qd`. -/
theorem qd_eq (j : Fin 512) : val_main_v179 x sh sc w (ix2 (⟨b.val * 8192 + s.val, by omega⟩ : Fin 32768) j)
    = P x sh sc w b s (2976 + j.val) * Ideal.ofBits .f32 0x3E000000#32 := by
  rw [← proj_eq x sh sc w b s ⟨2976 + j.val, by omega⟩]
  pointwise [val_main_v179, val_main_v169, val_main_v164, val_main_v163, val_main_cst_14, val_main_v72]
  blk_ext []

/-- The first halves of `qa`. -/
theorem qa_first (h : Fin 8) (e : Fin 32) : val_main_v84 x sh sc w (ix4 b s h e)
    = P x sh sc w b s (0 + (h.val * 64 + e.val)) * Ideal.cos (angle64 s.val e.val)
      - P x sh sc w b s (0 + (h.val * 64 + e.val + 32)) * Ideal.sin (angle64 s.val e.val) := by
  rw [← proj_eq x sh sc w b s ⟨0 + (h.val * 64 + e.val), by omega⟩, ← proj_eq x sh sc w b s ⟨0 + (h.val * 64 + e.val + 32), by omega⟩,
    ← cos64_apply, ← sin64_apply]
  pointwise [val_main_v84, val_main_v81, val_main_v80, val_main_v83, val_main_v82, val_main_v78, val_main_v79, val_main_v76, val_main_v77, val_main_v75, val_main_v63]
  simp only [Nat.add_comm 32 e.val, ← Nat.add_assoc, Nat.zero_add]

/-- The second halves of `qa`. -/
theorem qa_second (h : Fin 8) (e : Fin 32) : val_main_v89 x sh sc w (ix4 b s h e)
    = P x sh sc w b s (0 + (h.val * 64 + e.val)) * Ideal.sin (angle64 s.val e.val)
      + P x sh sc w b s (0 + (h.val * 64 + e.val + 32)) * Ideal.cos (angle64 s.val e.val) := by
  rw [← proj_eq x sh sc w b s ⟨0 + (h.val * 64 + e.val), by omega⟩, ← proj_eq x sh sc w b s ⟨0 + (h.val * 64 + e.val + 32), by omega⟩,
    ← cos64_apply, ← sin64_apply]
  pointwise [val_main_v89, val_main_v86, val_main_v85, val_main_v88, val_main_v87, val_main_v78, val_main_v79, val_main_v76, val_main_v77, val_main_v75, val_main_v63]
  simp only [Nat.add_comm 32 e.val, ← Nat.add_assoc, Nat.zero_add]

/-- The rotated `qa`. -/
theorem qa_rot (j : Fin 512) : val_main_v91 x sh sc w (ix2 (⟨b.val * 8192 + s.val, by omega⟩ : Fin 32768) j)
    = roped 32 (fun n => P x sh sc w b s (0 + n)) (angle64 s.val) j.val := by
  have e : val_main_v91 x sh sc w (ix2 (⟨b.val * 8192 + s.val, by omega⟩ : Fin 32768) j)
      = val_main_v90 x sh sc w (ix4 b s (⟨j.val / 64, by omega⟩ : Fin 8) (⟨j.val % 64, by omega⟩ : Fin 64)) := by
    pointwise [val_main_v91]
    blk_ext []
  rw [e]
  unfold roped
  split_ifs with h
  · have e1 := qa_first x sh sc w b s ⟨j.val / 64, by omega⟩ ⟨j.val % 32, by omega⟩
    have e2 : j.val / 64 * 64 + j.val % 32 = j.val := by omega
    simp only [e2] at e1
    refine Eq.trans ?_ e1
    unfold val_main_v90
    generalize val_main_v84 x sh sc w = A
    generalize val_main_v89 x sh sc w = B
    refine concatenate_apply_piece 3 _ _ _ 0 ?_ S4x8192x8x32 A ?_ ?_ 0 ?_
      (ix4 b s (⟨j.val / 64, by omega⟩ : Fin 8) (⟨j.val % 32, by omega⟩ : Fin 32)) ?_ ?_
    · simp
    · rfl
    · rfl
    · rfl
    · exact fun b hb => by fin_cases b <;> first | rfl | exact absurd rfl hb
    · show 0 + j.val % 32 = j.val % 64
      omega
  · have e1 := qa_second x sh sc w b s ⟨j.val / 64, by omega⟩ ⟨j.val % 32, by omega⟩
    have e3 : j.val / 64 * 64 + j.val % 32 = j.val - 32 := by omega
    have e4 : j.val - 32 + 32 = j.val := by omega
    simp only [e3, e4] at e1
    refine Eq.trans ?_ e1
    unfold val_main_v90
    generalize val_main_v84 x sh sc w = A
    generalize val_main_v89 x sh sc w = B
    refine concatenate_apply_piece 3 _ _ _ 1 ?_ S4x8192x8x32 B ?_ ?_ 32 ?_
      (ix4 b s (⟨j.val / 64, by omega⟩ : Fin 8) (⟨j.val % 32, by omega⟩ : Fin 32)) ?_ ?_
    · simp
    · rfl
    · rfl
    · rfl
    · exact fun b hb => by fin_cases b <;> first | rfl | exact absurd rfl hb
    · show 32 + j.val % 32 = j.val % 64
      omega

/-- The first halves of `ka`. -/
theorem ka_first (h : Fin 2) (e : Fin 32) : val_main_v103 x sh sc w (ix4 b s h e)
    = P x sh sc w b s (512 + (h.val * 64 + e.val)) * Ideal.cos (angle64 s.val e.val)
      - P x sh sc w b s (512 + (h.val * 64 + e.val + 32)) * Ideal.sin (angle64 s.val e.val) := by
  rw [← proj_eq x sh sc w b s ⟨512 + (h.val * 64 + e.val), by omega⟩, ← proj_eq x sh sc w b s ⟨512 + (h.val * 64 + e.val + 32), by omega⟩,
    ← cos64_apply, ← sin64_apply]
  pointwise [val_main_v103, val_main_v100, val_main_v99, val_main_v102, val_main_v101, val_main_v97, val_main_v98, val_main_v95, val_main_v96, val_main_v94, val_main_v64]
  simp only [Nat.add_comm 32 e.val, ← Nat.add_assoc, Nat.zero_add]

/-- The second halves of `ka`. -/
theorem ka_second (h : Fin 2) (e : Fin 32) : val_main_v108 x sh sc w (ix4 b s h e)
    = P x sh sc w b s (512 + (h.val * 64 + e.val)) * Ideal.sin (angle64 s.val e.val)
      + P x sh sc w b s (512 + (h.val * 64 + e.val + 32)) * Ideal.cos (angle64 s.val e.val) := by
  rw [← proj_eq x sh sc w b s ⟨512 + (h.val * 64 + e.val), by omega⟩, ← proj_eq x sh sc w b s ⟨512 + (h.val * 64 + e.val + 32), by omega⟩,
    ← cos64_apply, ← sin64_apply]
  pointwise [val_main_v108, val_main_v105, val_main_v104, val_main_v107, val_main_v106, val_main_v97, val_main_v98, val_main_v95, val_main_v96, val_main_v94, val_main_v64]
  simp only [Nat.add_comm 32 e.val, ← Nat.add_assoc, Nat.zero_add]

/-- The rotated `ka`. -/
theorem ka_rot (j : Fin 128) : val_main_v110 x sh sc w (ix2 (⟨b.val * 8192 + s.val, by omega⟩ : Fin 32768) j)
    = roped 32 (fun n => P x sh sc w b s (512 + n)) (angle64 s.val) j.val := by
  have e : val_main_v110 x sh sc w (ix2 (⟨b.val * 8192 + s.val, by omega⟩ : Fin 32768) j)
      = val_main_v109 x sh sc w (ix4 b s (⟨j.val / 64, by omega⟩ : Fin 2) (⟨j.val % 64, by omega⟩ : Fin 64)) := by
    pointwise [val_main_v110]
    blk_ext []
  rw [e]
  unfold roped
  split_ifs with h
  · have e1 := ka_first x sh sc w b s ⟨j.val / 64, by omega⟩ ⟨j.val % 32, by omega⟩
    have e2 : j.val / 64 * 64 + j.val % 32 = j.val := by omega
    simp only [e2] at e1
    refine Eq.trans ?_ e1
    unfold val_main_v109
    generalize val_main_v103 x sh sc w = A
    generalize val_main_v108 x sh sc w = B
    refine concatenate_apply_piece 3 _ _ _ 0 ?_ S4x8192x2x32 A ?_ ?_ 0 ?_
      (ix4 b s (⟨j.val / 64, by omega⟩ : Fin 2) (⟨j.val % 32, by omega⟩ : Fin 32)) ?_ ?_
    · simp
    · rfl
    · rfl
    · rfl
    · exact fun b hb => by fin_cases b <;> first | rfl | exact absurd rfl hb
    · show 0 + j.val % 32 = j.val % 64
      omega
  · have e1 := ka_second x sh sc w b s ⟨j.val / 64, by omega⟩ ⟨j.val % 32, by omega⟩
    have e3 : j.val / 64 * 64 + j.val % 32 = j.val - 32 := by omega
    have e4 : j.val - 32 + 32 = j.val := by omega
    simp only [e3, e4] at e1
    refine Eq.trans ?_ e1
    unfold val_main_v109
    generalize val_main_v103 x sh sc w = A
    generalize val_main_v108 x sh sc w = B
    refine concatenate_apply_piece 3 _ _ _ 1 ?_ S4x8192x2x32 B ?_ ?_ 32 ?_
      (ix4 b s (⟨j.val / 64, by omega⟩ : Fin 2) (⟨j.val % 32, by omega⟩ : Fin 32)) ?_ ?_
    · simp
    · rfl
    · rfl
    · rfl
    · exact fun b hb => by fin_cases b <;> first | rfl | exact absurd rfl hb
    · show 32 + j.val % 32 = j.val % 64
      omega

/-- The result `ka`. -/
theorem ka_eq (j : Fin 128) : val_main_v173 x sh sc w (ix2 (⟨b.val * 8192 + s.val, by omega⟩ : Fin 32768) j)
    = roped 32 (fun n => P x sh sc w b s (512 + n)) (angle64 s.val) j.val := ka_rot x sh sc w b s j

/-- The first halves of `qc`. -/
theorem qc_first (h : Fin 8) (e : Fin 32) : val_main_v120 x sh sc w (ix4 b s h e)
    = P x sh sc w b s (1440 + (h.val * 64 + e.val)) * Ideal.cos (angle64 s.val e.val)
      - P x sh sc w b s (1440 + (h.val * 64 + e.val + 32)) * Ideal.sin (angle64 s.val e.val) := by
  rw [← proj_eq x sh sc w b s ⟨1440 + (h.val * 64 + e.val), by omega⟩, ← proj_eq x sh sc w b s ⟨1440 + (h.val * 64 + e.val + 32), by omega⟩,
    ← cos64_apply, ← sin64_apply]
  pointwise [val_main_v120, val_main_v117, val_main_v116, val_main_v119, val_main_v118, val_main_v114, val_main_v115, val_main_v112, val_main_v113, val_main_v111, val_main_v69]
  simp only [Nat.add_comm 32 e.val, ← Nat.add_assoc, Nat.zero_add]

/-- The second halves of `qc`. -/
theorem qc_second (h : Fin 8) (e : Fin 32) : val_main_v125 x sh sc w (ix4 b s h e)
    = P x sh sc w b s (1440 + (h.val * 64 + e.val)) * Ideal.sin (angle64 s.val e.val)
      + P x sh sc w b s (1440 + (h.val * 64 + e.val + 32)) * Ideal.cos (angle64 s.val e.val) := by
  rw [← proj_eq x sh sc w b s ⟨1440 + (h.val * 64 + e.val), by omega⟩, ← proj_eq x sh sc w b s ⟨1440 + (h.val * 64 + e.val + 32), by omega⟩,
    ← cos64_apply, ← sin64_apply]
  pointwise [val_main_v125, val_main_v122, val_main_v121, val_main_v124, val_main_v123, val_main_v114, val_main_v115, val_main_v112, val_main_v113, val_main_v111, val_main_v69]
  simp only [Nat.add_comm 32 e.val, ← Nat.add_assoc, Nat.zero_add]

/-- The rotated `qc`. -/
theorem qc_rot (j : Fin 512) : val_main_v127 x sh sc w (ix2 (⟨b.val * 8192 + s.val, by omega⟩ : Fin 32768) j)
    = roped 32 (fun n => P x sh sc w b s (1440 + n)) (angle64 s.val) j.val := by
  have e : val_main_v127 x sh sc w (ix2 (⟨b.val * 8192 + s.val, by omega⟩ : Fin 32768) j)
      = val_main_v126 x sh sc w (ix4 b s (⟨j.val / 64, by omega⟩ : Fin 8) (⟨j.val % 64, by omega⟩ : Fin 64)) := by
    pointwise [val_main_v127]
    blk_ext []
  rw [e]
  unfold roped
  split_ifs with h
  · have e1 := qc_first x sh sc w b s ⟨j.val / 64, by omega⟩ ⟨j.val % 32, by omega⟩
    have e2 : j.val / 64 * 64 + j.val % 32 = j.val := by omega
    simp only [e2] at e1
    refine Eq.trans ?_ e1
    unfold val_main_v126
    generalize val_main_v120 x sh sc w = A
    generalize val_main_v125 x sh sc w = B
    refine concatenate_apply_piece 3 _ _ _ 0 ?_ S4x8192x8x32 A ?_ ?_ 0 ?_
      (ix4 b s (⟨j.val / 64, by omega⟩ : Fin 8) (⟨j.val % 32, by omega⟩ : Fin 32)) ?_ ?_
    · simp
    · rfl
    · rfl
    · rfl
    · exact fun b hb => by fin_cases b <;> first | rfl | exact absurd rfl hb
    · show 0 + j.val % 32 = j.val % 64
      omega
  · have e1 := qc_second x sh sc w b s ⟨j.val / 64, by omega⟩ ⟨j.val % 32, by omega⟩
    have e3 : j.val / 64 * 64 + j.val % 32 = j.val - 32 := by omega
    have e4 : j.val - 32 + 32 = j.val := by omega
    simp only [e3, e4] at e1
    refine Eq.trans ?_ e1
    unfold val_main_v126
    generalize val_main_v120 x sh sc w = A
    generalize val_main_v125 x sh sc w = B
    refine concatenate_apply_piece 3 _ _ _ 1 ?_ S4x8192x8x32 B ?_ ?_ 32 ?_
      (ix4 b s (⟨j.val / 64, by omega⟩ : Fin 8) (⟨j.val % 32, by omega⟩ : Fin 32)) ?_ ?_
    · simp
    · rfl
    · rfl
    · rfl
    · exact fun b hb => by fin_cases b <;> first | rfl | exact absurd rfl hb
    · show 32 + j.val % 32 = j.val % 64
      omega

/-- The result `qc`. -/
theorem qc_eq (j : Fin 512) : val_main_v176 x sh sc w (ix2 (⟨b.val * 8192 + s.val, by omega⟩ : Fin 32768) j)
    = roped 32 (fun n => P x sh sc w b s (1440 + n)) (angle64 s.val) j.val := qc_rot x sh sc w b s j

/-- The first halves of `kc`. -/
theorem kc_first (h : Fin 8) (e : Fin 32) : val_main_v137 x sh sc w (ix4 b s h e)
    = P x sh sc w b s (1952 + (h.val * 64 + e.val)) * Ideal.cos (angle64 s.val e.val)
      - P x sh sc w b s (1952 + (h.val * 64 + e.val + 32)) * Ideal.sin (angle64 s.val e.val) := by
  rw [← proj_eq x sh sc w b s ⟨1952 + (h.val * 64 + e.val), by omega⟩, ← proj_eq x sh sc w b s ⟨1952 + (h.val * 64 + e.val + 32), by omega⟩,
    ← cos64_apply, ← sin64_apply]
  pointwise [val_main_v137, val_main_v134, val_main_v133, val_main_v136, val_main_v135, val_main_v131, val_main_v132, val_main_v129, val_main_v130, val_main_v128, val_main_v70]
  simp only [Nat.add_comm 32 e.val, ← Nat.add_assoc, Nat.zero_add]

/-- The second halves of `kc`. -/
theorem kc_second (h : Fin 8) (e : Fin 32) : val_main_v142 x sh sc w (ix4 b s h e)
    = P x sh sc w b s (1952 + (h.val * 64 + e.val)) * Ideal.sin (angle64 s.val e.val)
      + P x sh sc w b s (1952 + (h.val * 64 + e.val + 32)) * Ideal.cos (angle64 s.val e.val) := by
  rw [← proj_eq x sh sc w b s ⟨1952 + (h.val * 64 + e.val), by omega⟩, ← proj_eq x sh sc w b s ⟨1952 + (h.val * 64 + e.val + 32), by omega⟩,
    ← cos64_apply, ← sin64_apply]
  pointwise [val_main_v142, val_main_v139, val_main_v138, val_main_v141, val_main_v140, val_main_v131, val_main_v132, val_main_v129, val_main_v130, val_main_v128, val_main_v70]
  simp only [Nat.add_comm 32 e.val, ← Nat.add_assoc, Nat.zero_add]

/-- The rotated `kc`. -/
theorem kc_rot (j : Fin 512) : val_main_v144 x sh sc w (ix2 (⟨b.val * 8192 + s.val, by omega⟩ : Fin 32768) j)
    = roped 32 (fun n => P x sh sc w b s (1952 + n)) (angle64 s.val) j.val := by
  have e : val_main_v144 x sh sc w (ix2 (⟨b.val * 8192 + s.val, by omega⟩ : Fin 32768) j)
      = val_main_v143 x sh sc w (ix4 b s (⟨j.val / 64, by omega⟩ : Fin 8) (⟨j.val % 64, by omega⟩ : Fin 64)) := by
    pointwise [val_main_v144]
    blk_ext []
  rw [e]
  unfold roped
  split_ifs with h
  · have e1 := kc_first x sh sc w b s ⟨j.val / 64, by omega⟩ ⟨j.val % 32, by omega⟩
    have e2 : j.val / 64 * 64 + j.val % 32 = j.val := by omega
    simp only [e2] at e1
    refine Eq.trans ?_ e1
    unfold val_main_v143
    generalize val_main_v137 x sh sc w = A
    generalize val_main_v142 x sh sc w = B
    refine concatenate_apply_piece 3 _ _ _ 0 ?_ S4x8192x8x32 A ?_ ?_ 0 ?_
      (ix4 b s (⟨j.val / 64, by omega⟩ : Fin 8) (⟨j.val % 32, by omega⟩ : Fin 32)) ?_ ?_
    · simp
    · rfl
    · rfl
    · rfl
    · exact fun b hb => by fin_cases b <;> first | rfl | exact absurd rfl hb
    · show 0 + j.val % 32 = j.val % 64
      omega
  · have e1 := kc_second x sh sc w b s ⟨j.val / 64, by omega⟩ ⟨j.val % 32, by omega⟩
    have e3 : j.val / 64 * 64 + j.val % 32 = j.val - 32 := by omega
    have e4 : j.val - 32 + 32 = j.val := by omega
    simp only [e3, e4] at e1
    refine Eq.trans ?_ e1
    unfold val_main_v143
    generalize val_main_v137 x sh sc w = A
    generalize val_main_v142 x sh sc w = B
    refine concatenate_apply_piece 3 _ _ _ 1 ?_ S4x8192x8x32 B ?_ ?_ 32 ?_
      (ix4 b s (⟨j.val / 64, by omega⟩ : Fin 8) (⟨j.val % 32, by omega⟩ : Fin 32)) ?_ ?_
    · simp
    · rfl
    · rfl
    · rfl
    · exact fun b hb => by fin_cases b <;> first | rfl | exact absurd rfl hb
    · show 32 + j.val % 32 = j.val % 64
      omega

/-- The result `kc`. -/
theorem kc_eq (j : Fin 512) : val_main_v177 x sh sc w (ix2 (⟨b.val * 8192 + s.val, by omega⟩ : Fin 32768) j)
    = roped 32 (fun n => P x sh sc w b s (1952 + n)) (angle64 s.val) j.val := kc_rot x sh sc w b s j

/-- The first halves of `kr`. -/
theorem kr_first (h : Fin 1) (e : Fin 16) : val_main_v154 x sh sc w (ix4 b s h e)
    = P x sh sc w b s (1408 + (h.val * 32 + e.val)) * Ideal.cos (angle32 s.val e.val)
      - P x sh sc w b s (1408 + (h.val * 32 + e.val + 16)) * Ideal.sin (angle32 s.val e.val) := by
  rw [← proj_eq x sh sc w b s ⟨1408 + (h.val * 32 + e.val), by omega⟩, ← proj_eq x sh sc w b s ⟨1408 + (h.val * 32 + e.val + 16), by omega⟩,
    ← cos32_apply, ← sin32_apply]
  pointwise [val_main_v154, val_main_v151, val_main_v150, val_main_v153, val_main_v152, val_main_v148, val_main_v149, val_main_v146, val_main_v147, val_main_v145, val_main_v68]
  simp only [Nat.add_comm 16 e.val, ← Nat.add_assoc, Nat.zero_add]

/-- The second halves of `kr`. -/
theorem kr_second (h : Fin 1) (e : Fin 16) : val_main_v159 x sh sc w (ix4 b s h e)
    = P x sh sc w b s (1408 + (h.val * 32 + e.val)) * Ideal.sin (angle32 s.val e.val)
      + P x sh sc w b s (1408 + (h.val * 32 + e.val + 16)) * Ideal.cos (angle32 s.val e.val) := by
  rw [← proj_eq x sh sc w b s ⟨1408 + (h.val * 32 + e.val), by omega⟩, ← proj_eq x sh sc w b s ⟨1408 + (h.val * 32 + e.val + 16), by omega⟩,
    ← cos32_apply, ← sin32_apply]
  pointwise [val_main_v159, val_main_v156, val_main_v155, val_main_v158, val_main_v157, val_main_v148, val_main_v149, val_main_v146, val_main_v147, val_main_v145, val_main_v68]
  simp only [Nat.add_comm 16 e.val, ← Nat.add_assoc, Nat.zero_add]

/-- The rotated `kr`. -/
theorem kr_rot (j : Fin 32) : val_main_v161 x sh sc w (ix2 (⟨b.val * 8192 + s.val, by omega⟩ : Fin 32768) j)
    = roped 16 (fun n => P x sh sc w b s (1408 + n)) (angle32 s.val) j.val := by
  have e : val_main_v161 x sh sc w (ix2 (⟨b.val * 8192 + s.val, by omega⟩ : Fin 32768) j)
      = val_main_v160 x sh sc w (ix4 b s (⟨j.val / 32, by omega⟩ : Fin 1) (⟨j.val % 32, by omega⟩ : Fin 32)) := by
    pointwise [val_main_v161]
    blk_ext []
  rw [e]
  unfold roped
  split_ifs with h
  · have e1 := kr_first x sh sc w b s ⟨j.val / 32, by omega⟩ ⟨j.val % 16, by omega⟩
    have e2 : j.val / 32 * 32 + j.val % 16 = j.val := by omega
    simp only [e2] at e1
    refine Eq.trans ?_ e1
    unfold val_main_v160
    generalize val_main_v154 x sh sc w = A
    generalize val_main_v159 x sh sc w = B
    refine concatenate_apply_piece 3 _ _ _ 0 ?_ S4x8192x1x16 A ?_ ?_ 0 ?_
      (ix4 b s (⟨j.val / 32, by omega⟩ : Fin 1) (⟨j.val % 16, by omega⟩ : Fin 16)) ?_ ?_
    · simp
    · rfl
    · rfl
    · rfl
    · exact fun b hb => by fin_cases b <;> first | rfl | exact absurd rfl hb
    · show 0 + j.val % 16 = j.val % 32
      omega
  · have e1 := kr_second x sh sc w b s ⟨j.val / 32, by omega⟩ ⟨j.val % 16, by omega⟩
    have e3 : j.val / 32 * 32 + j.val % 16 = j.val - 16 := by omega
    have e4 : j.val - 16 + 16 = j.val := by omega
    simp only [e3, e4] at e1
    refine Eq.trans ?_ e1
    unfold val_main_v160
    generalize val_main_v154 x sh sc w = A
    generalize val_main_v159 x sh sc w = B
    refine concatenate_apply_piece 3 _ _ _ 1 ?_ S4x8192x1x16 B ?_ ?_ 16 ?_
      (ix4 b s (⟨j.val / 32, by omega⟩ : Fin 1) (⟨j.val % 16, by omega⟩ : Fin 16)) ?_ ?_
    · simp
    · rfl
    · rfl
    · rfl
    · exact fun b hb => by fin_cases b <;> first | rfl | exact absurd rfl hb
    · show 16 + j.val % 16 = j.val % 32
      omega

/-- The result `qa`. -/
theorem qa_eq (j : Fin 512) : val_main_v172 x sh sc w (ix2 (⟨b.val * 8192 + s.val, by omega⟩ : Fin 32768) j)
    = roped 32 (fun n => P x sh sc w b s (0 + n)) (angle64 s.val) j.val * Ideal.ofBits .f32 0x3E000000#32 := by
  rw [← qa_rot]
  pointwise [val_main_v172, val_main_v93, val_main_v92, val_main_cst_13]

/-- The result `kr`. -/
theorem kr_eq (j : Fin 128) : val_main_v175 x sh sc w (ix2 (⟨b.val * 8192 + s.val, by omega⟩ : Fin 32768) j)
    = if j.val < 32 then roped 16 (fun n => P x sh sc w b s (1408 + n)) (angle32 s.val) j.val else 0 := by
  have e : val_main_v175 x sh sc w (ix2 (⟨b.val * 8192 + s.val, by omega⟩ : Fin 32768) j)
      = val_main_v162 x sh sc w (ix2 (⟨b.val * 8192 + s.val, by omega⟩ : Fin 32768) j) := rfl
  rw [e]
  unfold val_main_v162
  split_ifs with h
  · refine Eq.trans (pad_apply_of_inside _ _ _ _ _ _ _ _ (ix2 (⟨b.val * 8192 + s.val, by omega⟩ : Fin 32768) (⟨j.val, h⟩ : Fin 32)) fun a => by fin_cases a <;> simp)
      (kr_rot x sh sc w b s ⟨j.val, h⟩)
  · refine Eq.trans (pad_apply_of_not_inside _ _ _ _ _ _ _ _ 1 fun hh => h ?_) ?_
    · have := hh.2.2
      simpa using this
    · show ((BitVec.toInt (0#32) : ℝ) : EReal) = 0
      simp

end Cert.InProj.Ref
end
-- ==== Proof.InProj.Array.lean ====
/- The kernel's result arrays are the reference's, on real arguments. -/
module

public import proofs.«01_k».proof.Proof.InProj.Tile
public import proofs.«01_k».proof.Proof.InProj.Window
public import proofs.«01_k».proof.Proof.InProj.Columns
public import proofs.«01_k».proof.Proof.InProj.Reference

@[expose] public section

set_option maxRecDepth 16384

noncomputable section

namespace Cert.InProj

open Cert.InProjKernelIdeal Cert.InProjKernelIdeal.Gen Idealize.ShloMosaic Idealize.ShloMosaic.TcCoe Idealize.SL.Sem
open scoped BigOperators

section

variable (u : Fin 1024 → EReal) (w : Fin 1024 → Fin 4512 → EReal) (hu : ∀ k, ∃ r : ℝ, u k = (r : EReal))
  (hw : ∀ k n, ∃ r : ℝ, w k n = (r : EReal))
include hu hw

/-- Products with columns and rotated columns are the rotated products, of real data. -/
theorem roped_law (d o : ℕ) (θ : ℕ → EReal) (j : ℕ) : (∑ k, u k * w k (colAt (o + j))) * Ideal.cos (θ (j % d))
    + (∑ k, u k * rotated d (fun n => w k (colAt (o + n))) j) * Ideal.sin (θ (j % d)) = roped d (fun n => prod u w (o + n)) θ j := by
  choose U hU using hu
  choose W hW using hw
  obtain rfl : u = fun k => (U k : EReal) := funext hU
  obtain rfl : w = fun k n => (W k n : EReal) := funext fun k => funext fun n => hW k n
  exact roped_eq d o U W θ j

/-- The same with the columns scaled by an eighth. -/
theorem scaled_roped_law (d o : ℕ) (θ : ℕ → EReal) (j : ℕ) :
    (∑ k, u k * (w k (colAt (o + j)) * Ideal.ofBits .f32 0x3E000000#32)) * Ideal.cos (θ (j % d))
      + (∑ k, u k * rotated d (fun n => w k (colAt (o + n)) * Ideal.ofBits .f32 0x3E000000#32) j) * Ideal.sin (θ (j % d))
      = roped d (fun n => prod u w (o + n)) θ j * Ideal.ofBits .f32 0x3E000000#32 := by
  choose U hU using hu
  choose W hW using hw
  obtain rfl : u = fun k => (U k : EReal) := funext hU
  obtain rfl : w = fun k n => (W k n : EReal) := funext fun k => funext fun n => hW k n
  obtain ⟨r, hr, e⟩ := eighth
  rw [e]
  exact roped_scaled d o U W θ j r hr

/-- A product with columns scaled by an eighth. -/
theorem scaled_law (n : ℕ) : ∑ k, u k * (w k (colAt n) * Ideal.ofBits .f32 0x3E000000#32) = prod u w n * Ideal.ofBits .f32 0x3E000000#32 := by
  choose U hU using hu
  choose W hW using hw
  obtain rfl : u = fun k => (U k : EReal) := funext hU
  obtain rfl : w = fun k n => (W k n : EReal) := funext fun k => funext fun n => hW k n
  obtain ⟨r, hr, e⟩ := eighth
  rw [e]
  exact sum_scaled U (fun k => W k (colAt n)) r

end

/-- The modulated row of real arguments is real. -/
theorem modulated_law (x sc sh : Fin 1024 → EReal) (hx : ∀ k, ∃ r : ℝ, x k = (r : EReal)) (hsc : ∀ k, ∃ r : ℝ, sc k = (r : EReal))
    (hsh : ∀ k, ∃ r : ℝ, sh k = (r : EReal)) (j : Fin 1024) : ∃ r : ℝ, Cert.Merge.modulated x sc sh j = (r : EReal) := by
  choose X hX using hx
  choose C hC using hsc
  choose S hS using hsh
  obtain rfl : x = fun k => (X k : EReal) := funext hX
  obtain rfl : sc = fun k => (C k : EReal) := funext hC
  obtain rfl : sh = fun k => (S k : EReal) := funext hS
  exact modulated_real X C S j

variable (m : (ℓ : Loc nD τ sig) → Buf (Elt Ideal) ℓ) (c : Dev nD)

/-- The input. -/
abbrev aX : FVec Ideal S4x8192x1024 .f32 := m ((c : Thread nD τ).loc main_arg0)
/-- The shift. -/
abbrev aSh : FVec Ideal S4x1024 .f32 := m ((c : Thread nD τ).loc main_arg1)
/-- The scale. -/
abbrev aSc : FVec Ideal S4x1024 .f32 := m ((c : Thread nD τ).loc main_arg2)
/-- The weights. -/
abbrev aW : FVec Ideal S1024x4512 .f32 := m ((c : Thread nD τ).loc main_arg3)

/-- The modulated row `s` of batch entry `b`. -/
abbrev row (b : Fin 4) (s : Fin 8192) : Fin 1024 → EReal :=
  Cert.Merge.modulated (fun k => aX m c (ix3 b s k)) (fun k => aSc m c (ix2 b k)) (fun k => aSh m c (ix2 b k))

/-- The product of row `s` of batch entry `b` with column `n`. -/
abbrev P (b : Fin 4) (s : Fin 8192) (n : ℕ) : EReal := Ref.P (aX m c) (aSh m c) (aSc m c) (aW m c) b s n

/-- A grid point's products are the row's. -/
theorem colSum_eq (t : Fin cfg0.N) (i : Fin 512) (n : Fin 6400) :
    colSum (iblk m c 0 t) (iblk m c 1 t) (iblk m c 2 t) (iblk m c 3 t) i n
      = ∑ k, row m c (bat t) (pos t i) k * weights (aW m c) (ix2 k n) := by
  unfold colSum row
  refine Finset.sum_congr rfl fun k _ => ?_
  refine congrArg₂ (· * ·) ?_ (read_w m c t k n)
  congr 1
  · exact funext fun k => read_x m c t i k
  · exact funext fun k => read_sc m c t k
  · exact funext fun k => read_sh m c t k

section

variable (hX : ∀ i, ∃ r : ℝ, aX m c i = (r : EReal)) (hSh : ∀ i, ∃ r : ℝ, aSh m c i = (r : EReal))
  (hSc : ∀ i, ∃ r : ℝ, aSc m c i = (r : EReal)) (hW : ∀ i, ∃ r : ℝ, aW m c i = (r : EReal))

include hX hSh hSc in
/-- The modulated rows are real. -/
theorem row_real (b : Fin 4) (s : Fin 8192) (k : Fin 1024) : ∃ r : ℝ, row m c b s k = (r : EReal) :=
  modulated_law _ _ _ (fun k => hX _) (fun k => hSc _) (fun k => hSh _) k

include hX hSh hSc hW in
/-- What a grid point stores of `qa`. -/
theorem block_qa (t : Fin cfg0.N) (i : Fin 512) (j : Fin 512) :
    out0_8 (iblk m c 0 t) (iblk m c 1 t) (iblk m c 2 t) (iblk m c 3 t) (iblk m c 4 t) (iblk m c 5 t) (iblk m c 6 t) (iblk m c 7 t) (ix2 i j)
      = roped 32 (fun n => P m c (bat t) (pos t i) (0 + n)) (angle64 (pos t i).val) j.val * Ideal.ofBits .f32 0x3E000000#32 := by
  refine (out8_apply _ _ _ _ _ _ _ _ i j).trans ?_
  rw [colSum_eq, colSum_eq, read_cos64, read_sin64]
  simp only [w_qa, r_qa, show j.val % 128 % 32 = j.val % 32 by omega]
  exact scaled_roped_law _ (fun k n => aW m c (ix2 k n)) (row_real m c hX hSh hSc (bat t) (pos t i)) (fun k n => hW _) 32 0 _ j.val

include hX hSh hSc hW in
/-- The array `qa`. -/
theorem arr_qa : (dats m 0 c).arrAt 8 cfg0.N = Cert.InProjReferenceIdeal.Read.val_main_v172 (F := Ideal) (aX m c) (aSh m c) (aSc m c) (aW m c) := by
  refine (dats m 0 c).arrAt_eq_of_covers 8 _ (by decide +kernel) fun t hf y => ?_
  refine (congrFun (Cert.InProjKernelIdeal.Value.flushed8 m c t) y).trans ?_
  obtain ⟨i, j, rfl⟩ : ∃ (i : Fin 512) (j : Fin 512), y = ix2 i j := ⟨y 0, y 1, eq_ix2 (n0 := 512) (n1 := 512) y⟩
  rw [emb8]
  exact (block_qa m c hX hSh hSc hW t i j).trans (Ref.qa_eq (aX m c) (aSh m c) (aSc m c) (aW m c) (bat t) (pos t i) j).symm

include hX hSh hSc hW in
/-- What a grid point stores of `ka`. -/
theorem block_ka (t : Fin cfg0.N) (i : Fin 512) (j : Fin 128) :
    out0_9 (iblk m c 0 t) (iblk m c 1 t) (iblk m c 2 t) (iblk m c 3 t) (iblk m c 4 t) (iblk m c 5 t) (iblk m c 6 t) (iblk m c 7 t) (ix2 i j)
      = roped 32 (fun n => P m c (bat t) (pos t i) (512 + n)) (angle64 (pos t i).val) j.val := by
  refine (out9_apply _ _ _ _ _ _ _ _ i j).trans ?_
  rw [colSum_eq, colSum_eq, read_cos64, read_sin64]
  simp only [w_ka, r_ka]
  exact roped_law _ (fun k n => aW m c (ix2 k n)) (row_real m c hX hSh hSc (bat t) (pos t i)) (fun k n => hW _) 32 512 _ j.val

include hX hSh hSc hW in
/-- The array `ka`. -/
theorem arr_ka : (dats m 0 c).arrAt 9 cfg0.N = Cert.InProjReferenceIdeal.Read.val_main_v173 (F := Ideal) (aX m c) (aSh m c) (aSc m c) (aW m c) := by
  refine (dats m 0 c).arrAt_eq_of_covers 9 _ (by decide +kernel) fun t hf y => ?_
  refine (congrFun (Cert.InProjKernelIdeal.Value.flushed9 m c t) y).trans ?_
  obtain ⟨i, j, rfl⟩ : ∃ (i : Fin 512) (j : Fin 128), y = ix2 i j := ⟨y 0, y 1, eq_ix2 (n0 := 512) (n1 := 128) y⟩
  rw [emb9]
  exact (block_ka m c hX hSh hSc hW t i j).trans (Ref.ka_eq (aX m c) (aSh m c) (aSc m c) (aW m c) (bat t) (pos t i) j).symm

/-- What a grid point stores of `va`. -/
theorem block_va (t : Fin cfg0.N) (i : Fin 512) (j : Fin 128) :
    out0_10 (iblk m c 0 t) (iblk m c 1 t) (iblk m c 2 t) (iblk m c 3 t) (iblk m c 4 t) (iblk m c 5 t) (iblk m c 6 t) (iblk m c 7 t) (ix2 i j)
      = P m c (bat t) (pos t i) (640 + j.val) := by
  refine (out10_apply _ _ _ _ _ _ _ _ i j).trans ?_
  rw [colSum_eq]
  simp only [w_va]
  rfl

/-- The array `va`. -/
theorem arr_va : (dats m 0 c).arrAt 10 cfg0.N = Cert.InProjReferenceIdeal.Read.val_main_v174 (F := Ideal) (aX m c) (aSh m c) (aSc m c) (aW m c) := by
  refine (dats m 0 c).arrAt_eq_of_covers 10 _ (by decide +kernel) fun t hf y => ?_
  refine (congrFun (Cert.InProjKernelIdeal.Value.flushed10 m c t) y).trans ?_
  obtain ⟨i, j, rfl⟩ : ∃ (i : Fin 512) (j : Fin 128), y = ix2 i j := ⟨y 0, y 1, eq_ix2 (n0 := 512) (n1 := 128) y⟩
  rw [emb10]
  exact (block_va m c t i j).trans (Ref.va_eq (aX m c) (aSh m c) (aSc m c) (aW m c) (bat t) (pos t i) j).symm

/-- What a grid point stores of `cq`. -/
theorem block_cq (t : Fin cfg0.N) (i : Fin 512) (j : Fin 384) :
    out0_11 (iblk m c 0 t) (iblk m c 1 t) (iblk m c 2 t) (iblk m c 3 t) (iblk m c 4 t) (iblk m c 5 t) (iblk m c 6 t) (iblk m c 7 t) (ix2 i j)
      = P m c (bat t) (pos t i) (768 + j.val) := by
  refine (out11_apply _ _ _ _ _ _ _ _ i j).trans ?_
  rw [colSum_eq]
  simp only [w_cq]
  rfl

/-- The array `cq`. -/
theorem arr_cq : (dats m 0 c).arrAt 11 cfg0.N = Cert.InProjReferenceIdeal.Read.val_main_v166 (F := Ideal) (aX m c) (aSh m c) (aSc m c) (aW m c) := by
  refine (dats m 0 c).arrAt_eq_of_covers 11 _ (by decide +kernel) fun t hf y => ?_
  refine (congrFun (Cert.InProjKernelIdeal.Value.flushed11 m c t) y).trans ?_
  obtain ⟨i, j, rfl⟩ : ∃ (i : Fin 512) (j : Fin 384), y = ix2 i j := ⟨y 0, y 1, eq_ix2 (n0 := 512) (n1 := 384) y⟩
  rw [emb11]
  exact (block_cq m c t i j).trans (Ref.cq_eq (aX m c) (aSh m c) (aSc m c) (aW m c) (bat t) (pos t i) j).symm

/-- What a grid point stores of `ckv`. -/
theorem block_ckv (t : Fin cfg0.N) (i : Fin 512) (j : Fin 256) :
    out0_12 (iblk m c 0 t) (iblk m c 1 t) (iblk m c 2 t) (iblk m c 3 t) (iblk m c 4 t) (iblk m c 5 t) (iblk m c 6 t) (iblk m c 7 t) (ix2 i j)
      = P m c (bat t) (pos t i) (1152 + j.val) := by
  refine (out12_apply _ _ _ _ _ _ _ _ i j).trans ?_
  rw [colSum_eq]
  simp only [w_ckv]
  rfl

/-- The array `ckv`. -/
theorem arr_ckv : (dats m 0 c).arrAt 12 cfg0.N = Cert.InProjReferenceIdeal.Read.val_main_v167 (F := Ideal) (aX m c) (aSh m c) (aSc m c) (aW m c) := by
  refine (dats m 0 c).arrAt_eq_of_covers 12 _ (by decide +kernel) fun t hf y => ?_
  refine (congrFun (Cert.InProjKernelIdeal.Value.flushed12 m c t) y).trans ?_
  obtain ⟨i, j, rfl⟩ : ∃ (i : Fin 512) (j : Fin 256), y = ix2 i j := ⟨y 0, y 1, eq_ix2 (n0 := 512) (n1 := 256) y⟩
  rw [emb12]
  exact (block_ckv m c t i j).trans (Ref.ckv_eq (aX m c) (aSh m c) (aSc m c) (aW m c) (bat t) (pos t i) j).symm

include hX hSh hSc hW in
/-- What a grid point stores of `kr`. -/
theorem block_kr (t : Fin cfg0.N) (i : Fin 512) (j : Fin 128) :
    out0_13 (iblk m c 0 t) (iblk m c 1 t) (iblk m c 2 t) (iblk m c 3 t) (iblk m c 4 t) (iblk m c 5 t) (iblk m c 6 t) (iblk m c 7 t) (ix2 i j)
      = if j.val < 32 then roped 16 (fun n => P m c (bat t) (pos t i) (1408 + n)) (angle32 (pos t i).val) j.val else 0 := by
  refine (out13_apply _ _ _ _ _ _ _ _ i j).trans ?_
  rw [colSum_eq, colSum_eq, read_cos32, read_sin32]
  simp only [w_kr, r_kr]
  split_ifs with h
  · exact roped_law _ (fun k n => aW m c (ix2 k n)) (row_real m c hX hSh hSc (bat t) (pos t i)) (fun k n => hW _) 16 1408 _ j.val
  · simp only [mul_zero, add_zero]

include hX hSh hSc hW in
/-- The array `kr`. -/
theorem arr_kr : (dats m 0 c).arrAt 13 cfg0.N = Cert.InProjReferenceIdeal.Read.val_main_v175 (F := Ideal) (aX m c) (aSh m c) (aSc m c) (aW m c) := by
  refine (dats m 0 c).arrAt_eq_of_covers 13 _ (by decide +kernel) fun t hf y => ?_
  refine (congrFun (Cert.InProjKernelIdeal.Value.flushed13 m c t) y).trans ?_
  obtain ⟨i, j, rfl⟩ : ∃ (i : Fin 512) (j : Fin 128), y = ix2 i j := ⟨y 0, y 1, eq_ix2 (n0 := 512) (n1 := 128) y⟩
  rw [emb13]
  exact (block_kr m c hX hSh hSc hW t i j).trans (Ref.kr_eq (aX m c) (aSh m c) (aSc m c) (aW m c) (bat t) (pos t i) j).symm

include hX hSh hSc hW in
/-- What a grid point stores of `qc`. -/
theorem block_qc (t : Fin cfg0.N) (i : Fin 512) (j : Fin 512) :
    out0_14 (iblk m c 0 t) (iblk m c 1 t) (iblk m c 2 t) (iblk m c 3 t) (iblk m c 4 t) (iblk m c 5 t) (iblk m c 6 t) (iblk m c 7 t) (ix2 i j)
      = roped 32 (fun n => P m c (bat t) (pos t i) (1440 + n)) (angle64 (pos t i).val) j.val := by
  refine (out14_apply _ _ _ _ _ _ _ _ i j).trans ?_
  rw [colSum_eq, colSum_eq, read_cos64, read_sin64]
  simp only [w_qc, r_qc, show j.val % 128 % 32 = j.val % 32 by omega]
  exact roped_law _ (fun k n => aW m c (ix2 k n)) (row_real m c hX hSh hSc (bat t) (pos t i)) (fun k n => hW _) 32 1440 _ j.val

include hX hSh hSc hW in
/-- The array `qc`. -/
theorem arr_qc : (dats m 0 c).arrAt 14 cfg0.N = Cert.InProjReferenceIdeal.Read.val_main_v176 (F := Ideal) (aX m c) (aSh m c) (aSc m c) (aW m c) := by
  refine (dats m 0 c).arrAt_eq_of_covers 14 _ (by decide +kernel) fun t hf y => ?_
  refine (congrFun (Cert.InProjKernelIdeal.Value.flushed14 m c t) y).trans ?_
  obtain ⟨i, j, rfl⟩ : ∃ (i : Fin 512) (j : Fin 512), y = ix2 i j := ⟨y 0, y 1, eq_ix2 (n0 := 512) (n1 := 512) y⟩
  rw [emb14]
  exact (block_qc m c hX hSh hSc hW t i j).trans (Ref.qc_eq (aX m c) (aSh m c) (aSc m c) (aW m c) (bat t) (pos t i) j).symm

include hX hSh hSc hW in
/-- What a grid point stores of `kc`. -/
theorem block_kc (t : Fin cfg0.N) (i : Fin 512) (j : Fin 512) :
    out0_15 (iblk m c 0 t) (iblk m c 1 t) (iblk m c 2 t) (iblk m c 3 t) (iblk m c 4 t) (iblk m c 5 t) (iblk m c 6 t) (iblk m c 7 t) (ix2 i j)
      = roped 32 (fun n => P m c (bat t) (pos t i) (1952 + n)) (angle64 (pos t i).val) j.val := by
  refine (out15_apply _ _ _ _ _ _ _ _ i j).trans ?_
  rw [colSum_eq, colSum_eq, read_cos64, read_sin64]
  simp only [w_kc, r_kc, show j.val % 128 % 32 = j.val % 32 by omega]
  exact roped_law _ (fun k n => aW m c (ix2 k n)) (row_real m c hX hSh hSc (bat t) (pos t i)) (fun k n => hW _) 32 1952 _ j.val

include hX hSh hSc hW in
/-- The array `kc`. -/
theorem arr_kc : (dats m 0 c).arrAt 15 cfg0.N = Cert.InProjReferenceIdeal.Read.val_main_v177 (F := Ideal) (aX m c) (aSh m c) (aSc m c) (aW m c) := by
  refine (dats m 0 c).arrAt_eq_of_covers 15 _ (by decide +kernel) fun t hf y => ?_
  refine (congrFun (Cert.InProjKernelIdeal.Value.flushed15 m c t) y).trans ?_
  obtain ⟨i, j, rfl⟩ : ∃ (i : Fin 512) (j : Fin 512), y = ix2 i j := ⟨y 0, y 1, eq_ix2 (n0 := 512) (n1 := 512) y⟩
  rw [emb15]
  exact (block_kc m c hX hSh hSc hW t i j).trans (Ref.kc_eq (aX m c) (aSh m c) (aSc m c) (aW m c) (bat t) (pos t i) j).symm

/-- What a grid point stores of `vc`. -/
theorem block_vc (t : Fin cfg0.N) (i : Fin 512) (j : Fin 512) :
    out0_16 (iblk m c 0 t) (iblk m c 1 t) (iblk m c 2 t) (iblk m c 3 t) (iblk m c 4 t) (iblk m c 5 t) (iblk m c 6 t) (iblk m c 7 t) (ix2 i j)
      = P m c (bat t) (pos t i) (2464 + j.val) := by
  refine (out16_apply _ _ _ _ _ _ _ _ i j).trans ?_
  rw [colSum_eq]
  simp only [w_vc]
  rfl

/-- The array `vc`. -/
theorem arr_vc : (dats m 0 c).arrAt 16 cfg0.N = Cert.InProjReferenceIdeal.Read.val_main_v178 (F := Ideal) (aX m c) (aSh m c) (aSc m c) (aW m c) := by
  refine (dats m 0 c).arrAt_eq_of_covers 16 _ (by decide +kernel) fun t hf y => ?_
  refine (congrFun (Cert.InProjKernelIdeal.Value.flushed16 m c t) y).trans ?_
  obtain ⟨i, j, rfl⟩ : ∃ (i : Fin 512) (j : Fin 512), y = ix2 i j := ⟨y 0, y 1, eq_ix2 (n0 := 512) (n1 := 512) y⟩
  rw [emb16]
  exact (block_vc m c t i j).trans (Ref.vc_eq (aX m c) (aSh m c) (aSc m c) (aW m c) (bat t) (pos t i) j).symm

include hX hSh hSc hW in
/-- What a grid point stores of `qd`. -/
theorem block_qd (t : Fin cfg0.N) (i : Fin 512) (j : Fin 512) :
    out0_17 (iblk m c 0 t) (iblk m c 1 t) (iblk m c 2 t) (iblk m c 3 t) (iblk m c 4 t) (iblk m c 5 t) (iblk m c 6 t) (iblk m c 7 t) (ix2 i j)
      = P m c (bat t) (pos t i) (2976 + j.val) * Ideal.ofBits .f32 0x3E000000#32 := by
  refine (out17_apply _ _ _ _ _ _ _ _ i j).trans ?_
  rw [colSum_eq]
  simp only [w_qd]
  exact scaled_law _ (fun k n => aW m c (ix2 k n)) (row_real m c hX hSh hSc (bat t) (pos t i)) (fun k n => hW _) (2976 + j.val)

include hX hSh hSc hW in
/-- The array `qd`. -/
theorem arr_qd : (dats m 0 c).arrAt 17 cfg0.N = Cert.InProjReferenceIdeal.Read.val_main_v179 (F := Ideal) (aX m c) (aSh m c) (aSc m c) (aW m c) := by
  refine (dats m 0 c).arrAt_eq_of_covers 17 _ (by decide +kernel) fun t hf y => ?_
  refine (congrFun (Cert.InProjKernelIdeal.Value.flushed17 m c t) y).trans ?_
  obtain ⟨i, j, rfl⟩ : ∃ (i : Fin 512) (j : Fin 512), y = ix2 i j := ⟨y 0, y 1, eq_ix2 (n0 := 512) (n1 := 512) y⟩
  rw [emb17]
  exact (block_qd m c hX hSh hSc hW t i j).trans (Ref.qd_eq (aX m c) (aSh m c) (aSc m c) (aW m c) (bat t) (pos t i) j).symm

/-- What a grid point stores of `kd`. -/
theorem block_kd (t : Fin cfg0.N) (i : Fin 512) (j : Fin 512) :
    out0_18 (iblk m c 0 t) (iblk m c 1 t) (iblk m c 2 t) (iblk m c 3 t) (iblk m c 4 t) (iblk m c 5 t) (iblk m c 6 t) (iblk m c 7 t) (ix2 i j)
      = P m c (bat t) (pos t i) (3488 + j.val) := by
  refine (out18_apply _ _ _ _ _ _ _ _ i j).trans ?_
  rw [colSum_eq]
  simp only [w_kd]
  rfl

/-- The array `kd`. -/
theorem arr_kd : (dats m 0 c).arrAt 18 cfg0.N = Cert.InProjReferenceIdeal.Read.val_main_v180 (F := Ideal) (aX m c) (aSh m c) (aSc m c) (aW m c) := by
  refine (dats m 0 c).arrAt_eq_of_covers 18 _ (by decide +kernel) fun t hf y => ?_
  refine (congrFun (Cert.InProjKernelIdeal.Value.flushed18 m c t) y).trans ?_
  obtain ⟨i, j, rfl⟩ : ∃ (i : Fin 512) (j : Fin 512), y = ix2 i j := ⟨y 0, y 1, eq_ix2 (n0 := 512) (n1 := 512) y⟩
  rw [emb18]
  exact (block_kd m c t i j).trans (Ref.kd_eq (aX m c) (aSh m c) (aSc m c) (aW m c) (bat t) (pos t i) j).symm

/-- What a grid point stores of `vd`. -/
theorem block_vd (t : Fin cfg0.N) (i : Fin 512) (j : Fin 512) :
    out0_19 (iblk m c 0 t) (iblk m c 1 t) (iblk m c 2 t) (iblk m c 3 t) (iblk m c 4 t) (iblk m c 5 t) (iblk m c 6 t) (iblk m c 7 t) (ix2 i j)
      = P m c (bat t) (pos t i) (4000 + j.val) := by
  refine (out19_apply _ _ _ _ _ _ _ _ i j).trans ?_
  rw [colSum_eq]
  simp only [w_vd]
  rfl

/-- The array `vd`. -/
theorem arr_vd : (dats m 0 c).arrAt 19 cfg0.N = Cert.InProjReferenceIdeal.Read.val_main_v181 (F := Ideal) (aX m c) (aSh m c) (aSc m c) (aW m c) := by
  refine (dats m 0 c).arrAt_eq_of_covers 19 _ (by decide +kernel) fun t hf y => ?_
  refine (congrFun (Cert.InProjKernelIdeal.Value.flushed19 m c t) y).trans ?_
  obtain ⟨i, j, rfl⟩ : ∃ (i : Fin 512) (j : Fin 512), y = ix2 i j := ⟨y 0, y 1, eq_ix2 (n0 := 512) (n1 := 512) y⟩
  rw [emb19]
  exact (block_vd m c t i j).trans (Ref.vd_eq (aX m c) (aSh m c) (aSc m c) (aW m c) (bat t) (pos t i) j).symm

end

end Cert.InProj
end
-- ==== Proof.InProj.Claims.lean ====
/- The input projection's claims, one theorem each. -/
module

public import proofs.«01_k».proof.Proof.InProj.Array
public import proofs.«01_k».proof.Proof.Finite
public import proofs.«01_k».proof.Defs
public import proofs.«01_k».proof.Proof.Gen.InProjKernel.Frame
public import Idealize.ShloMosaic.Lib.Quiescent

@[expose] public section

noncomputable section

namespace Cert.InProj

open Idealize.ShloMosaic Idealize.ShloMosaic.TcCoe Idealize.SL.Sem

/-- The precondition's shapes spread a constant over an array. -/
theorem preFacts : Cert.Pre_in_proj_finite.Facts := ⟨by decide, by decide, by decide⟩

/-- The entries of a memory's arguments that satisfy the precondition are reals. -/
theorem reals (m : (ℓ : Loc Cert.InProjKernelIdeal.nD Cert.InProjKernelIdeal.τ Cert.InProjKernelIdeal.sig) → Buf (Elt Ideal) ℓ)
    (h : Cert.Pre_InProjKernelIdeal_in_proj_finite (hPre_in_proj_finite := preFacts) m) (c : Dev Cert.InProjKernelIdeal.nD) :
    (∀ i, ∃ r : ℝ, aX m c i = (r : EReal)) ∧ (∀ i, ∃ r : ℝ, aSh m c i = (r : EReal))
    ∧ (∀ i, ∃ r : ℝ, aSc m c i = (r : EReal)) ∧ (∀ i, ∃ r : ℝ, aW m c i = (r : EReal)) := by
  obtain ⟨h0, h1, h2, h3⟩ := h c
  exact ⟨Diff.real_of_pre _ preFacts.1 h0, Diff.real_of_pre _ preFacts.2 h1, Diff.real_of_pre _ preFacts.2 h2,
    Diff.real_of_pre _ preFacts.3 h3⟩

/-- The kernel terminates and leaves its arguments and semaphores as they were. -/
theorem frame_p : Cert.quiescent_InProjKernel (hInProjKernel := Cert.InProjKernel.Gen.facts) := fun m ρ _ => Cert.InProjKernel.Gen.frame m ρ

/-- The ideal kernel terminates and leaves its arguments and semaphores as they were. -/
theorem frame_pi : Cert.quiescent_InProjKernelIdeal (hInProjKernelIdeal := Cert.InProjKernelIdeal.Gen.facts) := fun m ρ _ => Cert.InProjKernelIdeal.Gen.frame m ρ

/-- So it does on finite arguments. -/
theorem frame_pi_finite : Cert.quiescent_InProjKernelIdeal_pre_in_proj_finite (hInProjKernelIdeal := Cert.InProjKernelIdeal.Gen.facts)
    (hPre_in_proj_finite := preFacts) := fun m ρ _ => Cert.InProjKernelIdeal.Gen.frame m ρ

/-- The ideal reference terminates and leaves its arguments and semaphores as they were. -/
theorem frame_ri : Cert.quiescent_InProjReferenceIdeal (hInProjReferenceIdeal := Cert.InProjReferenceIdeal.Gen.facts) := fun m ρ _ =>
  (θ_run Cert.InProjReferenceIdeal.defs _ _).mono (fun r h => ⟨fun c => (h c).2.2.2.2.2.2.2.2.2.2.2.2,
    Idealize.ShloMosaic.sem_eq_zero_of_no_sems (by decide) r.2⟩) (Cert.InProjReferenceIdeal.Value.run (F := Ideal) m ρ)

/-- So it does on finite arguments. -/
theorem frame_ri_finite : Cert.quiescent_InProjReferenceIdeal_pre_in_proj_finite (hInProjReferenceIdeal := Cert.InProjReferenceIdeal.Gen.facts)
    (hPre_in_proj_finite := preFacts) := fun m ρ _ => frame_ri m ρ trivial

/-- The ideal kernel is the kernel. -/
theorem preserves : Cert.preserves_InProjKernel_InProjKernelIdeal := trivial

set_option maxHeartbeats 4000000 in
/-- On finite arguments kernel and reference compute the same arrays over the extended reals. -/
theorem algebraic : Cert.algebraic_InProjKernelIdeal_InProjReferenceIdeal_pre_in_proj_finite (hInProjKernelIdeal := Cert.InProjKernelIdeal.Gen.facts)
    (hInProjReferenceIdeal := Cert.InProjReferenceIdeal.Gen.facts) (hPre_in_proj_finite := preFacts) := by
  intro m ρ m' ρ' hpre hagree
  refine ⟨_, _, _, _, _, _, _, _, _, _, _, _, Cert.InProjKernelIdeal.Value.run_blocks (F := Ideal) m ρ, ?_⟩
  refine (θ_run Cert.InProjReferenceIdeal.defs _ _).mono (fun _ h c => ?_) (Cert.InProjReferenceIdeal.Value.run (F := Ideal) m' ρ')
  obtain ⟨e0, e1, e2, e3⟩ := hagree c
  replace e0 : StableHlo.launchContents m' c (Proc.devRef .tc Cert.InProjReferenceIdeal.main_arg0) = aX m c := e0
  replace e1 : StableHlo.launchContents m' c (Proc.devRef .tc Cert.InProjReferenceIdeal.main_arg1) = aSh m c := e1
  replace e2 : StableHlo.launchContents m' c (Proc.devRef .tc Cert.InProjReferenceIdeal.main_arg2) = aSc m c := e2
  replace e3 : StableHlo.launchContents m' c (Proc.devRef .tc Cert.InProjReferenceIdeal.main_arg3) = aW m c := e3
  obtain ⟨hX, hSh, hSc, hW⟩ := reals m hpre c
  obtain ⟨q0, q1, q2, q3, q4, q5, q6, q7, q8, q9, q10, q11, rest⟩ := h c
  refine ⟨q0.trans ?_, q1.trans ?_, q2.trans ?_, q3.trans ?_, q4.trans ?_, q5.trans ?_, q6.trans ?_, q7.trans ?_, q8.trans ?_,
    q9.trans ?_, q10.trans ?_, q11.trans ?_, rest⟩ <;> clear q0 q1 q2 q3 q4 q5 q6 q7 q8 q9 q10 q11 rest
  · rw [Cert.InProjReferenceIdeal.Read.val_main_v172_eq, e0, e1, e2, e3]
    exact (arr_qa m c hX hSh hSc hW).symm
  · rw [Cert.InProjReferenceIdeal.Read.val_main_v173_eq, e0, e1, e2, e3]
    exact (arr_ka m c hX hSh hSc hW).symm
  · rw [Cert.InProjReferenceIdeal.Read.val_main_v174_eq, e0, e1, e2, e3]
    exact (arr_va m c).symm
  · rw [Cert.InProjReferenceIdeal.Read.val_main_v166_eq, e0, e1, e2, e3]
    exact (arr_cq m c).symm
  · rw [Cert.InProjReferenceIdeal.Read.val_main_v167_eq, e0, e1, e2, e3]
    exact (arr_ckv m c).symm
  · rw [Cert.InProjReferenceIdeal.Read.val_main_v175_eq, e0, e1, e2, e3]
    exact (arr_kr m c hX hSh hSc hW).symm
  · rw [Cert.InProjReferenceIdeal.Read.val_main_v176_eq, e0, e1, e2, e3]
    exact (arr_qc m c hX hSh hSc hW).symm
  · rw [Cert.InProjReferenceIdeal.Read.val_main_v177_eq, e0, e1, e2, e3]
    exact (arr_kc m c hX hSh hSc hW).symm
  · rw [Cert.InProjReferenceIdeal.Read.val_main_v178_eq, e0, e1, e2, e3]
    exact (arr_vc m c).symm
  · rw [Cert.InProjReferenceIdeal.Read.val_main_v179_eq, e0, e1, e2, e3]
    exact (arr_qd m c hX hSh hSc hW).symm
  · rw [Cert.InProjReferenceIdeal.Read.val_main_v180_eq, e0, e1, e2, e3]
    exact (arr_kd m c).symm
  · rw [Cert.InProjReferenceIdeal.Read.val_main_v181_eq, e0, e1, e2, e3]
    exact (arr_vd m c).symm

end Cert.InProj
end
-- ==== Proof.MlaPrep.Spec.lean ====
/- The low-rank projections at one row: the normed latents times the weights, the queries' rotated channels, and the laws
   that bring the kernel's padded columns to them. -/
module

public import proofs.«01_k».proof.Proof.InProj.Spec
public import Idealize.ShloMosaic.PureOps.Ideal

@[expose] public section

noncomputable section

namespace Cert.MlaPrep

open Idealize.ShloMosaic Cert.Diff Cert.InProj
open scoped BigOperators

/-- A row over its root mean square, times a gain; `z` is the row's length. -/
def rms {K : ℕ} (z : EReal) (x g : Fin K → EReal) (j : Fin K) : EReal :=
  x j * Ideal.rsqrt (Ideal.div (∑ k, x k * x k) z + Ideal.ofBits .f32 0x3727C5AC#32) * g j

/-- The queries' normed latent row. -/
def rmsq (x g : Fin 384 → EReal) : Fin 384 → EReal := rms (Ideal.ofBits .f32 0x43C00000#32) x g
/-- The keys' and values' normed latent row. -/
def rmskv (x g : Fin 256 → EReal) : Fin 256 → EReal := rms (Ideal.ofBits .f32 0x43800000#32) x g

/-- Column `n` of the queries' 768. -/
def colq (n : ℕ) : Fin 768 := ⟨n % 768, Nat.mod_lt _ (by decide)⟩
/-- Column `n` of the keys' and values' 1024. -/
def colkv (n : ℕ) : Fin 1024 := ⟨n % 1024, Nat.mod_lt _ (by decide)⟩

/-- Channel `n` of the shared 32. -/
def colr (n : ℕ) : Fin 32 := ⟨n % 32, Nat.mod_lt _ (by decide)⟩

/-- Eight heads of 96 channels spread over 128 lanes each. -/
def spread (w : ℕ → EReal) (j : ℕ) : EReal := if j % 128 < 96 then w (j / 128 * 96 + j % 128) else 0
/-- The heads' rotary channels, their halves swapped and the second negated, spread over 128 lanes each. -/
def turned (w : ℕ → EReal) (j : ℕ) : EReal :=
  if j % 128 < 64 then 0 else if j % 128 < 80 then -w (j / 128 * 96 + j % 128 + 16)
  else if j % 128 < 96 then w (j / 128 * 96 + j % 128 - 16) else 0
/-- The cosines over a head's lanes. -/
def lanecos (θ : ℕ → EReal) (l : ℕ) : EReal := if l < 64 then 1 else if l < 96 then Ideal.cos (θ (l % 16)) else 0
/-- The sines over a head's lanes. -/
def lanesin (θ : ℕ → EReal) (l : ℕ) : EReal := if l < 64 then 0 else if l < 96 then Ideal.sin (θ (l % 16)) else 0

/-- A query's lane: 64 plain channels, 32 rotated ones, zeros. -/
def query (p : ℕ → EReal) (θ : ℕ → EReal) (j : ℕ) : EReal :=
  if j % 128 < 64 then p (j / 128 * 96 + j % 128)
  else if j % 128 < 80 then p (j / 128 * 96 + j % 128) * Ideal.cos (θ (j % 128 % 16))
    - p (j / 128 * 96 + j % 128 + 16) * Ideal.sin (θ (j % 128 % 16))
  else if j % 128 < 96 then p (j / 128 * 96 + j % 128 - 16) * Ideal.sin (θ (j % 128 % 16))
    + p (j / 128 * 96 + j % 128) * Ideal.cos (θ (j % 128 % 16))
  else 0

/-- A key's lane: 64 plain channels, the 32 shared ones, zeros. -/
def key (p : ℕ → EReal) (kr : ℕ → EReal) (j : ℕ) : EReal :=
  if j % 128 < 64 then p j else if j % 128 < 96 then kr (j % 128 - 64) else 0

/-- Products with the spread and the turned columns, against the lanes' cosines and sines, are the queries. -/
theorem query_law (u : Fin 384 → EReal) (w : Fin 384 → ℕ → EReal) (hu : ∀ k, ∃ r : ℝ, u k = (r : EReal))
    (hw : ∀ k n, ∃ r : ℝ, w k n = (r : EReal)) (θ : ℕ → EReal) (j : ℕ) :
    (∑ k, u k * spread (w k) j) * lanecos θ (j % 128) + (∑ k, u k * turned (w k) j) * lanesin θ (j % 128)
      = query (fun n => ∑ k, u k * w k n) θ j := by
  choose U hU using hu
  choose W hW using hw
  obtain rfl : u = fun k => (U k : EReal) := funext hU
  obtain rfl : w = fun k n => (W k n : EReal) := funext fun k => funext fun n => hW k n
  have neg : ∀ n, ∑ k, (U k : EReal) * -(W k n : EReal) = -∑ k, (U k : EReal) * (W k n : EReal) := fun n => by
    simp only [← EReal.coe_neg, ← EReal.coe_mul, ← coe_sum, mul_neg, Finset.sum_neg_distrib]
  unfold spread turned lanecos lanesin query
  by_cases h1 : j % 128 < 64
  · simp only [h1, show j % 128 < 96 by omega, if_true, mul_zero, mul_one, add_zero]
  · by_cases h2 : j % 128 < 80
    · simp only [h1, h2, show j % 128 < 96 by omega, if_true, if_false]
      rw [neg, EReal.neg_mul, ← sub_eq_add_neg]
    · by_cases h3 : j % 128 < 96
      · simp only [h1, h2, h3, if_true, if_false]
        rw [add_comm]
      · simp only [h1, h2, h3, if_false, mul_zero, add_zero]

/-- Products with the plain columns and the shared channels placed by a matrix of zeros and ones are the keys. -/
theorem key_law (u : Fin 256 → EReal) (w : Fin 256 → ℕ → EReal) (kr : ℕ → EReal) (E : Fin 128 → EReal) (K : Fin 128 → EReal) (j : ℕ)
    (hK : ∀ k, K k = if k.val < 32 then kr k.val else 0) (hE : ∀ k : Fin 128, k.val < 32 → E k = if j % 128 = 64 + k.val then 1 else 0) :
    (∑ k, u k * (if j % 128 < 64 then w k j else 0)) + ∑ k, K k * E k = key (fun n => ∑ k, u k * w k n) kr j := by
  have e : ∀ k : Fin 128, K k * E k = if j % 128 = 64 + k.val ∧ k.val < 32 then kr k.val else 0 := fun k => by
    rw [hK]
    by_cases h : k.val < 32
    · rw [hE k h]
      by_cases h' : j % 128 = 64 + k.val <;> simp [h, h']
    · simp [h]
  unfold key
  simp only [e]
  by_cases h1 : j % 128 < 64
  · rw [Finset.sum_eq_zero (fun k _ => if_neg (by omega))]
    simp only [h1, if_true, add_zero]
  · by_cases h2 : j % 128 < 96
    · rw [Finset.sum_eq_single_of_mem (⟨j % 128 - 64, by omega⟩ : Fin 128) (Finset.mem_univ _) (fun k _ hk => if_neg (fun hh => hk (Fin.ext (by
        show k.val = j % 128 - 64
        omega))))]
      rw [if_pos (by constructor <;> (show _ ; simp only; omega))]
      simp only [h1, h2, if_true, if_false, mul_zero, Finset.sum_const_zero, zero_add]
    · rw [Finset.sum_eq_zero (fun k _ => if_neg (by omega))]
      simp only [h1, h2, if_false, mul_zero, Finset.sum_const_zero, add_zero]

/-- The queries' normed latent row of real arguments is real. -/
theorem rmsq_real (x g : Fin 384 → EReal) (hx : ∀ k, ∃ r : ℝ, x k = (r : EReal)) (hg : ∀ k, ∃ r : ℝ, g k = (r : EReal))
    (j : Fin 384) : ∃ r : ℝ, rmsq x g j = (r : EReal) := by
  choose X hX using hx
  choose G hG using hg
  obtain rfl : x = fun k => (X k : EReal) := funext hX
  obtain rfl : g = fun k => (G k : EReal) := funext hG
  obtain ⟨n, hn0, hn⟩ : ∃ n : ℝ, 0 < n ∧ Ideal.ofBits .f32 0x43C00000#32 = (n : EReal) :=
    ⟨384, by norm_num, by simp [Ideal.ofBits, Ideal.ieee, -EReal.coe_mul]; norm_num⟩
  obtain ⟨ε, hε0, hε⟩ : ∃ n : ℝ, 0 < n ∧ Ideal.ofBits .f32 0x3727C5AC#32 = (n : EReal) :=
    ⟨10995116 * (2 ^ 40)⁻¹, by positivity, by simp [Ideal.ofBits, Ideal.ieee, -EReal.coe_mul]⟩
  have hv : 0 < (∑ k, X k * X k) / n + ε :=
    add_pos_of_nonneg_of_pos (div_nonneg (Finset.sum_nonneg fun k _ => mul_self_nonneg _) hn0.le) hε0
  unfold rmsq rms
  simp only [← EReal.coe_mul, ← coe_sum, hn, div_real _ _ hn0.ne', hε, ← EReal.coe_add, Ideal.rsqrt_coe]
  rw [if_neg hv.not_gt, if_neg hv.ne']
  exact ⟨_, by rw [← EReal.coe_mul, ← EReal.coe_mul]⟩

/-- The pattern of one. -/
theorem one_bits : Ideal.ofBits .f32 0x3F800000#32 = 1 := by
  simp [Ideal.ofBits, Ideal.ieee]
  rw [← EReal.coe_mul]
  norm_num

/-- The pattern of zero. -/
theorem zero_bits : Ideal.ofBits .f32 0x00000000#32 = 0 := by
  simp [Ideal.ofBits, Ideal.ieee]

/-- The short pattern of one. -/
theorem one_short : Ideal.ofBits .bf16 0x3F80#16 = 1 := by
  simp [Ideal.ofBits, Ideal.ieee]
  rw [← EReal.coe_mul]
  norm_num

/-- The short pattern of zero. -/
theorem zero_short : Ideal.ofBits .bf16 0x0000#16 = 0 := by
  simp [Ideal.ofBits, Ideal.ieee]

end Cert.MlaPrep
end
-- ==== Proof.MlaPrep.Tile.lean ====
/- What a grid point stores: products of the normed rows with the weights, the queries' against cosines and sines. -/
module

public import proofs.«01_k».proof.Proof.Gen.MlaPrepKernelIdeal.Frame
public import proofs.«01_k».proof.Proof.MlaPrep.Spec
public import Idealize.ShloMosaic.Lib.Pipeline.Value
public import Idealize.ShloMosaic.Lib.Pipeline.ValueKit
public import Idealize.ShloMosaic.Lib.Pointwise

@[expose] public section

set_option maxRecDepth 16384

noncomputable section

namespace Cert.MlaPrep

open Cert.MlaPrepKernelIdeal Cert.MlaPrepKernelIdeal.Gen Idealize.ShloMosaic Idealize.ShloMosaic.TcCoe Idealize.SL.Sem
open scoped BigOperators

/-- The queries' normed rows. -/
theorem rmsq_apply (v0 : Vec Ideal S512x384 .f32) (v2 : Vec Ideal S1x384 .f32) (i : Fin 512) (j : Fin 384) :
    k0_pay4 v0 v2 (ix2 i j) = rmsq (fun k => v0 (ix2 i k)) (fun k => v2 (ix2 0 k)) j := by
  unfold rmsq rms
  pointwise [k0_pay4]

/-- The keys' and values' normed rows. -/
theorem rmskv_apply (v0 : Vec Ideal S512x256 .f32) (v2 : Vec Ideal S1x256 .f32) (i : Fin 512) (j : Fin 256) :
    k0_pay5 v0 v2 (ix2 i j) = rmskv (fun k => v0 (ix2 i k)) (fun k => v2 (ix2 0 k)) j := by
  unfold rmskv rms
  pointwise [k0_pay5]

/-- A table's 128 lanes repeated eight times. -/
theorem eight_apply (v : Vec Ideal S512x128 .f32) (i : Fin 512) (j : Fin 1024) :
    k0_pay6 v (ix2 i j) = v (ix2 i ⟨j.val % 128, Nat.mod_lt _ (by decide)⟩) := by
  pointwise [k0_pay6]
  split_ifs
  all_goals blk_ext []

/-- The sines' payload is the cosines'. -/
theorem pay7_eq (v : Vec Ideal S512x128 .f32) : k0_pay7 v = k0_pay6 v := rfl

/-- Two products against cosine and sine. -/
theorem pay1_apply (u : FVec Ideal S512x384 .bf16) (c s : FVec Ideal S512x1024 .f32) (w r : Vec Ideal S384x1024 .bf16) (i : Fin 512) (j : Fin 1024) :
    k0_pay1 u c s w r (ix2 i j) = (∑ k, u (ix2 i k) * w (ix2 k j)) * c (ix2 i j) + (∑ k, u (ix2 i k) * r (ix2 k j)) * s (ix2 i j) := by
  pointwise [k0_pay1]

/-- The sum of two products. -/
theorem pay2_apply (u : FVec Ideal S512x256 .bf16) (w : Vec Ideal S256x1024 .bf16) (r : Vec Ideal S512x128 .bf16) (e : Vec Ideal S128x1024 .bf16)
    (i : Fin 512) (j : Fin 1024) :
    k0_pay2 u w r e (ix2 i j) = (∑ k, u (ix2 i k) * w (ix2 k j)) + ∑ k, r (ix2 i k) * e (ix2 k j) := by
  pointwise [k0_pay2]

/-- A product. -/
theorem pay3_apply (u : FVec Ideal S512x256 .bf16) (w : Vec Ideal S256x512 .bf16) (i j : Fin 512) :
    k0_pay3 u w (ix2 i j) = ∑ k, u (ix2 i k) * w (ix2 k j) := by
  pointwise [k0_pay3]

variable (x0 : Vec Ideal S512x384 .f32) (x1 : Vec Ideal S512x256 .f32) (x2 : Vec Ideal S512x128 .bf16) (x3 : Vec Ideal S1x384 .f32)
  (x4 : Vec Ideal S1x256 .f32) (x5 x6 : Vec Ideal S384x1024 .bf16) (x7 : Vec Ideal S256x1024 .bf16) (x8 : Vec Ideal S128x1024 .bf16)
  (x9 : Vec Ideal S256x512 .bf16) (x10 x11 : Vec Ideal S512x128 .f32)

/-- The queries' block. -/
theorem out12_apply (i : Fin 512) (j : Fin 1024) : out0_12 x0 x1 x2 x3 x4 x5 x6 x7 x8 x9 x10 x11 (ix2 i j)
    = (∑ k, rmsq (fun k => x0 (ix2 i k)) (fun k => x3 (ix2 0 k)) k * x5 (ix2 k j)) * x10 (ix2 i ⟨j.val % 128, Nat.mod_lt _ (by decide)⟩)
      + (∑ k, rmsq (fun k => x0 (ix2 i k)) (fun k => x3 (ix2 0 k)) k * x6 (ix2 k j)) * x11 (ix2 i ⟨j.val % 128, Nat.mod_lt _ (by decide)⟩) := by
  have z2 : (![0, 0] : Fin 2 → ℕ) = fun _ => 0 := by decide
  have l0 : View.ld x0 r0_0 = x0 := View.ld_unit_zero (S := S512x384) z2 _ x0
  have l3 : View.ld x3 r0_1 = x3 := View.ld_unit_zero (S := S1x384) z2 _ x3
  have l5 : ∀ z : Vec Ideal S384x1024 .bf16, View.ld z r0_5 = z := fun z => View.ld_unit_zero (S := S384x1024) z2 _ z
  have l10 : ∀ z : Vec Ideal S512x128 .f32, View.ld z r0_4 = z := fun z => View.ld_unit_zero (S := S512x128) z2 _ z
  unfold out0_12
  rw [View.canon_unit_zero z2, l0, l3, l5, l5, l10, l10, pay7_eq]
  refine (pay1_apply _ _ _ _ _ i j).trans ?_
  simp only [rmsq_apply, eight_apply]

/-- The keys' block. -/
theorem out13_apply (i : Fin 512) (j : Fin 1024) : out0_13 x0 x1 x2 x3 x4 x5 x6 x7 x8 x9 x10 x11 (ix2 i j)
    = (∑ k, rmskv (fun k => x1 (ix2 i k)) (fun k => x4 (ix2 0 k)) k * x7 (ix2 k j)) + ∑ k, x2 (ix2 i k) * x8 (ix2 k j) := by
  have z2 : (![0, 0] : Fin 2 → ℕ) = fun _ => 0 := by decide
  have l1 : View.ld x1 r0_2 = x1 := View.ld_unit_zero (S := S512x256) z2 _ x1
  have l4 : View.ld x4 r0_3 = x4 := View.ld_unit_zero (S := S1x256) z2 _ x4
  have l7 : View.ld x7 r0_7 = x7 := View.ld_unit_zero (S := S256x1024) z2 _ x7
  have l2 : View.ld x2 r0_4 = x2 := View.ld_unit_zero (S := S512x128) z2 _ x2
  have l8 : View.ld x8 r0_8 = x8 := View.ld_unit_zero (S := S128x1024) z2 _ x8
  unfold out0_13 k0_pay8
  rw [View.canon_unit_zero z2, l1, l4, l7, l2, l8]
  refine (pay2_apply _ _ _ _ i j).trans ?_
  simp only [rmskv_apply]

/-- The values' block. -/
theorem out14_apply (i j : Fin 512) : out0_14 x0 x1 x2 x3 x4 x5 x6 x7 x8 x9 x10 x11 (ix2 i j)
    = ∑ k, rmskv (fun k => x1 (ix2 i k)) (fun k => x4 (ix2 0 k)) k * x9 (ix2 k j) := by
  have z2 : (![0, 0] : Fin 2 → ℕ) = fun _ => 0 := by decide
  have l1 : View.ld x1 r0_2 = x1 := View.ld_unit_zero (S := S512x256) z2 _ x1
  have l4 : View.ld x4 r0_3 = x4 := View.ld_unit_zero (S := S1x256) z2 _ x4
  have l9 : View.ld x9 r0_9 = x9 := View.ld_unit_zero (S := S256x512) z2 _ x9
  unfold out0_14 k0_pay8
  rw [View.canon_unit_zero z2, l1, l4, l9]
  refine (pay3_apply _ _ i j).trans ?_
  simp only [rmskv_apply]

end Cert.MlaPrep
end
-- ==== Proof.MlaPrep.Placement.lean ====
/- The placement matrix's first 32 rows: row `r` is one at channel `64 + r` of every head and zero elsewhere. -/
module

public import proofs.«01_k».proof.MlaPrepKernelIdeal
public import Mathlib.Tactic.IntervalCases

@[expose] public section

set_option maxRecDepth 16384

namespace Cert.MlaPrep

open Cert.MlaPrepKernelIdeal

/-- A table of 128 entries read at a number. -/
def table (v : ℕ → BitVec 16) (n : ℕ) : BitVec 16 := match n with
  | 0 => v 0
  | 1 => v 1
  | 2 => v 2
  | 3 => v 3
  | 4 => v 4
  | 5 => v 5
  | 6 => v 6
  | 7 => v 7
  | 8 => v 8
  | 9 => v 9
  | 10 => v 10
  | 11 => v 11
  | 12 => v 12
  | 13 => v 13
  | 14 => v 14
  | 15 => v 15
  | 16 => v 16
  | 17 => v 17
  | 18 => v 18
  | 19 => v 19
  | 20 => v 20
  | 21 => v 21
  | 22 => v 22
  | 23 => v 23
  | 24 => v 24
  | 25 => v 25
  | 26 => v 26
  | 27 => v 27
  | 28 => v 28
  | 29 => v 29
  | 30 => v 30
  | 31 => v 31
  | 32 => v 32
  | 33 => v 33
  | 34 => v 34
  | 35 => v 35
  | 36 => v 36
  | 37 => v 37
  | 38 => v 38
  | 39 => v 39
  | 40 => v 40
  | 41 => v 41
  | 42 => v 42
  | 43 => v 43
  | 44 => v 44
  | 45 => v 45
  | 46 => v 46
  | 47 => v 47
  | 48 => v 48
  | 49 => v 49
  | 50 => v 50
  | 51 => v 51
  | 52 => v 52
  | 53 => v 53
  | 54 => v 54
  | 55 => v 55
  | 56 => v 56
  | 57 => v 57
  | 58 => v 58
  | 59 => v 59
  | 60 => v 60
  | 61 => v 61
  | 62 => v 62
  | 63 => v 63
  | 64 => v 64
  | 65 => v 65
  | 66 => v 66
  | 67 => v 67
  | 68 => v 68
  | 69 => v 69
  | 70 => v 70
  | 71 => v 71
  | 72 => v 72
  | 73 => v 73
  | 74 => v 74
  | 75 => v 75
  | 76 => v 76
  | 77 => v 77
  | 78 => v 78
  | 79 => v 79
  | 80 => v 80
  | 81 => v 81
  | 82 => v 82
  | 83 => v 83
  | 84 => v 84
  | 85 => v 85
  | 86 => v 86
  | 87 => v 87
  | 88 => v 88
  | 89 => v 89
  | 90 => v 90
  | 91 => v 91
  | 92 => v 92
  | 93 => v 93
  | 94 => v 94
  | 95 => v 95
  | 96 => v 96
  | 97 => v 97
  | 98 => v 98
  | 99 => v 99
  | 100 => v 100
  | 101 => v 101
  | 102 => v 102
  | 103 => v 103
  | 104 => v 104
  | 105 => v 105
  | 106 => v 106
  | 107 => v 107
  | 108 => v 108
  | 109 => v 109
  | 110 => v 110
  | 111 => v 111
  | 112 => v 112
  | 113 => v 113
  | 114 => v 114
  | 115 => v 115
  | 116 => v 116
  | 117 => v 117
  | 118 => v 118
  | 119 => v 119
  | 120 => v 120
  | 121 => v 121
  | 122 => v 122
  | 123 => v 123
  | 124 => v 124
  | 125 => v 125
  | 126 => v 126
  | 127 => v 127
  | _ => 0#16

/-- A table read inside is its entry. -/
theorem table_apply (v : ℕ → BitVec 16) (n : ℕ) (h : n < 128) : table v n = v n := by
  interval_cases n <;> rfl

/-- Row `r`'s entry at channel `l` of a head. -/
def placed (r l : ℕ) : BitVec 16 := if l = 64 + r then 0x3F80#16 else 0#16

/-- A block that is a table of row `r`'s entries. -/
theorem placed_of (f : ℕ → BitVec 16) (r : ℕ) (h : f = fun i => table (placed r) (i % 128)) (i : ℕ) : f i = placed r (i % 128) := by
  rw [h]
  exact table_apply _ _ (Nat.mod_lt _ (by decide))

theorem block_0 (i : ℕ) : lit0t0_0 i = placed 0 (i % 128) := placed_of lit0t0_0 0 rfl i
theorem block_1 (i : ℕ) : lit0t0_1 i = placed 0 (i % 128) := placed_of lit0t0_1 0 rfl i
theorem block_2 (i : ℕ) : lit0t0_2 i = placed 0 (i % 128) := placed_of lit0t0_2 0 rfl i
theorem block_3 (i : ℕ) : lit0t0_3 i = placed 0 (i % 128) := placed_of lit0t0_3 0 rfl i
theorem block_4 (i : ℕ) : lit0t0_4 i = placed 0 (i % 128) := placed_of lit0t0_4 0 rfl i
theorem block_5 (i : ℕ) : lit0t0_5 i = placed 0 (i % 128) := placed_of lit0t0_5 0 rfl i
theorem block_6 (i : ℕ) : lit0t0_6 i = placed 0 (i % 128) := placed_of lit0t0_6 0 rfl i
theorem block_7 (i : ℕ) : lit0t0_7 i = placed 0 (i % 128) := placed_of lit0t0_7 0 rfl i
theorem block_8 (i : ℕ) : lit0t0_8 i = placed 1 (i % 128) := placed_of lit0t0_8 1 rfl i
theorem block_9 (i : ℕ) : lit0t0_9 i = placed 1 (i % 128) := placed_of lit0t0_9 1 rfl i
theorem block_10 (i : ℕ) : lit0t0_10 i = placed 1 (i % 128) := placed_of lit0t0_10 1 rfl i
theorem block_11 (i : ℕ) : lit0t0_11 i = placed 1 (i % 128) := placed_of lit0t0_11 1 rfl i
theorem block_12 (i : ℕ) : lit0t0_12 i = placed 1 (i % 128) := placed_of lit0t0_12 1 rfl i
theorem block_13 (i : ℕ) : lit0t0_13 i = placed 1 (i % 128) := placed_of lit0t0_13 1 rfl i
theorem block_14 (i : ℕ) : lit0t0_14 i = placed 1 (i % 128) := placed_of lit0t0_14 1 rfl i
theorem block_15 (i : ℕ) : lit0t0_15 i = placed 1 (i % 128) := placed_of lit0t0_15 1 rfl i
theorem block_16 (i : ℕ) : lit0t0_16 i = placed 2 (i % 128) := placed_of lit0t0_16 2 rfl i
theorem block_17 (i : ℕ) : lit0t0_17 i = placed 2 (i % 128) := placed_of lit0t0_17 2 rfl i
theorem block_18 (i : ℕ) : lit0t0_18 i = placed 2 (i % 128) := placed_of lit0t0_18 2 rfl i
theorem block_19 (i : ℕ) : lit0t0_19 i = placed 2 (i % 128) := placed_of lit0t0_19 2 rfl i
theorem block_20 (i : ℕ) : lit0t0_20 i = placed 2 (i % 128) := placed_of lit0t0_20 2 rfl i
theorem block_21 (i : ℕ) : lit0t0_21 i = placed 2 (i % 128) := placed_of lit0t0_21 2 rfl i
theorem block_22 (i : ℕ) : lit0t0_22 i = placed 2 (i % 128) := placed_of lit0t0_22 2 rfl i
theorem block_23 (i : ℕ) : lit0t0_23 i = placed 2 (i % 128) := placed_of lit0t0_23 2 rfl i
theorem block_24 (i : ℕ) : lit0t0_24 i = placed 3 (i % 128) := placed_of lit0t0_24 3 rfl i
theorem block_25 (i : ℕ) : lit0t0_25 i = placed 3 (i % 128) := placed_of lit0t0_25 3 rfl i
theorem block_26 (i : ℕ) : lit0t0_26 i = placed 3 (i % 128) := placed_of lit0t0_26 3 rfl i
theorem block_27 (i : ℕ) : lit0t0_27 i = placed 3 (i % 128) := placed_of lit0t0_27 3 rfl i
theorem block_28 (i : ℕ) : lit0t0_28 i = placed 3 (i % 128) := placed_of lit0t0_28 3 rfl i
theorem block_29 (i : ℕ) : lit0t0_29 i = placed 3 (i % 128) := placed_of lit0t0_29 3 rfl i
theorem block_30 (i : ℕ) : lit0t0_30 i = placed 3 (i % 128) := placed_of lit0t0_30 3 rfl i
theorem block_31 (i : ℕ) : lit0t0_31 i = placed 3 (i % 128) := placed_of lit0t0_31 3 rfl i
theorem block_32 (i : ℕ) : lit0t0_32 i = placed 4 (i % 128) := placed_of lit0t0_32 4 rfl i
theorem block_33 (i : ℕ) : lit0t0_33 i = placed 4 (i % 128) := placed_of lit0t0_33 4 rfl i
theorem block_34 (i : ℕ) : lit0t0_34 i = placed 4 (i % 128) := placed_of lit0t0_34 4 rfl i
theorem block_35 (i : ℕ) : lit0t0_35 i = placed 4 (i % 128) := placed_of lit0t0_35 4 rfl i
theorem block_36 (i : ℕ) : lit0t0_36 i = placed 4 (i % 128) := placed_of lit0t0_36 4 rfl i
theorem block_37 (i : ℕ) : lit0t0_37 i = placed 4 (i % 128) := placed_of lit0t0_37 4 rfl i
theorem block_38 (i : ℕ) : lit0t0_38 i = placed 4 (i % 128) := placed_of lit0t0_38 4 rfl i
theorem block_39 (i : ℕ) : lit0t0_39 i = placed 4 (i % 128) := placed_of lit0t0_39 4 rfl i
theorem block_40 (i : ℕ) : lit0t0_40 i = placed 5 (i % 128) := placed_of lit0t0_40 5 rfl i
theorem block_41 (i : ℕ) : lit0t0_41 i = placed 5 (i % 128) := placed_of lit0t0_41 5 rfl i
theorem block_42 (i : ℕ) : lit0t0_42 i = placed 5 (i % 128) := placed_of lit0t0_42 5 rfl i
theorem block_43 (i : ℕ) : lit0t0_43 i = placed 5 (i % 128) := placed_of lit0t0_43 5 rfl i
theorem block_44 (i : ℕ) : lit0t0_44 i = placed 5 (i % 128) := placed_of lit0t0_44 5 rfl i
theorem block_45 (i : ℕ) : lit0t0_45 i = placed 5 (i % 128) := placed_of lit0t0_45 5 rfl i
theorem block_46 (i : ℕ) : lit0t0_46 i = placed 5 (i % 128) := placed_of lit0t0_46 5 rfl i
theorem block_47 (i : ℕ) : lit0t0_47 i = placed 5 (i % 128) := placed_of lit0t0_47 5 rfl i
theorem block_48 (i : ℕ) : lit0t0_48 i = placed 6 (i % 128) := placed_of lit0t0_48 6 rfl i
theorem block_49 (i : ℕ) : lit0t0_49 i = placed 6 (i % 128) := placed_of lit0t0_49 6 rfl i
theorem block_50 (i : ℕ) : lit0t0_50 i = placed 6 (i % 128) := placed_of lit0t0_50 6 rfl i
theorem block_51 (i : ℕ) : lit0t0_51 i = placed 6 (i % 128) := placed_of lit0t0_51 6 rfl i
theorem block_52 (i : ℕ) : lit0t0_52 i = placed 6 (i % 128) := placed_of lit0t0_52 6 rfl i
theorem block_53 (i : ℕ) : lit0t0_53 i = placed 6 (i % 128) := placed_of lit0t0_53 6 rfl i
theorem block_54 (i : ℕ) : lit0t0_54 i = placed 6 (i % 128) := placed_of lit0t0_54 6 rfl i
theorem block_55 (i : ℕ) : lit0t0_55 i = placed 6 (i % 128) := placed_of lit0t0_55 6 rfl i
theorem block_56 (i : ℕ) : lit0t0_56 i = placed 7 (i % 128) := placed_of lit0t0_56 7 rfl i
theorem block_57 (i : ℕ) : lit0t0_57 i = placed 7 (i % 128) := placed_of lit0t0_57 7 rfl i
theorem block_58 (i : ℕ) : lit0t0_58 i = placed 7 (i % 128) := placed_of lit0t0_58 7 rfl i
theorem block_59 (i : ℕ) : lit0t0_59 i = placed 7 (i % 128) := placed_of lit0t0_59 7 rfl i
theorem block_60 (i : ℕ) : lit0t0_60 i = placed 7 (i % 128) := placed_of lit0t0_60 7 rfl i
theorem block_61 (i : ℕ) : lit0t0_61 i = placed 7 (i % 128) := placed_of lit0t0_61 7 rfl i
theorem block_62 (i : ℕ) : lit0t0_62 i = placed 7 (i % 128) := placed_of lit0t0_62 7 rfl i
theorem block_63 (i : ℕ) : lit0t0_63 i = placed 7 (i % 128) := placed_of lit0t0_63 7 rfl i
theorem block_64 (i : ℕ) : lit0t0_64 i = placed 8 (i % 128) := placed_of lit0t0_64 8 rfl i
theorem block_65 (i : ℕ) : lit0t0_65 i = placed 8 (i % 128) := placed_of lit0t0_65 8 rfl i
theorem block_66 (i : ℕ) : lit0t0_66 i = placed 8 (i % 128) := placed_of lit0t0_66 8 rfl i
theorem block_67 (i : ℕ) : lit0t0_67 i = placed 8 (i % 128) := placed_of lit0t0_67 8 rfl i
theorem block_68 (i : ℕ) : lit0t0_68 i = placed 8 (i % 128) := placed_of lit0t0_68 8 rfl i
theorem block_69 (i : ℕ) : lit0t0_69 i = placed 8 (i % 128) := placed_of lit0t0_69 8 rfl i
theorem block_70 (i : ℕ) : lit0t0_70 i = placed 8 (i % 128) := placed_of lit0t0_70 8 rfl i
theorem block_71 (i : ℕ) : lit0t0_71 i = placed 8 (i % 128) := placed_of lit0t0_71 8 rfl i
theorem block_72 (i : ℕ) : lit0t0_72 i = placed 9 (i % 128) := placed_of lit0t0_72 9 rfl i
theorem block_73 (i : ℕ) : lit0t0_73 i = placed 9 (i % 128) := placed_of lit0t0_73 9 rfl i
theorem block_74 (i : ℕ) : lit0t0_74 i = placed 9 (i % 128) := placed_of lit0t0_74 9 rfl i
theorem block_75 (i : ℕ) : lit0t0_75 i = placed 9 (i % 128) := placed_of lit0t0_75 9 rfl i
theorem block_76 (i : ℕ) : lit0t0_76 i = placed 9 (i % 128) := placed_of lit0t0_76 9 rfl i
theorem block_77 (i : ℕ) : lit0t0_77 i = placed 9 (i % 128) := placed_of lit0t0_77 9 rfl i
theorem block_78 (i : ℕ) : lit0t0_78 i = placed 9 (i % 128) := placed_of lit0t0_78 9 rfl i
theorem block_79 (i : ℕ) : lit0t0_79 i = placed 9 (i % 128) := placed_of lit0t0_79 9 rfl i
theorem block_80 (i : ℕ) : lit0t0_80 i = placed 10 (i % 128) := placed_of lit0t0_80 10 rfl i
theorem block_81 (i : ℕ) : lit0t0_81 i = placed 10 (i % 128) := placed_of lit0t0_81 10 rfl i
theorem block_82 (i : ℕ) : lit0t0_82 i = placed 10 (i % 128) := placed_of lit0t0_82 10 rfl i
theorem block_83 (i : ℕ) : lit0t0_83 i = placed 10 (i % 128) := placed_of lit0t0_83 10 rfl i
theorem block_84 (i : ℕ) : lit0t0_84 i = placed 10 (i % 128) := placed_of lit0t0_84 10 rfl i
theorem block_85 (i : ℕ) : lit0t0_85 i = placed 10 (i % 128) := placed_of lit0t0_85 10 rfl i
theorem block_86 (i : ℕ) : lit0t0_86 i = placed 10 (i % 128) := placed_of lit0t0_86 10 rfl i
theorem block_87 (i : ℕ) : lit0t0_87 i = placed 10 (i % 128) := placed_of lit0t0_87 10 rfl i
theorem block_88 (i : ℕ) : lit0t0_88 i = placed 11 (i % 128) := placed_of lit0t0_88 11 rfl i
theorem block_89 (i : ℕ) : lit0t0_89 i = placed 11 (i % 128) := placed_of lit0t0_89 11 rfl i
theorem block_90 (i : ℕ) : lit0t0_90 i = placed 11 (i % 128) := placed_of lit0t0_90 11 rfl i
theorem block_91 (i : ℕ) : lit0t0_91 i = placed 11 (i % 128) := placed_of lit0t0_91 11 rfl i
theorem block_92 (i : ℕ) : lit0t0_92 i = placed 11 (i % 128) := placed_of lit0t0_92 11 rfl i
theorem block_93 (i : ℕ) : lit0t0_93 i = placed 11 (i % 128) := placed_of lit0t0_93 11 rfl i
theorem block_94 (i : ℕ) : lit0t0_94 i = placed 11 (i % 128) := placed_of lit0t0_94 11 rfl i
theorem block_95 (i : ℕ) : lit0t0_95 i = placed 11 (i % 128) := placed_of lit0t0_95 11 rfl i
theorem block_96 (i : ℕ) : lit0t0_96 i = placed 12 (i % 128) := placed_of lit0t0_96 12 rfl i
theorem block_97 (i : ℕ) : lit0t0_97 i = placed 12 (i % 128) := placed_of lit0t0_97 12 rfl i
theorem block_98 (i : ℕ) : lit0t0_98 i = placed 12 (i % 128) := placed_of lit0t0_98 12 rfl i
theorem block_99 (i : ℕ) : lit0t0_99 i = placed 12 (i % 128) := placed_of lit0t0_99 12 rfl i
theorem block_100 (i : ℕ) : lit0t0_100 i = placed 12 (i % 128) := placed_of lit0t0_100 12 rfl i
theorem block_101 (i : ℕ) : lit0t0_101 i = placed 12 (i % 128) := placed_of lit0t0_101 12 rfl i
theorem block_102 (i : ℕ) : lit0t0_102 i = placed 12 (i % 128) := placed_of lit0t0_102 12 rfl i
theorem block_103 (i : ℕ) : lit0t0_103 i = placed 12 (i % 128) := placed_of lit0t0_103 12 rfl i
theorem block_104 (i : ℕ) : lit0t0_104 i = placed 13 (i % 128) := placed_of lit0t0_104 13 rfl i
theorem block_105 (i : ℕ) : lit0t0_105 i = placed 13 (i % 128) := placed_of lit0t0_105 13 rfl i
theorem block_106 (i : ℕ) : lit0t0_106 i = placed 13 (i % 128) := placed_of lit0t0_106 13 rfl i
theorem block_107 (i : ℕ) : lit0t0_107 i = placed 13 (i % 128) := placed_of lit0t0_107 13 rfl i
theorem block_108 (i : ℕ) : lit0t0_108 i = placed 13 (i % 128) := placed_of lit0t0_108 13 rfl i
theorem block_109 (i : ℕ) : lit0t0_109 i = placed 13 (i % 128) := placed_of lit0t0_109 13 rfl i
theorem block_110 (i : ℕ) : lit0t0_110 i = placed 13 (i % 128) := placed_of lit0t0_110 13 rfl i
theorem block_111 (i : ℕ) : lit0t0_111 i = placed 13 (i % 128) := placed_of lit0t0_111 13 rfl i
theorem block_112 (i : ℕ) : lit0t0_112 i = placed 14 (i % 128) := placed_of lit0t0_112 14 rfl i
theorem block_113 (i : ℕ) : lit0t0_113 i = placed 14 (i % 128) := placed_of lit0t0_113 14 rfl i
theorem block_114 (i : ℕ) : lit0t0_114 i = placed 14 (i % 128) := placed_of lit0t0_114 14 rfl i
theorem block_115 (i : ℕ) : lit0t0_115 i = placed 14 (i % 128) := placed_of lit0t0_115 14 rfl i
theorem block_116 (i : ℕ) : lit0t0_116 i = placed 14 (i % 128) := placed_of lit0t0_116 14 rfl i
theorem block_117 (i : ℕ) : lit0t0_117 i = placed 14 (i % 128) := placed_of lit0t0_117 14 rfl i
theorem block_118 (i : ℕ) : lit0t0_118 i = placed 14 (i % 128) := placed_of lit0t0_118 14 rfl i
theorem block_119 (i : ℕ) : lit0t0_119 i = placed 14 (i % 128) := placed_of lit0t0_119 14 rfl i
theorem block_120 (i : ℕ) : lit0t0_120 i = placed 15 (i % 128) := placed_of lit0t0_120 15 rfl i
theorem block_121 (i : ℕ) : lit0t0_121 i = placed 15 (i % 128) := placed_of lit0t0_121 15 rfl i
theorem block_122 (i : ℕ) : lit0t0_122 i = placed 15 (i % 128) := placed_of lit0t0_122 15 rfl i
theorem block_123 (i : ℕ) : lit0t0_123 i = placed 15 (i % 128) := placed_of lit0t0_123 15 rfl i
theorem block_124 (i : ℕ) : lit0t0_124 i = placed 15 (i % 128) := placed_of lit0t0_124 15 rfl i
theorem block_125 (i : ℕ) : lit0t0_125 i = placed 15 (i % 128) := placed_of lit0t0_125 15 rfl i
theorem block_126 (i : ℕ) : lit0t0_126 i = placed 15 (i % 128) := placed_of lit0t0_126 15 rfl i
theorem block_127 (i : ℕ) : lit0t0_127 i = placed 15 (i % 128) := placed_of lit0t0_127 15 rfl i
theorem block_128 (i : ℕ) : lit0t0_128 i = placed 16 (i % 128) := placed_of lit0t0_128 16 rfl i
theorem block_129 (i : ℕ) : lit0t0_129 i = placed 16 (i % 128) := placed_of lit0t0_129 16 rfl i
theorem block_130 (i : ℕ) : lit0t0_130 i = placed 16 (i % 128) := placed_of lit0t0_130 16 rfl i
theorem block_131 (i : ℕ) : lit0t0_131 i = placed 16 (i % 128) := placed_of lit0t0_131 16 rfl i
theorem block_132 (i : ℕ) : lit0t0_132 i = placed 16 (i % 128) := placed_of lit0t0_132 16 rfl i
theorem block_133 (i : ℕ) : lit0t0_133 i = placed 16 (i % 128) := placed_of lit0t0_133 16 rfl i
theorem block_134 (i : ℕ) : lit0t0_134 i = placed 16 (i % 128) := placed_of lit0t0_134 16 rfl i
theorem block_135 (i : ℕ) : lit0t0_135 i = placed 16 (i % 128) := placed_of lit0t0_135 16 rfl i
theorem block_136 (i : ℕ) : lit0t0_136 i = placed 17 (i % 128) := placed_of lit0t0_136 17 rfl i
theorem block_137 (i : ℕ) : lit0t0_137 i = placed 17 (i % 128) := placed_of lit0t0_137 17 rfl i
theorem block_138 (i : ℕ) : lit0t0_138 i = placed 17 (i % 128) := placed_of lit0t0_138 17 rfl i
theorem block_139 (i : ℕ) : lit0t0_139 i = placed 17 (i % 128) := placed_of lit0t0_139 17 rfl i
theorem block_140 (i : ℕ) : lit0t0_140 i = placed 17 (i % 128) := placed_of lit0t0_140 17 rfl i
theorem block_141 (i : ℕ) : lit0t0_141 i = placed 17 (i % 128) := placed_of lit0t0_141 17 rfl i
theorem block_142 (i : ℕ) : lit0t0_142 i = placed 17 (i % 128) := placed_of lit0t0_142 17 rfl i
theorem block_143 (i : ℕ) : lit0t0_143 i = placed 17 (i % 128) := placed_of lit0t0_143 17 rfl i
theorem block_144 (i : ℕ) : lit0t0_144 i = placed 18 (i % 128) := placed_of lit0t0_144 18 rfl i
theorem block_145 (i : ℕ) : lit0t0_145 i = placed 18 (i % 128) := placed_of lit0t0_145 18 rfl i
theorem block_146 (i : ℕ) : lit0t0_146 i = placed 18 (i % 128) := placed_of lit0t0_146 18 rfl i
theorem block_147 (i : ℕ) : lit0t0_147 i = placed 18 (i % 128) := placed_of lit0t0_147 18 rfl i
theorem block_148 (i : ℕ) : lit0t0_148 i = placed 18 (i % 128) := placed_of lit0t0_148 18 rfl i
theorem block_149 (i : ℕ) : lit0t0_149 i = placed 18 (i % 128) := placed_of lit0t0_149 18 rfl i
theorem block_150 (i : ℕ) : lit0t0_150 i = placed 18 (i % 128) := placed_of lit0t0_150 18 rfl i
theorem block_151 (i : ℕ) : lit0t0_151 i = placed 18 (i % 128) := placed_of lit0t0_151 18 rfl i
theorem block_152 (i : ℕ) : lit0t0_152 i = placed 19 (i % 128) := placed_of lit0t0_152 19 rfl i
theorem block_153 (i : ℕ) : lit0t0_153 i = placed 19 (i % 128) := placed_of lit0t0_153 19 rfl i
theorem block_154 (i : ℕ) : lit0t0_154 i = placed 19 (i % 128) := placed_of lit0t0_154 19 rfl i
theorem block_155 (i : ℕ) : lit0t0_155 i = placed 19 (i % 128) := placed_of lit0t0_155 19 rfl i
theorem block_156 (i : ℕ) : lit0t0_156 i = placed 19 (i % 128) := placed_of lit0t0_156 19 rfl i
theorem block_157 (i : ℕ) : lit0t0_157 i = placed 19 (i % 128) := placed_of lit0t0_157 19 rfl i
theorem block_158 (i : ℕ) : lit0t0_158 i = placed 19 (i % 128) := placed_of lit0t0_158 19 rfl i
theorem block_159 (i : ℕ) : lit0t0_159 i = placed 19 (i % 128) := placed_of lit0t0_159 19 rfl i
theorem block_160 (i : ℕ) : lit0t0_160 i = placed 20 (i % 128) := placed_of lit0t0_160 20 rfl i
theorem block_161 (i : ℕ) : lit0t0_161 i = placed 20 (i % 128) := placed_of lit0t0_161 20 rfl i
theorem block_162 (i : ℕ) : lit0t0_162 i = placed 20 (i % 128) := placed_of lit0t0_162 20 rfl i
theorem block_163 (i : ℕ) : lit0t0_163 i = placed 20 (i % 128) := placed_of lit0t0_163 20 rfl i
theorem block_164 (i : ℕ) : lit0t0_164 i = placed 20 (i % 128) := placed_of lit0t0_164 20 rfl i
theorem block_165 (i : ℕ) : lit0t0_165 i = placed 20 (i % 128) := placed_of lit0t0_165 20 rfl i
theorem block_166 (i : ℕ) : lit0t0_166 i = placed 20 (i % 128) := placed_of lit0t0_166 20 rfl i
theorem block_167 (i : ℕ) : lit0t0_167 i = placed 20 (i % 128) := placed_of lit0t0_167 20 rfl i
theorem block_168 (i : ℕ) : lit0t0_168 i = placed 21 (i % 128) := placed_of lit0t0_168 21 rfl i
theorem block_169 (i : ℕ) : lit0t0_169 i = placed 21 (i % 128) := placed_of lit0t0_169 21 rfl i
theorem block_170 (i : ℕ) : lit0t0_170 i = placed 21 (i % 128) := placed_of lit0t0_170 21 rfl i
theorem block_171 (i : ℕ) : lit0t0_171 i = placed 21 (i % 128) := placed_of lit0t0_171 21 rfl i
theorem block_172 (i : ℕ) : lit0t0_172 i = placed 21 (i % 128) := placed_of lit0t0_172 21 rfl i
theorem block_173 (i : ℕ) : lit0t0_173 i = placed 21 (i % 128) := placed_of lit0t0_173 21 rfl i
theorem block_174 (i : ℕ) : lit0t0_174 i = placed 21 (i % 128) := placed_of lit0t0_174 21 rfl i
theorem block_175 (i : ℕ) : lit0t0_175 i = placed 21 (i % 128) := placed_of lit0t0_175 21 rfl i
theorem block_176 (i : ℕ) : lit0t0_176 i = placed 22 (i % 128) := placed_of lit0t0_176 22 rfl i
theorem block_177 (i : ℕ) : lit0t0_177 i = placed 22 (i % 128) := placed_of lit0t0_177 22 rfl i
theorem block_178 (i : ℕ) : lit0t0_178 i = placed 22 (i % 128) := placed_of lit0t0_178 22 rfl i
theorem block_179 (i : ℕ) : lit0t0_179 i = placed 22 (i % 128) := placed_of lit0t0_179 22 rfl i
theorem block_180 (i : ℕ) : lit0t0_180 i = placed 22 (i % 128) := placed_of lit0t0_180 22 rfl i
theorem block_181 (i : ℕ) : lit0t0_181 i = placed 22 (i % 128) := placed_of lit0t0_181 22 rfl i
theorem block_182 (i : ℕ) : lit0t0_182 i = placed 22 (i % 128) := placed_of lit0t0_182 22 rfl i
theorem block_183 (i : ℕ) : lit0t0_183 i = placed 22 (i % 128) := placed_of lit0t0_183 22 rfl i
theorem block_184 (i : ℕ) : lit0t0_184 i = placed 23 (i % 128) := placed_of lit0t0_184 23 rfl i
theorem block_185 (i : ℕ) : lit0t0_185 i = placed 23 (i % 128) := placed_of lit0t0_185 23 rfl i
theorem block_186 (i : ℕ) : lit0t0_186 i = placed 23 (i % 128) := placed_of lit0t0_186 23 rfl i
theorem block_187 (i : ℕ) : lit0t0_187 i = placed 23 (i % 128) := placed_of lit0t0_187 23 rfl i
theorem block_188 (i : ℕ) : lit0t0_188 i = placed 23 (i % 128) := placed_of lit0t0_188 23 rfl i
theorem block_189 (i : ℕ) : lit0t0_189 i = placed 23 (i % 128) := placed_of lit0t0_189 23 rfl i
theorem block_190 (i : ℕ) : lit0t0_190 i = placed 23 (i % 128) := placed_of lit0t0_190 23 rfl i
theorem block_191 (i : ℕ) : lit0t0_191 i = placed 23 (i % 128) := placed_of lit0t0_191 23 rfl i
theorem block_192 (i : ℕ) : lit0t0_192 i = placed 24 (i % 128) := placed_of lit0t0_192 24 rfl i
theorem block_193 (i : ℕ) : lit0t0_193 i = placed 24 (i % 128) := placed_of lit0t0_193 24 rfl i
theorem block_194 (i : ℕ) : lit0t0_194 i = placed 24 (i % 128) := placed_of lit0t0_194 24 rfl i
theorem block_195 (i : ℕ) : lit0t0_195 i = placed 24 (i % 128) := placed_of lit0t0_195 24 rfl i
theorem block_196 (i : ℕ) : lit0t0_196 i = placed 24 (i % 128) := placed_of lit0t0_196 24 rfl i
theorem block_197 (i : ℕ) : lit0t0_197 i = placed 24 (i % 128) := placed_of lit0t0_197 24 rfl i
theorem block_198 (i : ℕ) : lit0t0_198 i = placed 24 (i % 128) := placed_of lit0t0_198 24 rfl i
theorem block_199 (i : ℕ) : lit0t0_199 i = placed 24 (i % 128) := placed_of lit0t0_199 24 rfl i
theorem block_200 (i : ℕ) : lit0t0_200 i = placed 25 (i % 128) := placed_of lit0t0_200 25 rfl i
theorem block_201 (i : ℕ) : lit0t0_201 i = placed 25 (i % 128) := placed_of lit0t0_201 25 rfl i
theorem block_202 (i : ℕ) : lit0t0_202 i = placed 25 (i % 128) := placed_of lit0t0_202 25 rfl i
theorem block_203 (i : ℕ) : lit0t0_203 i = placed 25 (i % 128) := placed_of lit0t0_203 25 rfl i
theorem block_204 (i : ℕ) : lit0t0_204 i = placed 25 (i % 128) := placed_of lit0t0_204 25 rfl i
theorem block_205 (i : ℕ) : lit0t0_205 i = placed 25 (i % 128) := placed_of lit0t0_205 25 rfl i
theorem block_206 (i : ℕ) : lit0t0_206 i = placed 25 (i % 128) := placed_of lit0t0_206 25 rfl i
theorem block_207 (i : ℕ) : lit0t0_207 i = placed 25 (i % 128) := placed_of lit0t0_207 25 rfl i
theorem block_208 (i : ℕ) : lit0t0_208 i = placed 26 (i % 128) := placed_of lit0t0_208 26 rfl i
theorem block_209 (i : ℕ) : lit0t0_209 i = placed 26 (i % 128) := placed_of lit0t0_209 26 rfl i
theorem block_210 (i : ℕ) : lit0t0_210 i = placed 26 (i % 128) := placed_of lit0t0_210 26 rfl i
theorem block_211 (i : ℕ) : lit0t0_211 i = placed 26 (i % 128) := placed_of lit0t0_211 26 rfl i
theorem block_212 (i : ℕ) : lit0t0_212 i = placed 26 (i % 128) := placed_of lit0t0_212 26 rfl i
theorem block_213 (i : ℕ) : lit0t0_213 i = placed 26 (i % 128) := placed_of lit0t0_213 26 rfl i
theorem block_214 (i : ℕ) : lit0t0_214 i = placed 26 (i % 128) := placed_of lit0t0_214 26 rfl i
theorem block_215 (i : ℕ) : lit0t0_215 i = placed 26 (i % 128) := placed_of lit0t0_215 26 rfl i
theorem block_216 (i : ℕ) : lit0t0_216 i = placed 27 (i % 128) := placed_of lit0t0_216 27 rfl i
theorem block_217 (i : ℕ) : lit0t0_217 i = placed 27 (i % 128) := placed_of lit0t0_217 27 rfl i
theorem block_218 (i : ℕ) : lit0t0_218 i = placed 27 (i % 128) := placed_of lit0t0_218 27 rfl i
theorem block_219 (i : ℕ) : lit0t0_219 i = placed 27 (i % 128) := placed_of lit0t0_219 27 rfl i
theorem block_220 (i : ℕ) : lit0t0_220 i = placed 27 (i % 128) := placed_of lit0t0_220 27 rfl i
theorem block_221 (i : ℕ) : lit0t0_221 i = placed 27 (i % 128) := placed_of lit0t0_221 27 rfl i
theorem block_222 (i : ℕ) : lit0t0_222 i = placed 27 (i % 128) := placed_of lit0t0_222 27 rfl i
theorem block_223 (i : ℕ) : lit0t0_223 i = placed 27 (i % 128) := placed_of lit0t0_223 27 rfl i
theorem block_224 (i : ℕ) : lit0t0_224 i = placed 28 (i % 128) := placed_of lit0t0_224 28 rfl i
theorem block_225 (i : ℕ) : lit0t0_225 i = placed 28 (i % 128) := placed_of lit0t0_225 28 rfl i
theorem block_226 (i : ℕ) : lit0t0_226 i = placed 28 (i % 128) := placed_of lit0t0_226 28 rfl i
theorem block_227 (i : ℕ) : lit0t0_227 i = placed 28 (i % 128) := placed_of lit0t0_227 28 rfl i
theorem block_228 (i : ℕ) : lit0t0_228 i = placed 28 (i % 128) := placed_of lit0t0_228 28 rfl i
theorem block_229 (i : ℕ) : lit0t0_229 i = placed 28 (i % 128) := placed_of lit0t0_229 28 rfl i
theorem block_230 (i : ℕ) : lit0t0_230 i = placed 28 (i % 128) := placed_of lit0t0_230 28 rfl i
theorem block_231 (i : ℕ) : lit0t0_231 i = placed 28 (i % 128) := placed_of lit0t0_231 28 rfl i
theorem block_232 (i : ℕ) : lit0t0_232 i = placed 29 (i % 128) := placed_of lit0t0_232 29 rfl i
theorem block_233 (i : ℕ) : lit0t0_233 i = placed 29 (i % 128) := placed_of lit0t0_233 29 rfl i
theorem block_234 (i : ℕ) : lit0t0_234 i = placed 29 (i % 128) := placed_of lit0t0_234 29 rfl i
theorem block_235 (i : ℕ) : lit0t0_235 i = placed 29 (i % 128) := placed_of lit0t0_235 29 rfl i
theorem block_236 (i : ℕ) : lit0t0_236 i = placed 29 (i % 128) := placed_of lit0t0_236 29 rfl i
theorem block_237 (i : ℕ) : lit0t0_237 i = placed 29 (i % 128) := placed_of lit0t0_237 29 rfl i
theorem block_238 (i : ℕ) : lit0t0_238 i = placed 29 (i % 128) := placed_of lit0t0_238 29 rfl i
theorem block_239 (i : ℕ) : lit0t0_239 i = placed 29 (i % 128) := placed_of lit0t0_239 29 rfl i
theorem block_240 (i : ℕ) : lit0t0_240 i = placed 30 (i % 128) := placed_of lit0t0_240 30 rfl i
theorem block_241 (i : ℕ) : lit0t0_241 i = placed 30 (i % 128) := placed_of lit0t0_241 30 rfl i
theorem block_242 (i : ℕ) : lit0t0_242 i = placed 30 (i % 128) := placed_of lit0t0_242 30 rfl i
theorem block_243 (i : ℕ) : lit0t0_243 i = placed 30 (i % 128) := placed_of lit0t0_243 30 rfl i
theorem block_244 (i : ℕ) : lit0t0_244 i = placed 30 (i % 128) := placed_of lit0t0_244 30 rfl i
theorem block_245 (i : ℕ) : lit0t0_245 i = placed 30 (i % 128) := placed_of lit0t0_245 30 rfl i
theorem block_246 (i : ℕ) : lit0t0_246 i = placed 30 (i % 128) := placed_of lit0t0_246 30 rfl i
theorem block_247 (i : ℕ) : lit0t0_247 i = placed 30 (i % 128) := placed_of lit0t0_247 30 rfl i
theorem block_248 (i : ℕ) : lit0t0_248 i = placed 31 (i % 128) := placed_of lit0t0_248 31 rfl i
theorem block_249 (i : ℕ) : lit0t0_249 i = placed 31 (i % 128) := placed_of lit0t0_249 31 rfl i
theorem block_250 (i : ℕ) : lit0t0_250 i = placed 31 (i % 128) := placed_of lit0t0_250 31 rfl i
theorem block_251 (i : ℕ) : lit0t0_251 i = placed 31 (i % 128) := placed_of lit0t0_251 31 rfl i
theorem block_252 (i : ℕ) : lit0t0_252 i = placed 31 (i % 128) := placed_of lit0t0_252 31 rfl i
theorem block_253 (i : ℕ) : lit0t0_253 i = placed 31 (i % 128) := placed_of lit0t0_253 31 rfl i
theorem block_254 (i : ℕ) : lit0t0_254 i = placed 31 (i % 128) := placed_of lit0t0_254 31 rfl i
theorem block_255 (i : ℕ) : lit0t0_255 i = placed 31 (i % 128) := placed_of lit0t0_255 31 rfl i

set_option maxHeartbeats 4000000 in
/-- Sixteen rows. -/
theorem rows_0 (i : ℕ) : lit0t1_0 i = placed (0 + i / 128 % 128 / 8) (i % 128) := by
  have h : i / 128 % 128 < 128 := Nat.mod_lt _ (by decide)
  unfold lit0t1_0
  generalize i / 128 % 128 = n at h ⊢
  interval_cases n
  · exact block_0 i
  · exact block_1 i
  · exact block_2 i
  · exact block_3 i
  · exact block_4 i
  · exact block_5 i
  · exact block_6 i
  · exact block_7 i
  · exact block_8 i
  · exact block_9 i
  · exact block_10 i
  · exact block_11 i
  · exact block_12 i
  · exact block_13 i
  · exact block_14 i
  · exact block_15 i
  · exact block_16 i
  · exact block_17 i
  · exact block_18 i
  · exact block_19 i
  · exact block_20 i
  · exact block_21 i
  · exact block_22 i
  · exact block_23 i
  · exact block_24 i
  · exact block_25 i
  · exact block_26 i
  · exact block_27 i
  · exact block_28 i
  · exact block_29 i
  · exact block_30 i
  · exact block_31 i
  · exact block_32 i
  · exact block_33 i
  · exact block_34 i
  · exact block_35 i
  · exact block_36 i
  · exact block_37 i
  · exact block_38 i
  · exact block_39 i
  · exact block_40 i
  · exact block_41 i
  · exact block_42 i
  · exact block_43 i
  · exact block_44 i
  · exact block_45 i
  · exact block_46 i
  · exact block_47 i
  · exact block_48 i
  · exact block_49 i
  · exact block_50 i
  · exact block_51 i
  · exact block_52 i
  · exact block_53 i
  · exact block_54 i
  · exact block_55 i
  · exact block_56 i
  · exact block_57 i
  · exact block_58 i
  · exact block_59 i
  · exact block_60 i
  · exact block_61 i
  · exact block_62 i
  · exact block_63 i
  · exact block_64 i
  · exact block_65 i
  · exact block_66 i
  · exact block_67 i
  · exact block_68 i
  · exact block_69 i
  · exact block_70 i
  · exact block_71 i
  · exact block_72 i
  · exact block_73 i
  · exact block_74 i
  · exact block_75 i
  · exact block_76 i
  · exact block_77 i
  · exact block_78 i
  · exact block_79 i
  · exact block_80 i
  · exact block_81 i
  · exact block_82 i
  · exact block_83 i
  · exact block_84 i
  · exact block_85 i
  · exact block_86 i
  · exact block_87 i
  · exact block_88 i
  · exact block_89 i
  · exact block_90 i
  · exact block_91 i
  · exact block_92 i
  · exact block_93 i
  · exact block_94 i
  · exact block_95 i
  · exact block_96 i
  · exact block_97 i
  · exact block_98 i
  · exact block_99 i
  · exact block_100 i
  · exact block_101 i
  · exact block_102 i
  · exact block_103 i
  · exact block_104 i
  · exact block_105 i
  · exact block_106 i
  · exact block_107 i
  · exact block_108 i
  · exact block_109 i
  · exact block_110 i
  · exact block_111 i
  · exact block_112 i
  · exact block_113 i
  · exact block_114 i
  · exact block_115 i
  · exact block_116 i
  · exact block_117 i
  · exact block_118 i
  · exact block_119 i
  · exact block_120 i
  · exact block_121 i
  · exact block_122 i
  · exact block_123 i
  · exact block_124 i
  · exact block_125 i
  · exact block_126 i
  · exact block_127 i

set_option maxHeartbeats 4000000 in
/-- Sixteen rows. -/
theorem rows_1 (i : ℕ) : lit0t1_1 i = placed (16 + i / 128 % 128 / 8) (i % 128) := by
  have h : i / 128 % 128 < 128 := Nat.mod_lt _ (by decide)
  unfold lit0t1_1
  generalize i / 128 % 128 = n at h ⊢
  interval_cases n
  · exact block_128 i
  · exact block_129 i
  · exact block_130 i
  · exact block_131 i
  · exact block_132 i
  · exact block_133 i
  · exact block_134 i
  · exact block_135 i
  · exact block_136 i
  · exact block_137 i
  · exact block_138 i
  · exact block_139 i
  · exact block_140 i
  · exact block_141 i
  · exact block_142 i
  · exact block_143 i
  · exact block_144 i
  · exact block_145 i
  · exact block_146 i
  · exact block_147 i
  · exact block_148 i
  · exact block_149 i
  · exact block_150 i
  · exact block_151 i
  · exact block_152 i
  · exact block_153 i
  · exact block_154 i
  · exact block_155 i
  · exact block_156 i
  · exact block_157 i
  · exact block_158 i
  · exact block_159 i
  · exact block_160 i
  · exact block_161 i
  · exact block_162 i
  · exact block_163 i
  · exact block_164 i
  · exact block_165 i
  · exact block_166 i
  · exact block_167 i
  · exact block_168 i
  · exact block_169 i
  · exact block_170 i
  · exact block_171 i
  · exact block_172 i
  · exact block_173 i
  · exact block_174 i
  · exact block_175 i
  · exact block_176 i
  · exact block_177 i
  · exact block_178 i
  · exact block_179 i
  · exact block_180 i
  · exact block_181 i
  · exact block_182 i
  · exact block_183 i
  · exact block_184 i
  · exact block_185 i
  · exact block_186 i
  · exact block_187 i
  · exact block_188 i
  · exact block_189 i
  · exact block_190 i
  · exact block_191 i
  · exact block_192 i
  · exact block_193 i
  · exact block_194 i
  · exact block_195 i
  · exact block_196 i
  · exact block_197 i
  · exact block_198 i
  · exact block_199 i
  · exact block_200 i
  · exact block_201 i
  · exact block_202 i
  · exact block_203 i
  · exact block_204 i
  · exact block_205 i
  · exact block_206 i
  · exact block_207 i
  · exact block_208 i
  · exact block_209 i
  · exact block_210 i
  · exact block_211 i
  · exact block_212 i
  · exact block_213 i
  · exact block_214 i
  · exact block_215 i
  · exact block_216 i
  · exact block_217 i
  · exact block_218 i
  · exact block_219 i
  · exact block_220 i
  · exact block_221 i
  · exact block_222 i
  · exact block_223 i
  · exact block_224 i
  · exact block_225 i
  · exact block_226 i
  · exact block_227 i
  · exact block_228 i
  · exact block_229 i
  · exact block_230 i
  · exact block_231 i
  · exact block_232 i
  · exact block_233 i
  · exact block_234 i
  · exact block_235 i
  · exact block_236 i
  · exact block_237 i
  · exact block_238 i
  · exact block_239 i
  · exact block_240 i
  · exact block_241 i
  · exact block_242 i
  · exact block_243 i
  · exact block_244 i
  · exact block_245 i
  · exact block_246 i
  · exact block_247 i
  · exact block_248 i
  · exact block_249 i
  · exact block_250 i
  · exact block_251 i
  · exact block_252 i
  · exact block_253 i
  · exact block_254 i
  · exact block_255 i

/-- An entry of the first rows. -/
theorem placement (r : Fin 32) (j : Fin 1024) : lit0t (r.val * 1024 + j.val) = if j.val % 128 = 64 + r.val then 0x3F80#16 else 0#16 := by
  have hr := r.isLt
  have hj := j.isLt
  have e2 : (r.val * 1024 + j.val) % 128 = j.val % 128 := by omega
  by_cases h : r.val < 16
  · have e : (r.val * 1024 + j.val) / 16384 = 0 := by omega
    have e1 : 0 + (r.val * 1024 + j.val) / 128 % 128 / 8 = r.val := by omega
    have := rows_0 (r.val * 1024 + j.val)
    rw [e1, e2] at this
    unfold lit0t
    rw [e]
    exact this
  · have e : (r.val * 1024 + j.val) / 16384 = 1 := by omega
    have e1 : 16 + (r.val * 1024 + j.val) / 128 % 128 / 8 = r.val := by omega
    have := rows_1 (r.val * 1024 + j.val)
    rw [e1, e2] at this
    unfold lit0t
    rw [e]
    exact this

end Cert.MlaPrep
end
-- ==== Proof.MlaPrep.Tables.lean ====
/- The rotation's tables the launch reads: 64 plain lanes, the cosines and sines of the angles twice, zeros. -/
module

public import proofs.«01_k».proof.Proof.Gen.MlaPrepKernelIdeal.Frame
public import proofs.«01_k».proof.Proof.MlaPrep.Spec
public import proofs.«01_k».proof.Proof.MlaPrep.Placement
public import Idealize.ShloMosaic.Lib.KernelVsHost
public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.MlaPrep

open Cert.MlaPrepKernelIdeal Cert.MlaPrepKernelIdeal.Gen Idealize.ShloMosaic Idealize.ShloMosaic.TcCoe Idealize.SL.Sem
open Cert.InProj (angle angle32)

/-- The positions times the frequencies of the 32-wide channels. -/
def angles : FVec Ideal S8192x16 .f32 :=
  mulf (broadcastInDim S8192x16 ![0, 1] bcast_S8192x1_S8192x16_0_1
      (broadcastInDim S8192x1 ![0] bcast_S8192_S8192x1_0 (sitofp .f32 (iotaInDim S8192 32 0) : FVec Ideal S8192 .f32)))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))) : FVec Ideal S16 .f32)))

/-- The angles at an index. -/
theorem angles_apply (s : Fin 8192) (e : Fin 16) : angles (ix2 s e) = angle32 s.val e.val := by
  unfold angle32 angle
  pointwise [angles]
  rfl

/-- Sixteen lanes twice. -/
def twice (x : FVec Ideal S8192x16 .f32) : FVec Ideal S8192x32 .f32 :=
  concatenate S8192x32 1 [⟨S8192x16, x⟩, ⟨S8192x16, x⟩] concatenates_S8192x16_S8192x16_S8192x32_d1

/-- A repeated lane. -/
theorem twice_apply (x : FVec Ideal S8192x16 .f32) (s : Fin 8192) (l : Fin 32) :
    twice x (ix2 s l) = x (ix2 s ⟨l.val % 16, by omega⟩) := by
  pointwise [twice]
  split_ifs
  all_goals blk_ext []

/-- Plain lanes, lanes of a table, zeros. -/
def lanes (v : BitVec 32) (x : FVec Ideal S8192x32 .f32) : FVec Ideal S8192x128 .f32 :=
  concatenate S8192x128 1 [⟨S8192x64, (broadcastInDim S8192x64 ![] bcast_S_S8192x64 (constant S_ .f32 v : FVec Ideal S_ .f32) : FVec Ideal S8192x64 .f32)⟩,
    ⟨S8192x32, x⟩, ⟨S8192x32, (broadcastInDim S8192x32 ![] bcast_S_S8192x32 (constant S_ .f32 0x00000000#32 : FVec Ideal S_ .f32) : FVec Ideal S8192x32 .f32)⟩]
    concatenates_S8192x64_S8192x32_S8192x32_S8192x128_d1

/-- A lane. -/
theorem lanes_apply (v : BitVec 32) (x : FVec Ideal S8192x32 .f32) (s : Fin 8192) (l : Fin 128) :
    lanes v x (ix2 s l) = if l.val < 64 then Ideal.ofBits .f32 v else if l.val < 96 then x (ix2 s ⟨l.val % 32, by omega⟩) else 0 := by
  unfold lanes
  split_ifs with h1 h2
  · refine (concatenate_apply_piece 1 _ _ _ 0 ?_ S8192x64 (broadcastInDim S8192x64 ![] bcast_S_S8192x64 (constant S_ .f32 v : FVec Ideal S_ .f32) : FVec Ideal S8192x64 .f32) ?_ ?_ 0 ?_ (ix2 s (⟨l.val, h1⟩ : Fin 64)) ?_ ?_).trans ?_
    · simp
    · rfl
    · rfl
    · rfl
    · exact fun b hb => by fin_cases b <;> first | rfl | exact absurd rfl hb
    · show 0 + l.val = l.val
      omega
    · rfl
  · refine concatenate_apply_piece 1 _ _ _ 1 ?_ S8192x32 x ?_ ?_ 64 ?_ (ix2 s (⟨l.val % 32, by omega⟩ : Fin 32)) ?_ ?_
    · simp
    · rfl
    · rfl
    · rfl
    · exact fun b hb => by fin_cases b <;> first | rfl | exact absurd rfl hb
    · show 64 + l.val % 32 = l.val
      omega
  · refine (concatenate_apply_piece 1 _ _ _ 2 ?_ S8192x32 (broadcastInDim S8192x32 ![] bcast_S_S8192x32 (constant S_ .f32 0x00000000#32 : FVec Ideal S_ .f32) : FVec Ideal S8192x32 .f32) ?_ ?_ 96 ?_ (ix2 s (⟨l.val - 96, by omega⟩ : Fin 32)) ?_ ?_).trans ?_
    · simp
    · rfl
    · rfl
    · rfl
    · exact fun b hb => by fin_cases b <;> first | rfl | exact absurd rfl hb
    · show 96 + (l.val - 96) = l.val
      omega
    · exact zero_bits

variable (m : (ℓ : Loc nD τ sig) → Buf (Elt Ideal) ℓ) (c : Dev nD) (s : Fin 8192) (l : Fin 128)

set_option maxHeartbeats 1000000 in
/-- The cosines. -/
theorem entry_cos : V m c main_v54 (ix2 s l) = lanecos (angle32 s.val) l.val := by
  have e : ∀ x, x = lanes 0x3F800000#32 (twice (Host.cos angles)) → V m c main_v54 = x := by
    intro x hx
    after_reads_simp
    exact hx.symm
  rw [e _ rfl, lanes_apply]
  unfold lanecos
  refine if_congr Iff.rfl one_bits (if_congr Iff.rfl ((twice_apply _ _ _).trans ?_) rfl)
  refine Eq.trans ?_ (congrArg Ideal.cos (angles_apply s ⟨l.val % 16, by omega⟩))
  show Ideal.cos (angles _) = _
  congr 2
  blk_ext []

set_option maxHeartbeats 1000000 in
/-- The sines. -/
theorem entry_sin : V m c main_v55 (ix2 s l) = lanesin (angle32 s.val) l.val := by
  have e : ∀ x, x = lanes 0x00000000#32 (twice (Host.sin angles)) → V m c main_v55 = x := by
    intro x hx
    after_reads_simp
    exact hx.symm
  rw [e _ rfl, lanes_apply]
  unfold lanesin
  refine if_congr Iff.rfl zero_bits (if_congr Iff.rfl ((twice_apply _ _ _).trans ?_) rfl)
  refine Eq.trans ?_ (congrArg Ideal.sin (angles_apply s ⟨l.val % 16, by omega⟩))
  show Ideal.sin (angles _) = _
  congr 2
  blk_ext []

/-- The placement matrix at an index. -/
theorem entry_e (k : Fin 128) (j : Fin 1024) (hk : k.val < 32) : V m c main_cst (ix2 k j) = if j.val % 128 = 64 + k.val then (1 : EReal) else 0 := by
  have e : V m c main_cst = (fun i => FloatOps.ofBits .bf16 (lit0 (S128x1024.rowMajor i)) : FVec Ideal S128x1024 .bf16) := rfl
  have r : ∀ n : Fin 131072, lit0 n = lit0t n.val := fun n => rfl
  have q : (S128x1024.rowMajor (ix2 k j)).val = k.val * 1024 + j.val := by
    rw [Shape.rowMajor_val_two]
    rfl
  rw [e]
  refine (congrArg (Ideal.ofBits .bf16) (r (S128x1024.rowMajor (ix2 k j)))).trans ?_
  rw [q, placement ⟨k.val, hk⟩ j]
  split_ifs
  · exact one_short
  · exact zero_short

end Cert.MlaPrep
end
-- ==== Proof.MlaPrep.Weights.lean ====
/- The weights the launch reads: heads spread over 128 lanes each, turned, cut, and the padded shared channels. -/
module

public import proofs.«01_k».proof.Proof.Gen.MlaPrepKernelIdeal.Frame
public import proofs.«01_k».proof.Proof.MlaPrep.Spec
public import Idealize.ShloMosaic.Lib.KernelVsHost
public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.MlaPrep

open Cert.MlaPrepKernelIdeal Cert.MlaPrepKernelIdeal.Gen Idealize.ShloMosaic Idealize.ShloMosaic.TcCoe Idealize.SL.Sem

/-- The padding value the host makes. -/
def nil : FVec Ideal S_ .f32 := sitofp .f32 (constantI S_ 32 0#32)

/-- The padding value is zero. -/
theorem nil_apply (i : S_.Idx) : nil i = 0 := by
  show ((BitVec.toInt (0#32) : ℝ) : EReal) = 0
  simp

/-- The queries' weights by heads. -/
def heads (w : FVec Ideal S384x768 .f32) : FVec Ideal S384x8x96 .f32 := shapeCast S384x8x96 w shapeCasts_S384x768_S384x8x96

/-- A head's channel. -/
theorem heads_apply (w : FVec Ideal S384x768 .f32) (k : Fin 384) (h : Fin 8) (e : Fin 96) :
    heads w (ix3 k h e) = w (ix2 k (colq (h.val * 96 + e.val))) := by
  have q : colq (h.val * 96 + e.val) = ⟨h.val * 96 + e.val, by omega⟩ := Fin.ext (Nat.mod_eq_of_lt (by omega))
  rw [q]
  pointwise [heads]

/-- Heads of 128 lanes side by side. -/
def flatq (x : FVec Ideal S384x8x128 .f32) : FVec Ideal S384x1024 .f32 := shapeCast S384x1024 x shapeCasts_S384x8x128_S384x1024

/-- A lane of the heads side by side. -/
theorem flatq_apply (x : FVec Ideal S384x8x128 .f32) (k : Fin 384) (j : Fin 1024) :
    flatq x (ix2 k j) = x (ix3 k (⟨j.val / 128, by omega⟩ : Fin 8) (⟨j.val % 128, by omega⟩ : Fin 128)) := by
  pointwise [flatq]

/-- The queries' weights, padded. -/
def wq (w : FVec Ideal S384x768 .f32) : FVec Ideal S384x1024 .bf16 :=
  truncf .bf16 (flatq (pad S384x8x128 ![0, 0, 0] ![0, 0, 32] ![0, 0, 0] (heads w) nil pads_S384x8x96_S384x8x128_000_000_0320 h_S_)) bitsLt_bf16_f32

/-- An entry of the queries' weights. -/
theorem wq_apply (w : FVec Ideal S384x768 .f32) (k : Fin 384) (j : Fin 1024) :
    wq w (ix2 k j) = spread (fun n => w (ix2 k (colq n))) j.val := by
  refine (flatq_apply (pad S384x8x128 ![0, 0, 0] ![0, 0, 32] ![0, 0, 0] (heads w) nil pads_S384x8x96_S384x8x128_000_000_0320 h_S_) k j).trans ?_
  unfold spread
  split_ifs with h
  · refine Eq.trans (pad_apply_of_inside _ _ _ _ _ _ _ _ (ix3 k (⟨j.val / 128, by omega⟩ : Fin 8) (⟨j.val % 128, h⟩ : Fin 96))
      fun a => by fin_cases a <;> simp) (heads_apply w k _ _)
  · refine Eq.trans (pad_apply_of_not_inside _ _ _ _ _ _ _ _ 2 fun hh => h ?_) (nil_apply _)
    have := hh.2.2
    simpa using this

/-- The queries' rotary channels by heads. -/
def rope (w : FVec Ideal S384x768 .f32) : FVec Ideal S384x8x32 .f32 :=
  shapeCast S384x8x32 (shapeCast S384x256 (extractStridedSlice S384x8x32 ![0, 0, 64] (heads w) slices_S384x8x96_S384x8x32_0_0_64)
    shapeCasts_S384x8x32_S384x256) shapeCasts_S384x256_S384x8x32

/-- A rotary channel. -/
theorem rope_apply (w : FVec Ideal S384x768 .f32) (k : Fin 384) (h : Fin 8) (e : Fin 32) :
    rope w (ix3 k h e) = w (ix2 k (colq (h.val * 96 + 64 + e.val))) := by
  refine Eq.trans (b := heads w (ix3 k h (⟨64 + e.val, by omega⟩ : Fin 96))) ?_ ?_
  · pointwise [rope]
    blk_ext []
  · refine (heads_apply w k h _).trans ?_
    rw [show h.val * 96 + (64 + e.val) = h.val * 96 + 64 + e.val by omega]

/-- Their halves swapped, the second negated. -/
def swapped (x : FVec Ideal S384x8x32 .f32) : FVec Ideal S384x8x32 .f32 :=
  shapeCast S384x8x32 (shapeCast S384x256 (concatenate S384x8x32 2
    [⟨S384x8x16, (Host.negf (extractStridedSlice S384x8x16 ![0, 0, 16] x slices_S384x8x32_S384x8x16_0_0_16) : FVec Ideal S384x8x16 .f32)⟩,
      ⟨S384x8x16, extractStridedSlice S384x8x16 ![0, 0, 0] x slices_S384x8x32_S384x8x16_0_0_0⟩]
    concatenates_S384x8x16_S384x8x16_S384x8x32_d2) shapeCasts_S384x8x32_S384x256) shapeCasts_S384x256_S384x8x32

/-- A swapped channel. -/
theorem swapped_apply (x : FVec Ideal S384x8x32 .f32) (k : Fin 384) (h : Fin 8) (e : Fin 32) :
    swapped x (ix3 k h e) = if g : e.val < 16 then -x (ix3 k h ⟨e.val + 16, by omega⟩) else x (ix3 k h ⟨e.val - 16, by omega⟩) := by
  pointwise [swapped]
  try simp only [Nat.add_comm 16 e.val]

/-- The queries' turned weights, padded. -/
def wqr (w : FVec Ideal S384x768 .f32) : FVec Ideal S384x1024 .bf16 :=
  truncf .bf16 (flatq (pad S384x8x128 ![0, 0, 64] ![0, 0, 32] ![0, 0, 0] (swapped (rope w)) nil pads_S384x8x32_S384x8x128_000_000_64320 h_S_)) bitsLt_bf16_f32

/-- An entry of the queries' turned weights. -/
theorem wqr_apply (w : FVec Ideal S384x768 .f32) (k : Fin 384) (j : Fin 1024) :
    wqr w (ix2 k j) = turned (fun n => w (ix2 k (colq n))) j.val := by
  refine (flatq_apply (pad S384x8x128 ![0, 0, 64] ![0, 0, 32] ![0, 0, 0] (swapped (rope w)) nil pads_S384x8x32_S384x8x128_000_000_64320 h_S_) k j).trans ?_
  by_cases h : 64 ≤ j.val % 128 ∧ j.val % 128 < 96
  · refine Eq.trans (pad_apply_of_inside _ _ _ _ _ _ _ _ (ix3 k (⟨j.val / 128, by omega⟩ : Fin 8) (⟨j.val % 128 - 64, by omega⟩ : Fin 32))
      fun a => by fin_cases a <;> simp <;> omega) ?_
    refine (swapped_apply _ k _ _).trans ?_
    unfold turned
    rw [if_neg (by omega)]
    by_cases g : j.val % 128 < 80
    · rw [if_pos g, dif_pos (show j.val % 128 - 64 < 16 by omega), rope_apply]
      congr 4
      show j.val / 128 * 96 + 64 + (j.val % 128 - 64 + 16) = j.val / 128 * 96 + j.val % 128 + 16
      omega
    · rw [if_neg g, if_pos h.2, dif_neg (show ¬j.val % 128 - 64 < 16 by omega), rope_apply]
      congr 3
      show j.val / 128 * 96 + 64 + (j.val % 128 - 64 - 16) = j.val / 128 * 96 + j.val % 128 - 16
      omega
  · refine (Eq.trans (pad_apply_of_not_inside _ _ _ _ _ _ _ _ 2 fun hh => h ?_) (nil_apply _)).trans ?_
    · have h1 := hh.1
      have h2 := hh.2.2
      simp at h1 h2
      omega
    · unfold turned
      split_ifs <;> first | rfl | omega

/-- The keys' and values' weights by heads. -/
def headskv (w : FVec Ideal S256x1024 .f32) : FVec Ideal S256x8x128 .f32 := shapeCast S256x8x128 w shapeCasts_S256x1024_S256x8x128

/-- A head's channel. -/
theorem headskv_apply (w : FVec Ideal S256x1024 .f32) (k : Fin 256) (h : Fin 8) (e : Fin 128) :
    headskv w (ix3 k h e) = w (ix2 k (colkv (h.val * 128 + e.val))) := by
  have q : colkv (h.val * 128 + e.val) = ⟨h.val * 128 + e.val, by omega⟩ := Fin.ext (Nat.mod_eq_of_lt (by omega))
  rw [q]
  pointwise [headskv]

/-- The keys' weights, padded. -/
def wk (w : FVec Ideal S256x1024 .f32) : FVec Ideal S256x1024 .bf16 :=
  truncf .bf16 (shapeCast S256x1024 (pad S256x8x128 ![0, 0, 0] ![0, 0, 64] ![0, 0, 0]
    (extractStridedSlice S256x8x64 ![0, 0, 0] (headskv w) slices_S256x8x128_S256x8x64_0_0_0) nil pads_S256x8x64_S256x8x128_000_000_0640 h_S_)
    shapeCasts_S256x8x128_S256x1024) bitsLt_bf16_f32

/-- A lane of the heads side by side. -/
theorem flatkv_apply (x : FVec Ideal S256x8x128 .f32) (k : Fin 256) (j : Fin 1024) :
    shapeCast S256x1024 x shapeCasts_S256x8x128_S256x1024 (ix2 k j)
      = x (ix3 k (⟨j.val / 128, by omega⟩ : Fin 8) (⟨j.val % 128, by omega⟩ : Fin 128)) := by
  pointwise []

/-- An entry of the keys' weights. -/
theorem wk_apply (w : FVec Ideal S256x1024 .f32) (k : Fin 256) (j : Fin 1024) :
    wk w (ix2 k j) = if j.val % 128 < 64 then w (ix2 k (colkv j.val)) else 0 := by
  refine (flatkv_apply (pad S256x8x128 ![0, 0, 0] ![0, 0, 64] ![0, 0, 0]
    (extractStridedSlice S256x8x64 ![0, 0, 0] (headskv w) slices_S256x8x128_S256x8x64_0_0_0) nil pads_S256x8x64_S256x8x128_000_000_0640 h_S_) k j).trans ?_
  split_ifs with h
  · refine Eq.trans (pad_apply_of_inside _ _ _ _ _ _ _ _ (ix3 k (⟨j.val / 128, by omega⟩ : Fin 8) (⟨j.val % 128, h⟩ : Fin 64))
      fun a => by fin_cases a <;> simp) ?_
    refine Eq.trans (b := headskv w (ix3 k (⟨j.val / 128, by omega⟩ : Fin 8) (⟨j.val % 128, by omega⟩ : Fin 128))) ?_ ?_
    · pointwise []
    · refine (headskv_apply w k _ _).trans ?_
      rw [show j.val / 128 * 128 + j.val % 128 = j.val by omega]
  · refine Eq.trans (pad_apply_of_not_inside _ _ _ _ _ _ _ _ 2 fun hh => h ?_) (nil_apply _)
    have := hh.2.2
    simpa using this

/-- The values' weights. -/
def wv (w : FVec Ideal S256x1024 .f32) : FVec Ideal S256x512 .bf16 :=
  truncf .bf16 (shapeCast S256x512 (extractStridedSlice S256x8x64 ![0, 0, 64] (headskv w) slices_S256x8x128_S256x8x64_0_0_64)
    shapeCasts_S256x8x64_S256x512) bitsLt_bf16_f32

/-- An entry of the values' weights. -/
theorem wv_apply (w : FVec Ideal S256x1024 .f32) (k : Fin 256) (j : Fin 512) :
    wv w (ix2 k j) = w (ix2 k (colkv (j.val / 64 * 128 + 64 + j.val % 64))) := by
  refine Eq.trans (b := headskv w (ix3 k (⟨j.val / 64, by omega⟩ : Fin 8) (⟨64 + j.val % 64, by omega⟩ : Fin 128))) ?_ ?_
  · pointwise [wv]
    blk_ext []
  · refine (headskv_apply w k _ _).trans ?_
    rw [show j.val / 64 * 128 + (64 + j.val % 64) = j.val / 64 * 128 + 64 + j.val % 64 by omega]

/-- The shared channels' rows, padded. -/
def krows (a : FVec Ideal S4x8192x32 .f32) : FVec Ideal S32768x128 .bf16 :=
  truncf .bf16 (pad S32768x128 ![0, 0] ![0, 96] ![0, 0] (shapeCast S32768x32 a shapeCasts_S4x8192x32_S32768x32) nil
    pads_S32768x32_S32768x128_000_0960 h_S_) bitsLt_bf16_f32

/-- The shared channels laid out as rows. -/
theorem rows32_apply (a : FVec Ideal S4x8192x32 .f32) (b : Fin 4) (s : Fin 8192) (k : Fin 32) :
    shapeCast S32768x32 a shapeCasts_S4x8192x32_S32768x32 (ix2 (⟨b.val * 8192 + s.val, by omega⟩ : Fin 32768) k) = a (ix3 b s k) := by
  unfold shapeCast
  refine congrArg a (Shape.reshapeEquiv_eq_of_rowMajor _ ?_)
  rw [Shape.rowMajor_val_two, Shape.rowMajor_val_three]
  show (b.val * 8192 + s.val) * 32 + k.val = (b.val * 8192 + s.val) * 32 + k.val
  rfl

/-- An entry of the shared channels' rows. -/
theorem krows_apply (a : FVec Ideal S4x8192x32 .f32) (b : Fin 4) (s : Fin 8192) (k : Fin 128) :
    krows a (ix2 (⟨b.val * 8192 + s.val, by omega⟩ : Fin 32768) k) = if k.val < 32 then a (ix3 b s (colr k.val)) else 0 := by
  show pad S32768x128 ![0, 0] ![0, 96] ![0, 0] (shapeCast S32768x32 a shapeCasts_S4x8192x32_S32768x32) nil
    pads_S32768x32_S32768x128_000_0960 h_S_ (ix2 (⟨b.val * 8192 + s.val, by omega⟩ : Fin 32768) k) = _
  split_ifs with h
  · have q : colr k.val = ⟨k.val, h⟩ := Fin.ext (Nat.mod_eq_of_lt h)
    rw [q]
    refine Eq.trans (pad_apply_of_inside _ _ _ _ _ _ _ _ (ix2 (⟨b.val * 8192 + s.val, by omega⟩ : Fin 32768) (⟨k.val, h⟩ : Fin 32))
      fun a => by fin_cases a <;> simp) (rows32_apply a b s ⟨k.val, h⟩)
  · refine Eq.trans (pad_apply_of_not_inside _ _ _ _ _ _ _ _ 1 fun hh => h ?_) (nil_apply _)
    have := hh.2.2
    simpa using this

/-- The queries' latents laid out as rows. -/
theorem rows384_apply (a : FVec Ideal S4x8192x384 .f32) (b : Fin 4) (s : Fin 8192) (k : Fin 384) :
    shapeCast S32768x384 a shapeCasts_S4x8192x384_S32768x384 (ix2 (⟨b.val * 8192 + s.val, by omega⟩ : Fin 32768) k) = a (ix3 b s k) := by
  unfold shapeCast
  refine congrArg a (Shape.reshapeEquiv_eq_of_rowMajor _ ?_)
  rw [Shape.rowMajor_val_two, Shape.rowMajor_val_three]
  show (b.val * 8192 + s.val) * 384 + k.val = (b.val * 8192 + s.val) * 384 + k.val
  rfl

/-- The keys' and values' latents laid out as rows. -/
theorem rows256_apply (a : FVec Ideal S4x8192x256 .f32) (b : Fin 4) (s : Fin 8192) (k : Fin 256) :
    shapeCast S32768x256 a shapeCasts_S4x8192x256_S32768x256 (ix2 (⟨b.val * 8192 + s.val, by omega⟩ : Fin 32768) k) = a (ix3 b s k) := by
  unfold shapeCast
  refine congrArg a (Shape.reshapeEquiv_eq_of_rowMajor _ ?_)
  rw [Shape.rowMajor_val_two, Shape.rowMajor_val_three]
  show (b.val * 8192 + s.val) * 256 + k.val = (b.val * 8192 + s.val) * 256 + k.val
  rfl

variable (m : (ℓ : Loc nD τ sig) → Buf (Elt Ideal) ℓ) (c : Dev nD)

/-- The queries' latents the launch reads. -/
theorem entry_cq (b : Fin 4) (s : Fin 8192) (k : Fin 384) :
    V m c main_v3 (ix2 (⟨b.val * 8192 + s.val, by omega⟩ : Fin 32768) k) = m ((c : Thread nD τ).loc main_arg0) (ix3 b s k) := by
  have e : V m c main_v3 = (shapeCast S32768x384 (m ((c : Thread nD τ).loc main_arg0) : FVec Ideal S4x8192x384 .f32)
    shapeCasts_S4x8192x384_S32768x384) := rfl
  rw [e]
  exact rows384_apply _ b s k

/-- The keys' and values' latents the launch reads. -/
theorem entry_ckv (b : Fin 4) (s : Fin 8192) (k : Fin 256) :
    V m c main_v4 (ix2 (⟨b.val * 8192 + s.val, by omega⟩ : Fin 32768) k) = m ((c : Thread nD τ).loc main_arg1) (ix3 b s k) := by
  have e : V m c main_v4 = (shapeCast S32768x256 (m ((c : Thread nD τ).loc main_arg1) : FVec Ideal S4x8192x256 .f32)
    shapeCasts_S4x8192x256_S32768x256) := rfl
  rw [e]
  exact rows256_apply _ b s k

/-- The shared channels the launch reads. -/
theorem entry_kr : V m c main_v2 = krows (m ((c : Thread nD τ).loc main_arg2)) := rfl

/-- The queries' gains the launch reads. -/
theorem entry_qn (k : Fin 384) : V m c main_v25 (ix2 0 k) = m ((c : Thread nD τ).loc main_arg3) (ix1 k) := by
  have e : V m c main_v25 = (shapeCast S1x384 (m ((c : Thread nD τ).loc main_arg3) : FVec Ideal S384 .f32) shapeCasts_S384_S1x384) := rfl
  rw [e]
  pointwise

/-- The keys' and values' gains the launch reads. -/
theorem entry_kvn (k : Fin 256) : V m c main_v26 (ix2 0 k) = m ((c : Thread nD τ).loc main_arg5) (ix1 k) := by
  have e : V m c main_v26 = (shapeCast S1x256 (m ((c : Thread nD τ).loc main_arg5) : FVec Ideal S256 .f32) shapeCasts_S256_S1x256) := rfl
  rw [e]
  pointwise

/-- The queries' weights the launch reads. -/
theorem entry_wq : V m c main_v27 = wq (m ((c : Thread nD τ).loc main_arg4)) := rfl

/-- The queries' turned weights the launch reads. -/
theorem entry_wqr : V m c main_v28 = wqr (m ((c : Thread nD τ).loc main_arg4)) := rfl

/-- The keys' weights the launch reads. -/
theorem entry_wk : V m c main_v29 = wk (m ((c : Thread nD τ).loc main_arg6)) := rfl

/-- The values' weights the launch reads. -/
theorem entry_wv : V m c main_v30 = wv (m ((c : Thread nD τ).loc main_arg6)) := rfl

end Cert.MlaPrep
end
-- ==== Proof.MlaPrep.Window.lean ====
/- What each grid point's input blocks hold, as entries of the argument arrays and of the rotation's tables. -/
module

public import proofs.«01_k».proof.Proof.Gen.MlaPrepKernelIdeal.Value
public import proofs.«01_k».proof.Proof.MlaPrep.Tables
public import proofs.«01_k».proof.Proof.MlaPrep.Weights
public import Idealize.ShloMosaic.Lib.Pipeline.ValueKit
public import Idealize.ShloMosaic.Lib.Claim
public import Idealize.ShloMosaic.Lib.Pointwise

@[expose] public section

set_option maxRecDepth 16384

noncomputable section

namespace Cert.MlaPrep

open Cert.MlaPrepKernelIdeal Cert.MlaPrepKernelIdeal.Gen Idealize.ShloMosaic Idealize.ShloMosaic.TcCoe Idealize.SL.Sem
open Cert.InProj (angle32)

variable (m : (ℓ : Loc nD τ sig) → Buf (Elt Ideal) ℓ) (c : Dev nD) (t : Fin cfg0.N)

/-- The grid point's number: its block of 512 rows. -/
def pt : Fin 64 := ⟨(grid0.coords t 0).val, (grid0.coords t 0).isLt⟩
/-- The grid point's batch entry. -/
def bat : Fin 4 := ⟨(pt t).val / 16, by have := (pt t).isLt; omega⟩
/-- The position of the grid point's `i`-th row. -/
def pos (i : Fin 512) : Fin 8192 := ⟨(pt t).val % 16 * 512 + i.val, by have := (pt t).isLt; omega⟩

/-- Where the input windows' blocks lie. -/
theorem index_facts : ∀ t : Fin cfg0.N,
    win0_0.index t = ![(pt t).val, 0]
    ∧ win0_1.index t = ![(pt t).val, 0]
    ∧ win0_2.index t = ![(pt t).val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![(pt t).val % 16, 0]
    ∧ win0_11.index t = ![(pt t).val % 16, 0] :=
  (by decide +kernel : ∀ t : Fin grid0.N, _)

/-- Where the output windows' blocks lie. -/
theorem out_facts : ∀ t : Fin cfg0.N,
    win0_12.index t = ![(pt t).val, 0]
    ∧ win0_13.index t = ![(pt t).val, 0]
    ∧ win0_14.index t = ![(pt t).val, 0] :=
  (by decide +kernel : ∀ t : Fin grid0.N, _)

/-- The queries' latents' block. -/
theorem read_cq (i : Fin 512) (k : Fin 384) :
    iblk m c 0 t (ix2 i k) = m ((c : Thread nD τ).loc main_arg0) (ix3 (bat t) (pos t i) k) := by
  have e := (index_facts t).1
  have h : ((cfg0.win 0).blk t).view.emb (ix2 i k) = ix2 (⟨(bat t).val * 8192 + (pos t i).val, by omega⟩ : Fin 32768) k := by blk_ext [e, bat, pos]
  exact (congrArg (V m c main_v3) h).trans (entry_cq m c (bat t) (pos t i) k)

/-- The keys' and values' latents' block. -/
theorem read_ckv (i : Fin 512) (k : Fin 256) :
    iblk m c 1 t (ix2 i k) = m ((c : Thread nD τ).loc main_arg1) (ix3 (bat t) (pos t i) k) := by
  have e := (index_facts t).2.1
  have h : ((cfg0.win 1).blk t).view.emb (ix2 i k) = ix2 (⟨(bat t).val * 8192 + (pos t i).val, by omega⟩ : Fin 32768) k := by blk_ext [e, bat, pos]
  exact (congrArg (V m c main_v4) h).trans (entry_ckv m c (bat t) (pos t i) k)

/-- The shared channels' block. -/
theorem read_kr (i : Fin 512) (k : Fin 128) :
    iblk m c 2 t (ix2 i k) = if k.val < 32 then m ((c : Thread nD τ).loc main_arg2) (ix3 (bat t) (pos t i) (colr k.val)) else (0 : EReal) := by
  have e := (index_facts t).2.2.1
  have h : ((cfg0.win 2).blk t).view.emb (ix2 i k) = ix2 (⟨(bat t).val * 8192 + (pos t i).val, by omega⟩ : Fin 32768) k := by blk_ext [e, bat, pos]
  exact (congrArg (V m c main_v2) h).trans ((congrFun (entry_kr m c) _).trans (krows_apply _ (bat t) (pos t i) k))

/-- The queries' gains' block. -/
theorem read_qn (k : Fin 384) :
    iblk m c 3 t (ix2 0 k) = m ((c : Thread nD τ).loc main_arg3) (ix1 k) := by
  have e := (index_facts t).2.2.2.1
  have h : ((cfg0.win 3).blk t).view.emb (ix2 0 k) = ix2 0 k := by blk_ext [e]
  exact (congrArg (V m c main_v25) h).trans (entry_qn m c k)

/-- The keys' and values' gains' block. -/
theorem read_kvn (k : Fin 256) :
    iblk m c 4 t (ix2 0 k) = m ((c : Thread nD τ).loc main_arg5) (ix1 k) := by
  have e := (index_facts t).2.2.2.2.1
  have h : ((cfg0.win 4).blk t).view.emb (ix2 0 k) = ix2 0 k := by blk_ext [e]
  exact (congrArg (V m c main_v26) h).trans (entry_kvn m c k)

/-- The queries' weights' block. -/
theorem read_wq (k : Fin 384) (j : Fin 1024) :
    iblk m c 5 t (ix2 k j) = spread (fun n => m ((c : Thread nD τ).loc main_arg4) (ix2 k (colq n))) j.val := by
  have e := (index_facts t).2.2.2.2.2.1
  have h : ((cfg0.win 5).blk t).view.emb (ix2 k j) = ix2 k j := by blk_ext [e]
  exact (congrArg (V m c main_v27) h).trans ((congrFun (entry_wq m c) _).trans (wq_apply _ k j))

/-- The queries' turned weights' block. -/
theorem read_wqr (k : Fin 384) (j : Fin 1024) :
    iblk m c 6 t (ix2 k j) = turned (fun n => m ((c : Thread nD τ).loc main_arg4) (ix2 k (colq n))) j.val := by
  have e := (index_facts t).2.2.2.2.2.2.1
  have h : ((cfg0.win 6).blk t).view.emb (ix2 k j) = ix2 k j := by blk_ext [e]
  exact (congrArg (V m c main_v28) h).trans ((congrFun (entry_wqr m c) _).trans (wqr_apply _ k j))

/-- The keys' weights' block. -/
theorem read_wk (k : Fin 256) (j : Fin 1024) :
    iblk m c 7 t (ix2 k j) = if j.val % 128 < 64 then m ((c : Thread nD τ).loc main_arg6) (ix2 k (colkv j.val)) else (0 : EReal) := by
  have e := (index_facts t).2.2.2.2.2.2.2.1
  have h : ((cfg0.win 7).blk t).view.emb (ix2 k j) = ix2 k j := by blk_ext [e]
  exact (congrArg (V m c main_v29) h).trans ((congrFun (entry_wk m c) _).trans (wk_apply _ k j))

/-- The placement matrix's block. -/
theorem read_e (k : Fin 128) (j : Fin 1024) (hk : k.val < 32) :
    iblk m c 8 t (ix2 k j) = if j.val % 128 = 64 + k.val then (1 : EReal) else 0 := by
  have e := (index_facts t).2.2.2.2.2.2.2.2.1
  have h : ((cfg0.win 8).blk t).view.emb (ix2 k j) = ix2 k j := by blk_ext [e]
  exact (congrArg (V m c main_cst) h).trans (entry_e m c k j hk)

/-- The values' weights' block. -/
theorem read_wv (k : Fin 256) (j : Fin 512) :
    iblk m c 9 t (ix2 k j) = m ((c : Thread nD τ).loc main_arg6) (ix2 k (colkv (j.val / 64 * 128 + 64 + j.val % 64))) := by
  have e := (index_facts t).2.2.2.2.2.2.2.2.2.1
  have h : ((cfg0.win 9).blk t).view.emb (ix2 k j) = ix2 k j := by blk_ext [e]
  exact (congrArg (V m c main_v30) h).trans ((congrFun (entry_wv m c) _).trans (wv_apply _ k j))

/-- The cosines' block. -/
theorem read_cos (i : Fin 512) (l : Fin 128) :
    iblk m c 10 t (ix2 i l) = lanecos (angle32 (pos t i).val) l.val := by
  have e := (index_facts t).2.2.2.2.2.2.2.2.2.2.1
  have h : ((cfg0.win 10).blk t).view.emb (ix2 i l) = ix2 (pos t i) l := by blk_ext [e, pos]
  exact (congrArg (V m c main_v54) h).trans (entry_cos m c (pos t i) l)

/-- The sines' block. -/
theorem read_sin (i : Fin 512) (l : Fin 128) :
    iblk m c 11 t (ix2 i l) = lanesin (angle32 (pos t i).val) l.val := by
  have e := (index_facts t).2.2.2.2.2.2.2.2.2.2.2
  have h : ((cfg0.win 11).blk t).view.emb (ix2 i l) = ix2 (pos t i) l := by blk_ext [e, pos]
  exact (congrArg (V m c main_v55) h).trans (entry_sin m c (pos t i) l)

/-- Where window 12's elements lie in its result. -/
theorem emb12 (i : Fin 512) (j : Fin 1024) : ((cfg0.win 12).blk t).view.emb (ix2 i j)
    = ix2 (⟨(bat t).val * 8192 + (pos t i).val, by omega⟩ : Fin 32768) j := by
  have e := (out_facts t).1
  blk_ext [e, bat, pos]

/-- Where window 13's elements lie in its result. -/
theorem emb13 (i : Fin 512) (j : Fin 1024) : ((cfg0.win 13).blk t).view.emb (ix2 i j)
    = ix2 (⟨(bat t).val * 8192 + (pos t i).val, by omega⟩ : Fin 32768) j := by
  have e := (out_facts t).2.1
  blk_ext [e, bat, pos]

/-- Where window 14's elements lie in its result. -/
theorem emb14 (i : Fin 512) (j : Fin 512) : ((cfg0.win 14).blk t).view.emb (ix2 i j)
    = ix2 (⟨(bat t).val * 8192 + (pos t i).val, by omega⟩ : Fin 32768) j := by
  have e := (out_facts t).2.2
  blk_ext [e, bat, pos]

end Cert.MlaPrep
end
-- ==== Proof.MlaPrep.Reference.lean ====
/- The reference read at an index. -/
module

public import proofs.«01_k».proof.Proof.Gen.MlaPrepReferenceIdeal.Read
public import proofs.«01_k».proof.Proof.MlaPrep.Spec
public import Idealize.ShloMosaic.Lib.KernelVsHost
public import Idealize.ShloMosaic.Lib.Pipeline.Value
public import Idealize.ShloMosaic.Lib.Pipeline.ValueKit
public import Idealize.ShloMosaic.Lib.Pointwise

@[expose] public section

set_option maxRecDepth 16384

noncomputable section

namespace Cert.MlaPrep.Ref

open Cert.MlaPrepReferenceIdeal Cert.MlaPrepReferenceIdeal.Gen Cert.MlaPrepReferenceIdeal.Read Idealize.ShloMosaic Idealize.SL.Sem
open Cert.InProj (angle angle32)
open scoped BigOperators

/-- The cosines. -/
theorem cos_apply (s : Fin 8192) (e : Fin 16) : val_main_v16 (F := Ideal) (ix2 s e) = Ideal.cos (angle32 s.val e.val) := by
  unfold angle32 angle
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_v16]
  rfl

/-- The sines. -/
theorem sin_apply (s : Fin 8192) (e : Fin 16) : val_main_v17 (F := Ideal) (ix2 s e) = Ideal.sin (angle32 s.val e.val) := by
  unfold angle32 angle
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_v17]
  rfl

variable (x0 : (⟨S4x8192x384, .f32⟩ : BufTy).Contents (Elt Ideal)) (x1 : (⟨S4x8192x256, .f32⟩ : BufTy).Contents (Elt Ideal))
  (x2 : (⟨S4x8192x32, .f32⟩ : BufTy).Contents (Elt Ideal)) (x3 : (⟨S384, .f32⟩ : BufTy).Contents (Elt Ideal))
  (x4 : (⟨S384x768, .f32⟩ : BufTy).Contents (Elt Ideal)) (x5 : (⟨S256, .f32⟩ : BufTy).Contents (Elt Ideal))
  (x6 : (⟨S256x1024, .f32⟩ : BufTy).Contents (Elt Ideal)) (b : Fin 4) (s : Fin 8192)

/-- The queries' normed row. -/
theorem rmsq_eq (j : Fin 384) : val_main_v30 x0 x3 (ix3 b s j) = rmsq (fun k => x0 (ix3 b s k)) (fun k => x3 (ix1 k)) j := by
  unfold rmsq rms
  pointwise [val_main_v30, val_main_v29, val_main_v28, val_main_v27, val_main_v26, val_main_v25, val_main_v24, val_main_v23, val_main_v22, val_main_v21, val_main_v20, val_main_v19, val_main_v18, val_main_cst_3, val_main_cst_4, val_main_cst_5]

/-- The keys' and values' normed row. -/
theorem rmskv_eq (j : Fin 256) : val_main_v61 x1 x5 (ix3 b s j) = rmskv (fun k => x1 (ix3 b s k)) (fun k => x5 (ix1 k)) j := by
  unfold rmskv rms
  pointwise [val_main_v61, val_main_v60, val_main_v59, val_main_v58, val_main_v57, val_main_v56, val_main_v55, val_main_v54, val_main_v53, val_main_v52, val_main_v51, val_main_v50, val_main_v49, val_main_cst_6, val_main_cst_7, val_main_cst_8]

/-- The queries' row's product with column `n`. -/
def P (n : ℕ) : EReal := ∑ k, rmsq (fun k => x0 (ix3 b s k)) (fun k => x3 (ix1 k)) k * x4 (ix2 k (colq n))

/-- The keys' and values' row's product with column `n`. -/
def R (n : ℕ) : EReal := ∑ k, rmskv (fun k => x1 (ix3 b s k)) (fun k => x5 (ix1 k)) k * x6 (ix2 k (colkv n))

/-- The queries' projection. -/
theorem projq (n : Fin 768) : val_main_v31 x0 x3 x4 (ix3 b s n) = P x0 x3 x4 b s n.val := by
  have e : colq n.val = n := Fin.ext (Nat.mod_eq_of_lt n.isLt)
  unfold P
  rw [e]
  simp only [← rmsq_eq]
  pointwise [val_main_v31]

/-- The keys' and values' projection. -/
theorem projkv (n : Fin 1024) : val_main_v62 x1 x5 x6 (ix3 b s n) = R x1 x5 x6 b s n.val := by
  have e : colkv n.val = n := Fin.ext (Nat.mod_eq_of_lt n.isLt)
  unfold R
  rw [e]
  simp only [← rmskv_eq]
  pointwise [val_main_v62]

/-- A query head's channel. -/
theorem headq (h : Fin 8) (e : Fin 96) : val_main_v32 x0 x3 x4 (ix4 b s h e) = P x0 x3 x4 b s (h.val * 96 + e.val) := by
  rw [← projq x0 x3 x4 b s ⟨h.val * 96 + e.val, by omega⟩]
  pointwise [val_main_v32]

/-- A key and value head's channel. -/
theorem headkv (h : Fin 8) (e : Fin 128) : val_main_v63 x1 x5 x6 (ix4 b s h e) = R x1 x5 x6 b s (h.val * 128 + e.val) := by
  rw [← projkv x1 x5 x6 b s ⟨h.val * 128 + e.val, by omega⟩]
  pointwise [val_main_v63]

/-- A rotary channel of the first half. -/
theorem half1 (h : Fin 8) (e : Fin 16) : val_main_v34 x0 x3 x4 (ix4 b s h e) = P x0 x3 x4 b s (h.val * 96 + (64 + e.val)) := by
  rw [← headq x0 x3 x4 b s h ⟨64 + e.val, by omega⟩]
  pointwise [val_main_v34, val_main_v33]

/-- A rotary channel of the second half. -/
theorem half2 (h : Fin 8) (e : Fin 16) : val_main_v35 x0 x3 x4 (ix4 b s h e) = P x0 x3 x4 b s (h.val * 96 + (80 + e.val)) := by
  rw [← headq x0 x3 x4 b s h ⟨80 + e.val, by omega⟩]
  pointwise [val_main_v35, val_main_v33]
  blk_ext []

/-- The rotated first half. -/
theorem rot1 (h : Fin 8) (e : Fin 16) : val_main_v42 x0 x3 x4 (ix4 b s h e)
    = P x0 x3 x4 b s (h.val * 96 + (64 + e.val)) * Ideal.cos (angle32 s.val e.val)
      - P x0 x3 x4 b s (h.val * 96 + (80 + e.val)) * Ideal.sin (angle32 s.val e.val) := by
  rw [← half1, ← half2, ← cos_apply, ← sin_apply]
  pointwise [val_main_v42, val_main_v41, val_main_v40, val_main_v39, val_main_v38, val_main_v37, val_main_v36]

/-- The rotated second half. -/
theorem rot2 (h : Fin 8) (e : Fin 16) : val_main_v47 x0 x3 x4 (ix4 b s h e)
    = P x0 x3 x4 b s (h.val * 96 + (64 + e.val)) * Ideal.sin (angle32 s.val e.val)
      + P x0 x3 x4 b s (h.val * 96 + (80 + e.val)) * Ideal.cos (angle32 s.val e.val) := by
  rw [← half1, ← half2, ← cos_apply, ← sin_apply]
  pointwise [val_main_v47, val_main_v46, val_main_v45, val_main_v44, val_main_v43, val_main_v37, val_main_v36]

/-- The first rotated channels. -/
theorem v48_0 (h : Fin 8) (e : Fin 16) : val_main_v48 x0 x3 x4 (ix4 b s h ⟨0 + e.val, by omega⟩) = val_main_v42 x0 x3 x4 (ix4 b s h e) := by
  unfold val_main_v48
  generalize val_main_v42 x0 x3 x4 = A0
  generalize val_main_v47 x0 x3 x4 = A1
  refine concatenate_apply_piece 3 _ _ _ 0 ?_ S4x8192x8x16 A0 ?_ ?_ 0 ?_ (ix4 b s h e) ?_ ?_
  · simp
  · rfl
  · rfl
  · rfl
  · exact fun b hb => by fin_cases b <;> first | rfl | exact absurd rfl hb
  · rfl

/-- The second rotated channels. -/
theorem v48_1 (h : Fin 8) (e : Fin 16) : val_main_v48 x0 x3 x4 (ix4 b s h ⟨16 + e.val, by omega⟩) = val_main_v47 x0 x3 x4 (ix4 b s h e) := by
  unfold val_main_v48
  generalize val_main_v42 x0 x3 x4 = A0
  generalize val_main_v47 x0 x3 x4 = A1
  refine concatenate_apply_piece 3 _ _ _ 1 ?_ S4x8192x8x16 A1 ?_ ?_ 16 ?_ (ix4 b s h e) ?_ ?_
  · simp
  · rfl
  · rfl
  · rfl
  · exact fun b hb => by fin_cases b <;> first | rfl | exact absurd rfl hb
  · rfl

/-- The plain channels. -/
theorem v68_0 (h : Fin 8) (e : Fin 64) : val_main_v68 x0 x3 x4 (ix4 b s h ⟨0 + e.val, by omega⟩) = val_main_v67 x0 x3 x4 (ix4 b s h e) := by
  unfold val_main_v68
  generalize val_main_v67 x0 x3 x4 = A0
  generalize val_main_v48 x0 x3 x4 = A1
  refine concatenate_apply_piece 3 _ _ _ 0 ?_ S4x8192x8x64 A0 ?_ ?_ 0 ?_ (ix4 b s h e) ?_ ?_
  · simp
  · rfl
  · rfl
  · rfl
  · exact fun b hb => by fin_cases b <;> first | rfl | exact absurd rfl hb
  · rfl

/-- The rotated channels. -/
theorem v68_1 (h : Fin 8) (e : Fin 32) : val_main_v68 x0 x3 x4 (ix4 b s h ⟨64 + e.val, by omega⟩) = val_main_v48 x0 x3 x4 (ix4 b s h e) := by
  unfold val_main_v68
  generalize val_main_v67 x0 x3 x4 = A0
  generalize val_main_v48 x0 x3 x4 = A1
  refine concatenate_apply_piece 3 _ _ _ 1 ?_ S4x8192x8x32 A1 ?_ ?_ 64 ?_ (ix4 b s h e) ?_ ?_
  · simp
  · rfl
  · rfl
  · rfl
  · exact fun b hb => by fin_cases b <;> first | rfl | exact absurd rfl hb
  · rfl

/-- The channels. -/
theorem v69_0 (h : Fin 8) (e : Fin 96) : val_main_v69 x0 x3 x4 (ix4 b s h ⟨0 + e.val, by omega⟩) = val_main_v68 x0 x3 x4 (ix4 b s h e) := by
  unfold val_main_v69
  generalize val_main_v68 x0 x3 x4 = A0
  generalize (val_main_v66 (F := Ideal)) = A1
  refine concatenate_apply_piece 3 _ _ _ 0 ?_ S4x8192x8x96 A0 ?_ ?_ 0 ?_ (ix4 b s h e) ?_ ?_
  · simp
  · rfl
  · rfl
  · rfl
  · exact fun b hb => by fin_cases b <;> first | rfl | exact absurd rfl hb
  · rfl

/-- The padding. -/
theorem v69_1 (h : Fin 8) (e : Fin 32) : val_main_v69 x0 x3 x4 (ix4 b s h ⟨96 + e.val, by omega⟩) = (val_main_v66 (F := Ideal)) (ix4 b s h e) := by
  unfold val_main_v69
  generalize val_main_v68 x0 x3 x4 = A0
  generalize (val_main_v66 (F := Ideal)) = A1
  refine concatenate_apply_piece 3 _ _ _ 1 ?_ S4x8192x8x32 A1 ?_ ?_ 96 ?_ (ix4 b s h e) ?_ ?_
  · simp
  · rfl
  · rfl
  · rfl
  · exact fun b hb => by fin_cases b <;> first | rfl | exact absurd rfl hb
  · rfl

/-- The plain channels. -/
theorem v71_0 (h : Fin 8) (e : Fin 64) : val_main_v71 x1 x2 x5 x6 (ix4 b s h ⟨0 + e.val, by omega⟩) = val_main_v70 x1 x5 x6 (ix4 b s h e) := by
  unfold val_main_v71
  generalize val_main_v70 x1 x5 x6 = A0
  generalize val_main_v65 x2 = A1
  refine concatenate_apply_piece 3 _ _ _ 0 ?_ S4x8192x8x64 A0 ?_ ?_ 0 ?_ (ix4 b s h e) ?_ ?_
  · simp
  · rfl
  · rfl
  · rfl
  · exact fun b hb => by fin_cases b <;> first | rfl | exact absurd rfl hb
  · rfl

/-- The shared channels. -/
theorem v71_1 (h : Fin 8) (e : Fin 32) : val_main_v71 x1 x2 x5 x6 (ix4 b s h ⟨64 + e.val, by omega⟩) = val_main_v65 x2 (ix4 b s h e) := by
  unfold val_main_v71
  generalize val_main_v70 x1 x5 x6 = A0
  generalize val_main_v65 x2 = A1
  refine concatenate_apply_piece 3 _ _ _ 1 ?_ S4x8192x8x32 A1 ?_ ?_ 64 ?_ (ix4 b s h e) ?_ ?_
  · simp
  · rfl
  · rfl
  · rfl
  · exact fun b hb => by fin_cases b <;> first | rfl | exact absurd rfl hb
  · rfl

/-- The channels. -/
theorem v72_0 (h : Fin 8) (e : Fin 96) : val_main_v72 x1 x2 x5 x6 (ix4 b s h ⟨0 + e.val, by omega⟩) = val_main_v71 x1 x2 x5 x6 (ix4 b s h e) := by
  unfold val_main_v72
  generalize val_main_v71 x1 x2 x5 x6 = A0
  generalize (val_main_v66 (F := Ideal)) = A1
  refine concatenate_apply_piece 3 _ _ _ 0 ?_ S4x8192x8x96 A0 ?_ ?_ 0 ?_ (ix4 b s h e) ?_ ?_
  · simp
  · rfl
  · rfl
  · rfl
  · exact fun b hb => by fin_cases b <;> first | rfl | exact absurd rfl hb
  · rfl

/-- The padding. -/
theorem v72_1 (h : Fin 8) (e : Fin 32) : val_main_v72 x1 x2 x5 x6 (ix4 b s h ⟨96 + e.val, by omega⟩) = (val_main_v66 (F := Ideal)) (ix4 b s h e) := by
  unfold val_main_v72
  generalize val_main_v71 x1 x2 x5 x6 = A0
  generalize (val_main_v66 (F := Ideal)) = A1
  refine concatenate_apply_piece 3 _ _ _ 1 ?_ S4x8192x8x32 A1 ?_ ?_ 96 ?_ (ix4 b s h e) ?_ ?_
  · simp
  · rfl
  · rfl
  · rfl
  · exact fun b hb => by fin_cases b <;> first | rfl | exact absurd rfl hb
  · rfl

/-- The padding is zero. -/
theorem zeros (h : Fin 8) (e : Fin 32) : val_main_v66 (F := Ideal) (ix4 b s h e) = (0 : EReal) := by
  refine Eq.trans ?_ zero_bits
  pointwise [val_main_v66, val_main_cst_9]

/-- A plain query channel. -/
theorem plainq (h : Fin 8) (e : Fin 64) : val_main_v67 x0 x3 x4 (ix4 b s h e) = P x0 x3 x4 b s (h.val * 96 + e.val) := by
  rw [← headq x0 x3 x4 b s h ⟨e.val, by omega⟩]
  pointwise [val_main_v67]

/-- A plain key channel. -/
theorem plaink (h : Fin 8) (e : Fin 64) : val_main_v70 x1 x5 x6 (ix4 b s h e) = R x1 x5 x6 b s (h.val * 128 + e.val) := by
  rw [← headkv x1 x5 x6 b s h ⟨e.val, by omega⟩]
  pointwise [val_main_v70]

/-- A value channel. -/
theorem plainv (h : Fin 8) (e : Fin 64) : val_main_v77 x1 x5 x6 (ix4 b s h e) = R x1 x5 x6 b s (h.val * 128 + (64 + e.val)) := by
  rw [← headkv x1 x5 x6 b s h ⟨64 + e.val, by omega⟩]
  pointwise [val_main_v77]

/-- A shared channel. -/
theorem shared (h : Fin 8) (e : Fin 32) : val_main_v65 x2 (ix4 b s h e) = x2 (ix3 b s e) := by
  pointwise [val_main_v65, val_main_v64]

/-- A query's lane. -/
theorem lanesq (h : Fin 8) (l : Fin 128) : val_main_v69 x0 x3 x4 (ix4 b s h l)
    = query (P x0 x3 x4 b s) (angle32 s.val) (h.val * 128 + l.val) := by
  have d : (h.val * 128 + l.val) / 128 = h.val := by omega
  have r : (h.val * 128 + l.val) % 128 = l.val := by omega
  unfold query
  rw [d, r]
  split_ifs with h1 h2 h3
  · have e1 := v69_0 x0 x3 x4 b s h ⟨0 + l.val, by omega⟩
    have e2 := v68_0 x0 x3 x4 b s h ⟨l.val, h1⟩
    simp only [Nat.zero_add] at e1 e2
    exact (e1.trans e2).trans (plainq x0 x3 x4 b s h ⟨l.val, h1⟩)
  · have e1 := v69_0 x0 x3 x4 b s h ⟨64 + (0 + (l.val - 64)), by omega⟩
    have e2 := v68_1 x0 x3 x4 b s h ⟨0 + (l.val - 64), by omega⟩
    have e3 := v48_0 x0 x3 x4 b s h ⟨l.val - 64, by omega⟩
    have q : 0 + (64 + (0 + (l.val - 64))) = l.val := by omega
    simp only [q] at e1
    refine (e1.trans (e2.trans e3)).trans ((rot1 x0 x3 x4 b s h ⟨l.val - 64, by omega⟩).trans ?_)
    show P x0 x3 x4 b s (h.val * 96 + (64 + (l.val - 64))) * Ideal.cos (angle32 s.val (l.val - 64))
      - P x0 x3 x4 b s (h.val * 96 + (80 + (l.val - 64))) * Ideal.sin (angle32 s.val (l.val - 64)) = _
    rw [show h.val * 96 + (64 + (l.val - 64)) = h.val * 96 + l.val by omega,
      show h.val * 96 + (80 + (l.val - 64)) = h.val * 96 + l.val + 16 by omega, show l.val % 16 = l.val - 64 by omega]
  · have e1 := v69_0 x0 x3 x4 b s h ⟨64 + (16 + (l.val - 80)), by omega⟩
    have e2 := v68_1 x0 x3 x4 b s h ⟨16 + (l.val - 80), by omega⟩
    have e3 := v48_1 x0 x3 x4 b s h ⟨l.val - 80, by omega⟩
    have q : 0 + (64 + (16 + (l.val - 80))) = l.val := by omega
    simp only [q] at e1
    refine (e1.trans (e2.trans e3)).trans ((rot2 x0 x3 x4 b s h ⟨l.val - 80, by omega⟩).trans ?_)
    show P x0 x3 x4 b s (h.val * 96 + (64 + (l.val - 80))) * Ideal.sin (angle32 s.val (l.val - 80))
      + P x0 x3 x4 b s (h.val * 96 + (80 + (l.val - 80))) * Ideal.cos (angle32 s.val (l.val - 80)) = _
    rw [show h.val * 96 + (64 + (l.val - 80)) = h.val * 96 + l.val - 16 by omega,
      show h.val * 96 + (80 + (l.val - 80)) = h.val * 96 + l.val by omega, show l.val % 16 = l.val - 80 by omega]
  · have e1 := v69_1 x0 x3 x4 b s h ⟨l.val - 96, by omega⟩
    have q : 96 + (l.val - 96) = l.val := by omega
    simp only [q] at e1
    exact e1.trans (zeros b s h ⟨l.val - 96, by omega⟩)

/-- A key's lane. -/
theorem lanesk (h : Fin 8) (l : Fin 128) : val_main_v72 x1 x2 x5 x6 (ix4 b s h l)
    = key (R x1 x5 x6 b s) (fun n => x2 (ix3 b s (colr n))) (h.val * 128 + l.val) := by
  have r : (h.val * 128 + l.val) % 128 = l.val := by omega
  unfold key
  rw [r]
  split_ifs with h1 h2
  · have e1 := v72_0 x1 x2 x5 x6 b s h ⟨0 + l.val, by omega⟩
    have e2 := v71_0 x1 x2 x5 x6 b s h ⟨l.val, h1⟩
    simp only [Nat.zero_add] at e1 e2
    exact (e1.trans e2).trans (plaink x1 x5 x6 b s h ⟨l.val, h1⟩)
  · have e1 := v72_0 x1 x2 x5 x6 b s h ⟨64 + (l.val - 64), by omega⟩
    have e2 := v71_1 x1 x2 x5 x6 b s h ⟨l.val - 64, by omega⟩
    have q : 0 + (64 + (l.val - 64)) = l.val := by omega
    simp only [q] at e1
    have e : colr (l.val - 64) = ⟨l.val - 64, by omega⟩ := Fin.ext (Nat.mod_eq_of_lt (by omega))
    show _ = x2 (ix3 b s (colr (l.val - 64)))
    rw [e]
    exact (e1.trans e2).trans (shared x2 b s h ⟨l.val - 64, by omega⟩)
  · have e1 := v72_1 x1 x2 x5 x6 b s h ⟨l.val - 96, by omega⟩
    have q : 96 + (l.val - 96) = l.val := by omega
    simp only [q] at e1
    exact e1.trans (zeros b s h ⟨l.val - 96, by omega⟩)

/-- The queries. -/
theorem qm_eq (j : Fin 1024) : val_main_v74 x0 x3 x4 (ix2 (⟨b.val * 8192 + s.val, by omega⟩ : Fin 32768) j)
    = query (P x0 x3 x4 b s) (angle32 s.val) j.val := by
  refine Eq.trans (b := val_main_v69 x0 x3 x4 (ix4 b s (⟨j.val / 128, by omega⟩ : Fin 8) (⟨j.val % 128, by omega⟩ : Fin 128))) ?_ ?_
  · pointwise [val_main_v74, val_main_v73]
    blk_ext []
  · refine (lanesq x0 x3 x4 b s _ _).trans ?_
    rw [show j.val / 128 * 128 + j.val % 128 = j.val by omega]

/-- The keys. -/
theorem km_eq (j : Fin 1024) : val_main_v76 x1 x2 x5 x6 (ix2 (⟨b.val * 8192 + s.val, by omega⟩ : Fin 32768) j)
    = key (R x1 x5 x6 b s) (fun n => x2 (ix3 b s (colr n))) j.val := by
  refine Eq.trans (b := val_main_v72 x1 x2 x5 x6 (ix4 b s (⟨j.val / 128, by omega⟩ : Fin 8) (⟨j.val % 128, by omega⟩ : Fin 128))) ?_ ?_
  · pointwise [val_main_v76, val_main_v75]
    blk_ext []
  · refine (lanesk x1 x2 x5 x6 b s _ _).trans ?_
    rw [show j.val / 128 * 128 + j.val % 128 = j.val by omega]

/-- The values. -/
theorem vm_eq (j : Fin 512) : val_main_v79 x1 x5 x6 (ix2 (⟨b.val * 8192 + s.val, by omega⟩ : Fin 32768) j)
    = R x1 x5 x6 b s (j.val / 64 * 128 + 64 + j.val % 64) := by
  refine Eq.trans (b := val_main_v77 x1 x5 x6 (ix4 b s (⟨j.val / 64, by omega⟩ : Fin 8) (⟨j.val % 64, by omega⟩ : Fin 64))) ?_ ?_
  · pointwise [val_main_v79, val_main_v78]
    blk_ext []
  · refine (plainv x1 x5 x6 b s _ _).trans ?_
    rw [show j.val / 64 * 128 + (64 + j.val % 64) = j.val / 64 * 128 + 64 + j.val % 64 by omega]

end Cert.MlaPrep.Ref
end
-- ==== Proof.MlaPrep.Array.lean ====
/- The kernel's result arrays are the reference's; the queries' on real arguments. -/
module

public import proofs.«01_k».proof.Proof.MlaPrep.Tile
public import proofs.«01_k».proof.Proof.MlaPrep.Window
public import proofs.«01_k».proof.Proof.MlaPrep.Reference

@[expose] public section

set_option maxRecDepth 16384

noncomputable section

namespace Cert.MlaPrep

open Cert.MlaPrepKernelIdeal Cert.MlaPrepKernelIdeal.Gen Idealize.ShloMosaic Idealize.ShloMosaic.TcCoe Idealize.SL.Sem
open Cert.InProj (angle32)
open scoped BigOperators

variable (m : (ℓ : Loc nD τ sig) → Buf (Elt Ideal) ℓ) (c : Dev nD)

/-- The queries' latents. -/
abbrev aCq : FVec Ideal S4x8192x384 .f32 := m ((c : Thread nD τ).loc main_arg0)
/-- The keys' and values' latents. -/
abbrev aCkv : FVec Ideal S4x8192x256 .f32 := m ((c : Thread nD τ).loc main_arg1)
/-- The shared channels. -/
abbrev aKr : FVec Ideal S4x8192x32 .f32 := m ((c : Thread nD τ).loc main_arg2)
/-- The queries' gains. -/
abbrev aQn : FVec Ideal S384 .f32 := m ((c : Thread nD τ).loc main_arg3)
/-- The queries' weights. -/
abbrev aWq : FVec Ideal S384x768 .f32 := m ((c : Thread nD τ).loc main_arg4)
/-- The keys' and values' gains. -/
abbrev aKvn : FVec Ideal S256 .f32 := m ((c : Thread nD τ).loc main_arg5)
/-- The keys' and values' weights. -/
abbrev aWkv : FVec Ideal S256x1024 .f32 := m ((c : Thread nD τ).loc main_arg6)

/-- A grid point's normed query row. -/
theorem rowq (t : Fin cfg0.N) (i : Fin 512) : rmsq (fun k => iblk m c 0 t (ix2 i k)) (fun k => iblk m c 3 t (ix2 0 k))
    = rmsq (fun k => aCq m c (ix3 (bat t) (pos t i) k)) (fun k => aQn m c (ix1 k)) :=
  congrArg₂ rmsq (funext fun k => read_cq m c t i k) (funext fun k => read_qn m c t k)

/-- A grid point's normed key and value row. -/
theorem rowkv (t : Fin cfg0.N) (i : Fin 512) : rmskv (fun k => iblk m c 1 t (ix2 i k)) (fun k => iblk m c 4 t (ix2 0 k))
    = rmskv (fun k => aCkv m c (ix3 (bat t) (pos t i) k)) (fun k => aKvn m c (ix1 k)) :=
  congrArg₂ rmskv (funext fun k => read_ckv m c t i k) (funext fun k => read_kvn m c t k)

section

variable (hCq : ∀ i, ∃ r : ℝ, aCq m c i = (r : EReal)) (hQn : ∀ i, ∃ r : ℝ, aQn m c i = (r : EReal))
  (hWq : ∀ i, ∃ r : ℝ, aWq m c i = (r : EReal))

include hCq hQn hWq in
/-- What a grid point stores of the queries. -/
theorem block_qm (t : Fin cfg0.N) (i : Fin 512) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i j)
      = query (Ref.P (aCq m c) (aQn m c) (aWq m c) (bat t) (pos t i)) (angle32 (pos t i).val) j.val := by
  refine (out12_apply _ _ _ _ _ _ _ _ _ _ _ _ i j).trans ?_
  refine Eq.trans ?_ (query_law (rmsq (fun k => aCq m c (ix3 (bat t) (pos t i) k)) (fun k => aQn m c (ix1 k)))
    (fun k n => aWq m c (ix2 k (colq n))) (rmsq_real _ _ (fun k => hCq _) (fun k => hQn _)) (fun k n => hWq _) (angle32 (pos t i).val) j.val)
  rw [rowq]
  refine congrArg₂ (· + ·) (congrArg₂ (· * ·) (Finset.sum_congr rfl fun k _ => congrArg₂ (· * ·) rfl (read_wq m c t k j)) (read_cos m c t i _))
    (congrArg₂ (· * ·) (Finset.sum_congr rfl fun k _ => congrArg₂ (· * ·) rfl (read_wqr m c t k j)) (read_sin m c t i _))

include hCq hQn hWq in
/-- The queries. -/
theorem arr_qm : (dats m 0 c).arrAt 12 cfg0.N = Cert.MlaPrepReferenceIdeal.Read.val_main_v74 (F := Ideal) (aCq m c) (aQn m c) (aWq m c) := by
  refine (dats m 0 c).arrAt_eq_of_covers 12 _ (by decide +kernel) fun t hf y => ?_
  refine (congrFun (Cert.MlaPrepKernelIdeal.Value.flushed12 m c t) y).trans ?_
  obtain ⟨i, j, rfl⟩ : ∃ (i : Fin 512) (j : Fin 1024), y = ix2 i j := ⟨y 0, y 1, eq_ix2 (n0 := 512) (n1 := 1024) y⟩
  rw [emb12]
  exact (block_qm m c hCq hQn hWq t i j).trans (Ref.qm_eq (aCq m c) (aQn m c) (aWq m c) (bat t) (pos t i) j).symm

end

/-- What a grid point stores of the keys. -/
theorem block_km (t : Fin cfg0.N) (i : Fin 512) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i j)
      = key (Ref.R (aCkv m c) (aKvn m c) (aWkv m c) (bat t) (pos t i)) (fun n => aKr m c (ix3 (bat t) (pos t i) (colr n))) j.val := by
  refine (out13_apply _ _ _ _ _ _ _ _ _ _ _ _ i j).trans ?_
  refine Eq.trans ?_ (key_law (rmskv (fun k => aCkv m c (ix3 (bat t) (pos t i) k)) (fun k => aKvn m c (ix1 k)))
    (fun k n => aWkv m c (ix2 k (colkv n))) (fun n => aKr m c (ix3 (bat t) (pos t i) (colr n)))
    (fun k => iblk m c 8 t (ix2 k j)) (fun k => iblk m c 2 t (ix2 i k)) j.val (fun k => read_kr m c t i k) (fun k hk => read_e m c t k j hk))
  rw [rowkv]
  exact congrArg₂ (· + ·) (Finset.sum_congr rfl fun k _ => congrArg₂ (· * ·) rfl (read_wk m c t k j)) rfl

/-- The keys. -/
theorem arr_km : (dats m 0 c).arrAt 13 cfg0.N
    = Cert.MlaPrepReferenceIdeal.Read.val_main_v76 (F := Ideal) (aCkv m c) (aKr m c) (aKvn m c) (aWkv m c) := by
  refine (dats m 0 c).arrAt_eq_of_covers 13 _ (by decide +kernel) fun t hf y => ?_
  refine (congrFun (Cert.MlaPrepKernelIdeal.Value.flushed13 m c t) y).trans ?_
  obtain ⟨i, j, rfl⟩ : ∃ (i : Fin 512) (j : Fin 1024), y = ix2 i j := ⟨y 0, y 1, eq_ix2 (n0 := 512) (n1 := 1024) y⟩
  rw [emb13]
  exact (block_km m c t i j).trans (Ref.km_eq (aCkv m c) (aKr m c) (aKvn m c) (aWkv m c) (bat t) (pos t i) j).symm

/-- What a grid point stores of the values. -/
theorem block_vm (t : Fin cfg0.N) (i j : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i j)
      = Ref.R (aCkv m c) (aKvn m c) (aWkv m c) (bat t) (pos t i) (j.val / 64 * 128 + 64 + j.val % 64) := by
  refine (out14_apply _ _ _ _ _ _ _ _ _ _ _ _ i j).trans ?_
  rw [rowkv]
  exact Finset.sum_congr rfl fun k _ => congrArg₂ (· * ·) rfl (read_wv m c t k j)

/-- The values. -/
theorem arr_vm : (dats m 0 c).arrAt 14 cfg0.N = Cert.MlaPrepReferenceIdeal.Read.val_main_v79 (F := Ideal) (aCkv m c) (aKvn m c) (aWkv m c) := by
  refine (dats m 0 c).arrAt_eq_of_covers 14 _ (by decide +kernel) fun t hf y => ?_
  refine (congrFun (Cert.MlaPrepKernelIdeal.Value.flushed14 m c t) y).trans ?_
  obtain ⟨i, j, rfl⟩ : ∃ (i : Fin 512) (j : Fin 512), y = ix2 i j := ⟨y 0, y 1, eq_ix2 (n0 := 512) (n1 := 512) y⟩
  rw [emb14]
  exact (block_vm m c t i j).trans (Ref.vm_eq (aCkv m c) (aKvn m c) (aWkv m c) (bat t) (pos t i) j).symm

end Cert.MlaPrep
end
-- ==== Proof.MlaPrep.Claims.lean ====
/- The low-rank projections' claims, one theorem each. -/
module

public import proofs.«01_k».proof.Proof.MlaPrep.Array
public import proofs.«01_k».proof.Proof.Finite
public import proofs.«01_k».proof.Defs
public import proofs.«01_k».proof.Proof.Gen.MlaPrepKernel.Frame
public import Idealize.ShloMosaic.Lib.Quiescent

@[expose] public section

noncomputable section

namespace Cert.MlaPrep

open Idealize.ShloMosaic Idealize.ShloMosaic.TcCoe Idealize.SL.Sem

/-- The precondition's shapes spread a constant over an array. -/
theorem preFacts : Cert.Pre_mla_prep_finite.Facts := ⟨by decide, by decide, by decide⟩

/-- The entries of a memory's arguments that satisfy the precondition are reals. -/
theorem reals (m : (ℓ : Loc Cert.MlaPrepKernelIdeal.nD Cert.MlaPrepKernelIdeal.τ Cert.MlaPrepKernelIdeal.sig) → Buf (Elt Ideal) ℓ)
    (h : Cert.Pre_MlaPrepKernelIdeal_mla_prep_finite (hPre_mla_prep_finite := preFacts) m) (c : Dev Cert.MlaPrepKernelIdeal.nD) :
    (∀ i, ∃ r : ℝ, aCq m c i = (r : EReal)) ∧ (∀ i, ∃ r : ℝ, aQn m c i = (r : EReal)) ∧ (∀ i, ∃ r : ℝ, aWq m c i = (r : EReal)) := by
  obtain ⟨h0, h1, h2⟩ := h c
  exact ⟨Diff.real_of_pre _ preFacts.1 h0, Diff.real_of_pre _ preFacts.2 h1, Diff.real_of_pre _ preFacts.3 h2⟩

/-- The kernel terminates and leaves its arguments and semaphores as they were. -/
theorem frame_p : Cert.quiescent_MlaPrepKernel (hMlaPrepKernel := Cert.MlaPrepKernel.Gen.facts) := fun m ρ _ => Cert.MlaPrepKernel.Gen.frame m ρ

/-- The ideal kernel terminates and leaves its arguments and semaphores as they were. -/
theorem frame_pi : Cert.quiescent_MlaPrepKernelIdeal (hMlaPrepKernelIdeal := Cert.MlaPrepKernelIdeal.Gen.facts) := fun m ρ _ => Cert.MlaPrepKernelIdeal.Gen.frame m ρ

/-- So it does on finite arguments. -/
theorem frame_pi_finite : Cert.quiescent_MlaPrepKernelIdeal_pre_mla_prep_finite (hMlaPrepKernelIdeal := Cert.MlaPrepKernelIdeal.Gen.facts)
    (hPre_mla_prep_finite := preFacts) := fun m ρ _ => Cert.MlaPrepKernelIdeal.Gen.frame m ρ

/-- The ideal reference terminates and leaves its arguments and semaphores as they were. -/
theorem frame_ri : Cert.quiescent_MlaPrepReferenceIdeal (hMlaPrepReferenceIdeal := Cert.MlaPrepReferenceIdeal.Gen.facts) := fun m ρ _ =>
  (θ_run Cert.MlaPrepReferenceIdeal.defs _ _).mono (fun r h => ⟨fun c => (h c).2.2.2,
    Idealize.ShloMosaic.sem_eq_zero_of_no_sems (by decide) r.2⟩) (Cert.MlaPrepReferenceIdeal.Value.run (F := Ideal) m ρ)

/-- So it does on finite arguments. -/
theorem frame_ri_finite : Cert.quiescent_MlaPrepReferenceIdeal_pre_mla_prep_finite (hMlaPrepReferenceIdeal := Cert.MlaPrepReferenceIdeal.Gen.facts)
    (hPre_mla_prep_finite := preFacts) := fun m ρ _ => frame_ri m ρ trivial

/-- The ideal kernel is the kernel. -/
theorem preserves : Cert.preserves_MlaPrepKernel_MlaPrepKernelIdeal := trivial

set_option maxHeartbeats 4000000 in
/-- On finite arguments kernel and reference compute the same arrays over the extended reals. -/
theorem algebraic : Cert.algebraic_MlaPrepKernelIdeal_MlaPrepReferenceIdeal_pre_mla_prep_finite (hMlaPrepKernelIdeal := Cert.MlaPrepKernelIdeal.Gen.facts)
    (hMlaPrepReferenceIdeal := Cert.MlaPrepReferenceIdeal.Gen.facts) (hPre_mla_prep_finite := preFacts) := by
  intro m ρ m' ρ' hpre hagree
  refine ⟨_, _, _, Cert.MlaPrepKernelIdeal.Value.run_blocks (F := Ideal) m ρ, ?_⟩
  refine (θ_run Cert.MlaPrepReferenceIdeal.defs _ _).mono (fun _ h c => ?_) (Cert.MlaPrepReferenceIdeal.Value.run (F := Ideal) m' ρ')
  obtain ⟨e0, e1, e2, e3, e4, e5, e6⟩ := hagree c
  replace e0 : m' ((c.tc : Thread Cert.MlaPrepReferenceIdeal.nD Cert.MlaPrepReferenceIdeal.τ).loc Cert.MlaPrepReferenceIdeal.main_arg0) = aCq m c := e0
  replace e1 : m' ((c.tc : Thread Cert.MlaPrepReferenceIdeal.nD Cert.MlaPrepReferenceIdeal.τ).loc Cert.MlaPrepReferenceIdeal.main_arg1) = aCkv m c := e1
  replace e2 : m' ((c.tc : Thread Cert.MlaPrepReferenceIdeal.nD Cert.MlaPrepReferenceIdeal.τ).loc Cert.MlaPrepReferenceIdeal.main_arg2) = aKr m c := e2
  replace e3 : m' ((c.tc : Thread Cert.MlaPrepReferenceIdeal.nD Cert.MlaPrepReferenceIdeal.τ).loc Cert.MlaPrepReferenceIdeal.main_arg3) = aQn m c := e3
  replace e4 : m' ((c.tc : Thread Cert.MlaPrepReferenceIdeal.nD Cert.MlaPrepReferenceIdeal.τ).loc Cert.MlaPrepReferenceIdeal.main_arg4) = aWq m c := e4
  replace e5 : m' ((c.tc : Thread Cert.MlaPrepReferenceIdeal.nD Cert.MlaPrepReferenceIdeal.τ).loc Cert.MlaPrepReferenceIdeal.main_arg5) = aKvn m c := e5
  replace e6 : m' ((c.tc : Thread Cert.MlaPrepReferenceIdeal.nD Cert.MlaPrepReferenceIdeal.τ).loc Cert.MlaPrepReferenceIdeal.main_arg6) = aWkv m c := e6
  obtain ⟨hCq, hQn, hWq⟩ := reals m hpre c
  obtain ⟨q0, q1, q2, rest⟩ := h c
  refine ⟨q0.trans ?_, q1.trans ?_, q2.trans ?_, rest⟩ <;> clear q0 q1 q2 rest
  · rw [Cert.MlaPrepReferenceIdeal.Read.val_main_v74_eq, e0, e3, e4]
    exact (arr_qm m c hCq hQn hWq).symm
  · refine (Cert.MlaPrepReferenceIdeal.Read.val_main_v76_eq _ _ _ _).trans ?_
    rw [e1, e2, e5, e6]
    exact (arr_km m c).symm
  · refine (Cert.MlaPrepReferenceIdeal.Read.val_main_v79_eq _ _ _).trans ?_
    rw [e1, e5, e6]
    exact (arr_vm m c).symm

end Cert.MlaPrep
end
-- ==== Proof.lean ====
module

public import proofs.«01_k».proof.Defs
public import proofs.«01_k».proof.Proof.Claims
public import proofs.«01_k».proof.Proof.Mla.Claims
public import proofs.«01_k».proof.Proof.Merge.Claims
public import proofs.«01_k».proof.Proof.InProj.Claims
public import proofs.«01_k».proof.Proof.MlaPrep.Claims
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlaKernel
public import proofs.«01_k».proof.Proof.Gen.MlaKernel.Frame
public import proofs.«01_k».proof.Proof.Gen.MlaKernelIdeal
public import proofs.«01_k».proof.Proof.Gen.MlaKernelIdeal.Frame
public import proofs.«01_k».proof.Proof.Gen.MlaKernelIdeal.Value
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.MergeKernel
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.InProjKernel
public import proofs.«01_k».proof.Proof.Gen.InProjKernel.Frame
public import proofs.«01_k».proof.Proof.Gen.InProjKernelIdeal
public import proofs.«01_k».proof.Proof.Gen.InProjKernelIdeal.Frame
public import proofs.«01_k».proof.Proof.Gen.InProjKernelIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.MlaPrepKernel
public import proofs.«01_k».proof.Proof.Gen.MlaPrepKernel.Frame
public import proofs.«01_k».proof.Proof.Gen.MlaPrepKernelIdeal
public import proofs.«01_k».proof.Proof.Gen.MlaPrepKernelIdeal.Frame
public import proofs.«01_k».proof.Proof.Gen.MlaPrepKernelIdeal.Value
public import proofs.«01_k».proof.Proof.Gen.MlaPrepReferenceIdeal
public import proofs.«01_k».proof.Proof.Gen.MlaPrepReferenceIdeal.Run
public import proofs.«01_k».proof.Proof.Gen.MlaPrepReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.MlaKernel.Gen.facts, Cert.MlaKernelIdeal.Gen.facts, Cert.MlaReferenceIdeal.Gen.facts,
    Cert.MergeKernel.Gen.facts, Cert.MergeKernelIdeal.Gen.facts, Cert.MergeReferenceIdeal.Gen.facts,
    Cert.InProjKernel.Gen.facts, Cert.InProjKernelIdeal.Gen.facts, Cert.InProjReferenceIdeal.Gen.facts,
    Cert.MlaPrepKernel.Gen.facts, Cert.MlaPrepKernelIdeal.Gen.facts, Cert.MlaPrepReferenceIdeal.Gen.facts,
    Cert.Diff.preFacts, Cert.Mla.preFacts, Cert.InProj.preFacts, Cert.MlaPrep.preFacts,
    Cert.Diff.frame_p, Cert.Diff.frame_pi, Cert.Diff.frame_pi_finite, Cert.Diff.frame_ri, Cert.Diff.frame_ri_finite,
    Cert.Mla.frame_p, Cert.Mla.frame_pi, Cert.Mla.frame_pi_finite, Cert.Mla.frame_ri, Cert.Mla.frame_ri_finite,
    Cert.Merge.frame_p, Cert.Merge.frame_pi, Cert.Merge.frame_ri,
    Cert.InProj.frame_p, Cert.InProj.frame_pi, Cert.InProj.frame_pi_finite, Cert.InProj.frame_ri, Cert.InProj.frame_ri_finite,
    Cert.MlaPrep.frame_p, Cert.MlaPrep.frame_pi, Cert.MlaPrep.frame_pi_finite, Cert.MlaPrep.frame_ri, Cert.MlaPrep.frame_ri_finite,
    Cert.Diff.preserves, Cert.Diff.algebraic, Cert.Mla.preserves, Cert.Mla.algebraic,
    Cert.Merge.preserves, Cert.Merge.algebraic, Cert.InProj.preserves, Cert.InProj.algebraic,
    Cert.MlaPrep.preserves, Cert.MlaPrep.algebraic⟩

end Cert.Proof

end
